-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_ExpertUp [hPre_tables_ok_up : Cert.Pre_tables_ok_up.Facts] (m : (ℓ : Loc Cert.ExpertUp.nD Cert.ExpertUp.τ Cert.ExpertUp.sig) → Buf (Elt Bits) ℓ) : Prop :=
  ∀ c : Dev Cert.ExpertUp.nD,
    (Cert.Pre_tables_ok_up.fn (F := Bits) (m ((c.tc : Thread Cert.ExpertUp.nD Cert.ExpertUp.τ).loc Cert.ExpertUp.main_arg0)) (m ((c.tc : Thread Cert.ExpertUp.nD Cert.ExpertUp.τ).loc Cert.ExpertUp.main_arg1)) (m ((c.tc : Thread Cert.ExpertUp.nD Cert.ExpertUp.τ).loc Cert.ExpertUp.main_arg2)) (m ((c.tc : Thread Cert.ExpertUp.nD Cert.ExpertUp.τ).loc Cert.ExpertUp.main_arg3))) = (fun _ => 1#1)

def Pre_ExpertUpIdeal [hPre_tables_ok_up : Cert.Pre_tables_ok_up.Facts] (m : (ℓ : Loc Cert.ExpertUpIdeal.nD Cert.ExpertUpIdeal.τ Cert.ExpertUpIdeal.sig) → Buf (Elt Ideal) ℓ) : Prop :=
  ∀ c : Dev Cert.ExpertUpIdeal.nD,
    (Cert.Pre_tables_ok_up.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3))) = (fun _ => 1#1)

def Pre_RefExpertUpIdeal [hPre_tables_ok_up : Cert.Pre_tables_ok_up.Facts] (m : (ℓ : Loc Cert.RefExpertUpIdeal.nD Cert.RefExpertUpIdeal.τ Cert.RefExpertUpIdeal.sig) → Buf (Elt Ideal) ℓ) : Prop :=
  ∀ c : Dev Cert.RefExpertUpIdeal.nD,
    (Cert.Pre_tables_ok_up.fn (F := Ideal) (m ((c.tc : Thread Cert.RefExpertUpIdeal.nD Cert.RefExpertUpIdeal.τ).loc Cert.RefExpertUpIdeal.main_arg0)) (m ((c.tc : Thread Cert.RefExpertUpIdeal.nD Cert.RefExpertUpIdeal.τ).loc Cert.RefExpertUpIdeal.main_arg1)) (m ((c.tc : Thread Cert.RefExpertUpIdeal.nD Cert.RefExpertUpIdeal.τ).loc Cert.RefExpertUpIdeal.main_arg2)) (m ((c.tc : Thread Cert.RefExpertUpIdeal.nD Cert.RefExpertUpIdeal.τ).loc Cert.RefExpertUpIdeal.main_arg3))) = (fun _ => 1#1)

def Pre_ExpertDown [hPre_tables_ok_down : Cert.Pre_tables_ok_down.Facts] (m : (ℓ : Loc Cert.ExpertDown.nD Cert.ExpertDown.τ Cert.ExpertDown.sig) → Buf (Elt Bits) ℓ) : Prop :=
  ∀ c : Dev Cert.ExpertDown.nD,
    (Cert.Pre_tables_ok_down.fn (F := Bits) (m ((c.tc : Thread Cert.ExpertDown.nD Cert.ExpertDown.τ).loc Cert.ExpertDown.main_arg0)) (m ((c.tc : Thread Cert.ExpertDown.nD Cert.ExpertDown.τ).loc Cert.ExpertDown.main_arg1)) (m ((c.tc : Thread Cert.ExpertDown.nD Cert.ExpertDown.τ).loc Cert.ExpertDown.main_arg2)) (m ((c.tc : Thread Cert.ExpertDown.nD Cert.ExpertDown.τ).loc Cert.ExpertDown.main_arg3))) = (fun _ => 1#1)

def Pre_ExpertDownIdeal [hPre_tables_ok_down : Cert.Pre_tables_ok_down.Facts] (m : (ℓ : Loc Cert.ExpertDownIdeal.nD Cert.ExpertDownIdeal.τ Cert.ExpertDownIdeal.sig) → Buf (Elt Ideal) ℓ) : Prop :=
  ∀ c : Dev Cert.ExpertDownIdeal.nD,
    (Cert.Pre_tables_ok_down.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3))) = (fun _ => 1#1)

def Pre_RefExpertDownIdeal [hPre_tables_ok_down : Cert.Pre_tables_ok_down.Facts] (m : (ℓ : Loc Cert.RefExpertDownIdeal.nD Cert.RefExpertDownIdeal.τ Cert.RefExpertDownIdeal.sig) → Buf (Elt Ideal) ℓ) : Prop :=
  ∀ c : Dev Cert.RefExpertDownIdeal.nD,
    (Cert.Pre_tables_ok_down.fn (F := Ideal) (m ((c.tc : Thread Cert.RefExpertDownIdeal.nD Cert.RefExpertDownIdeal.τ).loc Cert.RefExpertDownIdeal.main_arg0)) (m ((c.tc : Thread Cert.RefExpertDownIdeal.nD Cert.RefExpertDownIdeal.τ).loc Cert.RefExpertDownIdeal.main_arg1)) (m ((c.tc : Thread Cert.RefExpertDownIdeal.nD Cert.RefExpertDownIdeal.τ).loc Cert.RefExpertDownIdeal.main_arg2)) (m ((c.tc : Thread Cert.RefExpertDownIdeal.nD Cert.RefExpertDownIdeal.τ).loc Cert.RefExpertDownIdeal.main_arg3))) = (fun _ => 1#1)

def Pre_SwigluUp (m : (ℓ : Loc Cert.SwigluUp.nD Cert.SwigluUp.τ Cert.SwigluUp.sig) → Buf (Elt Bits) ℓ) : Prop :=
  True

def Pre_SwigluUpIdeal (m : (ℓ : Loc Cert.SwigluUpIdeal.nD Cert.SwigluUpIdeal.τ Cert.SwigluUpIdeal.sig) → Buf (Elt Ideal) ℓ) : Prop :=
  True

def Pre_RefSwigluUpIdeal (m : (ℓ : Loc Cert.RefSwigluUpIdeal.nD Cert.RefSwigluUpIdeal.τ Cert.RefSwigluUpIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_RefMmDownIdeal (m : (ℓ : Loc Cert.RefMmDownIdeal.nD Cert.RefMmDownIdeal.τ Cert.RefMmDownIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_RefMmOutIdeal (m : (ℓ : Loc Cert.RefMmOutIdeal.nD Cert.RefMmOutIdeal.τ Cert.RefMmOutIdeal.sig) → Buf (Elt Ideal) ℓ) : Prop :=
  True

def Pre_NormFinal (m : (ℓ : Loc Cert.NormFinal.nD Cert.NormFinal.τ Cert.NormFinal.sig) → Buf (Elt Bits) ℓ) : Prop :=
  True

def Pre_NormFinalIdeal (m : (ℓ : Loc Cert.NormFinalIdeal.nD Cert.NormFinalIdeal.τ Cert.NormFinalIdeal.sig) → Buf (Elt Ideal) ℓ) : Prop :=
  True

def Pre_RefNormFinalIdeal (m : (ℓ : Loc Cert.RefNormFinalIdeal.nD Cert.RefNormFinalIdeal.τ Cert.RefNormFinalIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_RefStatesIdeal (m : (ℓ : Loc Cert.RefStatesIdeal.nD Cert.RefStatesIdeal.τ Cert.RefStatesIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ExpertUp [hExpertUp : Cert.ExpertUp.Facts] [hPre_tables_ok_up : Cert.Pre_tables_ok_up.Facts] : Prop :=
  ∀ (m : (ℓ : Loc Cert.ExpertUp.nD Cert.ExpertUp.τ Cert.ExpertUp.sig) → Buf (Elt Bits) ℓ) (g : Dev Cert.ExpertUp.nD → PrngReg), Pre_ExpertUp m →
    θ_run (Cert.ExpertUp.defs (F := Bits)) (onTc (τ := Cert.ExpertUp.τ) (Cert.ExpertUp.main (F := Bits))) ⟨m, fun _ => 0, g⟩ (fun r => (∀ c : Dev Cert.ExpertUp.nD,
      r.2.mem ((c.tc : Thread Cert.ExpertUp.nD Cert.ExpertUp.τ).loc Cert.ExpertUp.main_arg0) = m ((c.tc : Thread Cert.ExpertUp.nD Cert.ExpertUp.τ).loc Cert.ExpertUp.main_arg0)
      ∧ r.2.mem ((c.tc : Thread Cert.ExpertUp.nD Cert.ExpertUp.τ).loc Cert.ExpertUp.main_arg1) = m ((c.tc : Thread Cert.ExpertUp.nD Cert.ExpertUp.τ).loc Cert.ExpertUp.main_arg1)
      ∧ r.2.mem ((c.tc : Thread Cert.ExpertUp.nD Cert.ExpertUp.τ).loc Cert.ExpertUp.main_arg2) = m ((c.tc : Thread Cert.ExpertUp.nD Cert.ExpertUp.τ).loc Cert.ExpertUp.main_arg2)
      ∧ r.2.mem ((c.tc : Thread Cert.ExpertUp.nD Cert.ExpertUp.τ).loc Cert.ExpertUp.main_arg3) = m ((c.tc : Thread Cert.ExpertUp.nD Cert.ExpertUp.τ).loc Cert.ExpertUp.main_arg3))
      ∧ r.2.sem = fun _ => 0)

def quiescent_ExpertUpIdeal [hExpertUpIdeal : Cert.ExpertUpIdeal.Facts] [hPre_tables_ok_up : Cert.Pre_tables_ok_up.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg), Pre_ExpertUpIdeal m →
    θ_run (Cert.ExpertUpIdeal.defs (F := Ideal)) (onTc (τ := Cert.ExpertUpIdeal.τ) (Cert.ExpertUpIdeal.main (F := Ideal))) ⟨m, fun _ => 0, g⟩ (fun r => (∀ c : Dev Cert.ExpertUpIdeal.nD,
      r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
      ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
      ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
      ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3))
      ∧ r.2.sem = fun _ => 0)

def quiescent_RefExpertUpIdeal [hRefExpertUpIdeal : Cert.RefExpertUpIdeal.Facts] [hPre_tables_ok_up : Cert.Pre_tables_ok_up.Facts] : Prop :=
  ∀ (m : (ℓ : Loc Cert.RefExpertUpIdeal.nD Cert.RefExpertUpIdeal.τ Cert.RefExpertUpIdeal.sig) → Buf (Elt Ideal) ℓ) (g : Dev Cert.RefExpertUpIdeal.nD → PrngReg), Pre_RefExpertUpIdeal m →
    θ_run (Cert.RefExpertUpIdeal.defs (F := Ideal)) (onTc (τ := Cert.RefExpertUpIdeal.τ) (Cert.RefExpertUpIdeal.main (F := Ideal))) ⟨m, fun _ => 0, g⟩ (fun r => (∀ c : Dev Cert.RefExpertUpIdeal.nD,
      r.2.mem ((c.tc : Thread Cert.RefExpertUpIdeal.nD Cert.RefExpertUpIdeal.τ).loc Cert.RefExpertUpIdeal.main_arg0) = m ((c.tc : Thread Cert.RefExpertUpIdeal.nD Cert.RefExpertUpIdeal.τ).loc Cert.RefExpertUpIdeal.main_arg0)
      ∧ r.2.mem ((c.tc : Thread Cert.RefExpertUpIdeal.nD Cert.RefExpertUpIdeal.τ).loc Cert.RefExpertUpIdeal.main_arg1) = m ((c.tc : Thread Cert.RefExpertUpIdeal.nD Cert.RefExpertUpIdeal.τ).loc Cert.RefExpertUpIdeal.main_arg1)
      ∧ r.2.mem ((c.tc : Thread Cert.RefExpertUpIdeal.nD Cert.RefExpertUpIdeal.τ).loc Cert.RefExpertUpIdeal.main_arg2) = m ((c.tc : Thread Cert.RefExpertUpIdeal.nD Cert.RefExpertUpIdeal.τ).loc Cert.RefExpertUpIdeal.main_arg2)
      ∧ r.2.mem ((c.tc : Thread Cert.RefExpertUpIdeal.nD Cert.RefExpertUpIdeal.τ).loc Cert.RefExpertUpIdeal.main_arg3) = m ((c.tc : Thread Cert.RefExpertUpIdeal.nD Cert.RefExpertUpIdeal.τ).loc Cert.RefExpertUpIdeal.main_arg3))
      ∧ r.2.sem = fun _ => 0)

def quiescent_ExpertDown [hExpertDown : Cert.ExpertDown.Facts] [hPre_tables_ok_down : Cert.Pre_tables_ok_down.Facts] : Prop :=
  ∀ (m : (ℓ : Loc Cert.ExpertDown.nD Cert.ExpertDown.τ Cert.ExpertDown.sig) → Buf (Elt Bits) ℓ) (g : Dev Cert.ExpertDown.nD → PrngReg), Pre_ExpertDown m →
    θ_run (Cert.ExpertDown.defs (F := Bits)) (onTc (τ := Cert.ExpertDown.τ) (Cert.ExpertDown.main (F := Bits))) ⟨m, fun _ => 0, g⟩ (fun r => (∀ c : Dev Cert.ExpertDown.nD,
      r.2.mem ((c.tc : Thread Cert.ExpertDown.nD Cert.ExpertDown.τ).loc Cert.ExpertDown.main_arg0) = m ((c.tc : Thread Cert.ExpertDown.nD Cert.ExpertDown.τ).loc Cert.ExpertDown.main_arg0)
      ∧ r.2.mem ((c.tc : Thread Cert.ExpertDown.nD Cert.ExpertDown.τ).loc Cert.ExpertDown.main_arg1) = m ((c.tc : Thread Cert.ExpertDown.nD Cert.ExpertDown.τ).loc Cert.ExpertDown.main_arg1)
      ∧ r.2.mem ((c.tc : Thread Cert.ExpertDown.nD Cert.ExpertDown.τ).loc Cert.ExpertDown.main_arg2) = m ((c.tc : Thread Cert.ExpertDown.nD Cert.ExpertDown.τ).loc Cert.ExpertDown.main_arg2)
      ∧ r.2.mem ((c.tc : Thread Cert.ExpertDown.nD Cert.ExpertDown.τ).loc Cert.ExpertDown.main_arg3) = m ((c.tc : Thread Cert.ExpertDown.nD Cert.ExpertDown.τ).loc Cert.ExpertDown.main_arg3))
      ∧ r.2.sem = fun _ => 0)

def quiescent_ExpertDownIdeal [hExpertDownIdeal : Cert.ExpertDownIdeal.Facts] [hPre_tables_ok_down : Cert.Pre_tables_ok_down.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg), Pre_ExpertDownIdeal m →
    θ_run (Cert.ExpertDownIdeal.defs (F := Ideal)) (onTc (τ := Cert.ExpertDownIdeal.τ) (Cert.ExpertDownIdeal.main (F := Ideal))) ⟨m, fun _ => 0, g⟩ (fun r => (∀ c : Dev Cert.ExpertDownIdeal.nD,
      r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
      ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
      ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2)
      ∧ r.2.mem ((c.tc : Thread Cert.ExpertDownIdeal.nD Cert.ExpertDownIdeal.τ).loc Cert.ExpertDownIdeal.main_arg3) = m ((c.tc : Thread Cert.ExpertDownIdeal.nD Cert.ExpertDownIdeal.τ).loc Cert.ExpertDownIdeal.main_arg3))
      ∧ r.2.sem = fun _ => 0)

def quiescent_RefExpertDownIdeal [hRefExpertDownIdeal : Cert.RefExpertDownIdeal.Facts] [hPre_tables_ok_down : Cert.Pre_tables_ok_down.Facts] : Prop :=
  ∀ (m : (ℓ : Loc Cert.RefExpertDownIdeal.nD Cert.RefExpertDownIdeal.τ Cert.RefExpertDownIdeal.sig) → Buf (Elt Ideal) ℓ) (g : Dev Cert.RefExpertDownIdeal.nD → PrngReg), Pre_RefExpertDownIdeal m →
    θ_run (Cert.RefExpertDownIdeal.defs (F := Ideal)) (onTc (τ := Cert.RefExpertDownIdeal.τ) (Cert.RefExpertDownIdeal.main (F := Ideal))) ⟨m, fun _ => 0, g⟩ (fun r => (∀ c : Dev Cert.RefExpertDownIdeal.nD,
      r.2.mem ((c.tc : Thread Cert.RefExpertDownIdeal.nD Cert.RefExpertDownIdeal.τ).loc Cert.RefExpertDownIdeal.main_arg0) = m ((c.tc : Thread Cert.RefExpertDownIdeal.nD Cert.RefExpertDownIdeal.τ).loc Cert.RefExpertDownIdeal.main_arg0)
      ∧ r.2.mem ((c.tc : Thread Cert.RefExpertDownIdeal.nD Cert.RefExpertDownIdeal.τ).loc Cert.RefExpertDownIdeal.main_arg1) = m ((c.tc : Thread Cert.RefExpertDownIdeal.nD Cert.RefExpertDownIdeal.τ).loc Cert.RefExpertDownIdeal.main_arg1)
      ∧ r.2.mem ((c.tc : Thread Cert.RefExpertDownIdeal.nD Cert.RefExpertDownIdeal.τ).loc Cert.RefExpertDownIdeal.main_arg2) = m ((c.tc : Thread Cert.RefExpertDownIdeal.nD Cert.RefExpertDownIdeal.τ).loc Cert.RefExpertDownIdeal.main_arg2)
      ∧ r.2.mem ((c.tc : Thread Cert.RefExpertDownIdeal.nD Cert.RefExpertDownIdeal.τ).loc Cert.RefExpertDownIdeal.main_arg3) = m ((c.tc : Thread Cert.RefExpertDownIdeal.nD Cert.RefExpertDownIdeal.τ).loc Cert.RefExpertDownIdeal.main_arg3))
      ∧ r.2.sem = fun _ => 0)

def quiescent_SwigluUp [hSwigluUp : Cert.SwigluUp.Facts] : Prop :=
  ∀ (m : (ℓ : Loc Cert.SwigluUp.nD Cert.SwigluUp.τ Cert.SwigluUp.sig) → Buf (Elt Bits) ℓ) (g : Dev Cert.SwigluUp.nD → PrngReg), Pre_SwigluUp m →
    θ_run (Cert.SwigluUp.defs (F := Bits)) (onTc (τ := Cert.SwigluUp.τ) (Cert.SwigluUp.main (F := Bits))) ⟨m, fun _ => 0, g⟩ (fun r => (∀ c : Dev Cert.SwigluUp.nD,
      r.2.mem ((c.tc : Thread Cert.SwigluUp.nD Cert.SwigluUp.τ).loc Cert.SwigluUp.main_arg0) = m ((c.tc : Thread Cert.SwigluUp.nD Cert.SwigluUp.τ).loc Cert.SwigluUp.main_arg0)
      ∧ r.2.mem ((c.tc : Thread Cert.SwigluUp.nD Cert.SwigluUp.τ).loc Cert.SwigluUp.main_arg1) = m ((c.tc : Thread Cert.SwigluUp.nD Cert.SwigluUp.τ).loc Cert.SwigluUp.main_arg1))
      ∧ r.2.sem = fun _ => 0)

def quiescent_SwigluUpIdeal [hSwigluUpIdeal : Cert.SwigluUpIdeal.Facts] : Prop :=
  ∀ (m : (ℓ : Loc Cert.SwigluUpIdeal.nD Cert.SwigluUpIdeal.τ Cert.SwigluUpIdeal.sig) → Buf (Elt Ideal) ℓ) (g : Dev Cert.SwigluUpIdeal.nD → PrngReg), Pre_SwigluUpIdeal m →
    θ_run (Cert.SwigluUpIdeal.defs (F := Ideal)) (onTc (τ := Cert.SwigluUpIdeal.τ) (Cert.SwigluUpIdeal.main (F := Ideal))) ⟨m, fun _ => 0, g⟩ (fun r => (∀ c : Dev Cert.SwigluUpIdeal.nD,
      r.2.mem ((c.tc : Thread Cert.SwigluUpIdeal.nD Cert.SwigluUpIdeal.τ).loc Cert.SwigluUpIdeal.main_arg0) = m ((c.tc : Thread Cert.SwigluUpIdeal.nD Cert.SwigluUpIdeal.τ).loc Cert.SwigluUpIdeal.main_arg0)
      ∧ r.2.mem ((c.tc : Thread Cert.SwigluUpIdeal.nD Cert.SwigluUpIdeal.τ).loc Cert.SwigluUpIdeal.main_arg1) = m ((c.tc : Thread Cert.SwigluUpIdeal.nD Cert.SwigluUpIdeal.τ).loc Cert.SwigluUpIdeal.main_arg1))
      ∧ r.2.sem = fun _ => 0)

def quiescent_RefSwigluUpIdeal [hRefSwigluUpIdeal : Cert.RefSwigluUpIdeal.Facts] : Prop :=
  ∀ (m : (ℓ : Loc Cert.RefSwigluUpIdeal.nD Cert.RefSwigluUpIdeal.τ Cert.RefSwigluUpIdeal.sig) → Buf (Elt Ideal) ℓ) (g : Dev Cert.RefSwigluUpIdeal.nD → PrngReg), Pre_RefSwigluUpIdeal m →
    θ_run (Cert.RefSwigluUpIdeal.defs (F := Ideal)) (onTc (τ := Cert.RefSwigluUpIdeal.τ) (Cert.RefSwigluUpIdeal.main (F := Ideal))) ⟨m, fun _ => 0, g⟩ (fun r => (∀ c : Dev Cert.RefSwigluUpIdeal.nD,
      r.2.mem ((c.tc : Thread Cert.RefSwigluUpIdeal.nD Cert.RefSwigluUpIdeal.τ).loc Cert.RefSwigluUpIdeal.main_arg0) = m ((c.tc : Thread Cert.RefSwigluUpIdeal.nD Cert.RefSwigluUpIdeal.τ).loc Cert.RefSwigluUpIdeal.main_arg0)
      ∧ r.2.mem ((c.tc : Thread Cert.RefSwigluUpIdeal.nD Cert.RefSwigluUpIdeal.τ).loc Cert.RefSwigluUpIdeal.main_arg1) = m ((c.tc : Thread Cert.RefSwigluUpIdeal.nD Cert.RefSwigluUpIdeal.τ).loc Cert.RefSwigluUpIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2)
      ∧ r.2.mem ((c.tc : Thread Cert.MmDown.nD Cert.MmDown.τ).loc Cert.MmDown.main_arg3) = m ((c.tc : Thread Cert.MmDown.nD Cert.MmDown.τ).loc Cert.MmDown.main_arg3))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
      ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3))
      ∧ r.2.sem = fun _ => 0)

def quiescent_RefMmDownIdeal [hRefMmDownIdeal : Cert.RefMmDownIdeal.Facts] : Prop :=
  ∀ (m : (ℓ : Loc Cert.RefMmDownIdeal.nD Cert.RefMmDownIdeal.τ Cert.RefMmDownIdeal.sig) → Buf (Elt Ideal) ℓ) (g : Dev Cert.RefMmDownIdeal.nD → PrngReg), Pre_RefMmDownIdeal m →
    θ_run (Cert.RefMmDownIdeal.defs (F := Ideal)) (onTc (τ := Cert.RefMmDownIdeal.τ) (Cert.RefMmDownIdeal.main (F := Ideal))) ⟨m, fun _ => 0, g⟩ (fun r => (∀ c : Dev Cert.RefMmDownIdeal.nD,
      r.2.mem ((c.tc : Thread Cert.RefMmDownIdeal.nD Cert.RefMmDownIdeal.τ).loc Cert.RefMmDownIdeal.main_arg0) = m ((c.tc : Thread Cert.RefMmDownIdeal.nD Cert.RefMmDownIdeal.τ).loc Cert.RefMmDownIdeal.main_arg0)
      ∧ r.2.mem ((c.tc : Thread Cert.RefMmDownIdeal.nD Cert.RefMmDownIdeal.τ).loc Cert.RefMmDownIdeal.main_arg1) = m ((c.tc : Thread Cert.RefMmDownIdeal.nD Cert.RefMmDownIdeal.τ).loc Cert.RefMmDownIdeal.main_arg1)
      ∧ r.2.mem ((c.tc : Thread Cert.RefMmDownIdeal.nD Cert.RefMmDownIdeal.τ).loc Cert.RefMmDownIdeal.main_arg2) = m ((c.tc : Thread Cert.RefMmDownIdeal.nD Cert.RefMmDownIdeal.τ).loc Cert.RefMmDownIdeal.main_arg2)
      ∧ r.2.mem ((c.tc : Thread Cert.RefMmDownIdeal.nD Cert.RefMmDownIdeal.τ).loc Cert.RefMmDownIdeal.main_arg3) = m ((c.tc : Thread Cert.RefMmDownIdeal.nD Cert.RefMmDownIdeal.τ).loc Cert.RefMmDownIdeal.main_arg3))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ r.2.sem = fun _ => 0)

def quiescent_RefMmOutIdeal [hRefMmOutIdeal : Cert.RefMmOutIdeal.Facts] : Prop :=
  ∀ (m : (ℓ : Loc Cert.RefMmOutIdeal.nD Cert.RefMmOutIdeal.τ Cert.RefMmOutIdeal.sig) → Buf (Elt Ideal) ℓ) (g : Dev Cert.RefMmOutIdeal.nD → PrngReg), Pre_RefMmOutIdeal m →
    θ_run (Cert.RefMmOutIdeal.defs (F := Ideal)) (onTc (τ := Cert.RefMmOutIdeal.τ) (Cert.RefMmOutIdeal.main (F := Ideal))) ⟨m, fun _ => 0, g⟩ (fun r => (∀ c : Dev Cert.RefMmOutIdeal.nD,
      r.2.mem ((c.tc : Thread Cert.RefMmOutIdeal.nD Cert.RefMmOutIdeal.τ).loc Cert.RefMmOutIdeal.main_arg0) = m ((c.tc : Thread Cert.RefMmOutIdeal.nD Cert.RefMmOutIdeal.τ).loc Cert.RefMmOutIdeal.main_arg0)
      ∧ r.2.mem ((c.tc : Thread Cert.RefMmOutIdeal.nD Cert.RefMmOutIdeal.τ).loc Cert.RefMmOutIdeal.main_arg1) = m ((c.tc : Thread Cert.RefMmOutIdeal.nD Cert.RefMmOutIdeal.τ).loc Cert.RefMmOutIdeal.main_arg1)
      ∧ r.2.mem ((c.tc : Thread Cert.RefMmOutIdeal.nD Cert.RefMmOutIdeal.τ).loc Cert.RefMmOutIdeal.main_arg2) = m ((c.tc : Thread Cert.RefMmOutIdeal.nD Cert.RefMmOutIdeal.τ).loc Cert.RefMmOutIdeal.main_arg2)
      ∧ r.2.mem ((c.tc : Thread Cert.RefMmOutIdeal.nD Cert.RefMmOutIdeal.τ).loc Cert.RefMmOutIdeal.main_arg3) = m ((c.tc : Thread Cert.RefMmOutIdeal.nD Cert.RefMmOutIdeal.τ).loc Cert.RefMmOutIdeal.main_arg3))
      ∧ r.2.sem = fun _ => 0)

def quiescent_NormFinal [hNormFinal : Cert.NormFinal.Facts] : Prop :=
  ∀ (m : (ℓ : Loc Cert.NormFinal.nD Cert.NormFinal.τ Cert.NormFinal.sig) → Buf (Elt Bits) ℓ) (g : Dev Cert.NormFinal.nD → PrngReg), Pre_NormFinal m →
    θ_run (Cert.NormFinal.defs (F := Bits)) (onTc (τ := Cert.NormFinal.τ) (Cert.NormFinal.main (F := Bits))) ⟨m, fun _ => 0, g⟩ (fun r => (∀ c : Dev Cert.NormFinal.nD,
      r.2.mem ((c.tc : Thread Cert.NormFinal.nD Cert.NormFinal.τ).loc Cert.NormFinal.main_arg0) = m ((c.tc : Thread Cert.NormFinal.nD Cert.NormFinal.τ).loc Cert.NormFinal.main_arg0)
      ∧ r.2.mem ((c.tc : Thread Cert.NormFinal.nD Cert.NormFinal.τ).loc Cert.NormFinal.main_arg1) = m ((c.tc : Thread Cert.NormFinal.nD Cert.NormFinal.τ).loc Cert.NormFinal.main_arg1))
      ∧ r.2.sem = fun _ => 0)

def quiescent_NormFinalIdeal [hNormFinalIdeal : Cert.NormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg), Pre_NormFinalIdeal m →
    θ_run (Cert.NormFinalIdeal.defs (F := Ideal)) (onTc (τ := Cert.NormFinalIdeal.τ) (Cert.NormFinalIdeal.main (F := Ideal))) ⟨m, fun _ => 0, g⟩ (fun r => (∀ c : Dev Cert.NormFinalIdeal.nD,
      r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
      ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1))
      ∧ r.2.sem = fun _ => 0)

def quiescent_RefNormFinalIdeal [hRefNormFinalIdeal : Cert.RefNormFinalIdeal.Facts] : Prop :=
  ∀ (m : (ℓ : Loc Cert.RefNormFinalIdeal.nD Cert.RefNormFinalIdeal.τ Cert.RefNormFinalIdeal.sig) → Buf (Elt Ideal) ℓ) (g : Dev Cert.RefNormFinalIdeal.nD → PrngReg), Pre_RefNormFinalIdeal m →
    θ_run (Cert.RefNormFinalIdeal.defs (F := Ideal)) (onTc (τ := Cert.RefNormFinalIdeal.τ) (Cert.RefNormFinalIdeal.main (F := Ideal))) ⟨m, fun _ => 0, g⟩ (fun r => (∀ c : Dev Cert.RefNormFinalIdeal.nD,
      r.2.mem ((c.tc : Thread Cert.RefNormFinalIdeal.nD Cert.RefNormFinalIdeal.τ).loc Cert.RefNormFinalIdeal.main_arg0) = m ((c.tc : Thread Cert.RefNormFinalIdeal.nD Cert.RefNormFinalIdeal.τ).loc Cert.RefNormFinalIdeal.main_arg0)
      ∧ r.2.mem ((c.tc : Thread Cert.RefNormFinalIdeal.nD Cert.RefNormFinalIdeal.τ).loc Cert.RefNormFinalIdeal.main_arg1) = m ((c.tc : Thread Cert.RefNormFinalIdeal.nD Cert.RefNormFinalIdeal.τ).loc Cert.RefNormFinalIdeal.main_arg1))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1))
      ∧ r.2.sem = fun _ => 0)

def quiescent_RefStatesIdeal [hRefStatesIdeal : Cert.RefStatesIdeal.Facts] : Prop :=
  ∀ (m : (ℓ : Loc Cert.RefStatesIdeal.nD Cert.RefStatesIdeal.τ Cert.RefStatesIdeal.sig) → Buf (Elt Ideal) ℓ) (g : Dev Cert.RefStatesIdeal.nD → PrngReg), Pre_RefStatesIdeal m →
    θ_run (Cert.RefStatesIdeal.defs (F := Ideal)) (onTc (τ := Cert.RefStatesIdeal.τ) (Cert.RefStatesIdeal.main (F := Ideal))) ⟨m, fun _ => 0, g⟩ (fun r => (∀ c : Dev Cert.RefStatesIdeal.nD,
      r.2.mem ((c.tc : Thread Cert.RefStatesIdeal.nD Cert.RefStatesIdeal.τ).loc Cert.RefStatesIdeal.main_arg0) = m ((c.tc : Thread Cert.RefStatesIdeal.nD Cert.RefStatesIdeal.τ).loc Cert.RefStatesIdeal.main_arg0)
      ∧ r.2.mem ((c.tc : Thread Cert.RefStatesIdeal.nD Cert.RefStatesIdeal.τ).loc Cert.RefStatesIdeal.main_arg1) = m ((c.tc : Thread Cert.RefStatesIdeal.nD Cert.RefStatesIdeal.τ).loc Cert.RefStatesIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ExpertUp_ExpertUpIdeal : Prop :=
  True

def algebraic_ExpertUpIdeal_RefExpertUpIdeal_on_rows_used_up [hExpertUpIdeal : Cert.ExpertUpIdeal.Facts] [hRefExpertUpIdeal : Cert.RefExpertUpIdeal.Facts] [hPre_tables_ok_up : Cert.Pre_tables_ok_up.Facts] [hOn_rows_used_up : Cert.On_rows_used_up.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg)
    (m' : (ℓ : Loc Cert.RefExpertUpIdeal.nD Cert.RefExpertUpIdeal.τ Cert.RefExpertUpIdeal.sig) → Buf (Elt Ideal) ℓ) (g' : Dev Cert.RefExpertUpIdeal.nD → PrngReg), Pre_ExpertUpIdeal m →
    (∀ c : Dev Cert.ExpertUpIdeal.nD,
      m' ((c.tc : Thread Cert.RefExpertUpIdeal.nD Cert.RefExpertUpIdeal.τ).loc Cert.RefExpertUpIdeal.main_arg0) = m ((c.tc : Thread Cert.ExpertUpIdeal.nD Cert.ExpertUpIdeal.τ).loc Cert.ExpertUpIdeal.main_arg0)
      ∧ m' ((c.tc : Thread Cert.RefExpertUpIdeal.nD Cert.RefExpertUpIdeal.τ).loc Cert.RefExpertUpIdeal.main_arg1) = m ((c.tc : Thread Cert.ExpertUpIdeal.nD Cert.ExpertUpIdeal.τ).loc Cert.ExpertUpIdeal.main_arg1)
      ∧ m' ((c.tc : Thread Cert.RefExpertUpIdeal.nD Cert.RefExpertUpIdeal.τ).loc Cert.RefExpertUpIdeal.main_arg2) = m ((c.tc : Thread Cert.ExpertUpIdeal.nD Cert.ExpertUpIdeal.τ).loc Cert.ExpertUpIdeal.main_arg2)
      ∧ m' ((c.tc : Thread Cert.RefExpertUpIdeal.nD Cert.RefExpertUpIdeal.τ).loc Cert.RefExpertUpIdeal.main_arg3) = m ((c.tc : Thread Cert.ExpertUpIdeal.nD Cert.ExpertUpIdeal.τ).loc Cert.ExpertUpIdeal.main_arg3)) →
    ∃ (v0 : (c : Dev Cert.ExpertUpIdeal.nD) → Buf (Elt Ideal) ((c.tc : Thread Cert.ExpertUpIdeal.nD Cert.ExpertUpIdeal.τ).loc Cert.ExpertUpIdeal.main_v12)),
      θ_run (Cert.ExpertUpIdeal.defs (F := Ideal)) (onTc (τ := Cert.ExpertUpIdeal.τ) (Cert.ExpertUpIdeal.main (F := Ideal))) ⟨m, fun _ => 0, g⟩ (fun r => ∀ c : Dev Cert.ExpertUpIdeal.nD,
          (∀ i : (⟨2, ![40960, 7168]⟩ : Shape).Idx, (Cert.On_rows_used_up.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3))) i = 1#1 → r.2.mem ((c.tc : Thread Cert.ExpertUpIdeal.nD Cert.ExpertUpIdeal.τ).loc Cert.ExpertUpIdeal.main_v12) i = v0 c i)
          ∧ r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
          ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
          ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
          ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3))
      ∧ θ_run (Cert.RefExpertUpIdeal.defs (F := Ideal)) (onTc (τ := Cert.RefExpertUpIdeal.τ) (Cert.RefExpertUpIdeal.main (F := Ideal))) ⟨m', fun _ => 0, g'⟩ (fun r => ∀ c : Dev Cert.RefExpertUpIdeal.nD,
          (∀ i : (⟨2, ![40960, 7168]⟩ : Shape).Idx, (Cert.On_rows_used_up.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3))) i = 1#1 → r.2.mem ((c.tc : Thread Cert.RefExpertUpIdeal.nD Cert.RefExpertUpIdeal.τ).loc Cert.RefExpertUpIdeal.main_v16) i = v0 c i)
          ∧ r.2.mem ((c.tc : Thread Cert.RefExpertUpIdeal.nD Cert.RefExpertUpIdeal.τ).loc Cert.RefExpertUpIdeal.main_arg0) = m' ((c.tc : Thread Cert.RefExpertUpIdeal.nD Cert.RefExpertUpIdeal.τ).loc Cert.RefExpertUpIdeal.main_arg0)
          ∧ r.2.mem ((c.tc : Thread Cert.RefExpertUpIdeal.nD Cert.RefExpertUpIdeal.τ).loc Cert.RefExpertUpIdeal.main_arg1) = m' ((c.tc : Thread Cert.RefExpertUpIdeal.nD Cert.RefExpertUpIdeal.τ).loc Cert.RefExpertUpIdeal.main_arg1)
          ∧ r.2.mem ((c.tc : Thread Cert.RefExpertUpIdeal.nD Cert.RefExpertUpIdeal.τ).loc Cert.RefExpertUpIdeal.main_arg2) = m' ((c.tc : Thread Cert.RefExpertUpIdeal.nD Cert.RefExpertUpIdeal.τ).loc Cert.RefExpertUpIdeal.main_arg2)
          ∧ r.2.mem ((c.tc : Thread Cert.RefExpertUpIdeal.nD Cert.RefExpertUpIdeal.τ).loc Cert.RefExpertUpIdeal.main_arg3) = m' ((c.tc : Thread Cert.RefExpertUpIdeal.nD Cert.RefExpertUpIdeal.τ).loc Cert.RefExpertUpIdeal.main_arg3))

def preserves_ExpertDown_ExpertDownIdeal : Prop :=
  True

def algebraic_ExpertDownIdeal_RefExpertDownIdeal_on_rows_used_down [hExpertDownIdeal : Cert.ExpertDownIdeal.Facts] [hRefExpertDownIdeal : Cert.RefExpertDownIdeal.Facts] [hPre_tables_ok_down : Cert.Pre_tables_ok_down.Facts] [hOn_rows_used_down : Cert.On_rows_used_down.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg)
    (m' : (ℓ : Loc Cert.RefExpertDownIdeal.nD Cert.RefExpertDownIdeal.τ Cert.RefExpertDownIdeal.sig) → Buf (Elt Ideal) ℓ) (g' : Dev Cert.RefExpertDownIdeal.nD → PrngReg), Pre_ExpertDownIdeal m →
    (∀ c : Dev Cert.ExpertDownIdeal.nD,
      m' ((c.tc : Thread Cert.RefExpertDownIdeal.nD Cert.RefExpertDownIdeal.τ).loc Cert.RefExpertDownIdeal.main_arg0) = m ((c.tc : Thread Cert.ExpertDownIdeal.nD Cert.ExpertDownIdeal.τ).loc Cert.ExpertDownIdeal.main_arg0)
      ∧ m' ((c.tc : Thread Cert.RefExpertDownIdeal.nD Cert.RefExpertDownIdeal.τ).loc Cert.RefExpertDownIdeal.main_arg1) = m ((c.tc : Thread Cert.ExpertDownIdeal.nD Cert.ExpertDownIdeal.τ).loc Cert.ExpertDownIdeal.main_arg1)
      ∧ m' ((c.tc : Thread Cert.RefExpertDownIdeal.nD Cert.RefExpertDownIdeal.τ).loc Cert.RefExpertDownIdeal.main_arg2) = m ((c.tc : Thread Cert.ExpertDownIdeal.nD Cert.ExpertDownIdeal.τ).loc Cert.ExpertDownIdeal.main_arg2)
      ∧ m' ((c.tc : Thread Cert.RefExpertDownIdeal.nD Cert.RefExpertDownIdeal.τ).loc Cert.RefExpertDownIdeal.main_arg3) = m ((c.tc : Thread Cert.ExpertDownIdeal.nD Cert.ExpertDownIdeal.τ).loc Cert.ExpertDownIdeal.main_arg3)) →
    ∃ (v0 : (c : Dev Cert.ExpertDownIdeal.nD) → Buf (Elt Ideal) ((c.tc : Thread Cert.ExpertDownIdeal.nD Cert.ExpertDownIdeal.τ).loc Cert.ExpertDownIdeal.main_v12)),
      θ_run (Cert.ExpertDownIdeal.defs (F := Ideal)) (onTc (τ := Cert.ExpertDownIdeal.τ) (Cert.ExpertDownIdeal.main (F := Ideal))) ⟨m, fun _ => 0, g⟩ (fun r => ∀ c : Dev Cert.ExpertDownIdeal.nD,
          (∀ i : (⟨2, ![40960, 2048]⟩ : Shape).Idx, (Cert.On_rows_used_down.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3))) i = 1#1 → r.2.mem ((c.tc : Thread Cert.ExpertDownIdeal.nD Cert.ExpertDownIdeal.τ).loc Cert.ExpertDownIdeal.main_v12) i = v0 c i)
          ∧ r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
          ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
          ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2)
          ∧ r.2.mem ((c.tc : Thread Cert.ExpertDownIdeal.nD Cert.ExpertDownIdeal.τ).loc Cert.ExpertDownIdeal.main_arg3) = m ((c.tc : Thread Cert.ExpertDownIdeal.nD Cert.ExpertDownIdeal.τ).loc Cert.ExpertDownIdeal.main_arg3))
      ∧ θ_run (Cert.RefExpertDownIdeal.defs (F := Ideal)) (onTc (τ := Cert.RefExpertDownIdeal.τ) (Cert.RefExpertDownIdeal.main (F := Ideal))) ⟨m', fun _ => 0, g'⟩ (fun r => ∀ c : Dev Cert.RefExpertDownIdeal.nD,
          (∀ i : (⟨2, ![40960, 2048]⟩ : Shape).Idx, (Cert.On_rows_used_down.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3))) i = 1#1 → r.2.mem ((c.tc : Thread Cert.RefExpertDownIdeal.nD Cert.RefExpertDownIdeal.τ).loc Cert.RefExpertDownIdeal.main_v12) i = v0 c i)
          ∧ r.2.mem ((c.tc : Thread Cert.RefExpertDownIdeal.nD Cert.RefExpertDownIdeal.τ).loc Cert.RefExpertDownIdeal.main_arg0) = m' ((c.tc : Thread Cert.RefExpertDownIdeal.nD Cert.RefExpertDownIdeal.τ).loc Cert.RefExpertDownIdeal.main_arg0)
          ∧ r.2.mem ((c.tc : Thread Cert.RefExpertDownIdeal.nD Cert.RefExpertDownIdeal.τ).loc Cert.RefExpertDownIdeal.main_arg1) = m' ((c.tc : Thread Cert.RefExpertDownIdeal.nD Cert.RefExpertDownIdeal.τ).loc Cert.RefExpertDownIdeal.main_arg1)
          ∧ r.2.mem ((c.tc : Thread Cert.RefExpertDownIdeal.nD Cert.RefExpertDownIdeal.τ).loc Cert.RefExpertDownIdeal.main_arg2) = m' ((c.tc : Thread Cert.RefExpertDownIdeal.nD Cert.RefExpertDownIdeal.τ).loc Cert.RefExpertDownIdeal.main_arg2)
          ∧ r.2.mem ((c.tc : Thread Cert.RefExpertDownIdeal.nD Cert.RefExpertDownIdeal.τ).loc Cert.RefExpertDownIdeal.main_arg3) = m' ((c.tc : Thread Cert.RefExpertDownIdeal.nD Cert.RefExpertDownIdeal.τ).loc Cert.RefExpertDownIdeal.main_arg3))

def preserves_SwigluUp_SwigluUpIdeal : Prop :=
  True

def algebraic_SwigluUpIdeal_RefSwigluUpIdeal [hSwigluUpIdeal : Cert.SwigluUpIdeal.Facts] [hRefSwigluUpIdeal : Cert.RefSwigluUpIdeal.Facts] : Prop :=
  ∀ (m : (ℓ : Loc Cert.SwigluUpIdeal.nD Cert.SwigluUpIdeal.τ Cert.SwigluUpIdeal.sig) → Buf (Elt Ideal) ℓ) (g : Dev Cert.SwigluUpIdeal.nD → PrngReg)
    (m' : (ℓ : Loc Cert.RefSwigluUpIdeal.nD Cert.RefSwigluUpIdeal.τ Cert.RefSwigluUpIdeal.sig) → Buf (Elt Ideal) ℓ) (g' : Dev Cert.RefSwigluUpIdeal.nD → PrngReg), Pre_SwigluUpIdeal m →
    (∀ c : Dev Cert.SwigluUpIdeal.nD,
      m' ((c.tc : Thread Cert.RefSwigluUpIdeal.nD Cert.RefSwigluUpIdeal.τ).loc Cert.RefSwigluUpIdeal.main_arg0) = m ((c.tc : Thread Cert.SwigluUpIdeal.nD Cert.SwigluUpIdeal.τ).loc Cert.SwigluUpIdeal.main_arg0)
      ∧ m' ((c.tc : Thread Cert.RefSwigluUpIdeal.nD Cert.RefSwigluUpIdeal.τ).loc Cert.RefSwigluUpIdeal.main_arg1) = m ((c.tc : Thread Cert.SwigluUpIdeal.nD Cert.SwigluUpIdeal.τ).loc Cert.SwigluUpIdeal.main_arg1)) →
    ∃ (v0 : (c : Dev Cert.SwigluUpIdeal.nD) → Buf (Elt Ideal) ((c.tc : Thread Cert.SwigluUpIdeal.nD Cert.SwigluUpIdeal.τ).loc Cert.SwigluUpIdeal.main_v0)),
      θ_run (Cert.SwigluUpIdeal.defs (F := Ideal)) (onTc (τ := Cert.SwigluUpIdeal.τ) (Cert.SwigluUpIdeal.main (F := Ideal))) ⟨m, fun _ => 0, g⟩ (fun r => ∀ c : Dev Cert.SwigluUpIdeal.nD,
          r.2.mem ((c.tc : Thread Cert.SwigluUpIdeal.nD Cert.SwigluUpIdeal.τ).loc Cert.SwigluUpIdeal.main_v0) = v0 c
          ∧ r.2.mem ((c.tc : Thread Cert.SwigluUpIdeal.nD Cert.SwigluUpIdeal.τ).loc Cert.SwigluUpIdeal.main_arg0) = m ((c.tc : Thread Cert.SwigluUpIdeal.nD Cert.SwigluUpIdeal.τ).loc Cert.SwigluUpIdeal.main_arg0)
          ∧ r.2.mem ((c.tc : Thread Cert.SwigluUpIdeal.nD Cert.SwigluUpIdeal.τ).loc Cert.SwigluUpIdeal.main_arg1) = m ((c.tc : Thread Cert.SwigluUpIdeal.nD Cert.SwigluUpIdeal.τ).loc Cert.SwigluUpIdeal.main_arg1))
      ∧ θ_run (Cert.RefSwigluUpIdeal.defs (F := Ideal)) (onTc (τ := Cert.RefSwigluUpIdeal.τ) (Cert.RefSwigluUpIdeal.main (F := Ideal))) ⟨m', fun _ => 0, g'⟩ (fun r => ∀ c : Dev Cert.RefSwigluUpIdeal.nD,
          r.2.mem ((c.tc : Thread Cert.RefSwigluUpIdeal.nD Cert.RefSwigluUpIdeal.τ).loc Cert.RefSwigluUpIdeal.main_v6) = v0 c
          ∧ r.2.mem ((c.tc : Thread Cert.RefSwigluUpIdeal.nD Cert.RefSwigluUpIdeal.τ).loc Cert.RefSwigluUpIdeal.main_arg0) = m' ((c.tc : Thread Cert.RefSwigluUpIdeal.nD Cert.RefSwigluUpIdeal.τ).loc Cert.RefSwigluUpIdeal.main_arg0)
          ∧ r.2.mem ((c.tc : Thread Cert.RefSwigluUpIdeal.nD Cert.RefSwigluUpIdeal.τ).loc Cert.RefSwigluUpIdeal.main_arg1) = m' ((c.tc : Thread Cert.RefSwigluUpIdeal.nD Cert.RefSwigluUpIdeal.τ).loc Cert.RefSwigluUpIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v65) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3))

def preserves_MmDown_MmDownIdeal : Prop :=
  True

def algebraic_MmDownIdeal_RefMmDownIdeal [hMmDownIdeal : Cert.MmDownIdeal.Facts] [hRefMmDownIdeal : Cert.RefMmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.RefMmDownIdeal.nD Cert.RefMmDownIdeal.τ Cert.RefMmDownIdeal.sig) → Buf (Elt Ideal) ℓ) (g' : Dev Cert.RefMmDownIdeal.nD → PrngReg), Pre_MmDownIdeal m →
    (∀ c : Dev Cert.MmDownIdeal.nD,
      m' ((c.tc : Thread Cert.RefMmDownIdeal.nD Cert.RefMmDownIdeal.τ).loc Cert.RefMmDownIdeal.main_arg0) = m ((c.tc : Thread Cert.MmDownIdeal.nD Cert.MmDownIdeal.τ).loc Cert.MmDownIdeal.main_arg0)
      ∧ m' ((c.tc : Thread Cert.RefMmDownIdeal.nD Cert.RefMmDownIdeal.τ).loc Cert.RefMmDownIdeal.main_arg1) = m ((c.tc : Thread Cert.MmDownIdeal.nD Cert.MmDownIdeal.τ).loc Cert.MmDownIdeal.main_arg1)
      ∧ m' ((c.tc : Thread Cert.RefMmDownIdeal.nD Cert.RefMmDownIdeal.τ).loc Cert.RefMmDownIdeal.main_arg2) = m ((c.tc : Thread Cert.MmDownIdeal.nD Cert.MmDownIdeal.τ).loc Cert.MmDownIdeal.main_arg2)
      ∧ m' ((c.tc : Thread Cert.RefMmDownIdeal.nD Cert.RefMmDownIdeal.τ).loc Cert.RefMmDownIdeal.main_arg3) = m ((c.tc : Thread Cert.MmDownIdeal.nD Cert.MmDownIdeal.τ).loc Cert.MmDownIdeal.main_arg3)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
          ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3))
      ∧ θ_run (Cert.RefMmDownIdeal.defs (F := Ideal)) (onTc (τ := Cert.RefMmDownIdeal.τ) (Cert.RefMmDownIdeal.main (F := Ideal))) ⟨m', fun _ => 0, g'⟩ (fun r => ∀ c : Dev Cert.RefMmDownIdeal.nD,
          r.2.mem ((c.tc : Thread Cert.RefMmDownIdeal.nD Cert.RefMmDownIdeal.τ).loc Cert.RefMmDownIdeal.main_v6) = v0 c
          ∧ r.2.mem ((c.tc : Thread Cert.RefMmDownIdeal.nD Cert.RefMmDownIdeal.τ).loc Cert.RefMmDownIdeal.main_arg0) = m' ((c.tc : Thread Cert.RefMmDownIdeal.nD Cert.RefMmDownIdeal.τ).loc Cert.RefMmDownIdeal.main_arg0)
          ∧ r.2.mem ((c.tc : Thread Cert.RefMmDownIdeal.nD Cert.RefMmDownIdeal.τ).loc Cert.RefMmDownIdeal.main_arg1) = m' ((c.tc : Thread Cert.RefMmDownIdeal.nD Cert.RefMmDownIdeal.τ).loc Cert.RefMmDownIdeal.main_arg1)
          ∧ r.2.mem ((c.tc : Thread Cert.RefMmDownIdeal.nD Cert.RefMmDownIdeal.τ).loc Cert.RefMmDownIdeal.main_arg2) = m' ((c.tc : Thread Cert.RefMmDownIdeal.nD Cert.RefMmDownIdeal.τ).loc Cert.RefMmDownIdeal.main_arg2)
          ∧ r.2.mem ((c.tc : Thread Cert.RefMmDownIdeal.nD Cert.RefMmDownIdeal.τ).loc Cert.RefMmDownIdeal.main_arg3) = m' ((c.tc : Thread Cert.RefMmDownIdeal.nD Cert.RefMmDownIdeal.τ).loc Cert.RefMmDownIdeal.main_arg3))

def preserves_MmOut_MmOutIdeal : Prop :=
  True

def algebraic_MmOutIdeal_RefMmOutIdeal [hMmOutIdeal : Cert.MmOutIdeal.Facts] [hRefMmOutIdeal : Cert.RefMmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.RefMmOutIdeal.nD Cert.RefMmOutIdeal.τ Cert.RefMmOutIdeal.sig) → Buf (Elt Ideal) ℓ) (g' : Dev Cert.RefMmOutIdeal.nD → PrngReg), Pre_MmOutIdeal m →
    (∀ c : Dev Cert.MmOutIdeal.nD,
      m' ((c.tc : Thread Cert.RefMmOutIdeal.nD Cert.RefMmOutIdeal.τ).loc Cert.RefMmOutIdeal.main_arg0) = m ((c.tc : Thread Cert.MmOutIdeal.nD Cert.MmOutIdeal.τ).loc Cert.MmOutIdeal.main_arg0)
      ∧ m' ((c.tc : Thread Cert.RefMmOutIdeal.nD Cert.RefMmOutIdeal.τ).loc Cert.RefMmOutIdeal.main_arg1) = m ((c.tc : Thread Cert.MmOutIdeal.nD Cert.MmOutIdeal.τ).loc Cert.MmOutIdeal.main_arg1)
      ∧ m' ((c.tc : Thread Cert.RefMmOutIdeal.nD Cert.RefMmOutIdeal.τ).loc Cert.RefMmOutIdeal.main_arg2) = m ((c.tc : Thread Cert.MmOutIdeal.nD Cert.MmOutIdeal.τ).loc Cert.MmOutIdeal.main_arg2)
      ∧ m' ((c.tc : Thread Cert.RefMmOutIdeal.nD Cert.RefMmOutIdeal.τ).loc Cert.RefMmOutIdeal.main_arg3) = m ((c.tc : Thread Cert.MmOutIdeal.nD Cert.MmOutIdeal.τ).loc Cert.MmOutIdeal.main_arg3)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ θ_run (Cert.RefMmOutIdeal.defs (F := Ideal)) (onTc (τ := Cert.RefMmOutIdeal.τ) (Cert.RefMmOutIdeal.main (F := Ideal))) ⟨m', fun _ => 0, g'⟩ (fun r => ∀ c : Dev Cert.RefMmOutIdeal.nD,
          r.2.mem ((c.tc : Thread Cert.RefMmOutIdeal.nD Cert.RefMmOutIdeal.τ).loc Cert.RefMmOutIdeal.main_v6) = v0 c
          ∧ r.2.mem ((c.tc : Thread Cert.RefMmOutIdeal.nD Cert.RefMmOutIdeal.τ).loc Cert.RefMmOutIdeal.main_arg0) = m' ((c.tc : Thread Cert.RefMmOutIdeal.nD Cert.RefMmOutIdeal.τ).loc Cert.RefMmOutIdeal.main_arg0)
          ∧ r.2.mem ((c.tc : Thread Cert.RefMmOutIdeal.nD Cert.RefMmOutIdeal.τ).loc Cert.RefMmOutIdeal.main_arg1) = m' ((c.tc : Thread Cert.RefMmOutIdeal.nD Cert.RefMmOutIdeal.τ).loc Cert.RefMmOutIdeal.main_arg1)
          ∧ r.2.mem ((c.tc : Thread Cert.RefMmOutIdeal.nD Cert.RefMmOutIdeal.τ).loc Cert.RefMmOutIdeal.main_arg2) = m' ((c.tc : Thread Cert.RefMmOutIdeal.nD Cert.RefMmOutIdeal.τ).loc Cert.RefMmOutIdeal.main_arg2)
          ∧ r.2.mem ((c.tc : Thread Cert.RefMmOutIdeal.nD Cert.RefMmOutIdeal.τ).loc Cert.RefMmOutIdeal.main_arg3) = m' ((c.tc : Thread Cert.RefMmOutIdeal.nD Cert.RefMmOutIdeal.τ).loc Cert.RefMmOutIdeal.main_arg3))

def preserves_NormFinal_NormFinalIdeal : Prop :=
  True

def algebraic_NormFinalIdeal_RefNormFinalIdeal [hNormFinalIdeal : Cert.NormFinalIdeal.Facts] [hRefNormFinalIdeal : Cert.RefNormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg)
    (m' : (ℓ : Loc Cert.RefNormFinalIdeal.nD Cert.RefNormFinalIdeal.τ Cert.RefNormFinalIdeal.sig) → Buf (Elt Ideal) ℓ) (g' : Dev Cert.RefNormFinalIdeal.nD → PrngReg), Pre_NormFinalIdeal m →
    (∀ c : Dev Cert.NormFinalIdeal.nD,
      m' ((c.tc : Thread Cert.RefNormFinalIdeal.nD Cert.RefNormFinalIdeal.τ).loc Cert.RefNormFinalIdeal.main_arg0) = m ((c.tc : Thread Cert.NormFinalIdeal.nD Cert.NormFinalIdeal.τ).loc Cert.NormFinalIdeal.main_arg0)
      ∧ m' ((c.tc : Thread Cert.RefNormFinalIdeal.nD Cert.RefNormFinalIdeal.τ).loc Cert.RefNormFinalIdeal.main_arg1) = m ((c.tc : Thread Cert.NormFinalIdeal.nD Cert.NormFinalIdeal.τ).loc Cert.NormFinalIdeal.main_arg1)) →
    ∃ (v0 : (c : Dev Cert.NormFinalIdeal.nD) → Buf (Elt Ideal) ((c.tc : Thread Cert.NormFinalIdeal.nD Cert.NormFinalIdeal.τ).loc Cert.NormFinalIdeal.main_v4)) (v1 : (c : Dev Cert.NormFinalIdeal.nD) → Buf (Elt Ideal) ((c.tc : Thread Cert.NormFinalIdeal.nD Cert.NormFinalIdeal.τ).loc Cert.NormFinalIdeal.main_v6)),
      θ_run (Cert.NormFinalIdeal.defs (F := Ideal)) (onTc (τ := Cert.NormFinalIdeal.τ) (Cert.NormFinalIdeal.main (F := Ideal))) ⟨m, fun _ => 0, g⟩ (fun r => ∀ c : Dev Cert.NormFinalIdeal.nD,
          r.2.mem ((c.tc : Thread Cert.NormFinalIdeal.nD Cert.NormFinalIdeal.τ).loc Cert.NormFinalIdeal.main_v4) = v0 c
          ∧ r.2.mem ((c.tc : Thread Cert.NormFinalIdeal.nD Cert.NormFinalIdeal.τ).loc Cert.NormFinalIdeal.main_v6) = v1 c
          ∧ r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
          ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1))
      ∧ θ_run (Cert.RefNormFinalIdeal.defs (F := Ideal)) (onTc (τ := Cert.RefNormFinalIdeal.τ) (Cert.RefNormFinalIdeal.main (F := Ideal))) ⟨m', fun _ => 0, g'⟩ (fun r => ∀ c : Dev Cert.RefNormFinalIdeal.nD,
          r.2.mem ((c.tc : Thread Cert.RefNormFinalIdeal.nD Cert.RefNormFinalIdeal.τ).loc Cert.RefNormFinalIdeal.main_v14) = v0 c
          ∧ r.2.mem ((c.tc : Thread Cert.RefNormFinalIdeal.nD Cert.RefNormFinalIdeal.τ).loc Cert.RefNormFinalIdeal.main_v28) = v1 c
          ∧ r.2.mem ((c.tc : Thread Cert.RefNormFinalIdeal.nD Cert.RefNormFinalIdeal.τ).loc Cert.RefNormFinalIdeal.main_arg0) = m' ((c.tc : Thread Cert.RefNormFinalIdeal.nD Cert.RefNormFinalIdeal.τ).loc Cert.RefNormFinalIdeal.main_arg0)
          ∧ r.2.mem ((c.tc : Thread Cert.RefNormFinalIdeal.nD Cert.RefNormFinalIdeal.τ).loc Cert.RefNormFinalIdeal.main_arg1) = m' ((c.tc : Thread Cert.RefNormFinalIdeal.nD Cert.RefNormFinalIdeal.τ).loc Cert.RefNormFinalIdeal.main_arg1))

def preserves_States_StatesIdeal : Prop :=
  True

def algebraic_StatesIdeal_RefStatesIdeal [hStatesIdeal : Cert.StatesIdeal.Facts] [hRefStatesIdeal : Cert.RefStatesIdeal.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.RefStatesIdeal.nD Cert.RefStatesIdeal.τ Cert.RefStatesIdeal.sig) → Buf (Elt Ideal) ℓ) (g' : Dev Cert.RefStatesIdeal.nD → PrngReg), Pre_StatesIdeal m →
    (∀ c : Dev Cert.StatesIdeal.nD,
      m' ((c.tc : Thread Cert.RefStatesIdeal.nD Cert.RefStatesIdeal.τ).loc Cert.RefStatesIdeal.main_arg0) = m ((c.tc : Thread Cert.StatesIdeal.nD Cert.StatesIdeal.τ).loc Cert.StatesIdeal.main_arg0)
      ∧ m' ((c.tc : Thread Cert.RefStatesIdeal.nD Cert.RefStatesIdeal.τ).loc Cert.RefStatesIdeal.main_arg1) = m ((c.tc : Thread Cert.StatesIdeal.nD Cert.StatesIdeal.τ).loc Cert.StatesIdeal.main_arg1)) →
    ∃ (v0 : (c : Dev Cert.StatesIdeal.nD) → Buf (Elt Ideal) ((c.tc : Thread Cert.StatesIdeal.nD Cert.StatesIdeal.τ).loc Cert.StatesIdeal.main_v46)) (v1 : (c : Dev Cert.StatesIdeal.nD) → Buf (Elt Ideal) ((c.tc : Thread Cert.StatesIdeal.nD Cert.StatesIdeal.τ).loc Cert.StatesIdeal.main_v47)) (v2 : (c : Dev Cert.StatesIdeal.nD) → Buf (Elt Ideal) ((c.tc : Thread Cert.StatesIdeal.nD Cert.StatesIdeal.τ).loc Cert.StatesIdeal.main_v48)) (v3 : (c : Dev Cert.StatesIdeal.nD) → Buf (Elt Ideal) ((c.tc : Thread Cert.StatesIdeal.nD Cert.StatesIdeal.τ).loc Cert.StatesIdeal.main_v42)) (v4 : (c : Dev Cert.StatesIdeal.nD) → Buf (Elt Ideal) ((c.tc : Thread Cert.StatesIdeal.nD Cert.StatesIdeal.τ).loc Cert.StatesIdeal.main_v49)) (v5 : (c : Dev Cert.StatesIdeal.nD) → Buf (Elt Ideal) ((c.tc : Thread Cert.StatesIdeal.nD Cert.StatesIdeal.τ).loc Cert.StatesIdeal.main_v50)) (v6 : (c : Dev Cert.StatesIdeal.nD) → Buf (Elt Ideal) ((c.tc : Thread Cert.StatesIdeal.nD Cert.StatesIdeal.τ).loc Cert.StatesIdeal.main_v51)) (v7 : (c : Dev Cert.StatesIdeal.nD) → Buf (Elt Ideal) ((c.tc : Thread Cert.StatesIdeal.nD Cert.StatesIdeal.τ).loc Cert.StatesIdeal.main_v44)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v46) = v0 c
          ∧ r.2.mem ((c.tc : Thread Cert.StatesIdeal.nD Cert.StatesIdeal.τ).loc Cert.StatesIdeal.main_v47) = v1 c
          ∧ r.2.mem ((c.tc : Thread Cert.StatesIdeal.nD Cert.StatesIdeal.τ).loc Cert.StatesIdeal.main_v48) = v2 c
          ∧ r.2.mem ((c.tc : Thread Cert.StatesIdeal.nD Cert.StatesIdeal.τ).loc Cert.StatesIdeal.main_v42) = v3 c
          ∧ r.2.mem ((c.tc : Thread Cert.StatesIdeal.nD Cert.StatesIdeal.τ).loc Cert.StatesIdeal.main_v49) = v4 c
          ∧ r.2.mem ((c.tc : Thread Cert.StatesIdeal.nD Cert.StatesIdeal.τ).loc Cert.StatesIdeal.main_v50) = v5 c
          ∧ r.2.mem ((c.tc : Thread Cert.StatesIdeal.nD Cert.StatesIdeal.τ).loc Cert.StatesIdeal.main_v51) = v6 c
          ∧ r.2.mem ((c.tc : Thread Cert.StatesIdeal.nD Cert.StatesIdeal.τ).loc Cert.StatesIdeal.main_v44) = v7 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1))
      ∧ θ_run (Cert.RefStatesIdeal.defs (F := Ideal)) (onTc (τ := Cert.RefStatesIdeal.τ) (Cert.RefStatesIdeal.main (F := Ideal))) ⟨m', fun _ => 0, g'⟩ (fun r => ∀ c : Dev Cert.RefStatesIdeal.nD,
          r.2.mem ((c.tc : Thread Cert.RefStatesIdeal.nD Cert.RefStatesIdeal.τ).loc Cert.RefStatesIdeal.main_v34) = v0 c
          ∧ r.2.mem ((c.tc : Thread Cert.RefStatesIdeal.nD Cert.RefStatesIdeal.τ).loc Cert.RefStatesIdeal.main_v28) = v1 c
          ∧ r.2.mem ((c.tc : Thread Cert.RefStatesIdeal.nD Cert.RefStatesIdeal.τ).loc Cert.RefStatesIdeal.main_v33) = v2 c
          ∧ r.2.mem ((c.tc : Thread Cert.RefStatesIdeal.nD Cert.RefStatesIdeal.τ).loc Cert.RefStatesIdeal.main_v17) = v3 c
          ∧ r.2.mem ((c.tc : Thread Cert.RefStatesIdeal.nD Cert.RefStatesIdeal.τ).loc Cert.RefStatesIdeal.main_v57) = v4 c
          ∧ r.2.mem ((c.tc : Thread Cert.RefStatesIdeal.nD Cert.RefStatesIdeal.τ).loc Cert.RefStatesIdeal.main_v62) = v5 c
          ∧ r.2.mem ((c.tc : Thread Cert.RefStatesIdeal.nD Cert.RefStatesIdeal.τ).loc Cert.RefStatesIdeal.main_v67) = v6 c
          ∧ r.2.mem ((c.tc : Thread Cert.RefStatesIdeal.nD Cert.RefStatesIdeal.τ).loc Cert.RefStatesIdeal.main_v51) = v7 c
          ∧ r.2.mem ((c.tc : Thread Cert.RefStatesIdeal.nD Cert.RefStatesIdeal.τ).loc Cert.RefStatesIdeal.main_arg0) = m' ((c.tc : Thread Cert.RefStatesIdeal.nD Cert.RefStatesIdeal.τ).loc Cert.RefStatesIdeal.main_arg0)
          ∧ r.2.mem ((c.tc : Thread Cert.RefStatesIdeal.nD Cert.RefStatesIdeal.τ).loc Cert.RefStatesIdeal.main_arg1) = m' ((c.tc : Thread Cert.RefStatesIdeal.nD Cert.RefStatesIdeal.τ).loc Cert.RefStatesIdeal.main_arg1))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v2) = v0 c
          ∧ r.2.mem ((c.tc : Thread Cert.RefProjIdeal.nD Cert.RefProjIdeal.τ).loc Cert.RefProjIdeal.main_v3) = v1 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def Claim : Prop :=
  ∃ (hKernel : Cert.Kernel.Facts) (hKernelIdeal : Cert.KernelIdeal.Facts) (hReferenceIdeal : Cert.ReferenceIdeal.Facts) (hExpertUp : Cert.ExpertUp.Facts) (hExpertUpIdeal : Cert.ExpertUpIdeal.Facts) (hRefExpertUpIdeal : Cert.RefExpertUpIdeal.Facts) (hExpertDown : Cert.ExpertDown.Facts) (hExpertDownIdeal : Cert.ExpertDownIdeal.Facts) (hRefExpertDownIdeal : Cert.RefExpertDownIdeal.Facts) (hSwigluUp : Cert.SwigluUp.Facts) (hSwigluUpIdeal : Cert.SwigluUpIdeal.Facts) (hRefSwigluUpIdeal : Cert.RefSwigluUpIdeal.Facts) (hMerge : Cert.Merge.Facts) (hMergeIdeal : Cert.MergeIdeal.Facts) (hRefMergeIdeal : Cert.RefMergeIdeal.Facts) (hMmDown : Cert.MmDown.Facts) (hMmDownIdeal : Cert.MmDownIdeal.Facts) (hRefMmDownIdeal : Cert.RefMmDownIdeal.Facts) (hMmOut : Cert.MmOut.Facts) (hMmOutIdeal : Cert.MmOutIdeal.Facts) (hRefMmOutIdeal : Cert.RefMmOutIdeal.Facts) (hNormFinal : Cert.NormFinal.Facts) (hNormFinalIdeal : Cert.NormFinalIdeal.Facts) (hRefNormFinalIdeal : Cert.RefNormFinalIdeal.Facts) (hStates : Cert.States.Facts) (hStatesIdeal : Cert.StatesIdeal.Facts) (hRefStatesIdeal : Cert.RefStatesIdeal.Facts) (hProj : Cert.Proj.Facts) (hProjIdeal : Cert.ProjIdeal.Facts) (hRefProjIdeal : Cert.RefProjIdeal.Facts) (hPre_finite_logits : Cert.Pre_finite_logits.Facts) (hPre_tables_ok_up : Cert.Pre_tables_ok_up.Facts) (hPre_tables_ok_down : Cert.Pre_tables_ok_down.Facts) (hOn_rows_used_up : Cert.On_rows_used_up.Facts) (hOn_rows_used_down : Cert.On_rows_used_down.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_ExpertUp (hExpertUp := hExpertUp) (hPre_tables_ok_up := hPre_tables_ok_up)
    ∧ quiescent_ExpertUpIdeal (hExpertUpIdeal := hExpertUpIdeal) (hPre_tables_ok_up := hPre_tables_ok_up)
    ∧ quiescent_RefExpertUpIdeal (hRefExpertUpIdeal := hRefExpertUpIdeal) (hPre_tables_ok_up := hPre_tables_ok_up)
    ∧ quiescent_ExpertDown (hExpertDown := hExpertDown) (hPre_tables_ok_down := hPre_tables_ok_down)
    ∧ quiescent_ExpertDownIdeal (hExpertDownIdeal := hExpertDownIdeal) (hPre_tables_ok_down := hPre_tables_ok_down)
    ∧ quiescent_RefExpertDownIdeal (hRefExpertDownIdeal := hRefExpertDownIdeal) (hPre_tables_ok_down := hPre_tables_ok_down)
    ∧ quiescent_SwigluUp (hSwigluUp := hSwigluUp)
    ∧ quiescent_SwigluUpIdeal (hSwigluUpIdeal := hSwigluUpIdeal)
    ∧ quiescent_RefSwigluUpIdeal (hRefSwigluUpIdeal := hRefSwigluUpIdeal)
    ∧ quiescent_Merge (hMerge := hMerge)
    ∧ quiescent_MergeIdeal (hMergeIdeal := hMergeIdeal)
    ∧ quiescent_RefMergeIdeal (hRefMergeIdeal := hRefMergeIdeal)
    ∧ quiescent_MmDown (hMmDown := hMmDown)
    ∧ quiescent_MmDownIdeal (hMmDownIdeal := hMmDownIdeal)
    ∧ quiescent_RefMmDownIdeal (hRefMmDownIdeal := hRefMmDownIdeal)
    ∧ quiescent_MmOut (hMmOut := hMmOut)
    ∧ quiescent_MmOutIdeal (hMmOutIdeal := hMmOutIdeal)
    ∧ quiescent_RefMmOutIdeal (hRefMmOutIdeal := hRefMmOutIdeal)
    ∧ quiescent_NormFinal (hNormFinal := hNormFinal)
    ∧ quiescent_NormFinalIdeal (hNormFinalIdeal := hNormFinalIdeal)
    ∧ quiescent_RefNormFinalIdeal (hRefNormFinalIdeal := hRefNormFinalIdeal)
    ∧ quiescent_States (hStates := hStates)
    ∧ quiescent_StatesIdeal (hStatesIdeal := hStatesIdeal)
    ∧ quiescent_RefStatesIdeal (hRefStatesIdeal := hRefStatesIdeal)
    ∧ quiescent_Proj (hProj := hProj)
    ∧ quiescent_ProjIdeal (hProjIdeal := hProjIdeal)
    ∧ quiescent_RefProjIdeal (hRefProjIdeal := hRefProjIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_ExpertUp_ExpertUpIdeal
    ∧ algebraic_ExpertUpIdeal_RefExpertUpIdeal_on_rows_used_up (hExpertUpIdeal := hExpertUpIdeal) (hRefExpertUpIdeal := hRefExpertUpIdeal) (hPre_tables_ok_up := hPre_tables_ok_up) (hOn_rows_used_up := hOn_rows_used_up)
    ∧ preserves_ExpertDown_ExpertDownIdeal
    ∧ algebraic_ExpertDownIdeal_RefExpertDownIdeal_on_rows_used_down (hExpertDownIdeal := hExpertDownIdeal) (hRefExpertDownIdeal := hRefExpertDownIdeal) (hPre_tables_ok_down := hPre_tables_ok_down) (hOn_rows_used_down := hOn_rows_used_down)
    ∧ preserves_SwigluUp_SwigluUpIdeal
    ∧ algebraic_SwigluUpIdeal_RefSwigluUpIdeal (hSwigluUpIdeal := hSwigluUpIdeal) (hRefSwigluUpIdeal := hRefSwigluUpIdeal)
    ∧ preserves_Merge_MergeIdeal
    ∧ algebraic_MergeIdeal_RefMergeIdeal (hMergeIdeal := hMergeIdeal) (hRefMergeIdeal := hRefMergeIdeal)
    ∧ preserves_MmDown_MmDownIdeal
    ∧ algebraic_MmDownIdeal_RefMmDownIdeal (hMmDownIdeal := hMmDownIdeal) (hRefMmDownIdeal := hRefMmDownIdeal)
    ∧ preserves_MmOut_MmOutIdeal
    ∧ algebraic_MmOutIdeal_RefMmOutIdeal (hMmOutIdeal := hMmOutIdeal) (hRefMmOutIdeal := hRefMmOutIdeal)
    ∧ preserves_NormFinal_NormFinalIdeal
    ∧ algebraic_NormFinalIdeal_RefNormFinalIdeal (hNormFinalIdeal := hNormFinalIdeal) (hRefNormFinalIdeal := hRefNormFinalIdeal)
    ∧ preserves_States_StatesIdeal
    ∧ algebraic_StatesIdeal_RefStatesIdeal (hStatesIdeal := hStatesIdeal) (hRefStatesIdeal := hRefStatesIdeal)
    ∧ preserves_Proj_ProjIdeal
    ∧ algebraic_ProjIdeal_RefProjIdeal (hProjIdeal := hProjIdeal) (hRefProjIdeal := hRefProjIdeal)
-- ==== On_rows_used_down.lean ====
abbrev S80 : Shape := ⟨1, ![80]⟩
abbrev S1 : Shape := ⟨1, ![1]⟩
abbrev S40960x7168 : Shape := ⟨2, ![40960, 7168]⟩
abbrev S8x7168x2048 : Shape := ⟨3, ![8, 7168, 2048]⟩
abbrev S40960 : Shape := ⟨1, ![40960]⟩
abbrev S40960x1 : Shape := ⟨2, ![40960, 1]⟩
abbrev S_ : Shape := ⟨0, ![]⟩
abbrev S40960x2048 : Shape := ⟨2, ![40960, 2048]⟩

class Facts : Prop where
  bcast_S40960_S40960x1_0 : S40960.BroadcastsInDim S40960x1 (![0] : Fin 1 → Fin S40960x1.rank)
  shapeCasts_S1_S_ : S1.ShapeCasts S_
  bcast_S_S40960x1 : S_.BroadcastsInDim S40960x1 (![] : Fin 0 → Fin S40960x1.rank)
  bcast_S40960x1_S40960x2048_0_1 : S40960x1.BroadcastsInDim S40960x2048 (![0, 1] : Fin 2 → Fin S40960x2048.rank)

variable [Facts]

def fn {F : FTy → Type} [FloatOps F] (main_arg0 : IVec S80 32) (main_arg1 : IVec S1 32) (main_arg2 : FVec F S40960x7168 .bf16) (main_arg3 : FVec F S8x7168x2048 .bf16) : IVec S40960x2048 1 :=
  let main_v0 : IVec S40960 32 := iotaInDim S40960 32 0
  let main_v1 : IVec S40960x1 32 := broadcastInDim S40960x1 ![0] bcast_S40960_S40960x1_0 main_v0
  let main_v2 : IVec S_ 32 := shapeCast S_ main_arg1 shapeCasts_S1_S_
  let main_c : IVec S_ 32 := constantI S_ 32 512#32
  let main_v3 : IVec S_ 32 := muli main_v2 main_c
  let main_v4 : IVec S40960x1 32 := broadcastInDim S40960x1 ![] bcast_S_S40960x1 main_v3
  let main_v5 : IVec S40960x1 1 := cmpi .slt main_v1 main_v4
  let main_v6 : IVec S40960x2048 1 := broadcastInDim S40960x2048 ![0, 1] bcast_S40960x1_S40960x2048_0_1 main_v5
  main_v6
-- ==== On_rows_used_up.lean ====
abbrev S80 : Shape := ⟨1, ![80]⟩
abbrev S1 : Shape := ⟨1, ![1]⟩
abbrev S40960x2048 : Shape := ⟨2, ![40960, 2048]⟩
abbrev S8x2048x14336 : Shape := ⟨3, ![8, 2048, 14336]⟩
abbrev S40960 : Shape := ⟨1, ![40960]⟩
abbrev S40960x1 : Shape := ⟨2, ![40960, 1]⟩
abbrev S_ : Shape := ⟨0, ![]⟩
abbrev S40960x7168 : Shape := ⟨2, ![40960, 7168]⟩

class Facts : Prop where
  bcast_S40960_S40960x1_0 : S40960.BroadcastsInDim S40960x1 (![0] : Fin 1 → Fin S40960x1.rank)
  shapeCasts_S1_S_ : S1.ShapeCasts S_
  bcast_S_S40960x1 : S_.BroadcastsInDim S40960x1 (![] : Fin 0 → Fin S40960x1.rank)
  bcast_S40960x1_S40960x7168_0_1 : S40960x1.BroadcastsInDim S40960x7168 (![0, 1] : Fin 2 → Fin S40960x7168.rank)

variable [Facts]

def fn {F : FTy → Type} [FloatOps F] (main_arg0 : IVec S80 32) (main_arg1 : IVec S1 32) (main_arg2 : FVec F S40960x2048 .bf16) (main_arg3 : FVec F S8x2048x14336 .bf16) : IVec S40960x7168 1 :=
  let main_v0 : IVec S40960 32 := iotaInDim S40960 32 0
  let main_v1 : IVec S40960x1 32 := broadcastInDim S40960x1 ![0] bcast_S40960_S40960x1_0 main_v0
  let main_v2 : IVec S_ 32 := shapeCast S_ main_arg1 shapeCasts_S1_S_
  let main_c : IVec S_ 32 := constantI S_ 32 512#32
  let main_v3 : IVec S_ 32 := muli main_v2 main_c
  let main_v4 : IVec S40960x1 32 := broadcastInDim S40960x1 ![] bcast_S_S40960x1 main_v3
  let main_v5 : IVec S40960x1 1 := cmpi .slt main_v1 main_v4
  let main_v6 : IVec S40960x7168 1 := broadcastInDim S40960x7168 ![0, 1] bcast_S40960x1_S40960x7168_0_1 main_v5
  main_v6
-- ==== Pre_finite_logits.lean ====
abbrev S18432x6144 : Shape := ⟨2, ![18432, 6144]⟩
abbrev S513x8 : Shape := ⟨2, ![513, 8]⟩
abbrev S16384x1024 : Shape := ⟨2, ![16384, 1024]⟩
abbrev S_ : Shape := ⟨0, ![]⟩

class Facts : Prop where
  slices_S18432x6144_S16384x1024_0_0 : S18432x6144.Slices ![0, 0] S16384x1024
  bcast_S_S16384x1024 : S_.BroadcastsInDim S16384x1024 (![] : Fin 0 → Fin S16384x1024.rank)
  bcast_S_S513x8 : S_.BroadcastsInDim S513x8 (![] : Fin 0 → Fin S513x8.rank)

variable [Facts]

def fn {F : FTy → Type} [FloatOps F] (main_arg0 : FVec F S18432x6144 .bf16) (main_arg1 : FVec F S513x8 .f32) : IVec S16384x1024 1 × IVec S513x8 1 :=
  let main_v0 : FVec F S16384x1024 .bf16 := (extractStridedSlice S16384x1024 ![0, 0] · slices_S18432x6144_S16384x1024_0_0) main_arg0
  let main_v1 : FVec F S16384x1024 .bf16 := Host.absf main_v0
  let main_cst : FVec F S_ .bf16 := constant S_ .bf16 0x7F80#16
  let main_v2 : FVec F S16384x1024 .bf16 := broadcastInDim S16384x1024 ![] bcast_S_S16384x1024 main_cst
  let main_v3 : IVec S16384x1024 1 := cmpf .olt main_v1 main_v2
  let main_v4 : FVec F S513x8 .f32 := Host.absf main_arg1
  let main_cst_0 : FVec F S_ .f32 := constant S_ .f32 0x7F800000#32
  let main_v5 : FVec F S513x8 .f32 := broadcastInDim S513x8 ![] bcast_S_S513x8 main_cst_0
  let main_v6 : IVec S513x8 1 := cmpf .olt main_v4 main_v5
  (main_v3, main_v6)
-- ==== Pre_tables_ok_down.lean ====
abbrev S80 : Shape := ⟨1, ![80]⟩
abbrev S1 : Shape := ⟨1, ![1]⟩
abbrev S40960x7168 : Shape := ⟨2, ![40960, 7168]⟩
abbrev S8x7168x2048 : Shape := ⟨3, ![8, 7168, 2048]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S80 32) (main_arg1 : IVec S1 32) (main_arg2 : FVec F S40960x7168 .bf16) (main_arg3 : FVec F S8x7168x2048 .bf16) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 8#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 80#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_tables_ok_up.lean ====
abbrev S80 : Shape := ⟨1, ![80]⟩
abbrev S1 : Shape := ⟨1, ![1]⟩
abbrev S40960x2048 : Shape := ⟨2, ![40960, 2048]⟩
abbrev S8x2048x14336 : Shape := ⟨3, ![8, 2048, 14336]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S80 32) (main_arg1 : IVec S1 32) (main_arg2 : FVec F S40960x2048 .bf16) (main_arg3 : FVec F S8x2048x14336 .bf16) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 8#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 80#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S18432x6144 : Shape := ⟨2, ![18432, 6144]⟩
abbrev S513x8 : Shape := ⟨2, ![513, 8]⟩
abbrev S639 : Shape := ⟨1, ![639]⟩
abbrev S_ : Shape := ⟨0, ![]⟩
abbrev S639x1 : Shape := ⟨2, ![639, 1]⟩
abbrev S639x8 : Shape := ⟨2, ![639, 8]⟩
abbrev S8x639 : Shape := ⟨2, ![8, 639]⟩
abbrev S8x640 : Shape := ⟨2, ![8, 640]⟩
abbrev S1x8x1x640 : Shape := ⟨4, ![1, 8, 1, 640]⟩
abbrev S1x8x64x640 : Shape := ⟨4, ![1, 8, 64, 640]⟩
abbrev S8x40960 : Shape := ⟨2, ![8, 40960]⟩
abbrev S8x40896 : Shape := ⟨2, ![8, 40896]⟩
abbrev S8x64x639 : Shape := ⟨3, ![8, 64, 639]⟩
abbrev S8x64x576 : Shape := ⟨3, ![8, 64, 576]⟩
abbrev S1x18432x6144 : Shape := ⟨3, ![1, 18432, 6144]⟩
abbrev S32x512x512 : Shape := ⟨3, ![32, 512, 512]⟩
abbrev S1x512x512 : Shape := ⟨3, ![1, 512, 512]⟩
abbrev S1024x512 : Shape := ⟨2, ![1024, 512]⟩
abbrev S512x512 : Shape := ⟨2, ![512, 512]⟩
abbrev S1x128 : Shape := ⟨2, ![1, 128]⟩
abbrev S1x576 : Shape := ⟨2, ![1, 576]⟩
abbrev S1x64x128 : Shape := ⟨3, ![1, 64, 128]⟩
abbrev S64x128 : Shape := ⟨2, ![64, 128]⟩
abbrev S576x128 : Shape := ⟨2, ![576, 128]⟩
abbrev S64x576 : Shape := ⟨2, ![64, 576]⟩
abbrev S1x64x576 : Shape := ⟨3, ![1, 64, 576]⟩
abbrev S64 : Shape := ⟨1, ![64]⟩
abbrev S64x1 : Shape := ⟨2, ![64, 1]⟩

abbrev nBuf : Space → Nat
  | .hbm => 41
  | .vmem => 15
  | .smem => 0
  | _ => 0

abbrev bufTy : (tb : Table) → Fin (tcTables nBuf tb) → BufTy
  | .hbm, ⟨0, _⟩ => ⟨S18432x6144, .bf16⟩
  | .hbm, ⟨1, _⟩ => ⟨S513x8, .f32⟩
  | .hbm, ⟨2, _⟩ => ⟨S639, .i32⟩
  | .hbm, ⟨3, _⟩ => ⟨S_, .i32⟩
  | .hbm, ⟨4, _⟩ => ⟨S639, .i32⟩
  | .hbm, ⟨5, _⟩ => ⟨S639, .i32⟩
  | .hbm, ⟨6, _⟩ => ⟨S_, .i32⟩
  | .hbm, ⟨7, _⟩ => ⟨S639, .i32⟩
  | .hbm, ⟨8, _⟩ => ⟨S639, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S639, .i32⟩
  | .hbm, ⟨13, _⟩ => ⟨S639, .i32⟩
  | .hbm, ⟨14, _⟩ => ⟨S_, .i32⟩
  | .hbm, ⟨15, _⟩ => ⟨S639, .i32⟩
  | .hbm, ⟨16, _⟩ => ⟨S639, .i32⟩
  | .hbm, ⟨17, _⟩ => ⟨S_, .i32⟩
  | .hbm, ⟨18, _⟩ => ⟨S639, .i32⟩
  | .hbm, ⟨19, _⟩ => ⟨S639, .i32⟩
  | .hbm, ⟨20, _⟩ => ⟨S_, .i32⟩
  | .hbm, ⟨21, _⟩ => ⟨S639, .i32⟩
  | .hbm, ⟨22, _⟩ => ⟨S639, .i1⟩
  | .hbm, ⟨23, _⟩ => ⟨S_, .i32⟩
  | .hbm, ⟨24, _⟩ => ⟨S639, .i32⟩
  | .hbm, ⟨25, _⟩ => ⟨S639, .i32⟩
  | .hbm, ⟨26, _⟩ => ⟨S639, .i32⟩
  | .hbm, ⟨27, _⟩ => ⟨S639x1, .i32⟩
  | .hbm, ⟨28, _⟩ => ⟨S639x8, .f32⟩
  | .hbm, ⟨29, _⟩ => ⟨S8x639, .f32⟩
  | .hbm, ⟨30, _⟩ => ⟨S_, .i32⟩
  | .hbm, ⟨31, _⟩ => ⟨S_, .f32⟩
  | .hbm, ⟨32, _⟩ => ⟨S8x640, .f32⟩
  | .hbm, ⟨33, _⟩ => ⟨S1x8x1x640, .f32⟩
  | .hbm, ⟨34, _⟩ => ⟨S1x8x64x640, .f32⟩
  | .hbm, ⟨35, _⟩ => ⟨S8x40960, .f32⟩
  | .hbm, ⟨36, _⟩ => ⟨S8x40896, .f32⟩
  | .hbm, ⟨37, _⟩ => ⟨S8x64x639, .f32⟩
  | .hbm, ⟨38, _⟩ => ⟨S8x64x576, .f32⟩
  | .hbm, ⟨39, _⟩ => ⟨S1x18432x6144, .bf16⟩
  | .hbm, ⟨40, _⟩ => ⟨S32x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S8x64x576, .f32⟩
  | .local _ .vmem, ⟨11, _⟩ => ⟨S1x512x512, .bf16⟩
  | .local _ .vmem, ⟨12, _⟩ => ⟨S1x512x512, .bf16⟩
  | .local _ .vmem, ⟨13, _⟩ => ⟨S1024x512, .bf16⟩
  | .local _ .vmem, ⟨14, _⟩ => ⟨S1024x512, .bf16⟩
  | _, _ => ⟨S18432x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_v9 : Ref sig .tc := ⟨.hbm, 22, rfl⟩
abbrev main_c_5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_18 : BitVec 32 := 0#32
  let c8_i32 : BitVec 32 := 8#32
  let v25 : BitVec 32 := Scalar.addi c0_i32_18 c8_i32
  let c1_i32 : BitVec 32 := 1#32
  ⟨c0_i32_18, v25, c1_i32⟩
def k0_mult1 (k0_t1 : Fin k0_t1_loop.trips) : BitVec 32 :=
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  v26
def k0_off1 (k0_t1 : Fin k0_t1_loop.trips) : Fin 3 → Nat :=
  let c0_21 : Index := 0#32
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v34 : Index := Scalar.indexCast v27
  let c0_22 : Index := 0#32
  ![0, v34.toNat, 0]
def k0_off2 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v37 : Index := Scalar.indexCast v27
  let c0_23 : Index := 0#32
  ![v37.toNat, 0]
def k0_off3 (k0_t1 : Fin k0_t1_loop.trips) : Fin 3 → Nat :=
  let c0_46 : Index := 0#32
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v100 : Index := Scalar.indexCast v27
  let c128 : Index := 128#32
  ![0, v100.toNat, 128]
def k0_off4 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v103 : Index := Scalar.indexCast v27
  let c128_47 : Index := 128#32
  ![v103.toNat, 128]
def k0_off5 (k0_t1 : Fin k0_t1_loop.trips) : Fin 3 → Nat :=
  let c0_70 : Index := 0#32
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v166 : Index := Scalar.indexCast v27
  let c256 : Index := 256#32
  ![0, v166.toNat, 256]
def k0_off6 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v169 : Index := Scalar.indexCast v27
  let c256_71 : Index := 256#32
  ![v169.toNat, 256]
def k0_off7 (k0_t1 : Fin k0_t1_loop.trips) : Fin 3 → Nat :=
  let c0_94 : Index := 0#32
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v232 : Index := Scalar.indexCast v27
  let c384 : Index := 384#32
  ![0, v232.toNat, 384]
def k0_off8 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32_20 : BitVec 32 := 64#32
  let v26 : BitVec 32 := Scalar.muli arg11 c64_i32_20
  let v27 : BitVec 32 := v26
  let v235 : Index := Scalar.indexCast v27
  let c384_95 : Index := 384#32
  ![v235.toNat, 384]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c0_i32_1 : BitVec 32 := 0#32
  let c1_i32_2 : BitVec 32 := 1#32
  let c0_i32_3 : BitVec 32 := 0#32
  ![c0_i32_1.toNat, v4.toNat, c1_i32_2.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c1_i32 : BitVec 32 := 1#32
  let c0_i32_1 : BitVec 32 := 0#32
  ![c0_i32_0.toNat, v2.toNat, c1_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c0_i32_1 : BitVec 32 := 0#32
  let c2_i32 : BitVec 32 := 2#32
  let c0_i32_2 : BitVec 32 := 0#32
  ![c0_i32_1.toNat, v4.toNat, c2_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c2_i32 : BitVec 32 := 2#32
  let c0_i32_1 : BitVec 32 := 0#32
  ![c0_i32_0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S18432x6144 : Shape := ⟨2, ![18432, 6144]⟩
abbrev S513x8 : Shape := ⟨2, ![513, 8]⟩
abbrev S16384x6144 : Shape := ⟨2, ![16384, 6144]⟩
abbrev S4x4096x6144 : Shape := ⟨3, ![4, 4096, 6144]⟩
abbrev S4x4096x512 : Shape := ⟨3, ![4, 4096, 512]⟩
abbrev S4096 : Shape := ⟨1, ![4096]⟩
abbrev S4x4096x8x64 : Shape := ⟨4, ![4, 4096, 8, 64]⟩
abbrev S4x4096x1x8x64 : Shape := ⟨5, ![4, 4096, 1, 8, 64]⟩
abbrev S4x4096x2x8x64 : Shape := ⟨5, ![4, 4096, 2, 8, 64]⟩
abbrev S4x64x64x2x8x64 : Shape := ⟨6, ![4, 64, 64, 2, 8, 64]⟩
abbrev S_ : Shape := ⟨0, ![]⟩
abbrev S4x72x64x2x8x64 : Shape := ⟨6, ![4, 72, 64, 2, 8, 64]⟩
abbrev S4x64x576x2x8x64 : Shape := ⟨6, ![4, 64, 576, 2, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x1x64 : Shape := ⟨3, ![1, 1, 64]⟩
abbrev S64x9x64 : Shape := ⟨3, ![64, 9, 64]⟩
abbrev S64x576 : Shape := ⟨2, ![64, 576]⟩
abbrev S4x64x64x8x64 : Shape := ⟨5, ![4, 64, 64, 8, 64]⟩
abbrev S4x64x576x1x8x64 : Shape := ⟨6, ![4, 64, 576, 1, 8, 64]⟩
abbrev S4x64x576x8x64 : Shape := ⟨5, ![4, 64, 576, 8, 64]⟩
abbrev S64x64 : Shape := ⟨2, ![64, 64]⟩
abbrev S64x64x1 : Shape := ⟨3, ![64, 64, 1]⟩
abbrev S64x1x576 : Shape := ⟨3, ![64, 1, 576]⟩
abbrev S64x64x576 : Shape := ⟨3, ![64, 64, 576]⟩
abbrev S64x64x576x1 : Shape := ⟨4, ![64, 64, 576, 1]⟩
abbrev S64x64x576x8 : Shape := ⟨4, ![64, 64, 576, 8]⟩
abbrev S64x8x64x576 : Shape := ⟨4, ![64, 8, 64, 576]⟩
abbrev S4x64x8x64x576 : Shape := ⟨5, ![4, 64, 8, 64, 576]⟩
abbrev S1x64x8x64x576 : Shape := ⟨5, ![1, 64, 8, 64, 576]⟩
abbrev S64x1x64x576 : Shape := ⟨4, ![64, 1, 64, 576]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩
abbrev S32x512x512 : Shape := ⟨3, ![32, 512, 512]⟩

abbrev nBuf : Space → Nat
  | .hbm => 166
  | .vmem => 0
  | .smem => 0
  | _ => 0

abbrev hbmTy0_0 (i : Nat) : BufTy := match i % 128 with
  | 0 => ⟨S18432x6144, .bf16⟩
  | 1 => ⟨S513x8, .f32⟩
  | 2 => ⟨S18432x6144, .f32⟩
  | 3 => ⟨S16384x6144, .f32⟩
  | 4 => ⟨S4x4096x6144, .f32⟩
  | 5 => ⟨S4x4096x512, .f32⟩
  | 6 => ⟨S4x4096x512, .f32⟩
  | 7 => ⟨S4x4096x512, .f32⟩
  | 8 => ⟨S4096, .i32⟩
  | 9 => ⟨S4x4096x8x64, .f32⟩
  | 10 => ⟨S4x4096x8x64, .f32⟩
  | 11 => ⟨S4x4096x8x64, .f32⟩
  | 12 => ⟨S4x4096x1x8x64, .f32⟩
  | 13 => ⟨S4x4096x1x8x64, .f32⟩
  | 14 => ⟨S4x4096x2x8x64, .f32⟩
  | 15 => ⟨S4x64x64x2x8x64, .f32⟩
  | 16 => ⟨S_, .i32⟩
  | 17 => ⟨S_, .f32⟩
  | 18 => ⟨S4x72x64x2x8x64, .f32⟩
  | 19 => ⟨S4x64x64x2x8x64, .f32⟩
  | 20 => ⟨S4x64x64x2x8x64, .f32⟩
  | 21 => ⟨S4x64x64x2x8x64, .f32⟩
  | 22 => ⟨S4x64x64x2x8x64, .f32⟩
  | 23 => ⟨S4x64x64x2x8x64, .f32⟩
  | 24 => ⟨S4x64x64x2x8x64, .f32⟩
  | 25 => ⟨S4x64x64x2x8x64, .f32⟩
  | 26 => ⟨S4x64x64x2x8x64, .f32⟩
  | 27 => ⟨S4x64x64x2x8x64, .f32⟩
  | 28 => ⟨S4x64x576x2x8x64, .f32⟩
  | 29 => ⟨S64, .i32⟩
  | 30 => ⟨S64x1, .i32⟩
  | 31 => ⟨S9, .i32⟩
  | 32 => ⟨S_, .i32⟩
  | 33 => ⟨S9, .i32⟩
  | 34 => ⟨S9, .i32⟩
  | 35 => ⟨S1x9, .i32⟩
  | 36 => ⟨S64x9, .i32⟩
  | 37 => ⟨S64x9, .i32⟩
  | 38 => ⟨S64x9, .i32⟩
  | 39 => ⟨S64x9x1, .i32⟩
  | 40 => ⟨S_, .i32⟩
  | 41 => ⟨S64x9x1, .i32⟩
  | 42 => ⟨S64x9x1, .i32⟩
  | 43 => ⟨S64, .i32⟩
  | 44 => ⟨S1x1x64, .i32⟩
  | 45 => ⟨S64x9x64, .i32⟩
  | 46 => ⟨S64x9x64, .i32⟩
  | 47 => ⟨S64x9x64, .i32⟩
  | 48 => ⟨S64x576, .i32⟩
  | 49 => ⟨S4x64x64x8x64, .f32⟩
  | 50 => ⟨S4x64x576x1x8x64, .f32⟩
  | 51 => ⟨S4x64x576x8x64, .f32⟩
  | 52 => ⟨S4x64x576x1x8x64, .f32⟩
  | 53 => ⟨S4x64x576x8x64, .f32⟩
  | 54 => ⟨S64x64, .i32⟩
  | 55 => ⟨S_, .i32⟩
  | 56 => ⟨S_, .i32⟩
  | 57 => ⟨S64x64, .i32⟩
  | 58 => ⟨S64x64, .i32⟩
  | 59 => ⟨S64x64, .i32⟩
  | 60 => ⟨S_, .i32⟩
  | 61 => ⟨S64x64, .i32⟩
  | 62 => ⟨S64x64, .i1⟩
  | 63 => ⟨S64x64, .i32⟩
  | 64 => ⟨S64x64, .i32⟩
  | 65 => ⟨S_, .i32⟩
  | 66 => ⟨S64x64, .i32⟩
  | 67 => ⟨S64x64, .i1⟩
  | 68 => ⟨S64x64, .i1⟩
  | 69 => ⟨S_, .i32⟩
  | 70 => ⟨S64x64, .i32⟩
  | 71 => ⟨S64x64, .i32⟩
  | 72 => ⟨S64x64, .i32⟩
  | 73 => ⟨S64x64x1, .i32⟩
  | 74 => ⟨S_, .i32⟩
  | 75 => ⟨S_, .i32⟩
  | 76 => ⟨S64x576, .i32⟩
  | 77 => ⟨S64x576, .i32⟩
  | 78 => ⟨S64x576, .i32⟩
  | 79 => ⟨S_, .i32⟩
  | 80 => ⟨S64x576, .i32⟩
  | 81 => ⟨S64x576, .i1⟩
  | 82 => ⟨S64x576, .i32⟩
  | 83 => ⟨S64x576, .i32⟩
  | 84 => ⟨S_, .i32⟩
  | 85 => ⟨S64x576, .i32⟩
  | 86 => ⟨S64x576, .i1⟩
  | 87 => ⟨S64x576, .i1⟩
  | 88 => ⟨S_, .i32⟩
  | 89 => ⟨S64x576, .i32⟩
  | 90 => ⟨S64x576, .i32⟩
  | 91 => ⟨S64x576, .i32⟩
  | 92 => ⟨S64x1x576, .i32⟩
  | 93 => ⟨S64x64x576, .i32⟩
  | 94 => ⟨S64x64x576, .i32⟩
  | 95 => ⟨S64x64x576, .i1⟩
  | 96 => ⟨S_, .i32⟩
  | 97 => ⟨S64x64x1, .i32⟩
  | 98 => ⟨S64x64x1, .i32⟩
  | 99 => ⟨S64x64x576, .i32⟩
  | 100 => ⟨S64x64x576, .i32⟩
  | 101 => ⟨S64x64x576, .i1⟩
  | 102 => ⟨S64x64x576, .i1⟩
  | 103 => ⟨S64x1x576, .i32⟩
  | 104 => ⟨S_, .i32⟩
  | 105 => ⟨S64x1x576, .i32⟩
  | 106 => ⟨S64x1x576, .i1⟩
  | 107 => ⟨S64x64x576, .i1⟩
  | 108 => ⟨S64x64x576, .i1⟩
  | 109 => ⟨S64x1x576, .i32⟩
  | 110 => ⟨S64x64x1, .i32⟩
  | 111 => ⟨S64x64x576, .i32⟩
  | 112 => ⟨S64x64x576, .i32⟩
  | 113 => ⟨S64x64x576, .i32⟩
  | 114 => ⟨S_, .i32⟩
  | 115 => ⟨S_, .i32⟩
  | 116 => ⟨S_, .i32⟩
  | 117 => ⟨S64x64x576, .i32⟩
  | 118 => ⟨S64x64x576, .i32⟩
  | 119 => ⟨S_, .i32⟩
  | 120 => ⟨S64x64x576, .i32⟩
  | 121 => ⟨S64x64x576, .i32⟩
  | 122 => ⟨S_, .i32⟩
  | 123 => ⟨S64x64x576, .i32⟩
  | 124 => ⟨S64x64x576, .i32⟩
  | 125 => ⟨S_, .i32⟩
  | 126 => ⟨S64x64x576, .i32⟩
  | 127 => ⟨S64x64x576, .i1⟩
  | _ => ⟨S18432x6144, .bf16⟩

abbrev hbmTy0_1 (i : Nat) : BufTy := match i % 128 with
  | 0 => ⟨S_, .i32⟩
  | 1 => ⟨S64x64x576, .i32⟩
  | 2 => ⟨S64x64x576, .i32⟩
  | 3 => ⟨S64x64x576, .i32⟩
  | 4 => ⟨S64x64x576x1, .i32⟩
  | 5 => ⟨S64x64x576x8, .f32⟩
  | 6 => ⟨S64x8x64x576, .f32⟩
  | 7 => ⟨S4x64x8x64x576, .f32⟩
  | 8 => ⟨S_, .f32⟩
  | 9 => ⟨S4x64x8x64x576, .f32⟩
  | 10 => ⟨S4x64x8x64x576, .f32⟩
  | 11 => ⟨S1x64x8x64x576, .f32⟩
  | 12 => ⟨S4x64x8x64x576, .f32⟩
  | 13 => ⟨S4x64x8x64x576, .f32⟩
  | 14 => ⟨S64x1x64x576, .i1⟩
  | 15 => ⟨S_, .f32⟩
  | 16 => ⟨S_, .f32⟩
  | 17 => ⟨S4x64x8x64x576, .i1⟩
  | 18 => ⟨S4x64x8x64x576, .f32⟩
  | 19 => ⟨S4x64x8x64x576, .f32⟩
  | 20 => ⟨S_, .f32⟩
  | 21 => ⟨S4x64x8x64, .f32⟩
  | 22 => ⟨S_, .f32⟩
  | 23 => ⟨S4x64x8x64, .f32⟩
  | 24 => ⟨S4x64x8x64, .f32⟩
  | 25 => ⟨S4x64x8x64x1, .f32⟩
  | 26 => ⟨S4x64x8x64x576, .f32⟩
  | 27 => ⟨S4x64x8x64x576, .f32⟩
  | 28 => ⟨S4x64x8x64x576, .f32⟩
  | 29 => ⟨S_, .f32⟩
  | 30 => ⟨S4x64x8x64, .f32⟩
  | 31 => ⟨S4x64x8x64x1, .f32⟩
  | 32 => ⟨S4x64x8x64x576, .f32⟩
  | 33 => ⟨S4x64x8x64x576, .f32⟩
  | 34 => ⟨S4x64x8x64x64, .f32⟩
  | 35 => ⟨S4x64x64x8x64, .f32⟩
  | 36 => ⟨S32x512x512, .f32⟩
  | 37 => ⟨S32x512x512, .bf16⟩
  | _ => ⟨S18432x6144, .bf16⟩

abbrev hbmTy (i : Nat) : BufTy := match i / 128 with
  | 0 => hbmTy0_0 i
  | 1 => hbmTy0_1 i
  | _ => ⟨S18432x6144, .bf16⟩

abbrev bufTy : (tb : Table) → Fin (tcTables nBuf tb) → BufTy
  | .hbm, ⟨i, _⟩ => hbmTy i
  | _, _ => ⟨S18432x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_c_2 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v49 : Ref sig .tc := ⟨.hbm, 72, rfl⟩
abbrev main_v50 : Ref sig .tc := ⟨.hbm, 73, rfl⟩
abbrev main_c_3 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_4 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_6 : Ref sig .tc := ⟨.hbm, 114, rfl⟩
abbrev main_c_7 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_v72 : Ref sig .tc := ⟨.hbm, 121, rfl⟩
abbrev main_c_8 : Ref sig .tc := ⟨.hbm, 122, rfl⟩
abbrev main_v73 : Ref sig .tc := ⟨.hbm, 123, rfl⟩
abbrev main_v74 : Ref sig .tc := ⟨.hbm, 124, rfl⟩
abbrev main_c_9 : Ref sig .tc := ⟨.hbm, 125, rfl⟩
abbrev main_v75 : Ref sig .tc := ⟨.hbm, 126, rfl⟩
abbrev main_v76 : Ref sig .tc := ⟨.hbm, 127, rfl⟩
abbrev main_c_10 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_11 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_v90 : Ref sig .tc := ⟨.hbm, 147, rfl⟩
abbrev main_cst_12 : Ref sig .tc := ⟨.hbm, 148, rfl⟩
abbrev main_v91 : Ref sig .tc := ⟨.hbm, 149, rfl⟩
abbrev main_cst_13 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_14 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩

abbrev nD : Nat := 1
abbrev τ : Topo := Topo.v7x

variable {F : FTy → Type} [FloatOps F]
-- ==== ExpertUp.lean ====
abbrev S80 : Shape := ⟨1, ![80]⟩
abbrev S1 : Shape := ⟨1, ![1]⟩
abbrev S40960x2048 : Shape := ⟨2, ![40960, 2048]⟩
abbrev S8x2048x14336 : Shape := ⟨3, ![8, 2048, 14336]⟩
abbrev S_ : Shape := ⟨0, ![]⟩
abbrev S80x1 : Shape := ⟨2, ![80, 1]⟩
abbrev S40960x7168 : Shape := ⟨2, ![40960, 7168]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 18
  | .vmem => 8
  | .smem => 2
  | _ => 0

abbrev bufTy : (tb : Table) → Fin (tcTables nBuf tb) → BufTy
  | .hbm, ⟨0, _⟩ => ⟨S80, .i32⟩
  | .hbm, ⟨1, _⟩ => ⟨S40960x2048, .bf16⟩
  | .hbm, ⟨2, _⟩ => ⟨S8x2048x14336, .bf16⟩
  | .hbm, ⟨3, _⟩ => ⟨S80, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S80, .i32⟩
  | .hbm, ⟨8, _⟩ => ⟨S80, .i32⟩
  | .hbm, ⟨9, _⟩ => ⟨S_, .i32⟩
  | .hbm, ⟨10, _⟩ => ⟨S80, .i32⟩
  | .hbm, ⟨11, _⟩ => ⟨S80, .i1⟩
  | .hbm, ⟨12, _⟩ => ⟨S_, .i32⟩
  | .hbm, ⟨13, _⟩ => ⟨S80, .i32⟩
  | .hbm, ⟨14, _⟩ => ⟨S80, .i32⟩
  | .hbm, ⟨15, _⟩ => ⟨S80, .i32⟩
  | .hbm, ⟨16, _⟩ => ⟨S80x1, .i32⟩
  | .hbm, ⟨17, _⟩ => ⟨S40960x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S512x512, .bf16⟩
  | .local _ .vmem, ⟨7, _⟩ => ⟨S512x512, .bf16⟩
  | .local _ .smem, ⟨0, _⟩ => ⟨S80, .i32⟩
  | .local _ .smem, ⟨1, _⟩ => ⟨S1, .i32⟩
  | _, _ => ⟨S80, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 80], ![false, false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c14_i32 : BitVec 32 := 14#32
  let v2 : BitVec 32 := Scalar.addi c14_i32 arg0
  let c0_i32 : BitVec 32 := 0#32
  let c0_i32_0 : BitVec 32 := 0#32
  ![v1.toNat, c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefExpertUpIdeal.lean ====
abbrev S80 : Shape := ⟨1, ![80]⟩
abbrev S1 : Shape := ⟨1, ![1]⟩
abbrev S40960x2048 : Shape := ⟨2, ![40960, 2048]⟩
abbrev S8x2048x14336 : Shape := ⟨3, ![8, 2048, 14336]⟩
abbrev S80x512x2048 : Shape := ⟨3, ![80, 512, 2048]⟩
abbrev S_ : Shape := ⟨0, ![]⟩
abbrev S80x1 : Shape := ⟨2, ![80, 1]⟩
abbrev S80x2048x14336 : Shape := ⟨3, ![80, 2048, 14336]⟩
abbrev S80x512x14336 : Shape := ⟨3, ![80, 512, 14336]⟩
abbrev S80x512x7168 : Shape := ⟨3, ![80, 512, 7168]⟩
abbrev S40960x7168 : Shape := ⟨2, ![40960, 7168]⟩

abbrev nBuf : Space → Nat
  | .hbm => 31
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S40960x2048, .bf16⟩
  | .hbm, ⟨3, _⟩ => ⟨S8x2048x14336, .bf16⟩
  | .hbm, ⟨4, _⟩ => ⟨S40960x2048, .f32⟩
  | .hbm, ⟨5, _⟩ => ⟨S8x2048x14336, .f32⟩
  | .hbm, ⟨6, _⟩ => ⟨S80x512x2048, .f32⟩
  | .hbm, ⟨7, _⟩ => ⟨S_, .i32⟩
  | .hbm, ⟨8, _⟩ => ⟨S80, .i32⟩
  | .hbm, ⟨9, _⟩ => ⟨S80, .i1⟩
  | .hbm, ⟨10, _⟩ => ⟨S_, .i32⟩
  | .hbm, ⟨11, _⟩ => ⟨S80, .i32⟩
  | .hbm, ⟨12, _⟩ => ⟨S80, .i32⟩
  | .hbm, ⟨13, _⟩ => ⟨S80, .i32⟩
  | .hbm, ⟨14, _⟩ => ⟨S80x1, .i32⟩
  | .hbm, ⟨15, _⟩ => ⟨S80x2048x14336, .f32⟩
  | .hbm, ⟨16, _⟩ => ⟨S80x512x14336, .f32⟩
  | .hbm, ⟨17, _⟩ => ⟨S80x512x7168, .f32⟩
  | .hbm, ⟨18, _⟩ => ⟨S80x512x7168, .f32⟩
  | .hbm, ⟨19, _⟩ => ⟨S80x512x7168, .f32⟩
  | .hbm, ⟨20, _⟩ => ⟨S80x512x7168, .f32⟩
  | .hbm, ⟨21, _⟩ => ⟨S_, .f32⟩
  | .hbm, ⟨22, _⟩ => ⟨S80x512x7168, .f32⟩
  | .hbm, ⟨23, _⟩ => ⟨S80x512x7168, .f32⟩
  | .hbm, ⟨24, _⟩ => ⟨S_, .f32⟩
  | .hbm, ⟨25, _⟩ => ⟨S80x512x7168, .f32⟩
  | .hbm, ⟨26, _⟩ => ⟨S80x512x7168, .f32⟩
  | .hbm, ⟨27, _⟩ => ⟨S80x512x7168, .f32⟩
  | .hbm, ⟨28, _⟩ => ⟨S80x512x7168, .f32⟩
  | .hbm, ⟨29, _⟩ => ⟨S40960x7168, .f32⟩
  | .hbm, ⟨30, _⟩ => ⟨S40960x7168, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== ExpertDown.lean ====
abbrev S80 : Shape := ⟨1, ![80]⟩
abbrev S1 : Shape := ⟨1, ![1]⟩
abbrev S40960x7168 : Shape := ⟨2, ![40960, 7168]⟩
abbrev S8x7168x2048 : Shape := ⟨3, ![8, 7168, 2048]⟩
abbrev S_ : Shape := ⟨0, ![]⟩
abbrev S80x1 : Shape := ⟨2, ![80, 1]⟩
abbrev S40960x2048 : Shape := ⟨2, ![40960, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 18
  | .vmem => 6
  | .smem => 2
  | _ => 0

abbrev bufTy : (tb : Table) → Fin (tcTables nBuf tb) → BufTy
  | .hbm, ⟨0, _⟩ => ⟨S80, .i32⟩
  | .hbm, ⟨1, _⟩ => ⟨S40960x7168, .bf16⟩
  | .hbm, ⟨2, _⟩ => ⟨S8x7168x2048, .bf16⟩
  | .hbm, ⟨3, _⟩ => ⟨S80, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S80, .i32⟩
  | .hbm, ⟨8, _⟩ => ⟨S80, .i32⟩
  | .hbm, ⟨9, _⟩ => ⟨S_, .i32⟩
  | .hbm, ⟨10, _⟩ => ⟨S80, .i32⟩
  | .hbm, ⟨11, _⟩ => ⟨S80, .i1⟩
  | .hbm, ⟨12, _⟩ => ⟨S_, .i32⟩
  | .hbm, ⟨13, _⟩ => ⟨S80, .i32⟩
  | .hbm, ⟨14, _⟩ => ⟨S80, .i32⟩
  | .hbm, ⟨15, _⟩ => ⟨S80, .i32⟩
  | .hbm, ⟨16, _⟩ => ⟨S80x1, .i32⟩
  | .hbm, ⟨17, _⟩ => ⟨S40960x2048, .bf16⟩
  | .local _ .vmem, ⟨0, _⟩ => ⟨S512x7168, .bf16⟩
  | .local _ .vmem, ⟨1, _⟩ => ⟨S512x7168, .bf16⟩
  | .local _ .vmem, ⟨2, _⟩ => ⟨S1x7168x512, .bf16⟩
  | .local _ .vmem, ⟨3, _⟩ => ⟨S1x7168x512, .bf16⟩
  | .local _ .vmem, ⟨4, _⟩ => ⟨S512x512, .bf16⟩
  | .local _ .vmem, ⟨5, _⟩ => ⟨S512x512, .bf16⟩
  | .local _ .smem, ⟨0, _⟩ => ⟨S80, .i32⟩
  | .local _ .smem, ⟨1, _⟩ => ⟨S1, .i32⟩
  | _, _ => ⟨S80, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 80], ![false, false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefExpertDownIdeal.lean ====
abbrev S80 : Shape := ⟨1, ![80]⟩
abbrev S1 : Shape := ⟨1, ![1]⟩
abbrev S40960x7168 : Shape := ⟨2, ![40960, 7168]⟩
abbrev S8x7168x2048 : Shape := ⟨3, ![8, 7168, 2048]⟩
abbrev S80x512x7168 : Shape := ⟨3, ![80, 512, 7168]⟩
abbrev S_ : Shape := ⟨0, ![]⟩
abbrev S80x1 : Shape := ⟨2, ![80, 1]⟩
abbrev S80x7168x2048 : Shape := ⟨3, ![80, 7168, 2048]⟩
abbrev S80x512x2048 : Shape := ⟨3, ![80, 512, 2048]⟩
abbrev S40960x2048 : Shape := ⟨2, ![40960, 2048]⟩

abbrev nBuf : Space → Nat
  | .hbm => 19
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S40960x7168, .bf16⟩
  | .hbm, ⟨3, _⟩ => ⟨S8x7168x2048, .bf16⟩
  | .hbm, ⟨4, _⟩ => ⟨S40960x7168, .f32⟩
  | .hbm, ⟨5, _⟩ => ⟨S8x7168x2048, .f32⟩
  | .hbm, ⟨6, _⟩ => ⟨S80x512x7168, .f32⟩
  | .hbm, ⟨7, _⟩ => ⟨S_, .i32⟩
  | .hbm, ⟨8, _⟩ => ⟨S80, .i32⟩
  | .hbm, ⟨9, _⟩ => ⟨S80, .i1⟩
  | .hbm, ⟨10, _⟩ => ⟨S_, .i32⟩
  | .hbm, ⟨11, _⟩ => ⟨S80, .i32⟩
  | .hbm, ⟨12, _⟩ => ⟨S80, .i32⟩
  | .hbm, ⟨13, _⟩ => ⟨S80, .i32⟩
  | .hbm, ⟨14, _⟩ => ⟨S80x1, .i32⟩
  | .hbm, ⟨15, _⟩ => ⟨S80x7168x2048, .f32⟩
  | .hbm, ⟨16, _⟩ => ⟨S80x512x2048, .f32⟩
  | .hbm, ⟨17, _⟩ => ⟨S40960x2048, .f32⟩
  | .hbm, ⟨18, _⟩ => ⟨S40960x2048, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== SwigluUp.lean ====
abbrev S18432x2048 : Shape := ⟨2, ![18432, 2048]⟩
abbrev S2048x11264 : Shape := ⟨2, ![2048, 11264]⟩
abbrev S18432x5632 : Shape := ⟨2, ![18432, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S18432x2048, .bf16⟩
  | .hbm, ⟨1, _⟩ => ⟨S2048x11264, .f32⟩
  | .hbm, ⟨2, _⟩ => ⟨S18432x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefSwigluUpIdeal.lean ====
abbrev S18432x2048 : Shape := ⟨2, ![18432, 2048]⟩
abbrev S2048x11264 : Shape := ⟨2, ![2048, 11264]⟩
abbrev S18432x11264 : Shape := ⟨2, ![18432, 11264]⟩
abbrev S18432x5632 : Shape := ⟨2, ![18432, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x11264, .f32⟩
  | .hbm, ⟨2, _⟩ => ⟨S18432x2048, .f32⟩
  | .hbm, ⟨3, _⟩ => ⟨S18432x11264, .f32⟩
  | .hbm, ⟨4, _⟩ => ⟨S18432x5632, .f32⟩
  | .hbm, ⟨5, _⟩ => ⟨S18432x5632, .f32⟩
  | .hbm, ⟨6, _⟩ => ⟨S18432x5632, .f32⟩
  | .hbm, ⟨7, _⟩ => ⟨S18432x5632, .f32⟩
  | .hbm, ⟨8, _⟩ => ⟨S_, .f32⟩
  | .hbm, ⟨9, _⟩ => ⟨S18432x5632, .f32⟩
  | .hbm, ⟨10, _⟩ => ⟨S18432x5632, .f32⟩
  | .hbm, ⟨11, _⟩ => ⟨S_, .f32⟩
  | .hbm, ⟨12, _⟩ => ⟨S18432x5632, .f32⟩
  | .hbm, ⟨13, _⟩ => ⟨S18432x5632, .f32⟩
  | .hbm, ⟨14, _⟩ => ⟨S18432x5632, .f32⟩
  | .hbm, ⟨15, _⟩ => ⟨S18432x5632, .f32⟩
  | .hbm, ⟨16, _⟩ => ⟨S18432x5632, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Merge.lean ====
abbrev S18432x2048 : Shape := ⟨2, ![18432, 2048]⟩
abbrev S4x2048x2048 : Shape := ⟨3, ![4, 2048, 2048]⟩
abbrev S4x18432x512 : Shape := ⟨3, ![4, 18432, 512]⟩
abbrev S4x512x2048 : Shape := ⟨3, ![4, 512, 2048]⟩
abbrev S1024x2048 : Shape := ⟨2, ![1024, 2048]⟩
abbrev S1x2048x512 : Shape := ⟨3, ![1, 2048, 512]⟩
abbrev S1x1024x512 : Shape := ⟨3, ![1, 1024, 512]⟩
abbrev S1x512x512 : Shape := ⟨3, ![1, 512, 512]⟩
abbrev S1024x512 : Shape := ⟨2, ![1024, 512]⟩
abbrev S2048x512 : Shape := ⟨2, ![2048, 512]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S18432x2048, .bf16⟩
  | .hbm, ⟨1, _⟩ => ⟨S4x2048x2048, .f32⟩
  | .hbm, ⟨2, _⟩ => ⟨S4x18432x512, .bf16⟩
  | .hbm, ⟨3, _⟩ => ⟨S4x512x2048, .f32⟩
  | .hbm, ⟨4, _⟩ => ⟨S18432x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x1024x512, .bf16⟩
  | .local _ .vmem, ⟨5, _⟩ => ⟨S1x1024x512, .bf16⟩
  | .local _ .vmem, ⟨6, _⟩ => ⟨S1x512x512, .f32⟩
  | .local _ .vmem, ⟨7, _⟩ => ⟨S1x512x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![18, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefMergeIdeal.lean ====
abbrev S18432x2048 : Shape := ⟨2, ![18432, 2048]⟩
abbrev S4x2048x2048 : Shape := ⟨3, ![4, 2048, 2048]⟩
abbrev S4x18432x512 : Shape := ⟨3, ![4, 18432, 512]⟩
abbrev S4x512x2048 : Shape := ⟨3, ![4, 512, 2048]⟩
abbrev S1x2048x2048 : Shape := ⟨3, ![1, 2048, 2048]⟩
abbrev S2048x2048 : Shape := ⟨2, ![2048, 2048]⟩
abbrev S_ : Shape := ⟨0, ![]⟩
abbrev S1x18432x512 : Shape := ⟨3, ![1, 18432, 512]⟩
abbrev S18432x512 : Shape := ⟨2, ![18432, 512]⟩
abbrev S1x512x2048 : Shape := ⟨3, ![1, 512, 2048]⟩
abbrev S512x2048 : Shape := ⟨2, ![512, 2048]⟩

abbrev nBuf : Space → Nat
  | .hbm => 78
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S4x2048x2048, .f32⟩
  | .hbm, ⟨2, _⟩ => ⟨S4x18432x512, .bf16⟩
  | .hbm, ⟨3, _⟩ => ⟨S4x512x2048, .f32⟩
  | .hbm, ⟨4, _⟩ => ⟨S18432x2048, .f32⟩
  | .hbm, ⟨5, _⟩ => ⟨S4x18432x512, .f32⟩
  | .hbm, ⟨6, _⟩ => ⟨S1x2048x2048, .f32⟩
  | .hbm, ⟨7, _⟩ => ⟨S2048x2048, .f32⟩
  | .hbm, ⟨8, _⟩ => ⟨S18432x2048, .f32⟩
  | .hbm, ⟨9, _⟩ => ⟨S18432x2048, .f32⟩
  | .hbm, ⟨10, _⟩ => ⟨S18432x2048, .f32⟩
  | .hbm, ⟨11, _⟩ => ⟨S_, .f32⟩
  | .hbm, ⟨12, _⟩ => ⟨S18432x2048, .f32⟩
  | .hbm, ⟨13, _⟩ => ⟨S18432x2048, .f32⟩
  | .hbm, ⟨14, _⟩ => ⟨S_, .f32⟩
  | .hbm, ⟨15, _⟩ => ⟨S18432x2048, .f32⟩
  | .hbm, ⟨16, _⟩ => ⟨S18432x2048, .f32⟩
  | .hbm, ⟨17, _⟩ => ⟨S1x18432x512, .f32⟩
  | .hbm, ⟨18, _⟩ => ⟨S18432x512, .f32⟩
  | .hbm, ⟨19, _⟩ => ⟨S1x512x2048, .f32⟩
  | .hbm, ⟨20, _⟩ => ⟨S512x2048, .f32⟩
  | .hbm, ⟨21, _⟩ => ⟨S18432x2048, .f32⟩
  | .hbm, ⟨22, _⟩ => ⟨S18432x2048, .f32⟩
  | .hbm, ⟨23, _⟩ => ⟨S1x2048x2048, .f32⟩
  | .hbm, ⟨24, _⟩ => ⟨S2048x2048, .f32⟩
  | .hbm, ⟨25, _⟩ => ⟨S18432x2048, .f32⟩
  | .hbm, ⟨26, _⟩ => ⟨S18432x2048, .f32⟩
  | .hbm, ⟨27, _⟩ => ⟨S18432x2048, .f32⟩
  | .hbm, ⟨28, _⟩ => ⟨S_, .f32⟩
  | .hbm, ⟨29, _⟩ => ⟨S18432x2048, .f32⟩
  | .hbm, ⟨30, _⟩ => ⟨S18432x2048, .f32⟩
  | .hbm, ⟨31, _⟩ => ⟨S_, .f32⟩
  | .hbm, ⟨32, _⟩ => ⟨S18432x2048, .f32⟩
  | .hbm, ⟨33, _⟩ => ⟨S18432x2048, .f32⟩
  | .hbm, ⟨34, _⟩ => ⟨S1x18432x512, .f32⟩
  | .hbm, ⟨35, _⟩ => ⟨S18432x512, .f32⟩
  | .hbm, ⟨36, _⟩ => ⟨S1x512x2048, .f32⟩
  | .hbm, ⟨37, _⟩ => ⟨S512x2048, .f32⟩
  | .hbm, ⟨38, _⟩ => ⟨S18432x2048, .f32⟩
  | .hbm, ⟨39, _⟩ => ⟨S18432x2048, .f32⟩
  | .hbm, ⟨40, _⟩ => ⟨S18432x2048, .f32⟩
  | .hbm, ⟨41, _⟩ => ⟨S1x2048x2048, .f32⟩
  | .hbm, ⟨42, _⟩ => ⟨S2048x2048, .f32⟩
  | .hbm, ⟨43, _⟩ => ⟨S18432x2048, .f32⟩
  | .hbm, ⟨44, _⟩ => ⟨S18432x2048, .f32⟩
  | .hbm, ⟨45, _⟩ => ⟨S18432x2048, .f32⟩
  | .hbm, ⟨46, _⟩ => ⟨S_, .f32⟩
  | .hbm, ⟨47, _⟩ => ⟨S18432x2048, .f32⟩
  | .hbm, ⟨48, _⟩ => ⟨S18432x2048, .f32⟩
  | .hbm, ⟨49, _⟩ => ⟨S_, .f32⟩
  | .hbm, ⟨50, _⟩ => ⟨S18432x2048, .f32⟩
  | .hbm, ⟨51, _⟩ => ⟨S18432x2048, .f32⟩
  | .hbm, ⟨52, _⟩ => ⟨S1x18432x512, .f32⟩
  | .hbm, ⟨53, _⟩ => ⟨S18432x512, .f32⟩
  | .hbm, ⟨54, _⟩ => ⟨S1x512x2048, .f32⟩
  | .hbm, ⟨55, _⟩ => ⟨S512x2048, .f32⟩
  | .hbm, ⟨56, _⟩ => ⟨S18432x2048, .f32⟩
  | .hbm, ⟨57, _⟩ => ⟨S18432x2048, .f32⟩
  | .hbm, ⟨58, _⟩ => ⟨S18432x2048, .f32⟩
  | .hbm, ⟨59, _⟩ => ⟨S1x2048x2048, .f32⟩
  | .hbm, ⟨60, _⟩ => ⟨S2048x2048, .f32⟩
  | .hbm, ⟨61, _⟩ => ⟨S18432x2048, .f32⟩
  | .hbm, ⟨62, _⟩ => ⟨S18432x2048, .f32⟩
  | .hbm, ⟨63, _⟩ => ⟨S18432x2048, .f32⟩
  | .hbm, ⟨64, _⟩ => ⟨S_, .f32⟩
  | .hbm, ⟨65, _⟩ => ⟨S18432x2048, .f32⟩
  | .hbm, ⟨66, _⟩ => ⟨S18432x2048, .f32⟩
  | .hbm, ⟨67, _⟩ => ⟨S_, .f32⟩
  | .hbm, ⟨68, _⟩ => ⟨S18432x2048, .f32⟩
  | .hbm, ⟨69, _⟩ => ⟨S18432x2048, .f32⟩
  | .hbm, ⟨70, _⟩ => ⟨S1x18432x512, .f32⟩
  | .hbm, ⟨71, _⟩ => ⟨S18432x512, .f32⟩
  | .hbm, ⟨72, _⟩ => ⟨S1x512x2048, .f32⟩
  | .hbm, ⟨73, _⟩ => ⟨S512x2048, .f32⟩
  | .hbm, ⟨74, _⟩ => ⟨S18432x2048, .f32⟩
  | .hbm, ⟨75, _⟩ => ⟨S18432x2048, .f32⟩
  | .hbm, ⟨76, _⟩ => ⟨S18432x2048, .f32⟩
  | .hbm, ⟨77, _⟩ => ⟨S18432x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== MmDown.lean ====
abbrev S18432x5632 : Shape := ⟨2, ![18432, 5632]⟩
abbrev S5632x2048 : Shape := ⟨2, ![5632, 2048]⟩
abbrev S288x64x2048 : Shape := ⟨3, ![288, 64, 2048]⟩
abbrev S288x1x12288 : Shape := ⟨3, ![288, 1, 12288]⟩
abbrev S1024x512 : Shape := ⟨2, ![1024, 512]⟩
abbrev S512x1024 : Shape := ⟨2, ![512, 1024]⟩
abbrev S16x64x1024 : Shape := ⟨3, ![16, 64, 1024]⟩
abbrev S16x1x1024 : Shape := ⟨3, ![16, 1, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S18432x5632, .bf16⟩
  | .hbm, ⟨1, _⟩ => ⟨S5632x2048, .f32⟩
  | .hbm, ⟨2, _⟩ => ⟨S288x64x2048, .f32⟩
  | .hbm, ⟨3, _⟩ => ⟨S288x1x12288, .f32⟩
  | .hbm, ⟨4, _⟩ => ⟨S288x64x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S16x64x1024, .f32⟩
  | .local _ .vmem, ⟨5, _⟩ => ⟨S16x64x1024, .f32⟩
  | .local _ .vmem, ⟨6, _⟩ => ⟨S16x1x1024, .f32⟩
  | .local _ .vmem, ⟨7, _⟩ => ⟨S16x1x1024, .f32⟩
  | .local _ .vmem, ⟨8, _⟩ => ⟨S16x64x1024, .f32⟩
  | .local _ .vmem, ⟨9, _⟩ => ⟨S16x64x1024, .f32⟩
  | .local _ .vmem, ⟨10, _⟩ => ⟨S1024x1024, .f32⟩
  | _, _ => ⟨S18432x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![18, 2, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefMmDownIdeal.lean ====
abbrev S18432x5632 : Shape := ⟨2, ![18432, 5632]⟩
abbrev S5632x2048 : Shape := ⟨2, ![5632, 2048]⟩
abbrev S288x64x2048 : Shape := ⟨3, ![288, 64, 2048]⟩
abbrev S288x1x12288 : Shape := ⟨3, ![288, 1, 12288]⟩
abbrev S288x1x2048 : Shape := ⟨3, ![288, 1, 2048]⟩
abbrev S18432x2048 : Shape := ⟨2, ![18432, 2048]⟩

abbrev nBuf : Space → Nat
  | .hbm => 11
  | .vmem => 0
  | .smem => 0
  | _ => 0

abbrev bufTy : (tb : Table) → Fin (tcTables nBuf tb) → BufTy
  | .hbm, ⟨0, _⟩ => ⟨S18432x5632, .bf16⟩
  | .hbm, ⟨1, _⟩ => ⟨S5632x2048, .f32⟩
  | .hbm, ⟨2, _⟩ => ⟨S288x64x2048, .f32⟩
  | .hbm, ⟨3, _⟩ => ⟨S288x1x12288, .f32⟩
  | .hbm, ⟨4, _⟩ => ⟨S288x1x2048, .f32⟩
  | .hbm, ⟨5, _⟩ => ⟨S18432x5632, .f32⟩
  | .hbm, ⟨6, _⟩ => ⟨S18432x2048, .f32⟩
  | .hbm, ⟨7, _⟩ => ⟨S288x64x2048, .f32⟩
  | .hbm, ⟨8, _⟩ => ⟨S288x64x2048, .f32⟩
  | .hbm, ⟨9, _⟩ => ⟨S288x64x2048, .f32⟩
  | .hbm, ⟨10, _⟩ => ⟨S288x64x2048, .f32⟩
  | _, _ => ⟨S18432x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MmOut.lean ====
abbrev S18432x2048 : Shape := ⟨2, ![18432, 2048]⟩
abbrev S2048x2048 : Shape := ⟨2, ![2048, 2048]⟩
abbrev S288x64x2048 : Shape := ⟨3, ![288, 64, 2048]⟩
abbrev S288x1x12288 : Shape := ⟨3, ![288, 1, 12288]⟩
abbrev S1024x1024 : Shape := ⟨2, ![1024, 1024]⟩
abbrev S16x64x1024 : Shape := ⟨3, ![16, 64, 1024]⟩
abbrev S16x1x1024 : Shape := ⟨3, ![16, 1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S288x64x2048, .f32⟩
  | .hbm, ⟨3, _⟩ => ⟨S288x1x12288, .f32⟩
  | .hbm, ⟨4, _⟩ => ⟨S288x64x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S16x64x1024, .f32⟩
  | .local _ .vmem, ⟨5, _⟩ => ⟨S16x64x1024, .f32⟩
  | .local _ .vmem, ⟨6, _⟩ => ⟨S16x1x1024, .f32⟩
  | .local _ .vmem, ⟨7, _⟩ => ⟨S16x1x1024, .f32⟩
  | .local _ .vmem, ⟨8, _⟩ => ⟨S16x64x1024, .f32⟩
  | .local _ .vmem, ⟨9, _⟩ => ⟨S16x64x1024, .f32⟩
  | .local _ .vmem, ⟨10, _⟩ => ⟨S1024x1024, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![18, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefMmOutIdeal.lean ====
abbrev S18432x2048 : Shape := ⟨2, ![18432, 2048]⟩
abbrev S2048x2048 : Shape := ⟨2, ![2048, 2048]⟩
abbrev S288x64x2048 : Shape := ⟨3, ![288, 64, 2048]⟩
abbrev S288x1x12288 : Shape := ⟨3, ![288, 1, 12288]⟩
abbrev S288x1x2048 : Shape := ⟨3, ![288, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S288x64x2048, .f32⟩
  | .hbm, ⟨3, _⟩ => ⟨S288x1x12288, .f32⟩
  | .hbm, ⟨4, _⟩ => ⟨S288x1x2048, .f32⟩
  | .hbm, ⟨5, _⟩ => ⟨S18432x2048, .f32⟩
  | .hbm, ⟨6, _⟩ => ⟨S18432x2048, .f32⟩
  | .hbm, ⟨7, _⟩ => ⟨S288x64x2048, .f32⟩
  | .hbm, ⟨8, _⟩ => ⟨S288x64x2048, .f32⟩
  | .hbm, ⟨9, _⟩ => ⟨S288x64x2048, .f32⟩
  | .hbm, ⟨10, _⟩ => ⟨S288x64x2048, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== NormFinal.lean ====
abbrev S288x64x2048 : Shape := ⟨3, ![288, 64, 2048]⟩
abbrev S2048 : Shape := ⟨1, ![2048]⟩
abbrev S1x1x2048 : Shape := ⟨3, ![1, 1, 2048]⟩
abbrev S8x64x2048 : Shape := ⟨3, ![8, 64, 2048]⟩
abbrev S8x64 : Shape := ⟨2, ![8, 64]⟩
abbrev S8x64x1 : Shape := ⟨3, ![8, 64, 1]⟩
abbrev S18432x2048 : Shape := ⟨2, ![18432, 2048]⟩
abbrev S16384x2048 : Shape := ⟨2, ![16384, 2048]⟩
abbrev S4x4096x2048 : Shape := ⟨3, ![4, 4096, 2048]⟩
abbrev S2048x2048 : Shape := ⟨2, ![2048, 2048]⟩
abbrev S32x64x2048 : Shape := ⟨3, ![32, 64, 2048]⟩

abbrev nBuf : Space → Nat
  | .hbm => 9
  | .vmem => 5
  | .smem => 0
  | _ => 0

abbrev bufTy : (tb : Table) → Fin (tcTables nBuf tb) → BufTy
  | .hbm, ⟨0, _⟩ => ⟨S288x64x2048, .f32⟩
  | .hbm, ⟨1, _⟩ => ⟨S2048, .f32⟩
  | .hbm, ⟨2, _⟩ => ⟨S1x1x2048, .f32⟩
  | .hbm, ⟨3, _⟩ => ⟨S288x64x2048, .f32⟩
  | .hbm, ⟨4, _⟩ => ⟨S18432x2048, .f32⟩
  | .hbm, ⟨5, _⟩ => ⟨S16384x2048, .f32⟩
  | .hbm, ⟨6, _⟩ => ⟨S4x4096x2048, .f32⟩
  | .hbm, ⟨7, _⟩ => ⟨S2048x2048, .f32⟩
  | .hbm, ⟨8, _⟩ => ⟨S32x64x2048, .f32⟩
  | .local _ .vmem, ⟨0, _⟩ => ⟨S8x64x2048, .f32⟩
  | .local _ .vmem, ⟨1, _⟩ => ⟨S8x64x2048, .f32⟩
  | .local _ .vmem, ⟨2, _⟩ => ⟨S1x1x2048, .f32⟩
  | .local _ .vmem, ⟨3, _⟩ => ⟨S8x64x2048, .f32⟩
  | .local _ .vmem, ⟨4, _⟩ => ⟨S8x64x2048, .f32⟩
  | _, _ => ⟨S288x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![36], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormFinalIdeal.lean ====
abbrev S288x64x2048 : Shape := ⟨3, ![288, 64, 2048]⟩
abbrev S2048 : Shape := ⟨1, ![2048]⟩
abbrev S256x64x2048 : Shape := ⟨3, ![256, 64, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S32x64x2048 : Shape := ⟨3, ![32, 64, 2048]⟩
abbrev S32x64 : Shape := ⟨2, ![32, 64]⟩
abbrev S32x64x1 : Shape := ⟨3, ![32, 64, 1]⟩

abbrev nBuf : Space → Nat
  | .hbm => 37
  | .vmem => 0
  | .smem => 0
  | _ => 0

abbrev bufTy : (tb : Table) → Fin (tcTables nBuf tb) → BufTy
  | .hbm, ⟨0, _⟩ => ⟨S288x64x2048, .f32⟩
  | .hbm, ⟨1, _⟩ => ⟨S2048, .f32⟩
  | .hbm, ⟨2, _⟩ => ⟨S256x64x2048, .f32⟩
  | .hbm, ⟨3, _⟩ => ⟨S4x4096x2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S32x64x2048, .f32⟩
  | .hbm, ⟨21, _⟩ => ⟨S32x64x2048, .f32⟩
  | .hbm, ⟨22, _⟩ => ⟨S_, .f32⟩
  | .hbm, ⟨23, _⟩ => ⟨S32x64, .f32⟩
  | .hbm, ⟨24, _⟩ => ⟨S32x64x1, .f32⟩
  | .hbm, ⟨25, _⟩ => ⟨S_, .f32⟩
  | .hbm, ⟨26, _⟩ => ⟨S32x64x1, .f32⟩
  | .hbm, ⟨27, _⟩ => ⟨S32x64x1, .f32⟩
  | .hbm, ⟨28, _⟩ => ⟨S_, .f32⟩
  | .hbm, ⟨29, _⟩ => ⟨S32x64x1, .f32⟩
  | .hbm, ⟨30, _⟩ => ⟨S32x64x1, .f32⟩
  | .hbm, ⟨31, _⟩ => ⟨S32x64x1, .f32⟩
  | .hbm, ⟨32, _⟩ => ⟨S32x64x2048, .f32⟩
  | .hbm, ⟨33, _⟩ => ⟨S32x64x2048, .f32⟩
  | .hbm, ⟨34, _⟩ => ⟨S1x1x2048, .f32⟩
  | .hbm, ⟨35, _⟩ => ⟨S32x64x2048, .f32⟩
  | .hbm, ⟨36, _⟩ => ⟨S32x64x2048, .f32⟩
  | _, _ => ⟨S288x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== States.lean ====
abbrev S18432x2048 : Shape := ⟨2, ![18432, 2048]⟩
abbrev S2048x5864 : Shape := ⟨2, ![2048, 5864]⟩
abbrev S2048x512 : Shape := ⟨2, ![2048, 512]⟩
abbrev S2048x384 : Shape := ⟨2, ![2048, 384]⟩
abbrev S2048x256 : Shape := ⟨2, ![2048, 256]⟩
abbrev S2048x32 : Shape := ⟨2, ![2048, 32]⟩
abbrev S2048x64 : Shape := ⟨2, ![2048, 64]⟩
abbrev S2048x8 : Shape := ⟨2, ![2048, 8]⟩
abbrev S2048x16 : Shape := ⟨2, ![2048, 16]⟩
abbrev S_ : Shape := ⟨0, ![]⟩
abbrev S2048x120 : Shape := ⟨2, ![2048, 120]⟩
abbrev S2048x5952 : Shape := ⟨2, ![2048, 5952]⟩
abbrev S2048x192 : Shape := ⟨2, ![2048, 192]⟩
abbrev S2048x6144 : Shape := ⟨2, ![2048, 6144]⟩
abbrev S18432x6144 : Shape := ⟨2, ![18432, 6144]⟩
abbrev S1024x2048 : Shape := ⟨2, ![1024, 2048]⟩
abbrev S1024x512 : Shape := ⟨2, ![1024, 512]⟩
abbrev S18432x1024 : Shape := ⟨2, ![18432, 1024]⟩
abbrev S16384x1024 : Shape := ⟨2, ![16384, 1024]⟩
abbrev S4x4096x1024 : Shape := ⟨3, ![4, 4096, 1024]⟩
abbrev S2048x1024 : Shape := ⟨2, ![2048, 1024]⟩
abbrev S32x64x1024 : Shape := ⟨3, ![32, 64, 1024]⟩
abbrev S18432x64 : Shape := ⟨2, ![18432, 64]⟩
abbrev S16384x64 : Shape := ⟨2, ![16384, 64]⟩
abbrev S4x4096x64 : Shape := ⟨3, ![4, 4096, 64]⟩
abbrev S32x64x64 : Shape := ⟨3, ![32, 64, 64]⟩
abbrev S4x512x1024 : Shape := ⟨3, ![4, 512, 1024]⟩
abbrev S4x512x2x8x64 : Shape := ⟨5, ![4, 512, 2, 8, 64]⟩
abbrev S4x4096x2x4x128 : Shape := ⟨5, ![4, 4096, 2, 4, 128]⟩
abbrev S4x4096x2x8x64 : Shape := ⟨5, ![4, 4096, 2, 8, 64]⟩
abbrev S32x64x2x8x64 : Shape := ⟨5, ![32, 64, 2, 8, 64]⟩
abbrev S32x64x2x4x128 : Shape := ⟨5, ![32, 64, 2, 4, 128]⟩

abbrev nBuf : Space → Nat
  | .hbm => 56
  | .vmem => 8
  | .smem => 0
  | _ => 0

abbrev bufTy : (tb : Table) → Fin (tcTables nBuf tb) → BufTy
  | .hbm, ⟨0, _⟩ => ⟨S18432x2048, .bf16⟩
  | .hbm, ⟨1, _⟩ => ⟨S2048x5864, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x384, .f32⟩
  | .hbm, ⟨9, _⟩ => ⟨S2048x256, .f32⟩
  | .hbm, ⟨10, _⟩ => ⟨S2048x32, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x64, .f32⟩
  | .hbm, ⟨16, _⟩ => ⟨S2048x8, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x32, .f32⟩
  | .hbm, ⟨21, _⟩ => ⟨S_, .f32⟩
  | .hbm, ⟨22, _⟩ => ⟨S2048x120, .f32⟩
  | .hbm, ⟨23, _⟩ => ⟨S2048x5952, .f32⟩
  | .hbm, ⟨24, _⟩ => ⟨S2048x192, .f32⟩
  | .hbm, ⟨25, _⟩ => ⟨S2048x6144, .f32⟩
  | .hbm, ⟨26, _⟩ => ⟨S2048x6144, .bf16⟩
  | .hbm, ⟨27, _⟩ => ⟨S18432x6144, .f32⟩
  | .hbm, ⟨28, _⟩ => ⟨S18432x6144, .bf16⟩
  | .hbm, ⟨29, _⟩ => ⟨S18432x1024, .f32⟩
  | .hbm, ⟨30, _⟩ => ⟨S16384x1024, .f32⟩
  | .hbm, ⟨31, _⟩ => ⟨S4x4096x1024, .f32⟩
  | .hbm, ⟨32, _⟩ => ⟨S2048x1024, .f32⟩
  | .hbm, ⟨33, _⟩ => ⟨S32x64x1024, .f32⟩
  | .hbm, ⟨34, _⟩ => ⟨S18432x1024, .f32⟩
  | .hbm, ⟨35, _⟩ => ⟨S16384x1024, .f32⟩
  | .hbm, ⟨36, _⟩ => ⟨S4x4096x1024, .f32⟩
  | .hbm, ⟨37, _⟩ => ⟨S2048x1024, .f32⟩
  | .hbm, ⟨38, _⟩ => ⟨S32x64x1024, .f32⟩
  | .hbm, ⟨39, _⟩ => ⟨S18432x1024, .f32⟩
  | .hbm, ⟨40, _⟩ => ⟨S16384x1024, .f32⟩
  | .hbm, ⟨41, _⟩ => ⟨S4x4096x1024, .f32⟩
  | .hbm, ⟨42, _⟩ => ⟨S2048x1024, .f32⟩
  | .hbm, ⟨43, _⟩ => ⟨S32x64x1024, .f32⟩
  | .hbm, ⟨44, _⟩ => ⟨S18432x64, .f32⟩
  | .hbm, ⟨45, _⟩ => ⟨S16384x64, .f32⟩
  | .hbm, ⟨46, _⟩ => ⟨S4x4096x64, .f32⟩
  | .hbm, ⟨47, _⟩ => ⟨S2048x64, .f32⟩
  | .hbm, ⟨48, _⟩ => ⟨S32x64x64, .f32⟩
  | .hbm, ⟨49, _⟩ => ⟨S4x512x1024, .f32⟩
  | .hbm, ⟨50, _⟩ => ⟨S4x512x2x8x64, .f32⟩
  | .hbm, ⟨51, _⟩ => ⟨S4x4096x2x4x128, .f32⟩
  | .hbm, ⟨52, _⟩ => ⟨S4x4096x2x8x64, .f32⟩
  | .hbm, ⟨53, _⟩ => ⟨S32x64x2x8x64, .f32⟩
  | .hbm, ⟨54, _⟩ => ⟨S32x64x2x4x128, .f32⟩
  | .hbm, ⟨55, _⟩ => ⟨S32x64x2x8x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24_0 : Ref sig .tc := ⟨.hbm, 27, rfl⟩
abbrev main_v24_1 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefStatesIdeal.lean ====
abbrev S18432x2048 : Shape := ⟨2, ![18432, 2048]⟩
abbrev S2048x5864 : Shape := ⟨2, ![2048, 5864]⟩
abbrev S16384x2048 : Shape := ⟨2, ![16384, 2048]⟩
abbrev S4x4096x2048 : Shape := ⟨3, ![4, 4096, 2048]⟩
abbrev S4x4096x5864 : Shape := ⟨3, ![4, 4096, 5864]⟩
abbrev S4x4096x512 : Shape := ⟨3, ![4, 4096, 512]⟩
abbrev S4x4096x384 : Shape := ⟨3, ![4, 4096, 384]⟩
abbrev S4x4096x256 : Shape := ⟨3, ![4, 4096, 256]⟩
abbrev S4x4096x32 : Shape := ⟨3, ![4, 4096, 32]⟩
abbrev S4x4096x64 : Shape := ⟨3, ![4, 4096, 64]⟩
abbrev S4x4096x8 : Shape := ⟨3, ![4, 4096, 8]⟩
abbrev S4x4096x8x64 : Shape := ⟨4, ![4, 4096, 8, 64]⟩
abbrev S4x4096x1x8x64 : Shape := ⟨5, ![4, 4096, 1, 8, 64]⟩
abbrev S4x4096x2x8x64 : Shape := ⟨5, ![4, 4096, 2, 8, 64]⟩
abbrev S4x4096x4x128 : Shape := ⟨4, ![4, 4096, 4, 128]⟩
abbrev S4x4096x1x4x128 : Shape := ⟨5, ![4, 4096, 1, 4, 128]⟩
abbrev S4x4096x2x4x128 : Shape := ⟨5, ![4, 4096, 2, 4, 128]⟩
abbrev S4x512x2x8x64 : Shape := ⟨5, ![4, 512, 2, 8, 64]⟩
abbrev S2048x2048 : Shape := ⟨2, ![2048, 2048]⟩
abbrev S32x64x2048 : Shape := ⟨3, ![32, 64, 2048]⟩
abbrev S32x64x5864 : Shape := ⟨3, ![32, 64, 5864]⟩
abbrev S32x64x512 : Shape := ⟨3, ![32, 64, 512]⟩
abbrev S32x64x384 : Shape := ⟨3, ![32, 64, 384]⟩
abbrev S32x64x256 : Shape := ⟨3, ![32, 64, 256]⟩
abbrev S32x64x32 : Shape := ⟨3, ![32, 64, 32]⟩
abbrev S32x64x64 : Shape := ⟨3, ![32, 64, 64]⟩
abbrev S32x64x8 : Shape := ⟨3, ![32, 64, 8]⟩
abbrev S32x64x8x64 : Shape := ⟨4, ![32, 64, 8, 64]⟩
abbrev S32x64x1x8x64 : Shape := ⟨5, ![32, 64, 1, 8, 64]⟩
abbrev S32x64x2x8x64 : Shape := ⟨5, ![32, 64, 2, 8, 64]⟩
abbrev S32x64x4x128 : Shape := ⟨4, ![32, 64, 4, 128]⟩
abbrev S32x64x1x4x128 : Shape := ⟨5, ![32, 64, 1, 4, 128]⟩
abbrev S32x64x2x4x128 : Shape := ⟨5, ![32, 64, 2, 4, 128]⟩

abbrev nBuf : Space → Nat
  | .hbm => 70
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x5864, .f32⟩
  | .hbm, ⟨2, _⟩ => ⟨S18432x2048, .f32⟩
  | .hbm, ⟨3, _⟩ => ⟨S16384x2048, .f32⟩
  | .hbm, ⟨4, _⟩ => ⟨S4x4096x2048, .f32⟩
  | .hbm, ⟨5, _⟩ => ⟨S4x4096x5864, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S4x4096x384, .f32⟩
  | .hbm, ⟨13, _⟩ => ⟨S4x4096x256, .f32⟩
  | .hbm, ⟨14, _⟩ => ⟨S4x4096x32, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x64, .f32⟩
  | .hbm, ⟨20, _⟩ => ⟨S4x4096x8, .f32⟩
  | .hbm, ⟨21, _⟩ => ⟨S4x4096x8x64, .f32⟩
  | .hbm, ⟨22, _⟩ => ⟨S4x4096x8x64, .f32⟩
  | .hbm, ⟨23, _⟩ => ⟨S4x4096x1x8x64, .f32⟩
  | .hbm, ⟨24, _⟩ => ⟨S4x4096x1x8x64, .f32⟩
  | .hbm, ⟨25, _⟩ => ⟨S4x4096x2x8x64, .f32⟩
  | .hbm, ⟨26, _⟩ => ⟨S4x4096x4x128, .f32⟩
  | .hbm, ⟨27, _⟩ => ⟨S4x4096x4x128, .f32⟩
  | .hbm, ⟨28, _⟩ => ⟨S4x4096x1x4x128, .f32⟩
  | .hbm, ⟨29, _⟩ => ⟨S4x4096x1x4x128, .f32⟩
  | .hbm, ⟨30, _⟩ => ⟨S4x4096x2x4x128, .f32⟩
  | .hbm, ⟨31, _⟩ => ⟨S4x4096x8x64, .f32⟩
  | .hbm, ⟨32, _⟩ => ⟨S4x4096x8x64, .f32⟩
  | .hbm, ⟨33, _⟩ => ⟨S4x4096x1x8x64, .f32⟩
  | .hbm, ⟨34, _⟩ => ⟨S4x4096x1x8x64, .f32⟩
  | .hbm, ⟨35, _⟩ => ⟨S4x4096x2x8x64, .f32⟩
  | .hbm, ⟨36, _⟩ => ⟨S4x512x2x8x64, .f32⟩
  | .hbm, ⟨37, _⟩ => ⟨S2048x2048, .f32⟩
  | .hbm, ⟨38, _⟩ => ⟨S32x64x2048, .f32⟩
  | .hbm, ⟨39, _⟩ => ⟨S32x64x5864, .f32⟩
  | .hbm, ⟨40, _⟩ => ⟨S32x64x512, .f32⟩
  | .hbm, ⟨41, _⟩ => ⟨S32x64x512, .f32⟩
  | .hbm, ⟨42, _⟩ => ⟨S32x64x512, .f32⟩
  | .hbm, ⟨43, _⟩ => ⟨S32x64x512, .f32⟩
  | .hbm, ⟨44, _⟩ => ⟨S32x64x512, .f32⟩
  | .hbm, ⟨45, _⟩ => ⟨S32x64x512, .f32⟩
  | .hbm, ⟨46, _⟩ => ⟨S32x64x384, .f32⟩
  | .hbm, ⟨47, _⟩ => ⟨S32x64x256, .f32⟩
  | .hbm, ⟨48, _⟩ => ⟨S32x64x32, .f32⟩
  | .hbm, ⟨49, _⟩ => ⟨S32x64x512, .f32⟩
  | .hbm, ⟨50, _⟩ => ⟨S32x64x512, .f32⟩
  | .hbm, ⟨51, _⟩ => ⟨S32x64x512, .f32⟩
  | .hbm, ⟨52, _⟩ => ⟨S32x64x512, .f32⟩
  | .hbm, ⟨53, _⟩ => ⟨S32x64x64, .f32⟩
  | .hbm, ⟨54, _⟩ => ⟨S32x64x8, .f32⟩
  | .hbm, ⟨55, _⟩ => ⟨S32x64x8x64, .f32⟩
  | .hbm, ⟨56, _⟩ => ⟨S32x64x8x64, .f32⟩
  | .hbm, ⟨57, _⟩ => ⟨S32x64x1x8x64, .f32⟩
  | .hbm, ⟨58, _⟩ => ⟨S32x64x1x8x64, .f32⟩
  | .hbm, ⟨59, _⟩ => ⟨S32x64x2x8x64, .f32⟩
  | .hbm, ⟨60, _⟩ => ⟨S32x64x4x128, .f32⟩
  | .hbm, ⟨61, _⟩ => ⟨S32x64x4x128, .f32⟩
  | .hbm, ⟨62, _⟩ => ⟨S32x64x1x4x128, .f32⟩
  | .hbm, ⟨63, _⟩ => ⟨S32x64x1x4x128, .f32⟩
  | .hbm, ⟨64, _⟩ => ⟨S32x64x2x4x128, .f32⟩
  | .hbm, ⟨65, _⟩ => ⟨S32x64x8x64, .f32⟩
  | .hbm, ⟨66, _⟩ => ⟨S32x64x8x64, .f32⟩
  | .hbm, ⟨67, _⟩ => ⟨S32x64x1x8x64, .f32⟩
  | .hbm, ⟨68, _⟩ => ⟨S32x64x1x8x64, .f32⟩
  | .hbm, ⟨69, _⟩ => ⟨S32x64x2x8x64, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩

abbrev nD : Nat := 1
abbrev τ : Topo := Topo.v7x

variable {F : FTy → Type} [FloatOps F]
-- ==== Proj.lean ====
abbrev S18432x2048 : Shape := ⟨2, ![18432, 2048]⟩
abbrev S2048x6144 : Shape := ⟨2, ![2048, 6144]⟩
abbrev S18432x6144 : Shape := ⟨2, ![18432, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S18432x2048, .bf16⟩
  | .hbm, ⟨1, _⟩ => ⟨S2048x6144, .bf16⟩
  | .hbm, ⟨2, _⟩ => ⟨S18432x6144, .f32⟩
  | .hbm, ⟨3, _⟩ => ⟨S18432x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefProjIdeal.lean ====
abbrev S18432x2048 : Shape := ⟨2, ![18432, 2048]⟩
abbrev S2048x6144 : Shape := ⟨2, ![2048, 6144]⟩
abbrev S18432x6144 : Shape := ⟨2, ![18432, 6144]⟩

abbrev nBuf : Space → Nat
  | .hbm => 6
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x6144, .bf16⟩
  | .hbm, ⟨2, _⟩ => ⟨S18432x2048, .f32⟩
  | .hbm, ⟨3, _⟩ => ⟨S2048x6144, .f32⟩
  | .hbm, ⟨4, _⟩ => ⟨S18432x6144, .f32⟩
  | .hbm, ⟨5, _⟩ => ⟨S18432x6144, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Band.Soft.lean ====
/- The softmax of one row over the extended reals: the kernel divides the weighted sum by the sum of the weights, the
   reference divides each weight first. The two agree where the row's largest logit is finite. -/
module

public import Idealize.ShloMosaic.PureOps.Ideal

@[expose] public section

noncomputable section

namespace Cert.Band

open Idealize.ShloMosaic
open scoped BigOperators

/-- The largest of a row's logits. -/
def rowMax {n : ℕ} (s : Fin n → EReal) : EReal := Finset.univ.fold max ⊥ s

/-- The weight of one logit of a row: the exponential of its distance from the largest. -/
def weight {n : ℕ} (s : Fin n → EReal) (k : Fin n) : EReal := Ideal.exp (s k - rowMax s)

/-- A row of attention as the kernel computes it: the weighted sum of the values over the sum of the weights. -/
def attendLate {n : ℕ} (s v : Fin n → EReal) : EReal :=
  Ideal.div (∑ k, weight s k * v k) (∑ k, weight s k)

/-- A row of attention as the reference computes it: the values summed at normalised weights. -/
def attendEarly {n : ℕ} (s v : Fin n → EReal) : EReal :=
  ∑ k, v k * Ideal.div (weight s k) (∑ k, weight s k)

theorem le_rowMax {n : ℕ} (s : Fin n → EReal) (k : Fin n) : s k ≤ rowMax s := by
  unfold rowMax
  rw [Finset.le_fold_max]
  exact Or.inr ⟨k, Finset.mem_univ k, le_refl _⟩

theorem rowMax_ne_top {n : ℕ} (s : Fin n → EReal) (hs : ∀ k, s k ≠ ⊤) : rowMax s ≠ ⊤ := by
  have h : rowMax s < ⊤ := by
    unfold rowMax
    rw [Finset.fold_max_lt]
    exact ⟨bot_lt_top, fun k _ => lt_top_iff_ne_top.mpr (hs k)⟩
  exact h.ne

/-- Taking the larger of −∞ and the largest logit changes nothing. -/
theorem max_bot_rowMax {n : ℕ} (s : Fin n → EReal) : max ⊥ (rowMax s) = rowMax s := max_bot_left _

/-- Multiplication by a nonnegative real passes into a sum. -/
theorem sum_mul_real {ι : Type*} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- Every weight of a row whose largest logit is the real `M` is a nonnegative real. -/
theorem weight_real {n : ℕ} (s : Fin n → EReal) (hs : ∀ k, s k ≠ ⊤) {M : ℝ} (hM : rowMax s = M) (k : Fin n) :
    weight s k = ((if s k = ⊥ then 0 else Real.exp ((s k).toReal - M) : ℝ) : EReal) := by
  unfold weight
  rw [hM]
  by_cases h : s k = ⊥
  · rw [if_pos h, h, EReal.bot_sub]
    rfl
  · rw [if_neg h]
    conv_lhs => rw [← EReal.coe_toReal (hs k) h, ← EReal.coe_sub]
    rfl

/-- The two spellings of a row's attention agree when no logit is `+∞`, some logit is not `−∞`, and the values agree
    wherever the logit is not `−∞`. -/
theorem attendLate_eq_attendEarly {n : ℕ} (s v v' : Fin n → EReal) (hs : ∀ k, s k ≠ ⊤) (k₀ : Fin n) (hk : s k₀ ≠ ⊥)
    (hv : ∀ k, s k ≠ ⊥ → v k = v' k) : attendLate s v = attendEarly s v' := by
  have hMb : rowMax s ≠ ⊥ := fun h => hk (le_bot_iff.mp (h ▸ le_rowMax s k₀))
  have hM : rowMax s = ((rowMax s).toReal : EReal) := (EReal.coe_toReal (rowMax_ne_top s hs) hMb).symm
  set w : Fin n → ℝ := fun k => if s k = ⊥ then 0 else Real.exp ((s k).toReal - (rowMax s).toReal) with hw
  have hwk : ∀ k, weight s k = (w k : EReal) := fun k => weight_real s hs hM k
  have hw0 : ∀ k, 0 ≤ w k := fun k => by
    rw [hw]; dsimp only; split_ifs
    · exact le_refl _
    · exact (Real.exp_pos _).le
  have hl : ∑ k, weight s k = ((∑ k, w k : ℝ) : EReal) := by
    rw [Finset.sum_congr rfl fun k _ => hwk k]
    exact (map_sum (⟨⟨Real.toEReal, rfl⟩, fun a b => EReal.coe_add a b⟩ : ℝ →+ EReal) w Finset.univ).symm
  have hpos : 0 < ∑ k, w k :=
    Finset.sum_pos' (fun k _ => hw0 k) ⟨k₀, Finset.mem_univ _, by
      rw [hw]; dsimp only; rw [if_neg hk]; exact Real.exp_pos _⟩
  unfold attendLate attendEarly
  rw [hl, Ideal.div_coe hpos.ne', sum_mul_real _ _ _ (by positivity)]
  refine Finset.sum_congr rfl fun k _ => ?_
  rw [Ideal.div_coe hpos.ne']
  by_cases h : s k = ⊥
  · have : weight s k = 0 := by rw [hwk k, hw]; dsimp only; rw [if_pos h]; rfl
    rw [this]; simp
  · rw [hv k h, mul_comm (weight s k) (v' k), mul_assoc]

end Cert.Band

end
-- ==== Proof.Band.Half.lean ====
/- One pair of heads of one chunk: the stored value of a trip as one function of what the trip loads, and that function
   read at an index, over the extended reals. -/
module

public import proofs.«01_k».proof.Proof.Gen.KernelIdeal.Value
public import proofs.«01_k».proof.Proof.Band.Soft
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open scoped BigOperators

section General

variable {F : FTy → Type} [FloatOps F] [Named F]

/-- The logits of one head: the queries at the lanes `hl` against the window's keys, scaled, the bias added, and the
    positions that are not valid put at the mask's constant. -/
def headLogits (hl : IVec S1x128 1) (valid : IVec S1x576 1) (q : Vec F S1x64x128 .bf16) (k : Vec F S576x128 .bf16)
    (b : Vec F S1x64x576 .f32) : FVec F S64x576 .f32 :=
  select (broadcastTo S64x576 (shapeCast S1x576 valid shapeCasts_S1x576_S1x576) broadcasts_S1x576_S64x576)
    (addf (mulf (matmul dot_S64x128_S576x128_S64x576_1_1_0_0_n_n none
        (select (broadcastTo S64x128 (shapeCast S1x128 hl shapeCasts_S1x128_S1x128) broadcasts_S1x128_S64x128)
          (shapeCast S64x128 q shapeCasts_S1x64x128_S64x128) (broadcast S64x128 (Scalar.ofBits .bf16 0x0000#16)))
        k (constant S64x576 .f32 0x00000000#32)) (broadcast S64x576 (Scalar.ofBits .f32 0x3E000000#32)))
      (shapeCast S64x576 b shapeCasts_S1x64x576_S64x576))
    (broadcast S64x576 (Named.named κ "mask" 0xF149F2CA#32))

/-- The weights of one head's logits: the exponentials of their distances from their row's largest. -/
def headWeights (s : FVec F S64x576 .f32) : FVec F S64x576 .f32 :=
  exp (subf s (broadcastTo S64x576 (shapeCast S64x1
    (multiReduction .maximumf [1] S64 s 0xFF800000#32 reduces_S64x576_S64 (.inl rfl) rfl) shapeCasts_S64_S64x1)
    broadcasts_S64x1_S64x576))

/-- One head's output from its weights: the weighted sum of the window's values over the sum of the weights. -/
def headMix (p : FVec F S64x576 .f32) (v : Vec F S576x128 .bf16) : FVec F S64x128 .f32 :=
  divf (matmul dot_S64x576_S576x128_S64x128_1_0_0_1_n_n none (truncf .bf16 p bitsLt_bf16_f32) v
      (constant S64x128 .f32 0x00000000#32))
    (broadcastTo S64x128 (shapeCast S64x1
      (multiReduction .add [1] S64 p 0x00000000#32 reduces_S64x576_S64 (.inl rfl) rfl) shapeCasts_S64_S64x1)
      broadcasts_S64x1_S64x128)

/-- One head of a pair. -/
def headOut (hl : IVec S1x128 1) (valid : IVec S1x576 1) (q : Vec F S1x64x128 .bf16) (k v : Vec F S576x128 .bf16)
    (b : Vec F S1x64x576 .f32) : FVec F S64x128 .f32 :=
  headMix (headWeights (headLogits hl valid q k b)) v

/-- What a trip stores for one pair of heads: the first head's output at the low lanes and the second's at the others. -/
def pairOut (valid : IVec S1x576 1) (q : Vec F S1x64x128 .bf16) (k v : Vec F S576x128 .bf16)
    (b0 b1 : Vec F S1x64x576 .f32) : FVec F S1x64x128 .bf16 :=
  shapeCast S1x64x128 (truncf .bf16
    (select (broadcastTo S64x128 (shapeCast S1x128 k0_pay5 shapeCasts_S1x128_S1x128) broadcasts_S1x128_S64x128)
      (headOut k0_pay5 valid q k v b0) (headOut (xori k0_pay5 (constantI S1x128 1 1#1)) valid q k v b1)) bitsLt_bf16_f32)
    shapeCasts_S64x128_S1x64x128

end General

/-- The word the maximum starts from is −∞. -/
theorem ofBits_negInf : Ideal.ofBits .f32 0xFF800000#32 = ⊥ := by simp [Ideal.ofBits, Ideal.ieee]

/-- The named mask's constant is −∞. -/
theorem named_mask : (Named.named (F := Ideal) (φ := .f32) κ "mask" 0xF149F2CA#32) = (⊥ : EReal) := rfl

/-- Lane `l` of a pair is of its first head when it is below 64. -/
theorem low_apply (l : Fin 128) : k0_pay5 (ix2 (0 : Fin 1) l) = if l.val < 64 then 1#1 else 0#1 := by
  unfold k0_pay5
  pointwise
  revert l
  decide

/-- The lanes of the second head are the others. -/
theorem high_apply (l : Fin 128) :
    xori k0_pay5 (constantI S1x128 1 1#1) (ix2 (0 : Fin 1) l) = if l.val < 64 then 0#1 else 1#1 := by
  pointwise
  rw [low_apply]
  split_ifs <;> rfl

/-- A sum over the 128 lanes of a pair that keeps the low ones. -/
theorem sum_low (f : Fin 128 → EReal) :
    (∑ x : Fin 128, if x.val < 64 then f x else 0) = ∑ e : Fin 64, f ⟨e.val, by omega⟩ := by
  rw [show (∑ x : Fin 128, if x.val < 64 then f x else 0) = _ from
    Fin.sum_univ_add (a := 64) (b := 64) (fun x => if x.val < 64 then f x else 0)]
  have h2 : (∑ i : Fin 64, if (Fin.natAdd 64 i).val < 64 then f (Fin.natAdd 64 i) else 0) = 0 :=
    Finset.sum_eq_zero fun i _ => if_neg (by simp)
  rw [h2, add_zero]
  exact Finset.sum_congr rfl fun e _ => if_pos e.isLt

/-- A sum over the 128 lanes of a pair that keeps the high ones. -/
theorem sum_high (f : Fin 128 → EReal) :
    (∑ x : Fin 128, if x.val < 64 then 0 else f x) = ∑ e : Fin 64, f ⟨64 + e.val, by omega⟩ := by
  rw [show (∑ x : Fin 128, if x.val < 64 then 0 else f x) = _ from
    Fin.sum_univ_add (a := 64) (b := 64) (fun x => if x.val < 64 then 0 else f x)]
  have h1 : (∑ i : Fin 64, if (Fin.castAdd 64 i).val < 64 then 0 else f (Fin.castAdd 64 i)) = 0 :=
    Finset.sum_eq_zero fun i _ => if_pos i.isLt
  rw [h1, zero_add]
  exact Finset.sum_congr rfl fun e _ => if_neg (by simp)

/-- A head's logits at an index. -/
theorem headLogits_apply (hl : IVec S1x128 1) (valid : IVec S1x576 1) (q : Vec Ideal S1x64x128 .bf16)
    (k : Vec Ideal S576x128 .bf16) (b : Vec Ideal S1x64x576 .f32) (r : Fin 64) (j : Fin 576) :
    headLogits hl valid q k b (ix2 r j) =
      if valid (ix2 (0 : Fin 1) j) = 1#1 then
        (∑ e : Fin 128, if hl (ix2 (0 : Fin 1) e) = 1#1 then q (ix3 (0 : Fin 1) r e) * k (ix2 j e) else 0)
            * Ideal.ofBits .f32 0x3E000000#32 + b (ix3 (0 : Fin 1) r j)
      else ⊥ := by
  unfold headLogits
  pointwise
  rw [named_mask]
  rfl

/-- A head's weights at an index. -/
theorem headWeights_apply (s : FVec Ideal S64x576 .f32) (r : Fin 64) (j : Fin 576) :
    headWeights s (ix2 r j) = weight (fun j => s (ix2 r j)) j := by
  unfold headWeights
  pointwise
  rw [ofBits_negInf]
  rfl

/-- A head's output from its weights at an index. -/
theorem headMix_apply (p : FVec Ideal S64x576 .f32) (v : Vec Ideal S576x128 .bf16) (r : Fin 64) (l : Fin 128) :
    headMix p v (ix2 r l) = Ideal.div (∑ j, p (ix2 r j) * v (ix2 j l)) (∑ j, p (ix2 r j)) := by
  unfold headMix
  pointwise

/-- A head's output at an index is a row of attention. -/
theorem headOut_apply (hl : IVec S1x128 1) (valid : IVec S1x576 1) (q : Vec Ideal S1x64x128 .bf16)
    (k v : Vec Ideal S576x128 .bf16) (b : Vec Ideal S1x64x576 .f32) (r : Fin 64) (l : Fin 128) :
    headOut hl valid q k v b (ix2 r l)
      = attendLate (fun j => headLogits hl valid q k b (ix2 r j)) (fun j => v (ix2 j l)) := by
  unfold headOut
  rw [headMix_apply]
  simp only [headWeights_apply]
  rfl

/-- What a trip stores at lane `l` of row `r` of a pair: the attention of that row's queries of the lane's head. -/
theorem pairOut_apply (valid : IVec S1x576 1) (q : Vec Ideal S1x64x128 .bf16) (k v : Vec Ideal S576x128 .bf16)
    (b0 b1 : Vec Ideal S1x64x576 .f32) (r : Fin 64) (l : Fin 128) :
    pairOut valid q k v b0 b1 (ix3 (0 : Fin 1) r l)
      = attendLate (fun j => if valid (ix2 (0 : Fin 1) j) = 1#1 then
            (∑ e : Fin 64, q (ix3 (0 : Fin 1) r ⟨64 * (l.val / 64) + e.val, by omega⟩)
                * k (ix2 j ⟨64 * (l.val / 64) + e.val, by omega⟩)) * Ideal.ofBits .f32 0x3E000000#32
              + (if l.val < 64 then b0 else b1) (ix3 (0 : Fin 1) r j)
          else ⊥) (fun j => v (ix2 j l)) := by
  unfold pairOut
  pointwise
  rw [low_apply]
  by_cases h : l.val < 64
  · have h0 : 64 * (l.val / 64) = 0 := by omega
    simp only [if_pos h, h0, Nat.zero_add]
    refine (headOut_apply _ _ _ _ _ _ _ _).trans ?_
    congr 1
    funext j
    rw [headLogits_apply]
    simp only [low_apply, ite_eq_left_iff, zero_ne_one]
    congr 3
    rw [← sum_low (fun e => q (ix3 (0 : Fin 1) r e) * k (ix2 j e))]
    refine Finset.sum_congr rfl fun e _ => ?_
    by_cases he : e.val < 64 <;> simp [he]
  · have h0 : 64 * (l.val / 64) = 64 := by omega
    simp only [if_neg h, h0]
    refine (headOut_apply _ _ _ _ _ _ _ _).trans ?_
    congr 1
    funext j
    rw [headLogits_apply]
    simp only [high_apply]
    congr 3
    rw [← sum_high (fun e => q (ix3 (0 : Fin 1) r e) * k (ix2 j e))]
    refine Finset.sum_congr rfl fun e _ => ?_
    by_cases he : e.val < 64 <;> simp [he]

end Cert.Band

end
-- ==== Proof.Band.Trip.lean ====
/- One trip of the loop over chunks stores four blocks, one per pair of heads, of the attention of the grid point's rows. -/
module

public import proofs.«01_k».proof.Proof.Band.Half
public import Idealize.ShloMosaic.Lib.Pipeline.ValueKit
public import Idealize.ShloMosaic.Lib.Pipeline.ReadBack

@[expose] public section

set_option maxRecDepth 16384

noncomputable section

namespace Cert.Band

open Cert.KernelIdeal Cert.KernelIdeal.Gen Idealize.ShloMosaic Idealize.ShloMosaic.TcCoe Idealize.SL.Sem
open scoped BigOperators

/-- The block a grid point writes: each row's attention over its window of the staged keys and values. The window of row
    `t` starts at staged row `64 (t / 64)`; its positions before staged row 512 take part where `pv` is set. -/
def blockOut (pv : BitVec 1) (x0 : Vec Ideal S1x512x512 .bf16) (K V : Vec Ideal S1024x512 .bf16)
    (x5 : Vec Ideal S8x64x576 .f32) (t : Fin 512) (col : Fin 512) : EReal :=
  attendLate (fun j : Fin 576 => if 512 ≤ 64 * (t.val / 64) + j.val ∨ pv = 1#1 then
      (∑ e : Fin 64, x0 (ix3 (0 : Fin 1) t ⟨64 * (col.val / 64) + e.val, by omega⟩)
          * K (ix2 ⟨64 * (t.val / 64) + j.val, by omega⟩ ⟨64 * (col.val / 64) + e.val, by omega⟩))
        * Ideal.ofBits .f32 0x3E000000#32
        + x5 (ix3 ⟨col.val / 64, by omega⟩ ⟨t.val % 64, by omega⟩ j)
    else ⊥) (fun j => V (ix2 ⟨64 * (t.val / 64) + j.val, by omega⟩ col))

theorem off1_eq : ∀ k : Fin k0_t1_loop.trips, k0_off1 k = ![0, 64 * k.val, 0] := by decide +kernel

theorem off2_eq : ∀ k : Fin k0_t1_loop.trips, k0_off2 k = ![64 * k.val, 0] := by decide +kernel

theorem off3_eq : ∀ k : Fin k0_t1_loop.trips, k0_off3 k = ![0, 64 * k.val, 128] := by decide +kernel

theorem off4_eq : ∀ k : Fin k0_t1_loop.trips, k0_off4 k = ![64 * k.val, 128] := by decide +kernel

theorem off5_eq : ∀ k : Fin k0_t1_loop.trips, k0_off5 k = ![0, 64 * k.val, 256] := by decide +kernel

theorem off6_eq : ∀ k : Fin k0_t1_loop.trips, k0_off6 k = ![64 * k.val, 256] := by decide +kernel

theorem off7_eq : ∀ k : Fin k0_t1_loop.trips, k0_off7 k = ![0, 64 * k.val, 384] := by decide +kernel

theorem off8_eq : ∀ k : Fin k0_t1_loop.trips, k0_off8 k = ![64 * k.val, 384] := by decide +kernel

/-- The loop's word `j + 64 k` compared with 512. -/
theorem sge_word (k : Fin 8) (j : Fin 576) :
    IntOp.cmpi CmpIPredicate.sge (IntOp.addi (BitVec.ofNat 32 j.val) (BitVec.ofNat 32 (64 * k.val))) 512#32
      = if 512 ≤ 64 * k.val + j.val then 1#1 else 0#1 := by
  unfold IntOp.cmpi IntOp.addi
  have h : BitVec.ofNat 32 j.val + BitVec.ofNat 32 (64 * k.val) = BitVec.ofNat 32 (64 * k.val + j.val) := by
    rw [← BitVec.ofNat_add, Nat.add_comm]
  have h2 : (BitVec.ofNat 32 (64 * k.val + j.val)).toInt = (64 * k.val + j.val : Nat) := by
    rw [BitVec.toInt_eq_toNat_of_lt (by rw [BitVec.toNat_ofNat]; omega), BitVec.toNat_ofNat]
    congr 1
    omega
  rw [h]
  simp only [BitVec.sle, h2, BitVec.toInt_ofNat]
  by_cases hc : 512 ≤ 64 * k.val + j.val
  · rw [if_pos hc, decide_eq_true (by simp; omega)]; rfl
  · rw [if_neg hc, decide_eq_false (by simp; omega)]; rfl

/-- The word a trip's window starts at. -/
theorem start_word : ∀ k : Fin k0_t1_loop.trips,
    Scalar.muli (Scf.iv 0#32 1#32 k.val) 64#32 = BitVec.ofNat 32 (64 * k.val) := by decide +kernel

/-- Position `j` of trip `k`'s window is valid when it lies in the current block, or the previous block is valid. -/
theorem valid_apply (v24 : BitVec 1) (k : Fin k0_t1_loop.trips) (j : Fin 576) :
    k0_pay7 (iota Kind.tc S1x576 32 [1] iota_S1x576_d1_w32) v24 0#32 1#32 k (ix2 (0 : Fin 1) j) = 1#1
      ↔ 512 ≤ 64 * k.val + j.val ∨ v24 = 1#1 := by
  have hk : k.val < 8 := Nat.lt_of_lt_of_le k.isLt k0_t1_abs.2.1
  unfold k0_pay7
  dsimp only
  pointwise
  rw [start_word k, sge_word ⟨k.val, hk⟩ j]
  by_cases h : 512 ≤ 64 * k.val + j.val
  · simp only [h, if_true, true_or, iff_true]
    revert v24; decide
  · simp only [h, if_false, false_or]
    revert v24; decide

/-- A load of a unit-stride block, read at an index. -/
theorem readAt_unit_at {κ : Kind} {sp : Space} {s : Shape} {e : EltTy} (v : View sig κ sp s e)
    (X : BufTy.Contents (Elt Ideal) v.ty) (off size : Fin s.rank → Nat) (inb : ∀ a, off a + size a ≤ s.size a)
    (i : (Rect.unit off size inb).shape.Idx) (y : s.Idx) (h : ∀ a, (y a).val = off a + (i a).val) :
    View.readAt (Elt Ideal) v (Rect.unit off size inb).toLoadRect X i = View.read (Elt Ideal) v X y := by
  rw [View.readAt_eq_ld]
  refine congrArg (View.read (Elt Ideal) v X) (funext fun a => Fin.ext ?_)
  rw [h a]
  simp [Rect.unit, Rect.emb]

/-- What a trip stores for pair `p` is the block's attention at the pair's columns of the trip's rows. -/
theorem piece_eq (v24 : BitVec 1) {κ₂ κ₇ κ₉ κ₁₀ : Kind} {sp₂ sp₇ sp₉ sp₁₀ : Space}
    (w2 : View sig κ₂ sp₂ S1x512x512 .bf16) (w7 : View sig κ₇ sp₇ S8x64x576 .f32) (w9 : View sig κ₉ sp₉ S1024x512 .bf16)
    (w10 : View sig κ₁₀ sp₁₀ S1024x512 .bf16)
    (X2 : BufTy.Contents (Elt Ideal) w2.ty) (X7 : BufTy.Contents (Elt Ideal) w7.ty)
    (X9 : BufTy.Contents (Elt Ideal) w9.ty) (X10 : BufTy.Contents (Elt Ideal) w10.ty)
    (k : Nat) (hk : k < 8) (p : Nat) (hp : p < 4) (valid : IVec S1x576 1)
    (hvalid : ∀ j : Fin 576, valid (ix2 (0 : Fin 1) j) = 1#1 ↔ 512 ≤ 64 * k + j.val ∨ v24 = 1#1)
    (o3 : Fin 3 → Nat) (o2 : Fin 2 → Nat) (ho3 : o3 = ![0, 64 * k, 128 * p]) (ho2 : o2 = ![64 * k, 128 * p])
    (i3 : ∀ a, o3 a + S1x64x128.size a ≤ S1x512x512.size a) (i2 : ∀ a, o2 a + S576x128.size a ≤ S1024x512.size a)
    (ia : ∀ a, (![2 * p, 0, 0] : Fin 3 → Nat) a + S1x64x576.size a ≤ S8x64x576.size a)
    (ib : ∀ a, (![2 * p + 1, 0, 0] : Fin 3 → Nat) a + S1x64x576.size a ≤ S8x64x576.size a)
    (x : S1x64x128.Idx) :
    pairOut (F := Ideal) valid
      (View.readAt (Elt Ideal) w2 (Rect.unit (s := S1x512x512) o3 S1x64x128.size i3).toLoadRect X2)
      (View.readAt (Elt Ideal) w9 (Rect.unit (s := S1024x512) o2 S576x128.size i2).toLoadRect X9)
      (View.readAt (Elt Ideal) w10 (Rect.unit (s := S1024x512) o2 S576x128.size i2).toLoadRect X10)
      (View.readAt (Elt Ideal) w7 (Rect.unit (s := S8x64x576) ![2 * p, 0, 0] S1x64x576.size ia).toLoadRect X7)
      (View.readAt (Elt Ideal) w7 (Rect.unit (s := S8x64x576) ![2 * p + 1, 0, 0] S1x64x576.size ib).toLoadRect X7) x
    = blockOut v24 (View.read (Elt Ideal) w2 X2) (View.read (Elt Ideal) w9 X9) (View.read (Elt Ideal) w10 X10)
        (View.read (Elt Ideal) w7 X7) ((Rect.unit (s := S1x512x512) o3 S1x64x128.size i3).emb x 1) ((Rect.unit (s := S1x512x512) o3 S1x64x128.size i3).emb x 2) := by
  subst ho3 ho2
  obtain ⟨x0, r, l, rfl⟩ : ∃ (a : Fin 1) (b : Fin 64) (c : Fin 128), x = ix3 a b c := ⟨_, _, _, ValueIdx.eq_ix3 x⟩
  obtain rfl : x0 = 0 := Subsingleton.elim _ _
  have e1 : ((Rect.unit (s := S1x512x512) ![0, 64 * k, 128 * p] S1x64x128.size i3).emb (ix3 (0 : Fin 1) r l) 1)
      = (⟨64 * k + r.val, by omega⟩ : Fin 512) := by
    refine Fin.ext ?_
    simp [Rect.unit, Rect.emb]
  have e2 : ((Rect.unit (s := S1x512x512) ![0, 64 * k, 128 * p] S1x64x128.size i3).emb (ix3 (0 : Fin 1) r l) 2)
      = (⟨128 * p + l.val, by omega⟩ : Fin 512) := by
    refine Fin.ext ?_
    simp [Rect.unit, Rect.emb]
  rw [e1, e2, pairOut_apply]
  unfold blockOut
  have d1 : (64 * k + r.val) / 64 = k := by omega
  have d2 : (64 * k + r.val) % 64 = r.val := by omega
  have d3 : (128 * p + l.val) / 64 = 2 * p + l.val / 64 := by omega
  simp only [d1, d2, d3]
  congr 1
  · funext j
    refine if_congr (hvalid j) ?_ rfl
    congr 1
    · congr 1
      refine Finset.sum_congr rfl fun e _ => ?_
      congr 1
      · refine readAt_unit_at _ _ _ _ _ _ _ fun a => ?_
        fin_cases a <;> simp <;> omega
      · refine readAt_unit_at _ _ _ _ _ _ _ fun a => ?_
        fin_cases a <;> simp <;> omega
    · by_cases h : l.val < 64
      · rw [if_pos h]
        refine readAt_unit_at _ _ _ _ _ _ _ fun a => ?_
        fin_cases a <;> simp <;> omega
      · rw [if_neg h]
        refine readAt_unit_at _ _ _ _ _ _ _ fun a => ?_
        fin_cases a <;> simp <;> omega
  · funext j
    refine readAt_unit_at _ _ _ _ _ _ _ fun a => ?_
    fin_cases a <;> simp

/-- Every piece a trip stores is a block of the grid point's attention. -/
theorem trip_list (c : Dev nD) (bd) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x64x576 .f32) (harg7 : arg7.IsWhole) (arg8 : Memref sig .tc .vmem S1x512x512 .bf16) (harg8 : arg8.IsWhole) (arg9 : Memref sig .tc .vmem S1024x512 .bf16) (harg9 : arg9.IsWhole) (arg10 : Memref sig .tc .vmem S1024x512 .bf16) (harg10 : arg10.IsWhole)
    (v24 : BitVec 1) (X_arg2 : BufTy.Contents (Elt Ideal) arg2.view.ty) (X_arg7 : BufTy.Contents (Elt Ideal) arg7.view.ty)
    (X_arg9 : BufTy.Contents (Elt Ideal) arg9.view.ty) (X_arg10 : BufTy.Contents (Elt Ideal) arg10.view.ty)
    (k : Fin k0_t1_loop.trips) :
    View.PiecesOf (fun y => blockOut v24 (arg2.view.read (Elt Ideal) X_arg2) (arg9.view.read (Elt Ideal) X_arg9)
        (arg10.view.read (Elt Ideal) X_arg10) (arg7.view.read (Elt Ideal) X_arg7) (y 1) (y 2))
      (tripL_k0_t1 (F := Ideal) Variants.none c bd i arg2 harg2 arg3 harg3 arg4 harg4 arg5 harg5 arg6 harg6 arg7 harg7 arg8 harg8 arg9 harg9 arg10 harg10 (iota Kind.tc S1x576 32 [1] iota_S1x576_d1_w32) v24
        X_arg2 X_arg7 X_arg9 X_arg10 k) := by
  have hk : k.val < 8 := Nat.lt_of_lt_of_le k.isLt k0_t1_abs.2.1
  unfold tripL_k0_t1 trip_k0_t1
  dsimp only
  refine ⟨?_, ?_, ?_, ?_, ?_⟩
  · sl_unfold_words
    intro x
    refine (show _ = pairOut (F := Ideal) (k0_pay7 (iota Kind.tc S1x576 32 [1] iota_S1x576_d1_w32) v24 0#32 1#32 k)
      (View.readAt (Elt Ideal) arg2.view (Rect.unit (k0_off7 k) _ (k0_off7_inb k)).toLoadRect X_arg2)
      (View.readAt (Elt Ideal) arg9.view (Rect.unit (k0_off8 k) _ (k0_off8_inb k)).toLoadRect X_arg9)
      (View.readAt (Elt Ideal) arg10.view (Rect.unit (k0_off8 k) _ (k0_off8_inb k)).toLoadRect X_arg10)
      (View.readAt (Elt Ideal) arg7.view (Rect.unit ![6, 0, 0] _ inb_S8x64x576_S1x64x576_6_0_0).toLoadRect X_arg7)
      (View.readAt (Elt Ideal) arg7.view (Rect.unit ![7, 0, 0] _ inb_S8x64x576_S1x64x576_7_0_0).toLoadRect X_arg7)
      x from rfl).trans ?_
    exact piece_eq v24 _ _ _ _ X_arg2 X_arg7 X_arg9 X_arg10 k.val hk 3 (by omega) _ (valid_apply v24 k) _ _ (off7_eq k) (off8_eq k) _ _ _ _ x
  · sl_unfold_words
    intro x
    refine (show _ = pairOut (F := Ideal) (k0_pay7 (iota Kind.tc S1x576 32 [1] iota_S1x576_d1_w32) v24 0#32 1#32 k)
      (View.readAt (Elt Ideal) arg2.view (Rect.unit (k0_off5 k) _ (k0_off5_inb k)).toLoadRect X_arg2)
      (View.readAt (Elt Ideal) arg9.view (Rect.unit (k0_off6 k) _ (k0_off6_inb k)).toLoadRect X_arg9)
      (View.readAt (Elt Ideal) arg10.view (Rect.unit (k0_off6 k) _ (k0_off6_inb k)).toLoadRect X_arg10)
      (View.readAt (Elt Ideal) arg7.view (Rect.unit ![4, 0, 0] _ inb_S8x64x576_S1x64x576_4_0_0).toLoadRect X_arg7)
      (View.readAt (Elt Ideal) arg7.view (Rect.unit ![5, 0, 0] _ inb_S8x64x576_S1x64x576_5_0_0).toLoadRect X_arg7)
      x from rfl).trans ?_
    exact piece_eq v24 _ _ _ _ X_arg2 X_arg7 X_arg9 X_arg10 k.val hk 2 (by omega) _ (valid_apply v24 k) _ _ (off5_eq k) (off6_eq k) _ _ _ _ x
  · sl_unfold_words
    intro x
    refine (show _ = pairOut (F := Ideal) (k0_pay7 (iota Kind.tc S1x576 32 [1] iota_S1x576_d1_w32) v24 0#32 1#32 k)
      (View.readAt (Elt Ideal) arg2.view (Rect.unit (k0_off3 k) _ (k0_off3_inb k)).toLoadRect X_arg2)
      (View.readAt (Elt Ideal) arg9.view (Rect.unit (k0_off4 k) _ (k0_off4_inb k)).toLoadRect X_arg9)
      (View.readAt (Elt Ideal) arg10.view (Rect.unit (k0_off4 k) _ (k0_off4_inb k)).toLoadRect X_arg10)
      (View.readAt (Elt Ideal) arg7.view (Rect.unit ![2, 0, 0] _ inb_S8x64x576_S1x64x576_2_0_0).toLoadRect X_arg7)
      (View.readAt (Elt Ideal) arg7.view (Rect.unit ![3, 0, 0] _ inb_S8x64x576_S1x64x576_3_0_0).toLoadRect X_arg7)
      x from rfl).trans ?_
    exact piece_eq v24 _ _ _ _ X_arg2 X_arg7 X_arg9 X_arg10 k.val hk 1 (by omega) _ (valid_apply v24 k) _ _ (off3_eq k) (off4_eq k) _ _ _ _ x
  · sl_unfold_words
    intro x
    refine (show _ = pairOut (F := Ideal) (k0_pay7 (iota Kind.tc S1x576 32 [1] iota_S1x576_d1_w32) v24 0#32 1#32 k)
      (View.readAt (Elt Ideal) arg2.view (Rect.unit (k0_off1 k) _ (k0_off1_inb k)).toLoadRect X_arg2)
      (View.readAt (Elt Ideal) arg9.view (Rect.unit (k0_off2 k) _ (k0_off2_inb k)).toLoadRect X_arg9)
      (View.readAt (Elt Ideal) arg10.view (Rect.unit (k0_off2 k) _ (k0_off2_inb k)).toLoadRect X_arg10)
      (View.readAt (Elt Ideal) arg7.view (Rect.unit ![0, 0, 0] _ inb_S8x64x576_S1x64x576_0_0_0).toLoadRect X_arg7)
      (View.readAt (Elt Ideal) arg7.view (Rect.unit ![1, 0, 0] _ inb_S8x64x576_S1x64x576_1_0_0).toLoadRect X_arg7)
      x from rfl).trans ?_
    exact piece_eq v24 _ _ _ _ X_arg2 X_arg7 X_arg9 X_arg10 k.val hk 0 (by omega) _ (valid_apply v24 k) _ _ (off1_eq k) (off2_eq k) _ _ _ _ x
  · trivial

/-- Every piece the trips before `n` store is a block of the grid point's attention. -/
theorem trips_list (c : Dev nD) (bd) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x64x576 .f32) (harg7 : arg7.IsWhole) (arg8 : Memref sig .tc .vmem S1x512x512 .bf16) (harg8 : arg8.IsWhole) (arg9 : Memref sig .tc .vmem S1024x512 .bf16) (harg9 : arg9.IsWhole) (arg10 : Memref sig .tc .vmem S1024x512 .bf16) (harg10 : arg10.IsWhole)
    (v24 : BitVec 1) (X_arg2 : BufTy.Contents (Elt Ideal) arg2.view.ty) (X_arg7 : BufTy.Contents (Elt Ideal) arg7.view.ty)
    (X_arg9 : BufTy.Contents (Elt Ideal) arg9.view.ty) (X_arg10 : BufTy.Contents (Elt Ideal) arg10.view.ty) (n : Nat)
    (hn : n ≤ k0_t1_loop.trips) :
    ∀ q ∈ (pb_k0_t1 (F := Ideal) Variants.none c bd i arg2 harg2 arg3 harg3 arg4 harg4 arg5 harg5 arg6 harg6 arg7 harg7 arg8 harg8 arg9 harg9 arg10 harg10 (iota Kind.tc S1x576 32 [1] iota_S1x576_d1_w32) v24
        X_arg2 X_arg7 X_arg9 X_arg10 n), ∀ x : q.1.shape.Idx,
      q.2 x = blockOut v24 (arg2.view.read (Elt Ideal) X_arg2) (arg9.view.read (Elt Ideal) X_arg9)
        (arg10.view.read (Elt Ideal) X_arg10) (arg7.view.read (Elt Ideal) X_arg7) (q.1.emb x 1) (q.1.emb x 2) := by
  induction n with
  | zero => intro q hq; exact absurd hq List.not_mem_nil
  | succ n ih =>
    intro q hq
    rw [pb_k0_t1_succ Variants.none c bd i arg2 harg2 arg3 harg3 arg4 harg4 arg5 harg5 arg6 harg6 arg7 harg7 arg8 harg8 arg9 harg9 arg10 harg10 _ v24 X_arg2 X_arg7 X_arg9 X_arg10 ⟨n, hn⟩] at hq
    rcases List.mem_append.mp hq with h | h
    · exact (trip_list c bd i arg2 harg2 arg3 harg3 arg4 harg4 arg5 harg5 arg6 harg6 arg7 harg7 arg8 harg8 arg9 harg9 arg10 harg10 v24 X_arg2 X_arg7 X_arg9 X_arg10 ⟨n, hn⟩).mem q h
    · exact ih (Nat.le_of_succ_le hn) q h

end Cert.Band

end
-- ==== Proof.Band.Block.lean ====
/- What one grid point leaves in its output block, and the output array made of those blocks. -/
module

public import proofs.«01_k».proof.Proof.Band.Trip

@[expose] public section

set_option maxRecDepth 16384

noncomputable section

namespace Cert.Band

open Cert.KernelIdeal Cert.KernelIdeal.Gen Idealize.ShloMosaic Idealize.ShloMosaic.TcCoe Idealize.SL.Sem
open scoped BigOperators

/-- The staged rows of a grid point: the previous block's 512 rows, then the current block's. -/
def staged (a b : Vec Ideal S1x512x512 .bf16) : Vec Ideal S1024x512 .bf16 := fun y =>
  if h : (y 0).val < 512 then a (ix3 (0 : Fin 1) (⟨(y 0).val, h⟩ : Fin 512) (y 1))
  else b (ix3 (0 : Fin 1) (⟨(y 0).val - 512, by have : (y 0).val < 1024 := (y 0).isLt; omega⟩ : Fin 512) (y 1))

/-- Two halves written into a stage of 1024 rows read back as the staged rows. -/
theorem stage_read {κ : Kind} {sp : Space} (w : View sig κ sp S1024x512 .bf16) (a b : Vec Ideal S1x512x512 .bf16)
    (i1 : ∀ a, (![512, 0] : Fin 2 → Nat) a + S512x512.size a ≤ S1024x512.size a)
    (i0 : ∀ a, (![0, 0] : Fin 2 → Nat) a + S512x512.size a ≤ S1024x512.size a)
    (pb pa : Vec Ideal S512x512 .bf16) (hb : ∀ r l, pb (ix2 r l) = b (ix3 (0 : Fin 1) r l))
    (ha : ∀ r l, pa (ix2 r l) = a (ix3 (0 : Fin 1) r l)) :
    View.read (Elt Ideal) w (w.writes (Elt Ideal) w.junk
      [⟨Rect.unit (s := S1024x512) ![512, 0] S512x512.size i1, pb⟩,
        ⟨Rect.unit (s := S1024x512) ![0, 0] S512x512.size i0, pa⟩]) = staged a b := by
  rw [View.read_writes_junk_eq_canon]
  funext y
  refine View.canon_apply_of_pieces (staged a b) _ ?_ y ?_
  rotate_left
  · exact View.cover_of_tiledL (s := S1024x512) _ S512x512.size (by sl_kernel_rfl) y
  · intro p hp x
    simp only [List.mem_cons, List.not_mem_nil, or_false] at hp
    rcases hp with rfl | rfl
    · obtain ⟨r, l, rfl⟩ : ∃ (r l : Fin 512), x = ix2 r l := ⟨_, _, ValueIdx.eq_ix2 x⟩
      refine (hb r l).trans ?_
      unfold staged
      rw [dif_neg (by simp [Rect.unit, Rect.emb])]
      congr 1
      funext k; fin_cases k <;> refine Fin.ext ?_ <;> simp [Rect.unit, Rect.emb]
    · obtain ⟨r, l, rfl⟩ : ∃ (r l : Fin 512), x = ix2 r l := ⟨_, _, ValueIdx.eq_ix2 x⟩
      refine (ha r l).trans ?_
      unfold staged
      rw [dif_pos (by simp [Rect.unit, Rect.emb])]
      congr 1
      funext k; fin_cases k <;> refine Fin.ext ?_ <;> simp [Rect.unit, Rect.emb]

/-- The rows stored by store 1 are the block's own rows. -/
theorem pay1_rows {κ : Kind} {sp : Space} (a : Memref sig κ sp S1x512x512 .bf16) (ha : a.IsWhole) (x : Vec Ideal S1x512x512 .bf16) (r l : Fin 512) :
    k0_pay1 (F := Ideal) (View.readAt (Elt Ideal) a.view
      (Rect.unit (s := S1x512x512) ![0, 0, 0] S1x512x512.size inb_S1x512x512_S1x512x512_0_0_0).toLoadRect (ha.unread x)) (ix2 r l)
      = x (ix3 (0 : Fin 1) r l) := by
  rw [View.readAt_eq_ld, ha.read_unread]
  unfold k0_pay1
  pointwise

/-- The rows stored by store 2 are the block's own rows. -/
theorem pay2_rows {κ : Kind} {sp : Space} (a : Memref sig κ sp S1x512x512 .bf16) (ha : a.IsWhole) (x : Vec Ideal S1x512x512 .bf16) (r l : Fin 512) :
    k0_pay2 (F := Ideal) (View.readAt (Elt Ideal) a.view
      (Rect.unit (s := S1x512x512) ![0, 0, 0] S1x512x512.size inb_S1x512x512_S1x512x512_0_0_0).toLoadRect (ha.unread x)) (ix2 r l)
      = x (ix3 (0 : Fin 1) r l) := by
  rw [View.readAt_eq_ld, ha.read_unread]
  unfold k0_pay2
  pointwise

/-- The rows stored by store 3 are the block's own rows. -/
theorem pay3_rows {κ : Kind} {sp : Space} (a : Memref sig κ sp S1x512x512 .bf16) (ha : a.IsWhole) (x : Vec Ideal S1x512x512 .bf16) (r l : Fin 512) :
    k0_pay3 (F := Ideal) (View.readAt (Elt Ideal) a.view
      (Rect.unit (s := S1x512x512) ![0, 0, 0] S1x512x512.size inb_S1x512x512_S1x512x512_0_0_0).toLoadRect (ha.unread x)) (ix2 r l)
      = x (ix3 (0 : Fin 1) r l) := by
  rw [View.readAt_eq_ld, ha.read_unread]
  unfold k0_pay3
  pointwise

/-- The rows stored by store 4 are the block's own rows. -/
theorem pay4_rows {κ : Kind} {sp : Space} (a : Memref sig κ sp S1x512x512 .bf16) (ha : a.IsWhole) (x : Vec Ideal S1x512x512 .bf16) (r l : Fin 512) :
    k0_pay4 (F := Ideal) (View.readAt (Elt Ideal) a.view
      (Rect.unit (s := S1x512x512) ![0, 0, 0] S1x512x512.size inb_S1x512x512_S1x512x512_0_0_0).toLoadRect (ha.unread x)) (ix2 r l)
      = x (ix3 (0 : Fin 1) r l) := by
  rw [View.readAt_eq_ld, ha.read_unread]
  unfold k0_pay4
  pointwise

/-- Every store of a grid point's run holds the block's values at the places it covers. -/
theorem run_pieces (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x64x576 .f32) (harg7 : arg7.IsWhole) (arg8 : Memref sig .tc .vmem S1x512x512 .bf16) (harg8 : arg8.IsWhole) (arg9 : Memref sig .tc .vmem S1024x512 .bf16) (harg9 : arg9.IsWhole) (arg10 : Memref sig .tc .vmem S1024x512 .bf16) (harg10 : arg10.IsWhole)
    (x0 : Vec Ideal S1x512x512 .bf16) (x1 : Vec Ideal S1x512x512 .bf16) (x2 : Vec Ideal S1x512x512 .bf16) (x3 : Vec Ideal S1x512x512 .bf16) (x4 : Vec Ideal S1x512x512 .bf16) (x5 : Vec Ideal S8x64x576 .f32) :
    ∀ q ∈ (kernelRun0_A (F := Ideal) c i arg2 harg2 arg3 harg3 arg4 harg4 arg5 harg5 arg6 harg6 arg7 harg7 arg8 harg8 arg9 harg9 arg10 harg10 x0 x1 x2 x3 x4 x5).1, ∀ x : q.1.shape.Idx,
      q.2 x = blockOut (Scalar.cmpi .sgt (BitVec.ofNat 32 (i 1).val) 0#32) x0 (staged x1 x2) (staged x3 x4) x5 (q.1.emb x 1) (q.1.emb x 2) := by
  unfold kernelRun0_A
  dsimp only
  intro q hq x
  have h := trips_list c none i arg2 harg2 arg3 harg3 arg4 harg4 arg5 harg5 arg6 harg6 arg7 harg7 arg8 harg8 arg9 harg9 arg10 harg10 _ _ _ _ _ _ (by decide) q hq x
  rw [h, harg2.read_unread, harg7.read_unread]
  sl_unfold_words
  congr 1
  · exact stage_read arg9.view x1 x2 inb_S1024x512_S512x512_512_0 inb_S1024x512_S512x512_0_0 _ _ (pay2_rows arg4 harg4 x2) (pay1_rows arg3 harg3 x1)
  · exact stage_read arg10.view x3 x4 inb_S1024x512_S512x512_512_0 inb_S1024x512_S512x512_0_0 _ _ (pay4_rows arg6 harg6 x4) (pay3_rows arg5 harg5 x3)

/-- A grid point leaves the block's values in its output block. -/
theorem out_eq (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x64x576 .f32) (harg7 : arg7.IsWhole) (arg8 : Memref sig .tc .vmem S1x512x512 .bf16) (harg8 : arg8.IsWhole) (arg9 : Memref sig .tc .vmem S1024x512 .bf16) (harg9 : arg9.IsWhole) (arg10 : Memref sig .tc .vmem S1024x512 .bf16) (harg10 : arg10.IsWhole)
    (x0 : Vec Ideal S1x512x512 .bf16) (x1 : Vec Ideal S1x512x512 .bf16) (x2 : Vec Ideal S1x512x512 .bf16) (x3 : Vec Ideal S1x512x512 .bf16) (x4 : Vec Ideal S1x512x512 .bf16) (x5 : Vec Ideal S8x64x576 .f32) (y : S1x512x512.Idx) :
    out0_A_6 (F := Ideal) c i arg2 harg2 arg3 harg3 arg4 harg4 arg5 harg5 arg6 harg6 arg7 harg7 arg8 harg8 arg9 harg9 arg10 harg10 x0 x1 x2 x3 x4 x5 y
      = blockOut (Scalar.cmpi .sgt (BitVec.ofNat 32 (i 1).val) 0#32) x0 (staged x1 x2) (staged x3 x4) x5 (y 1) (y 2) := by
  unfold out0_A_6
  rw [View.read_writes_junk_eq_canon]
  exact View.canon_apply_of_pieces (fun y : S1x512x512.Idx => blockOut (Scalar.cmpi .sgt (BitVec.ofNat 32 (i 1).val) 0#32) x0 (staged x1 x2) (staged x3 x4) x5 (y 1) (y 2)) _
    (run_pieces c i arg2 harg2 arg3 harg3 arg4 harg4 arg5 harg5 arg6 harg6 arg7 harg7 arg8 harg8 arg9 harg9 arg10 harg10 x0 x1 x2 x3 x4 x5) y (cover0_A_6 c i arg2 harg2 arg3 harg3 arg4 harg4 arg5 harg5 arg6 harg6 arg7 harg7 arg8 harg8 arg9 harg9 arg10 harg10 x0 x1 x2 x3 x4 x5 y)

end Cert.Band

end
-- ==== Proof.Band.Words.lean ====
/- Signed values of the small words both programs compute positions with. -/
module

public import Idealize.ShloMosaic.Lib.Pointwise
public import Idealize.ShloMosaic.Lib.Affine

@[expose] public section

set_option maxRecDepth 16384

noncomputable section

namespace Cert.Band

open Idealize.ShloMosaic Idealize.ShloMosaic.TcCoe Idealize.SL.Sem

/-- The signed value of a small word. -/
theorem toInt_small (n : Nat) (h : n < 2 ^ 31) : (BitVec.ofNat 32 n).toInt = n := by
  rw [BitVec.toInt_eq_toNat_of_lt (by rw [BitVec.toNat_ofNat]; omega), BitVec.toNat_ofNat]
  congr 1
  omega

/-- A sum that stays in range. -/
theorem toInt_addi (x y : BitVec 32) (h1 : -2 ^ 31 ≤ x.toInt + y.toInt) (h2 : x.toInt + y.toInt < 2 ^ 31) :
    (IntOp.addi x y).toInt = x.toInt + y.toInt := by
  unfold IntOp.addi
  rw [BitVec.toInt_add]
  exact Int.bmod_eq_of_le (by omega) (by omega)

/-- A difference that stays in range. -/
theorem toInt_subi (x y : BitVec 32) (h1 : -2 ^ 31 ≤ x.toInt - y.toInt) (h2 : x.toInt - y.toInt < 2 ^ 31) :
    (IntOp.subi x y).toInt = x.toInt - y.toInt := by
  unfold IntOp.subi
  rw [BitVec.toInt_sub]
  exact Int.bmod_eq_of_le (by omega) (by omega)

/-- A product that stays in range. -/
theorem toInt_muli (x y : BitVec 32) (h1 : -2 ^ 31 ≤ x.toInt * y.toInt) (h2 : x.toInt * y.toInt < 2 ^ 31) :
    (IntOp.muli x y).toInt = x.toInt * y.toInt := by
  unfold IntOp.muli
  rw [BitVec.toInt_mul]
  exact Int.bmod_eq_of_le (by omega) (by omega)

/-- The smaller of two words. -/
theorem toInt_minsi (x y : BitVec 32) : (IntOp.minsi x y).toInt = min x.toInt y.toInt := by
  unfold IntOp.minsi
  simp only [BitVec.slt_iff_toInt_lt, BitVec.sle_iff_toInt_le]
  split <;> omega

/-- The larger of two words. -/
theorem toInt_maxsi (x y : BitVec 32) : (IntOp.maxsi x y).toInt = max x.toInt y.toInt := by
  unfold IntOp.maxsi
  simp only [BitVec.slt_iff_toInt_lt, BitVec.sle_iff_toInt_le]
  split <;> omega

/-- The row of the bias table for a distance: clipped to 256 on either side and put at 0. -/
theorem clip_word (x : BitVec 32) (d : Int) (hx : x.toInt = d) :
    (IntOp.addi (IntOp.minsi 256#32 (IntOp.maxsi 4294967040#32 x)) 256#32).toInt = min 256 (max (-256) d) + 256 := by
  have h1 : (256#32 : BitVec 32).toInt = 256 := by decide
  have h2 : (4294967040#32 : BitVec 32).toInt = -256 := by decide
  have h3 : (IntOp.minsi 256#32 (IntOp.maxsi 4294967040#32 x)).toInt = min 256 (max (-256) d) := by
    rw [toInt_minsi, toInt_maxsi, h1, h2, hx]
  rw [toInt_addi _ _ (by rw [h1, h3]; omega) (by rw [h1, h3]; omega), h1, h3]

/-- A nonnegative word passes the negative-index wrap unchanged. -/
theorem wrap_word (x y : BitVec 32) (h : 0 ≤ x.toInt) :
    Scalar.select (IntOp.cmpi .slt x 0#32) y x = x := by
  have : ¬ IntOp.cmpi .slt x 0#32 = 1#1 := by
    rw [IntOp.cmpi_slt]
    simp
    omega
  exact if_neg this

end Cert.Band

end
-- ==== Proof.Band.Bias.lean ====
/- The arrays the kernel reads: the token rows, and the bias plane gathered from the relative positions. -/
module

public import proofs.«01_k».proof.Proof.Gen.KernelIdeal.Value
public import proofs.«01_k».proof.Proof.Band.Words
public import Idealize.ShloMosaic.Lib.Pointwise
public import Idealize.ShloMosaic.Lib.StableHlo.ReadAt

@[expose] public section

set_option maxHeartbeats 4000000
set_option maxRecDepth 16384

noncomputable section

namespace Cert.Band

open Idealize.ShloMosaic Idealize.ShloMosaic.TcCoe Idealize.SL.Sem

open Cert.KernelIdeal Cert.KernelIdeal.Gen

variable (m : (ℓ : Loc nD τ sig) → Buf (Elt Ideal) ℓ)

/-- A gather of bias rows at a row and a head: the table at the clamped start index. -/
theorem gather_k (T : FVec Ideal S513x8 .f32) (idx : IVec S639x1 32) (t : Fin 639) (h : Fin 8) :
   Host.gather gather_S513x8_S639x1_S639x8_1_0_n_n_0_1_18 T idx (ix2 t h) = T (ix2 ⟨min (idx (ix2 t (0 : Fin 1))).toInt.toNat 512, by omega⟩ h) := by
  unfold Host.gather
  congr 1
  funext a
  refine Fin.ext ?_
  show GatherDims.start _ (ix2 t h) idx a + GatherDims.batchCoord _ (ix2 t h) a + GatherDims.offCoord _ (ix2 t h) a = _
  obtain rfl | rfl : a = 0 ∨ a = 1 := by
    match a with
    | ⟨0, _⟩ => exact Or.inl rfl
    | ⟨1, _⟩ => exact Or.inr rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S513x8_S639x1_S639x8_1_0_n_n_0_1_18.startIndexMap from List.mem_singleton.mpr rfl)]
    have hsi : gather_S513x8_S639x1_S639x8_1_0_n_n_0_1_18.siIdx (ix2 t h) ⟨List.idxOf (0 : Fin 2) gather_S513x8_S639x1_S639x8_1_0_n_n_0_1_18.startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (show (1 : Fin 2) ∉ gather_S513x8_S639x1_S639x8_1_0_n_n_0_1_18.startIndexMap by decide)]
    simp only [Nat.add_zero, Nat.zero_add]
    rfl

/-- The start indices of the kernel's gather: the offset `t − 575`, clipped to 256 on both sides and counted from 256. -/
def biasIdx : IVec S639x1 32 := (broadcastInDim S639x1 ![0] bcast_S639_S639x1_0
          (select
            (cmpi CmpIPredicate.slt
              (addi
                (minsi (broadcastInDim S639 ![] bcast_S_S639 (id (constantI S_ 32 256#32)))
                  (maxsi (broadcastInDim S639 ![] bcast_S_S639 (id (constantI S_ 32 4294967040#32)))
                    (subi
                      (addi (broadcastInDim S639 ![] bcast_S_S639 (constantI S_ 32 4294967233#32))
                        (iotaInDim S639 32 0))
                      (broadcastInDim S639 ![] bcast_S_S639 (constantI S_ 32 512#32)))))
                (broadcastInDim S639 ![] bcast_S_S639 (constantI S_ 32 256#32)))
              (broadcastInDim S639 ![] bcast_S_S639 (constantI S_ 32 0#32)))
            (addi
              (addi
                (minsi (broadcastInDim S639 ![] bcast_S_S639 (id (constantI S_ 32 256#32)))
                  (maxsi (broadcastInDim S639 ![] bcast_S_S639 (id (constantI S_ 32 4294967040#32)))
                    (subi
                      (addi (broadcastInDim S639 ![] bcast_S_S639 (constantI S_ 32 4294967233#32))
                        (iotaInDim S639 32 0))
                      (broadcastInDim S639 ![] bcast_S_S639 (constantI S_ 32 512#32)))))
                (broadcastInDim S639 ![] bcast_S_S639 (constantI S_ 32 256#32)))
              (broadcastInDim S639 ![] bcast_S_S639 (constantI S_ 32 513#32)))
            (addi
              (minsi (broadcastInDim S639 ![] bcast_S_S639 (id (constantI S_ 32 256#32)))
                (maxsi (broadcastInDim S639 ![] bcast_S_S639 (id (constantI S_ 32 4294967040#32)))
                  (subi
                    (addi (broadcastInDim S639 ![] bcast_S_S639 (constantI S_ 32 4294967233#32)) (iotaInDim S639 32 0))
                    (broadcastInDim S639 ![] bcast_S_S639 (constantI S_ 32 512#32)))))
              (broadcastInDim S639 ![] bcast_S_S639 (constantI S_ 32 256#32)))))
theorem biasIdx_apply (t : Fin 639) : (biasIdx (ix2 t (0 : Fin 1))).toInt = min 256 (max (-256) ((t.val : Int) - 575)) + 256 := by
  unfold biasIdx
  pointwise
  have e1 : id (constantI S_ 32 256#32) ix0 = 256#32 := rfl
  have e2 : id (constantI S_ 32 4294967040#32) ix0 = 4294967040#32 := rfl
  simp only [e1, e2]
  have h1 : (4294967233#32 : BitVec 32).toInt = -63 := by decide
  have h2 : (512#32 : BitVec 32).toInt = 512 := by decide
  have h3 : (IntOp.addi 4294967233#32 (BitVec.ofNat 32 t.val)).toInt = -63 + t.val := by
    rw [toInt_addi _ _ (by rw [h1, toInt_small _ (by omega)]; omega) (by rw [h1, toInt_small _ (by omega)]; omega), h1, toInt_small _ (by omega)]
  have h4 : (IntOp.subi (IntOp.addi 4294967233#32 (BitVec.ofNat 32 t.val)) 512#32).toInt = (t.val : Int) - 575 := by
    rw [toInt_subi _ _ (by rw [h3, h2]; omega) (by rw [h3, h2]; omega), h3, h2]; omega
  have h5 := clip_word _ _ h4
  rw [wrap_word _ _ (by rw [h5]; omega), h5]

/-- The bias plane the kernel reads: the table at the clipped distance of key `k` from query `q`. -/
theorem V_bias (c : Dev nD) (h : Fin 8) (q : Fin 64) (k : Fin 576) (T : FVec Ideal S513x8 .f32) (hT : m ((c : Thread nD τ).loc main_arg1) = T) :
   V m c main_v22 (ix3 h q k) = T (ix2 ⟨(min 256 (max (-256) ((k.val : Int) - q.val - 512)) + 256).toNat, by omega⟩ h) := by
  have hk : (q.val * 639 + (63 + k.val)) % 640 = 63 + k.val - q.val := by
    rw [show q.val * 639 + (63 + k.val) = (63 + k.val - q.val) + 640 * q.val by omega, Nat.add_mul_mod_self_left, Nat.mod_eq_of_lt (by omega)]
  have hm : (q.val * 639 + (63 + k.val)) % 640 < 639 := by rw [hk]; omega
  have hb := biasIdx_apply ⟨(q.val * 639 + (63 + k.val)) % 640, hm⟩
  unfold biasIdx at hb
  unfold V
  after_reads_at
  rw [dif_pos hm]
  clean_types
  rw [gather_k]
  refine (congrFun hT _).trans ?_
  refine congrArg (fun z => T (ix2 z h)) (Fin.ext ?_)
  dsimp only
  rw [hb]
  dsimp only
  rw [hk]
  omega
/-- The token rows the kernel reads are the first argument. -/
theorem V_tok (c : Dev nD) (h : Fin 18432) (q : Fin 6144) :
   V m c main_v23 (ix3 (0 : Fin 1) h q) = m ((c : Thread nD τ).loc main_arg0) (ix2 h q) := by
  unfold V
  after_reads_at

end Cert.Band

end
-- ==== Proof.Band.Array.lean ====
/- The output array of the kernel, as one function of the token rows and the bias table. -/
module

public import proofs.«01_k».proof.Proof.Band.Block
public import proofs.«01_k».proof.Proof.Band.Bias
public import Idealize.ShloMosaic.Lib.Pipeline.ValueKit.Geometry

@[expose] public section

set_option maxRecDepth 16384

noncomputable section

namespace Cert.Band

open Cert.KernelIdeal Cert.KernelIdeal.Gen Idealize.ShloMosaic Idealize.ShloMosaic.TcCoe Idealize.SL.Sem
open scoped BigOperators

variable (m : (ℓ : Loc nD τ sig) → Buf (Elt Ideal) ℓ)

/-- The token row staged at place `p` for block `g`: the previous block of the same batch (or the first block itself),
    then block `g`. -/
def kernRow (g : Fin 32) (p : Fin 1024) : Fin 18432 :=
  if p.val < 512 then ⟨512 * (8 * (g.val / 8) + (g.val % 8 - 1)) + p.val, by omega⟩
  else ⟨512 * g.val + (p.val - 512), by omega⟩

/-- The place in the stage of key `w` of the window of query row `r`. -/
def place (r : Fin 512) (w : Fin 576) : Fin 1024 := ⟨64 * (r.val / 64) + w.val, by omega⟩

/-- The row of the bias table for key `w` of query row `r`: the distance, clipped to 256 on both sides. -/
def relRow (r : Fin 512) (w : Fin 576) : Fin 513 :=
  ⟨(min 256 (max (-256) ((w.val : Int) - ((r.val % 64 : Nat) : Int) - 512)) + 256).toNat, by omega⟩

/-- The logits of query row `r` of block `g` at the head of column `col`. -/
def bandLogits (X : FVec Ideal S18432x6144 .bf16) (T : FVec Ideal S513x8 .f32) (g : Fin 32) (r col : Fin 512)
    (w : Fin 576) : EReal :=
  if 512 ≤ 64 * (r.val / 64) + w.val ∨ 0 < g.val % 8 then
    (∑ e : Fin 64, X (ix2 ⟨512 * g.val + r.val, by omega⟩ ⟨64 * (col.val / 64) + e.val, by omega⟩)
        * X (ix2 (kernRow g (place r w)) ⟨512 + (64 * (col.val / 64) + e.val), by omega⟩))
      * Ideal.ofBits .f32 0x3E000000#32
      + T (ix2 (relRow r w) ⟨col.val / 64, by omega⟩)
  else ⊥

/-- The values of query row `r` of block `g` at column `col`. -/
def bandValues (X : FVec Ideal S18432x6144 .bf16) (g : Fin 32) (r col : Fin 512) (w : Fin 576) : EReal :=
  X (ix2 (kernRow g (place r w)) ⟨1024 + col.val, by omega⟩)

theorem index0 : ∀ t : Fin cfg0.N, win0_0.index t = ![0, t.val, 0] := (by decide +kernel : ∀ t : Fin grid0.N, _)
theorem index1 : ∀ t : Fin cfg0.N, win0_1.index t = ![0, 8 * (t.val / 8) + (t.val % 8 - 1), 1] := (by decide +kernel : ∀ t : Fin grid0.N, _)
theorem index2 : ∀ t : Fin cfg0.N, win0_2.index t = ![0, t.val, 1] := (by decide +kernel : ∀ t : Fin grid0.N, _)
theorem index3 : ∀ t : Fin cfg0.N, win0_3.index t = ![0, 8 * (t.val / 8) + (t.val % 8 - 1), 2] := (by decide +kernel : ∀ t : Fin grid0.N, _)
theorem index4 : ∀ t : Fin cfg0.N, win0_4.index t = ![0, t.val, 2] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![t.val, 0, 0] := (by decide +kernel : ∀ t : Fin grid0.N, _)
theorem coords1 : ∀ t : Fin cfg0.N, Scalar.cmpi .sgt (BitVec.ofNat 32 (grid0.coords t 1).val) 0#32 = if 0 < t.val % 8 then 1#1 else 0#1 :=
  (by decide +kernel : ∀ t : Fin grid0.N, _)

variable (X : FVec Ideal S18432x6144 .bf16) (T : FVec Ideal S513x8 .f32)

theorem block0 (c : Dev nD) (hX : m ((c : Thread nD τ).loc main_arg0) = X) (t : Fin cfg0.N) (r l : Fin 512) :
    iblk m c 0 t (ix3 (0 : Fin 1) r l) = X (ix2 ⟨512 * t.val + r.val, by have : t.val < 32 := t.isLt; omega⟩ ⟨l.val, by omega⟩) := by
  have : t.val < 32 := t.isLt
  rw [← hX]
  refine Eq.trans ?_ (V_tok m c ⟨512 * t.val + r.val, by omega⟩ ⟨l.val, by omega⟩)
  blk_simp [iblk]
  refine congrArg (V m c main_v23) ?_
  blk_ext [index0]
theorem block1 (c : Dev nD) (hX : m ((c : Thread nD τ).loc main_arg0) = X) (t : Fin cfg0.N) (r l : Fin 512) :
    iblk m c 1 t (ix3 (0 : Fin 1) r l) = X (ix2 ⟨512 * (8 * (t.val / 8) + (t.val % 8 - 1)) + r.val, by have : t.val < 32 := t.isLt; omega⟩ ⟨512 + l.val, by omega⟩) := by
  have : t.val < 32 := t.isLt
  rw [← hX]
  refine Eq.trans ?_ (V_tok m c ⟨512 * (8 * (t.val / 8) + (t.val % 8 - 1)) + r.val, by omega⟩ ⟨512 + l.val, by omega⟩)
  blk_simp [iblk]
  refine congrArg (V m c main_v23) ?_
  blk_ext [index1]
theorem block2 (c : Dev nD) (hX : m ((c : Thread nD τ).loc main_arg0) = X) (t : Fin cfg0.N) (r l : Fin 512) :
    iblk m c 2 t (ix3 (0 : Fin 1) r l) = X (ix2 ⟨512 * t.val + r.val, by have : t.val < 32 := t.isLt; omega⟩ ⟨512 + l.val, by omega⟩) := by
  have : t.val < 32 := t.isLt
  rw [← hX]
  refine Eq.trans ?_ (V_tok m c ⟨512 * t.val + r.val, by omega⟩ ⟨512 + l.val, by omega⟩)
  blk_simp [iblk]
  refine congrArg (V m c main_v23) ?_
  blk_ext [index2]
theorem block3 (c : Dev nD) (hX : m ((c : Thread nD τ).loc main_arg0) = X) (t : Fin cfg0.N) (r l : Fin 512) :
    iblk m c 3 t (ix3 (0 : Fin 1) r l) = X (ix2 ⟨512 * (8 * (t.val / 8) + (t.val % 8 - 1)) + r.val, by have : t.val < 32 := t.isLt; omega⟩ ⟨1024 + l.val, by omega⟩) := by
  have : t.val < 32 := t.isLt
  rw [← hX]
  refine Eq.trans ?_ (V_tok m c ⟨512 * (8 * (t.val / 8) + (t.val % 8 - 1)) + r.val, by omega⟩ ⟨1024 + l.val, by omega⟩)
  blk_simp [iblk]
  refine congrArg (V m c main_v23) ?_
  blk_ext [index3]
theorem block4 (c : Dev nD) (hX : m ((c : Thread nD τ).loc main_arg0) = X) (t : Fin cfg0.N) (r l : Fin 512) :
    iblk m c 4 t (ix3 (0 : Fin 1) r l) = X (ix2 ⟨512 * t.val + r.val, by have : t.val < 32 := t.isLt; omega⟩ ⟨1024 + l.val, by omega⟩) := by
  have : t.val < 32 := t.isLt
  rw [← hX]
  refine Eq.trans ?_ (V_tok m c ⟨512 * t.val + r.val, by omega⟩ ⟨1024 + l.val, by omega⟩)
  blk_simp [iblk]
  refine congrArg (V m c main_v23) ?_
  blk_ext [index4]
theorem block5 (c : Dev nD) (hT : m ((c : Thread nD τ).loc main_arg1) = T) (t : Fin cfg0.N) (h : Fin 8) (q : Fin 64) (k : Fin 576) :
    iblk m c 5 t (ix3 h q k) = T (ix2 ⟨(min 256 (max (-256) ((k.val : Int) - q.val - 512)) + 256).toNat, by omega⟩ h) := by
  rw [← V_bias m c h q k T hT]
  blk_simp [iblk]
  refine congrArg (V m c main_v22) ?_
  blk_ext [index5]

/-- The staged keys and values of a point are the rows `kernRow` of the tokens. -/
theorem staged_apply (a b : Vec Ideal S1x512x512 .bf16) (t : Fin 32) (o : Nat) (ho : o + 512 ≤ 6144)
    (ha : ∀ r l : Fin 512, a (ix3 (0 : Fin 1) r l) = X (ix2 ⟨512 * (8 * (t.val / 8) + (t.val % 8 - 1)) + r.val, by omega⟩ ⟨o + l.val, by omega⟩))
    (hb : ∀ r l : Fin 512, b (ix3 (0 : Fin 1) r l) = X (ix2 ⟨512 * t.val + r.val, by omega⟩ ⟨o + l.val, by omega⟩))
    (p : Fin 1024) (l : Fin 512) : staged a b (ix2 p l) = X (ix2 (kernRow t p) ⟨o + l.val, by omega⟩) := by
  unfold staged kernRow
  by_cases h : p.val < 512
  · rw [dif_pos (show ((ix2 p l) 0).val < 512 from h), if_pos h]
    exact ha _ _
  · rw [dif_neg (show ¬ ((ix2 p l) 0).val < 512 from h), if_neg h]
    exact hb _ _

/-- A block's values over staged rows that are the tokens' are the band's. -/
theorem blockOut_eq (g : Fin 32) (pv : BitVec 1) (x0 : Vec Ideal S1x512x512 .bf16) (K V : Vec Ideal S1024x512 .bf16)
    (x5 : Vec Ideal S8x64x576 .f32) (r col : Fin 512) (hpv : pv = 1#1 ↔ 0 < g.val % 8)
    (h0 : ∀ r l : Fin 512, x0 (ix3 (0 : Fin 1) r l) = X (ix2 ⟨512 * g.val + r.val, by omega⟩ ⟨l.val, by omega⟩))
    (hK : ∀ (p : Fin 1024) (l : Fin 512), K (ix2 p l) = X (ix2 (kernRow g p) ⟨512 + l.val, by omega⟩))
    (hV : ∀ (p : Fin 1024) (l : Fin 512), V (ix2 p l) = X (ix2 (kernRow g p) ⟨1024 + l.val, by omega⟩))
    (h5 : ∀ (h : Fin 8) (q : Fin 64) (k : Fin 576), x5 (ix3 h q k)
      = T (ix2 ⟨(min 256 (max (-256) ((k.val : Int) - q.val - 512)) + 256).toNat, by omega⟩ h)) :
    blockOut pv x0 K V x5 r col = attendLate (bandLogits X T g r col) (bandValues X g r col) := by
  unfold blockOut
  refine congrArg₂ attendLate ?_ ?_
  · funext w
    unfold bandLogits
    refine if_congr (or_congr Iff.rfl hpv) ?_ rfl
    refine congrArg₂ (· + ·) (congrArg (· * _) (Finset.sum_congr rfl fun e _ => ?_)) (h5 _ _ _)
    exact congrArg₂ (· * ·) (h0 _ _) (hK _ _)
  · funext w
    exact hV _ _

/-- THE OUTPUT ARRAY after the run: at each block, row and column, the weighted values over the band. -/
theorem array_eq (c : Dev nD) (hX : m ((c : Thread nD τ).loc main_arg0) = X) (hT : m ((c : Thread nD τ).loc main_arg1) = T) :
    (dats m 0 c).arrAt 6 cfg0.N
      = (fun y : S32x512x512.Idx => attendLate (bandLogits X T (y 0) (y 1) (y 2)) (bandValues X (y 0) (y 1) (y 2))) := by
  refine (dats m 0 c).arrAt_eq_of_covers 6 _ (by decide +kernel) fun t hf y => ?_
  obtain ⟨a, r, l, rfl⟩ : ∃ (a : Fin 1) (r l : Fin 512), y = ix3 a r l := ⟨_, _, _, ValueIdx.eq_ix3 y⟩
  have ht : t.val < 32 := t.isLt
  have he : ((cfg0.win 6).blk t).view.emb (ix3 a r l) = ix3 (⟨t.val, ht⟩ : Fin 32) r l := by
    blk_ext [index6]
  rw [he]
  blk_simp
  rw [after0_6]
  unfold outsAt0
  refine (out_eq _ _ _ _ _ _ _ _ _ _ _ _ _ _ _ _ _ _ _ _ _ _ _ _ _ _ _).trans ?_
  exact blockOut_eq X T ⟨t.val, ht⟩ _ _ _ _ _ r l (by rw [coords1 t]; show _ ↔ 0 < t.val % 8; by_cases h : 0 < t.val % 8 <;> simp [h])
    (block0 m X c hX t)
    (staged_apply X _ _ ⟨t.val, ht⟩ 512 (by omega) (block1 m X c hX t) (block2 m X c hX t))
    (staged_apply X _ _ ⟨t.val, ht⟩ 1024 (by omega) (block3 m X c hX t) (block4 m X c hX t))
    (block5 m T c hT t)

end Cert.Band

end
-- ==== Proof.Band.RefKeys.lean ====
/- The keys and values of the reference: the rows of a chunk's band, zero before the batch's first row. -/
module

public import proofs.«01_k».proof.Proof.Gen.ReferenceIdeal.Run
public import Idealize.ShloMosaic.Lib.Pointwise
public import Idealize.ShloMosaic.Lib.StableHlo.ReadAt

@[expose] public section

set_option maxRecDepth 16384

noncomputable section

namespace Cert.Band.Ref

open Cert.ReferenceIdeal Cert.ReferenceIdeal.Gen Cert.ReferenceIdeal.Value Idealize.ShloMosaic Idealize.ShloMosaic.TcCoe Idealize.SL.Sem Idealize.ShloMosaic.StableHlo
open scoped BigOperators

/-- The token entry at band place `p` of batch `b` (512 places before the batch's first row hold zero). -/
def bandEntry (X : FVec Ideal S18432x6144 .bf16) (b : Fin 4) (p : Nat) (col : Fin 6144) : EReal :=
  if h : 512 ≤ p ∧ p < 512 + 4096 then X (ix2 ⟨b.val * 4096 + (p - 512), by omega⟩ col) else 0

/-- The integer zero, read as a float, is zero. -/
theorem zero_word : sitofp (F := Ideal) .f32 (constantI S_ 32 0#32) ix0 = 0 := by
  show ((((0#32 : BitVec 32).toInt : ℝ)) : EReal) = 0
  simp

variable (V0 : Valuation τ sig (Elt Ideal)) (X : FVec Ideal S18432x6144 .bf16)

/-- The projected rows by batch. -/
theorem v2_apply (hX : V0 (Proc.devRef .tc main_arg0) = X) (b : Fin 4) (t : Fin 4096) (j : Fin 6144) :
    res_main_v2 (F := Ideal) V0 (ix3 b t j) = X (ix2 ⟨b.val * 4096 + t.val, by omega⟩ j) := by
  unfold res_main_v2
  rw [hX]
  clean_types
  pointwise

/-- Eight chunks of zeros before the batch's chunks. -/
theorem pad_apply (P : FVec Ideal S4x64x64x2x8x64 .f32) (b : Fin 4) (n : Fin 72) (t : Fin 64) (u : Fin 2) (h : Fin 8) (j : Fin 64) :
    pad S4x72x64x2x8x64 ![0, 8, 0, 0, 0, 0] ![0, 0, 0, 0, 0, 0] ![0, 0, 0, 0, 0, 0] P (sitofp (F := Ideal) .f32 (constantI S_ 32 0#32)) pads_S4x64x64x2x8x64_S4x72x64x2x8x64_000_800_000_000_000_000 h_S_ (ix6 b n t u h j)
      = if h8 : 8 ≤ n.val then P (ix6 b (⟨n.val - 8, by omega⟩ : Fin 64) t u h j) else 0 := by
  pointwise
  by_cases h8 : 8 ≤ n.val
  · rw [dif_pos h8, dif_pos (show 8 ≤ n.val ∧ n.val - 8 < 64 by omega)]
  · rw [dif_neg h8, dif_neg (show ¬ (8 ≤ n.val ∧ n.val - 8 < 64) by omega)]
    exact zero_word

/-- Rows grouped into chunks of 64. -/
theorem cast_apply (P : FVec Ideal S4x4096x2x8x64 .f32) (b : Fin 4) (n : Fin 64) (t : Fin 64) (u : Fin 2) (h : Fin 8) (j : Fin 64) :
    shapeCast S4x64x64x2x8x64 P shapeCasts_S4x4096x2x8x64_S4x64x64x2x8x64 (ix6 b n t u h j)
      = P (ix5 b (⟨n.val * 64 + t.val, by omega⟩ : Fin 4096) u h j) := by
  pointwise

/-- Keys and values side by side. -/
theorem cat_apply (P Q : FVec Ideal S4x4096x1x8x64 .f32) (b : Fin 4) (n : Fin 4096) (u : Fin 2) (h : Fin 8) (j : Fin 64) :
    concatenate S4x4096x2x8x64 2 [⟨S4x4096x1x8x64, P⟩, ⟨S4x4096x1x8x64, Q⟩] concatenates_S4x4096x1x8x64_S4x4096x1x8x64_S4x4096x2x8x64_d2 (ix5 b n u h j)
      = if u.val < 1 then P (ix5 b n (0 : Fin 1) h j) else Q (ix5 b n (0 : Fin 1) h j) := by
  pointwise
  by_cases hu : u.val < 1
  · rw [dif_pos hu, if_pos hu]
    exact congrArg (fun z => P (ix5 b n z h j)) (Subsingleton.elim _ _)
  · rw [dif_neg hu, if_neg hu]
    exact congrArg (fun z => Q (ix5 b n z h j)) (Subsingleton.elim _ _)

/-- The keys are the columns from 512. -/
theorem keys_apply (P : FVec Ideal S4x4096x6144 .f32)  (b : Fin 4) (n : Fin 4096) (u : Fin 1) (h : Fin 8) (j : Fin 64) :
    (broadcastInDim S4x4096x1x8x64 ![0, 1, 3, 4] bcast_S4x4096x8x64_S4x4096x1x8x64_0_1_3_4 (shapeCast S4x4096x8x64 (extractStridedSlice S4x4096x512 ![0, 0, 512] P slices_S4x4096x6144_S4x4096x512_0_0_512) shapeCasts_S4x4096x512_S4x4096x8x64)) (ix5 b n u h j)
      = P (ix3 b n (⟨512 + (h.val * 64 + j.val), by omega⟩ : Fin 6144)) := by
  pointwise

/-- The values are the columns from 1024. -/
theorem values_apply (P : FVec Ideal S4x4096x6144 .f32)  (b : Fin 4) (n : Fin 4096) (u : Fin 1) (h : Fin 8) (j : Fin 64) :
    (broadcastInDim S4x4096x1x8x64 ![0, 1, 3, 4] bcast_S4x4096x8x64_S4x4096x1x8x64_0_1_3_4 (shapeCast S4x4096x8x64 (extractStridedSlice S4x4096x512 ![0, 0, 1024] P slices_S4x4096x6144_S4x4096x512_0_0_1024) shapeCasts_S4x4096x512_S4x4096x8x64)) (ix5 b n u h j)
      = P (ix3 b n (⟨1024 + (h.val * 64 + j.val), by omega⟩ : Fin 6144)) := by
  pointwise

/-- The padded chunks of keys (`u = 0`) and values (`u = 1`). -/
theorem v14_apply (hX : V0 (Proc.devRef .tc main_arg0) = X) (b : Fin 4) (n : Fin 72) (t : Fin 64) (u : Fin 2) (h : Fin 8) (j : Fin 64) :
    res_main_v14 (F := Ideal) V0 (ix6 b n t u h j)
      = bandEntry X b (64 * n.val + t.val) ⟨512 * (u.val + 1) + (64 * h.val + j.val), by omega⟩ := by
  unfold res_main_v14
  refine (pad_apply _ b n t u h j).trans ?_
  unfold bandEntry
  by_cases h8 : 8 ≤ n.val
  · rw [dif_pos h8, dif_pos (show 512 ≤ 64 * n.val + t.val ∧ 64 * n.val + t.val < 512 + 4096 by omega)]
    refine (cast_apply _ b _ t u h j).trans ?_
    refine (cat_apply _ _ b _ u h j).trans ?_
    by_cases hu : u.val < 1
    · rw [if_pos hu]
      refine (keys_apply _ b _ _ h j).trans ((v2_apply V0 X hX _ _ _).trans (congrArg₂ (fun (a : Fin 18432) (b : Fin 6144) => X (ix2 a b)) (Fin.ext ?_) (Fin.ext ?_)))
      · show b.val * 4096 + ((n.val - 8) * 64 + t.val) = b.val * 4096 + (64 * n.val + t.val - 512)
        omega
      · show 512 + (h.val * 64 + j.val) = 512 * (u.val + 1) + (64 * h.val + j.val)
        omega
    · rw [if_neg hu]
      refine (values_apply _ b _ _ h j).trans ((v2_apply V0 X hX _ _ _).trans (congrArg₂ (fun (a : Fin 18432) (b : Fin 6144) => X (ix2 a b)) (Fin.ext ?_) (Fin.ext ?_)))
      · show b.val * 4096 + ((n.val - 8) * 64 + t.val) = b.val * 4096 + (64 * n.val + t.val - 512)
        omega
      · show 1024 + (h.val * 64 + j.val) = 512 * (u.val + 1) + (64 * h.val + j.val)
        omega
  · rw [dif_neg h8, dif_neg (show ¬ (512 ≤ 64 * n.val + t.val ∧ 64 * n.val + t.val < 512 + 4096) by omega)]

/-- Nine consecutive chunks side by side. -/
theorem nine_apply (P : FVec Ideal S4x72x64x2x8x64 .f32) (f : Nat → EReal) (b : Fin 4) (n : Fin 64) (t : Fin 576) (u : Fin 2) (h : Fin 8) (j : Fin 64)
    (hP : ∀ (a : Fin 72) (s : Fin 64), P (ix6 b a s u h j) = f (64 * a.val + s.val)) :
    concatenate S4x64x576x2x8x64 2 [⟨S4x64x64x2x8x64, (extractStridedSlice S4x64x64x2x8x64 ![0, 0, 0, 0, 0, 0] P slices_S4x72x64x2x8x64_S4x64x64x2x8x64_0_0_0_0_0_0)⟩, ⟨S4x64x64x2x8x64, (extractStridedSlice S4x64x64x2x8x64 ![0, 1, 0, 0, 0, 0] P slices_S4x72x64x2x8x64_S4x64x64x2x8x64_0_1_0_0_0_0)⟩, ⟨S4x64x64x2x8x64, (extractStridedSlice S4x64x64x2x8x64 ![0, 2, 0, 0, 0, 0] P slices_S4x72x64x2x8x64_S4x64x64x2x8x64_0_2_0_0_0_0)⟩, ⟨S4x64x64x2x8x64, (extractStridedSlice S4x64x64x2x8x64 ![0, 3, 0, 0, 0, 0] P slices_S4x72x64x2x8x64_S4x64x64x2x8x64_0_3_0_0_0_0)⟩, ⟨S4x64x64x2x8x64, (extractStridedSlice S4x64x64x2x8x64 ![0, 4, 0, 0, 0, 0] P slices_S4x72x64x2x8x64_S4x64x64x2x8x64_0_4_0_0_0_0)⟩, ⟨S4x64x64x2x8x64, (extractStridedSlice S4x64x64x2x8x64 ![0, 5, 0, 0, 0, 0] P slices_S4x72x64x2x8x64_S4x64x64x2x8x64_0_5_0_0_0_0)⟩, ⟨S4x64x64x2x8x64, (extractStridedSlice S4x64x64x2x8x64 ![0, 6, 0, 0, 0, 0] P slices_S4x72x64x2x8x64_S4x64x64x2x8x64_0_6_0_0_0_0)⟩, ⟨S4x64x64x2x8x64, (extractStridedSlice S4x64x64x2x8x64 ![0, 7, 0, 0, 0, 0] P slices_S4x72x64x2x8x64_S4x64x64x2x8x64_0_7_0_0_0_0)⟩, ⟨S4x64x64x2x8x64, (extractStridedSlice S4x64x64x2x8x64 ![0, 8, 0, 0, 0, 0] P slices_S4x72x64x2x8x64_S4x64x64x2x8x64_0_8_0_0_0_0)⟩] concatenates_S4x64x64x2x8x64_S4x64x64x2x8x64_S4x64x64x2x8x64_S4x64x64x2x8x64_S4x64x64x2x8x64_S4x64x64x2x8x64_S4x64x64x2x8x64_S4x64x64x2x8x64_S4x64x64x2x8x64_S4x64x576x2x8x64_d2 (ix6 b n t u h j)
      = f (64 * n.val + t.val) := by
  pointwise
  repeat' split
  all_goals
    refine (hP _ _).trans (congrArg f ?_)
    first | omega | (dsimp only; done) | (dsimp only; omega)

/-- The band of chunk `n`: nine consecutive chunks of keys and values. -/
theorem v24_apply (hX : V0 (Proc.devRef .tc main_arg0) = X) (b : Fin 4) (n : Fin 64) (t : Fin 576) (u : Fin 2) (h : Fin 8) (j : Fin 64) :
    res_main_v24 (F := Ideal) V0 (ix6 b n t u h j)
      = bandEntry X b (64 * n.val + t.val) ⟨512 * (u.val + 1) + (64 * h.val + j.val), by omega⟩ := by
  unfold res_main_v24
  exact nine_apply _ (fun p => bandEntry X b p _) b n t u h j fun a s => v14_apply V0 X hX b a s u h j

end Cert.Band.Ref

end
-- ==== Proof.Band.RefPos.lean ====
/- Positions, chunks and distances of the reference, as signed words. -/
module

public import proofs.«01_k».proof.Proof.Gen.ReferenceIdeal.Run
public import Idealize.ShloMosaic.Lib.Pointwise
public import Idealize.ShloMosaic.Lib.StableHlo.ReadAt
public import proofs.«01_k».proof.Proof.Band.Words

@[expose] public section

set_option maxRecDepth 16384

noncomputable section

namespace Cert.Band.Ref

open Cert.ReferenceIdeal Cert.ReferenceIdeal.Gen Cert.ReferenceIdeal.Value Idealize.ShloMosaic Idealize.ShloMosaic.TcCoe Idealize.SL.Sem Idealize.ShloMosaic.StableHlo
open scoped BigOperators

variable (V0 : Valuation τ sig (Elt Ideal))

/-- The floor of a word's quotient by 64, as the reference computes it, on the range of key positions. -/
theorem floor_word : ∀ d : Fin 4608,
    Scalar.select (IntOp.andi
        (IntOp.cmpi .ne (if (BitVec.ofInt 32 ((d.val : Int) - 512)) = 0#32 then 0#32 else if (BitVec.ofInt 32 ((d.val : Int) - 512)).msb then 4294967295#32 else 1#32) 1#32)
        (IntOp.cmpi .ne (IntOp.remsi .host (BitVec.ofInt 32 ((d.val : Int) - 512)) 64#32) 0#32))
      (IntOp.subi (IntOp.divsi .host (BitVec.ofInt 32 ((d.val : Int) - 512)) 64#32) 1#32)
      (IntOp.divsi .host (BitVec.ofInt 32 ((d.val : Int) - 512)) 64#32)
    = BitVec.ofInt 32 ((d.val : Int) / 64 - 8) := by decide +kernel

/-- Words of small integers keep their value. -/
theorem toInt_ofInt (d : Int) (h1 : -2147483648 ≤ d) (h2 : d < 2147483648) : (BitVec.ofInt 32 d).toInt = d := by
  rw [BitVec.toInt_ofInt]
  exact Int.bmod_eq_of_le (by omega) (by omega)

/-- The key position. -/
theorem v42_apply (n : Fin 64) (t : Fin 576) :
    res_main_v42 (F := Ideal) V0 (ix2 n t) = BitVec.ofInt 32 (((64 * n.val + t.val : Nat) : Int) - 512) := by
  unfold res_main_v42
  clean_types
  pointwise
  have h8 : (4294967288#32 : BitVec 32).toInt = -8 := by decide
  have h64 : (64#32 : BitVec 32).toInt = 64 := by decide
  have e1 : (IntOp.addi 4294967288#32 (BitVec.ofNat 32 (t.val / 64))).toInt = -8 + ((t.val / 64 : Nat) : Int) := by
    rw [toInt_addi _ _ (by rw [h8, toInt_small _ (by omega)]; omega) (by rw [h8, toInt_small _ (by omega)]; omega), h8, toInt_small _ (by omega)]
  have e2 : (IntOp.addi (BitVec.ofNat 32 n.val) (IntOp.addi 4294967288#32 (BitVec.ofNat 32 (t.val / 64)))).toInt = n.val + (-8 + ((t.val / 64 : Nat) : Int)) := by
    rw [toInt_addi _ _ (by rw [e1, toInt_small _ (by omega)]; omega) (by rw [e1, toInt_small _ (by omega)]; omega), e1, toInt_small _ (by omega)]
  have e3 : (IntOp.muli (IntOp.addi (BitVec.ofNat 32 n.val) (IntOp.addi 4294967288#32 (BitVec.ofNat 32 (t.val / 64)))) 64#32).toInt = (n.val + (-8 + ((t.val / 64 : Nat) : Int))) * 64 := by
    rw [toInt_muli _ _ (by rw [e2, h64]; omega) (by rw [e2, h64]; omega), e2, h64]
  refine BitVec.eq_of_toInt_eq ?_
  rw [toInt_addi _ _ (by rw [e3, toInt_small _ (by omega)]; omega) (by rw [e3, toInt_small _ (by omega)]; omega), e3, toInt_small _ (by omega),
    toInt_ofInt _ (by omega) (by omega)]
  omega

/-- The query position. -/
theorem v48_apply (n : Fin 64) (q : Fin 64) :
    res_main_v48 (F := Ideal) V0 (ix2 n q) = BitVec.ofInt 32 (((64 * n.val + q.val + 512 : Nat) : Int) - 512) := by
  unfold res_main_v48
  clean_types
  pointwise
  refine BitVec.eq_of_toInt_eq ?_
  rw [toInt_small _ (by omega), toInt_ofInt _ (by omega) (by omega)]
  omega

/-- The query's chunk. -/
theorem v50_apply (n : Fin 64) (q : Fin 64) :
    res_main_v50 (F := Ideal) V0 (ix3 n q (0 : Fin 1)) = BitVec.ofInt 32 (n.val) := by
  unfold res_main_v50 res_main_call1_v2 res_main_call1_v0
  clean_types
  pointwise [v48_apply]
  refine (floor_word ⟨64 * n.val + q.val + 512, by omega⟩).trans (congrArg (BitVec.ofInt 32) ?_)
  dsimp only
  omega

/-- The key's chunk. -/
theorem v52_apply (n : Fin 64) (t : Fin 576) :
    res_main_v52 (F := Ideal) V0 (ix3 n (0 : Fin 1) t) = BitVec.ofInt 32 (((n.val + t.val / 64 : Nat) : Int) - 8) := by
  unfold res_main_v52 res_main_call2_v2 res_main_call2_v0
  clean_types
  pointwise [v42_apply]
  refine (floor_word ⟨64 * n.val + t.val, by omega⟩).trans (congrArg (BitVec.ofInt 32) ?_)
  dsimp only
  omega

/-- The clipped distance of key from query, counted from 256. -/
theorem v74_apply (n : Fin 64) (q : Fin 64) (t : Fin 576) :
    (res_main_v74 (F := Ideal) V0 (ix3 n q t)).toInt = min 256 (max (-256) ((t.val : Int) - q.val - 512)) + 256 := by
  unfold res_main_v74
  clean_types
  pointwise [v42_apply, v48_apply]
  refine clip_word _ _ ?_
  rw [toInt_subi _ _ (by rw [toInt_ofInt _ (by omega) (by omega), toInt_ofInt _ (by omega) (by omega)]; omega) (by rw [toInt_ofInt _ (by omega) (by omega), toInt_ofInt _ (by omega) (by omega)]; omega),
    toInt_ofInt _ (by omega) (by omega), toInt_ofInt _ (by omega) (by omega)]
  omega

/-- The reference's mask keeps exactly the keys at or after the batch's first row. -/
theorem mask_word (n : Fin 64) (q : Fin 64) (t : Fin 576) :
    IntOp.andi (IntOp.andi (IntOp.cmpi .sle (res_main_v52 (F := Ideal) V0 (ix3 n (0 : Fin 1) t)) (res_main_v50 (F := Ideal) V0 (ix3 n q (0 : Fin 1))))
        (IntOp.cmpi .sge (res_main_v52 (F := Ideal) V0 (ix3 n (0 : Fin 1) t)) (IntOp.subi (res_main_v50 (F := Ideal) V0 (ix3 n q (0 : Fin 1))) 8#32)))
      (IntOp.cmpi .sge (res_main_v42 (F := Ideal) V0 (ix2 n t)) 0#32) = 1#1 ↔ 512 ≤ 64 * n.val + t.val := by
  have h8 : (8#32 : BitVec 32).toInt = 8 := by decide
  have h0 : (0#32 : BitVec 32).toInt = 0 := by decide
  have e50 : (BitVec.ofInt 32 (n.val : Int)).toInt = n.val := toInt_ofInt _ (by omega) (by omega)
  rw [IntOp.andi_eq_one, IntOp.andi_eq_one, IntOp.cmpi_sle, IntOp.cmpi_sge, IntOp.cmpi_sge, v50_apply, v52_apply, v42_apply,
    toInt_subi _ _ (by rw [e50, h8]; omega) (by rw [e50, h8]; omega), e50, h8, h0,
    toInt_ofInt _ (by omega) (by omega), toInt_ofInt _ (by omega) (by omega)]
  omega

end Cert.Band.Ref

end
-- ==== Proof.Band.RefSoft.lean ====
/- The softmax and the weighted values of the reference, for any logits, keys and values. -/
module

public import proofs.«01_k».proof.Proof.Gen.ReferenceIdeal.Run
public import Idealize.ShloMosaic.Lib.Pointwise
public import Idealize.ShloMosaic.Lib.StableHlo.ReadAt
public import proofs.«01_k».proof.Proof.Band.Soft

@[expose] public section

set_option maxRecDepth 16384

noncomputable section

namespace Cert.Band.Ref

open Cert.ReferenceIdeal Cert.ReferenceIdeal.Gen Cert.ReferenceIdeal.Value Idealize.ShloMosaic Idealize.ShloMosaic.TcCoe Idealize.SL.Sem Idealize.ShloMosaic.StableHlo
open scoped BigOperators

/-- The unnormalised softmax weights of any logits, as the reference's operations compute them. -/
def softOf (s : FVec Ideal S4x64x8x64x576 .f32) : FVec Ideal S4x64x8x64x576 .f32 :=
  Host.exp (subf s (broadcastInDim S4x64x8x64x576 ![0, 1, 2, 3, 4] bcast_S4x64x8x64x1_S4x64x8x64x576_0_1_2_3_4 (broadcastInDim S4x64x8x64x1 ![0, 1, 2, 3] bcast_S4x64x8x64_S4x64x8x64x1_0_1_2_3 (maximumf (broadcastInDim S4x64x8x64 ![] bcast_S_S4x64x8x64 (constant S_ .f32 0xFF800000#32)) (Host.reduce FloatOps.maximumf s (constant S_ .f32 0xFF800000#32) reducesTo_S4x64x8x64x576_S4x64x8x64_d4 h_S_)))))

/-- The largest logit of a query, as the host's reduction computes it. -/
theorem max_apply (s : FVec Ideal S4x64x8x64x576 .f32) (b : Fin 4) (n : Fin 64) (h : Fin 8) (q : Fin 64) :
    Host.reduce FloatOps.maximumf s (constant (F := Ideal) S_ .f32 0xFF800000#32) reducesTo_S4x64x8x64x576_S4x64x8x64_d4 h_S_ (ix4 b n h q)
      = Finset.univ.fold max (Ideal.ofBits .f32 0xFF800000#32) (fun x : Fin 576 => s (ix5 b n h q x)) := by
  pointwise

/-- The sum of a query's weights, as the host's reduction computes it. -/
theorem total_apply (w : FVec Ideal S4x64x8x64x576 .f32) (b : Fin 4) (n : Fin 64) (h : Fin 8) (q : Fin 64) :
    Host.reduceAdd w (constant (F := Ideal) S_ .f32 0x00000000#32) reducesTo_S4x64x8x64x576_S4x64x8x64_d4 h_S_ (ix4 b n h q)
      = ∑ x : Fin 576, w (ix5 b n h q x) := by
  pointwise

/-- The exponential of the logits less a value per query. -/
theorem exp_apply (s : FVec Ideal S4x64x8x64x576 .f32) (m : FVec Ideal S4x64x8x64 .f32) (b : Fin 4) (n : Fin 64) (h : Fin 8) (q : Fin 64) (t : Fin 576) :
    Host.exp (subf s (broadcastInDim S4x64x8x64x576 ![0, 1, 2, 3, 4] bcast_S4x64x8x64x1_S4x64x8x64x576_0_1_2_3_4 (broadcastInDim S4x64x8x64x1 ![0, 1, 2, 3] bcast_S4x64x8x64_S4x64x8x64x1_0_1_2_3 (maximumf (broadcastInDim S4x64x8x64 ![] bcast_S_S4x64x8x64 (constant S_ .f32 0xFF800000#32)) m)))) (ix5 b n h q t)
      = Ideal.exp (s (ix5 b n h q t) - max (Ideal.ofBits .f32 0xFF800000#32) (m (ix4 b n h q))) := by
  pointwise

/-- The weights divided by a value per query. -/
theorem div_apply (w : FVec Ideal S4x64x8x64x576 .f32) (m : FVec Ideal S4x64x8x64 .f32)  (b : Fin 4) (n : Fin 64) (h : Fin 8) (q : Fin 64) (x : Fin 576) :
    Host.divf w (broadcastInDim S4x64x8x64x576 ![0, 1, 2, 3, 4] bcast_S4x64x8x64x1_S4x64x8x64x576_0_1_2_3_4 (broadcastInDim S4x64x8x64x1 ![0, 1, 2, 3] bcast_S4x64x8x64_S4x64x8x64x1_0_1_2_3 m)) (ix5 b n h q x)
      = Ideal.div (w (ix5 b n h q x)) (m (ix4 b n h q)) := by
  pointwise

/-- They are the softmax's weights. -/
theorem softOf_apply (s : FVec Ideal S4x64x8x64x576 .f32) (b : Fin 4) (n : Fin 64) (h : Fin 8) (q : Fin 64) (t : Fin 576) :
    softOf s (ix5 b n h q t) = weight (fun x => s (ix5 b n h q x)) t := by
  have hb : Ideal.ofBits .f32 0xFF800000#32 = ⊥ := by simp [Ideal.ofBits, Ideal.ieee]
  unfold softOf
  refine (exp_apply _ _ b n h q t).trans ?_
  rw [max_apply, hb]
  unfold weight
  rw [← max_bot_rowMax]
  rfl

/-- The reference's weights are the softmax's of its masked logits. -/
theorem v97_eq (V0 : Valuation τ sig (Elt Ideal)) : res_main_v97 (F := Ideal) V0 = softOf (res_main_v90 (F := Ideal) V0) := by
  unfold res_main_v97 softOf
  rfl

/-- The reference's weighted values, from its unnormalised weights and its keys-and-values array. -/
def mixOf (w : FVec Ideal S4x64x8x64x576 .f32) (kv : FVec Ideal S4x64x576x2x8x64 .f32) : FVec Ideal S32x512x512 .bf16 :=
  (truncf .bf16 (shapeCast _ (transpose S4x64x64x8x64 [0, 1, 4, 2, 3] (Host.dotGeneral (F := Ideal) dot_S4x64x576x8x64_S4x64x8x64x576_S4x64x8x64x64_2_4_4_3_013_012 none (shapeCast _ (extractStridedSlice S4x64x576x1x8x64 ![0, 0, 0, 1, 0, 0] kv slices_S4x64x576x2x8x64_S4x64x576x1x8x64_0_0_0_1_0_0) shapeCasts_S4x64x576x1x8x64_S4x64x576x8x64) (Host.divf w (broadcastInDim S4x64x8x64x576 ![0, 1, 2, 3, 4] bcast_S4x64x8x64x1_S4x64x8x64x576_0_1_2_3_4 (broadcastInDim S4x64x8x64x1 ![0, 1, 2, 3] bcast_S4x64x8x64_S4x64x8x64x1_0_1_2_3 (Host.reduceAdd w (constant S_ .f32 0x00000000#32) reducesTo_S4x64x8x64x576_S4x64x8x64_d4 h_S_))))) transposes_S4x64x8x64x64_S4x64x64x8x64_0_1_4_2_3) shapeCasts_S4x64x64x8x64_S32x512x512) bitsLt_bf16_f32 : FVec Ideal S32x512x512 .bf16)

/-- The rows of the result: batch and chunk of a block's row, head and lane of a column. -/
theorem rows_apply (D : FVec Ideal S4x64x8x64x64 .f32) (g : Fin 32) (r col : Fin 512) :
    (truncf .bf16 (shapeCast _ (transpose S4x64x64x8x64 [0, 1, 4, 2, 3] D transposes_S4x64x8x64x64_S4x64x64x8x64_0_1_4_2_3) shapeCasts_S4x64x64x8x64_S32x512x512 : FVec Ideal S32x512x512 .f32) bitsLt_bf16_f32 : FVec Ideal S32x512x512 .bf16) (ix3 g r col)
      = D (ix5 (⟨g.val / 8, by omega⟩ : Fin 4) (⟨g.val % 8 * 8 + r.val / 64, by omega⟩ : Fin 64) (⟨col.val / 64, by omega⟩ : Fin 8) (⟨col.val % 64, by omega⟩ : Fin 64) (⟨r.val % 64, by omega⟩ : Fin 64)) := by
  pointwise

/-- The contraction over the band's keys. -/
theorem mix_dot (A : FVec Ideal S4x64x576x8x64 .f32) (B : FVec Ideal S4x64x8x64x576 .f32) (b : Fin 4) (n : Fin 64) (h : Fin 8) (d : Fin 64) (q : Fin 64) :
    Host.dotGeneral (F := Ideal) (φ₁ := .f32) (φ₂ := .f32) dot_S4x64x576x8x64_S4x64x8x64x576_S4x64x8x64x64_2_4_4_3_013_012 none A B (ix5 b n h d q)
      = ∑ x : Fin 576, A (ix5 b n x h d) * B (ix5 b n h q x) := by
  pointwise

/-- The values' half of the band. -/
theorem values_half (kv : FVec Ideal S4x64x576x2x8x64 .f32) (b : Fin 4) (n : Fin 64) (x : Fin 576) (h : Fin 8) (d : Fin 64) :
    shapeCast S4x64x576x8x64 (extractStridedSlice S4x64x576x1x8x64 ![0, 0, 0, 1, 0, 0] kv slices_S4x64x576x2x8x64_S4x64x576x1x8x64_0_0_0_1_0_0) shapeCasts_S4x64x576x1x8x64_S4x64x576x8x64 (ix5 b n x h d)
      = kv (ix6 b n x (1 : Fin 2) h d) := by
  pointwise

/-- The keys' half of the band. -/
theorem keys_half (kv : FVec Ideal S4x64x576x2x8x64 .f32) (b : Fin 4) (n : Fin 64) (x : Fin 576) (h : Fin 8) (d : Fin 64) :
    shapeCast S4x64x576x8x64 (extractStridedSlice S4x64x576x1x8x64 ![0, 0, 0, 0, 0, 0] kv slices_S4x64x576x2x8x64_S4x64x576x1x8x64_0_0_0_0_0_0) shapeCasts_S4x64x576x1x8x64_S4x64x576x8x64 (ix5 b n x h d)
      = kv (ix6 b n x (0 : Fin 2) h d) := by
  pointwise

/-- Each entry of the result: the normalised weights against the values. -/
theorem mixOf_apply (w : FVec Ideal S4x64x8x64x576 .f32) (kv : FVec Ideal S4x64x576x2x8x64 .f32) (g : Fin 32) (r col : Fin 512) :
    mixOf w kv (ix3 g r col) = ∑ x : Fin 576, kv (ix6 (⟨g.val / 8, by omega⟩ : Fin 4) (⟨g.val % 8 * 8 + r.val / 64, by omega⟩ : Fin 64) x (1 : Fin 2) (⟨col.val / 64, by omega⟩ : Fin 8) (⟨col.val % 64, by omega⟩ : Fin 64))
      * Ideal.div (w (ix5 (⟨g.val / 8, by omega⟩ : Fin 4) (⟨g.val % 8 * 8 + r.val / 64, by omega⟩ : Fin 64) (⟨col.val / 64, by omega⟩ : Fin 8) (⟨r.val % 64, by omega⟩ : Fin 64) x))
          (∑ x' : Fin 576, w (ix5 (⟨g.val / 8, by omega⟩ : Fin 4) (⟨g.val % 8 * 8 + r.val / 64, by omega⟩ : Fin 64) (⟨col.val / 64, by omega⟩ : Fin 8) (⟨r.val % 64, by omega⟩ : Fin 64) x')) := by
  unfold mixOf
  refine (rows_apply _ g r col).trans ((mix_dot _ _ _ _ _ _ _).trans (Finset.sum_congr rfl fun x _ => ?_))
  exact congrArg₂ (· * ·) (values_half _ _ _ _ _ _) ((div_apply _ _ _ _ _ _ _).trans (congrArg _ (total_apply _ _ _ _ _)))

end Cert.Band.Ref

end
-- ==== Proof.Band.RefLogits.lean ====
/- The masked logits of the reference. -/
module

public import proofs.«01_k».proof.Proof.Band.RefKeys
public import proofs.«01_k».proof.Proof.Band.RefPos
public import proofs.«01_k».proof.Proof.Band.RefSoft

@[expose] public section

set_option maxRecDepth 16384

noncomputable section

namespace Cert.Band.Ref

open Cert.ReferenceIdeal Cert.ReferenceIdeal.Gen Cert.ReferenceIdeal.Value Idealize.ShloMosaic Idealize.ShloMosaic.TcCoe Idealize.SL.Sem Idealize.ShloMosaic.StableHlo
open scoped BigOperators

/-- A gather of bias rows at a query, a key and a head: the table at the clamped start index. -/
theorem gather_r (T : FVec Ideal S513x8 .f32) (idx : IVec S64x64x576x1 32) (n q : Fin 64) (t : Fin 576) (h : Fin 8) :
    Host.gather gather_S513x8_S64x64x576x1_S64x64x576x8_3_0_n_n_0_3_18 T idx (ix4 n q t h) = T (ix2 ⟨min (idx (ix4 n q t (0 : Fin 1))).toInt.toNat 512, by omega⟩ h) := by
  unfold Host.gather
  congr 1
  funext a
  refine Fin.ext ?_
  show GatherDims.start _ (ix4 n q t h) idx a + GatherDims.batchCoord _ (ix4 n q t h) a + GatherDims.offCoord _ (ix4 n q t h) a = _
  obtain rfl | rfl : a = 0 ∨ a = 1 := by
    match a with
    | ⟨0, _⟩ => exact Or.inl rfl
    | ⟨1, _⟩ => exact Or.inr rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S513x8_S64x64x576x1_S64x64x576x8_3_0_n_n_0_3_18.startIndexMap from List.mem_singleton.mpr rfl)]
    have hsi : gather_S513x8_S64x64x576x1_S64x64x576x8_3_0_n_n_0_3_18.siIdx (ix4 n q t h) ⟨List.idxOf (0 : Fin 2) gather_S513x8_S64x64x576x1_S64x64x576x8_3_0_n_n_0_3_18.startIndexMap,
        List.idxOf_lt_length_iff.2 (List.mem_singleton.mpr rfl)⟩ = ix4 n q t (0 : Fin 1) := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (show (1 : Fin 2) ∉ gather_S513x8_S64x64x576x1_S64x64x576x8_3_0_n_n_0_3_18.startIndexMap by decide)]
    simp only [Nat.add_zero, Nat.zero_add]
    rfl

/-- The start indices, one per query and key. -/
theorem start_apply (v74 : IVec S64x64x576 32) (n q : Fin 64) (t : Fin 576) :
    (broadcastInDim S64x64x576x1 ![0, 1, 2] bcast_S64x64x576_S64x64x576x1_0_1_2 (select (cmpi .slt v74 (broadcastInDim S64x64x576 ![] bcast_S_S64x64x576 (constantI S_ 32 0#32))) (addi v74 (broadcastInDim S64x64x576 ![] bcast_S_S64x64x576 (constantI S_ 32 513#32))) v74)) (ix4 n q t (0 : Fin 1))
      = Scalar.select (IntOp.cmpi .slt (v74 (ix3 n q t)) 0#32) (IntOp.addi (v74 (ix3 n q t)) 513#32) (v74 (ix3 n q t)) := by
  pointwise

/-- The contraction of queries and keys. -/
theorem logit_dot (A : FVec Ideal S4x64x64x8x64 .f32) (B : FVec Ideal S4x64x576x8x64 .f32) (b : Fin 4) (n : Fin 64) (h : Fin 8) (q : Fin 64) (t : Fin 576) :
    Host.dotGeneral (F := Ideal) (φ₁ := .f32) (φ₂ := .f32) dot_S4x64x64x8x64_S4x64x576x8x64_S4x64x8x64x576_4_4_2_2_013_013 none A B (ix5 b n h q t)
      = ∑ e : Fin 64, A (ix5 b n q h e) * B (ix5 b n t h e) := by
  pointwise

/-- The queries are the columns before 512. -/
theorem query_apply (P : FVec Ideal S4x4096x6144 .f32) (b : Fin 4) (n q : Fin 64) (h : Fin 8) (e : Fin 64) :
    (shapeCast S4x64x64x8x64 (shapeCast S4x4096x8x64 (extractStridedSlice S4x4096x512 ![0, 0, 0] P slices_S4x4096x6144_S4x4096x512_0_0_0) shapeCasts_S4x4096x512_S4x4096x8x64) shapeCasts_S4x4096x8x64_S4x64x64x8x64) (ix5 b n q h e)
      = P (ix3 b (⟨n.val * 64 + q.val, by omega⟩ : Fin 4096) (⟨h.val * 64 + e.val, by omega⟩ : Fin 6144)) := by
  pointwise

/-- The bias planes, one per head. -/
theorem plane_apply (G : FVec Ideal S64x64x576x8 .f32) (b : Fin 4) (n : Fin 64) (h : Fin 8) (q : Fin 64) (t : Fin 576) :
    (broadcastInDim S4x64x8x64x576 ![0, 1, 2, 3, 4] bcast_S1x64x8x64x576_S4x64x8x64x576_0_1_2_3_4 (broadcastInDim S1x64x8x64x576 ![1, 2, 3, 4] bcast_S64x8x64x576_S1x64x8x64x576_1_2_3_4 (transpose S64x8x64x576 [0, 3, 1, 2] G transposes_S64x64x576x8_S64x8x64x576_0_3_1_2))) (ix5 b n h q t)
      = G (ix4 n q t h) := by
  pointwise

/-- The mask, one per chunk, query and key. -/
theorem mask_apply (v52 : IVec S64x1x576 32) (v50 : IVec S64x64x1 32) (v42 : IVec S64x576 32) (b : Fin 4) (n : Fin 64) (h : Fin 8) (q : Fin 64) (t : Fin 576) :
    (broadcastInDim S4x64x8x64x576 ![1, 2, 3, 4] bcast_S64x1x64x576_S4x64x8x64x576_1_2_3_4 (broadcastInDim S64x1x64x576 ![0, 2, 3] bcast_S64x64x576_S64x1x64x576_0_2_3 (andi (andi (cmpi .sle (broadcastInDim S64x64x576 ![0, 1, 2] bcast_S64x1x576_S64x64x576_0_1_2 v52) (broadcastInDim S64x64x576 ![0, 1, 2] bcast_S64x64x1_S64x64x576_0_1_2 v50)) (cmpi .sge (broadcastInDim S64x64x576 ![0, 1, 2] bcast_S64x1x576_S64x64x576_0_1_2 v52) (broadcastInDim S64x64x576 ![0, 1, 2] bcast_S64x64x1_S64x64x576_0_1_2 (subi v50 (broadcastInDim S64x64x1 ![] bcast_S_S64x64x1 (constantI S_ 32 8#32)))))) (broadcastInDim S64x64x576 ![0, 1, 2] bcast_S64x1x576_S64x64x576_0_1_2 (cmpi .sge (broadcastInDim S64x1x576 ![0, 2] bcast_S64x576_S64x1x576_0_2 v42) (broadcastInDim S64x1x576 ![] bcast_S_S64x1x576 (constantI S_ 32 0#32))))))) (ix5 b n h q t)
      = IntOp.andi (IntOp.andi (IntOp.cmpi .sle (v52 (ix3 n (0 : Fin 1) t)) (v50 (ix3 n q (0 : Fin 1))))
        (IntOp.cmpi .sge (v52 (ix3 n (0 : Fin 1) t)) (IntOp.subi (v50 (ix3 n q (0 : Fin 1))) 8#32)))
      (IntOp.cmpi .sge (v42 (ix2 n t)) 0#32) := by
  pointwise

/-- The masked logits entry by entry. -/
theorem select_entry (M : IVec S4x64x8x64x576 1) (A C B N : FVec Ideal S4x64x8x64x576 .f32) (i : S4x64x8x64x576.Idx) :
    select M (addf (mulf A C) B) N i = if M i = 1#1 then A i * C i + B i else N i := rfl

/-- A scalar spread over the logits. -/
theorem spread_apply (c : FVec Ideal S_ .f32) (i : S4x64x8x64x576.Idx) : broadcastInDim S4x64x8x64x576 ![] bcast_S_S4x64x8x64x576 c i = c ix0 := by
  refine congrArg c ?_
  funext k; exact k.elim0

variable (V0 : Valuation τ sig (Elt Ideal)) (X : FVec Ideal S18432x6144 .bf16) (T : FVec Ideal S513x8 .f32)

/-- The reference's masked logits. -/
theorem v90_apply (hX : V0 (Proc.devRef .tc main_arg0) = X) (hT : V0 (Proc.devRef .tc main_arg1) = T)
    (b : Fin 4) (n : Fin 64) (h : Fin 8) (q : Fin 64) (t : Fin 576) :
    res_main_v90 (F := Ideal) V0 (ix5 b n h q t) = if 512 ≤ 64 * n.val + t.val then
        (∑ e : Fin 64, X (ix2 ⟨b.val * 4096 + (n.val * 64 + q.val), by omega⟩ ⟨h.val * 64 + e.val, by omega⟩)
          * bandEntry X b (64 * n.val + t.val) ⟨512 + (64 * h.val + e.val), by omega⟩) * Ideal.ofBits .f32 0x3E000000#32
        + T (ix2 ⟨(min 256 (max (-256) ((t.val : Int) - q.val - 512)) + 256).toNat, by omega⟩ h)
      else ⊥ := by
  unfold res_main_v90
  refine (select_entry _ _ _ _ _ _).trans ?_
  refine if_congr ?_ ?_ ?_
  · rw [← mask_word V0 n q t]
    exact Eq.congr (mask_apply _ _ _ b n h q t) rfl
  · refine congrArg₂ (· + ·) (congrArg₂ (· * ·) ((logit_dot _ _ b n h q t).trans (Finset.sum_congr rfl fun e _ => ?_)) (spread_apply _ _)) ?_
    · exact congrArg₂ (· * ·) ((query_apply _ _ _ _ _ _).trans (v2_apply V0 X hX _ _ _)) ((keys_half _ _ _ _ _ _).trans (v24_apply V0 X hX _ _ _ _ _ _))
    · refine (plane_apply _ b n h q t).trans ((gather_r _ _ n q t h).trans ?_)
      rw [hT]
      refine congrArg (fun z => T (ix2 z h)) (Fin.ext ?_)
      have hw := v74_apply V0 n q t
      dsimp only
      rw [start_apply, wrap_word _ _ (by rw [hw]; omega), hw]
      omega
  · refine (spread_apply _ _).trans ?_
    show Ideal.ofBits .f32 0xFF800000#32 = ⊥
    simp [Ideal.ofBits, Ideal.ieee]

end Cert.Band.Ref

end
-- ==== Proof.Band.Finite.lean ====
/- Extended reals that are neither infinity, and the precondition read as saying so of the queries, the keys and
   the bias table. -/
module

public import proofs.«01_k».proof.Proof.Gen.Pre_finite_logits
public import Idealize.ShloMosaic.Lib.Pointwise

@[expose] public section

noncomputable section

namespace Cert.Band

open Idealize.ShloMosaic Idealize.SL.Sem
open scoped BigOperators

/-- Neither infinity. -/
def Tame (x : EReal) : Prop := x ≠ ⊤ ∧ x ≠ ⊥

/-- A tame value is a real number. -/
theorem Tame.real {x : EReal} (h : Tame x) : ∃ r : ℝ, x = (r : EReal) := ⟨x.toReal, (EReal.coe_toReal h.1 h.2).symm⟩

/-- A real number is tame. -/
theorem tame_coe (r : ℝ) : Tame (r : EReal) := ⟨EReal.coe_ne_top r, EReal.coe_ne_bot r⟩

/-- Sums of two tame values are tame. -/
theorem Tame.add {x y : EReal} (hx : Tame x) (hy : Tame y) : Tame (x + y) := by
  obtain ⟨a, rfl⟩ := hx.real
  obtain ⟨b, rfl⟩ := hy.real
  exact EReal.coe_add a b ▸ tame_coe _

/-- Products of two tame values are tame. -/
theorem Tame.mul {x y : EReal} (hx : Tame x) (hy : Tame y) : Tame (x * y) := by
  obtain ⟨a, rfl⟩ := hx.real
  obtain ⟨b, rfl⟩ := hy.real
  exact EReal.coe_mul a b ▸ tame_coe _

/-- Finite sums of tame values are tame. -/
theorem tame_sum {ι : Type} (s : Finset ι) (f : ι → EReal) (h : ∀ i ∈ s, Tame (f i)) : Tame (∑ i ∈ s, f i) := by
  classical
  induction s using Finset.induction_on with
  | empty => exact Finset.sum_empty (f := f) ▸ tame_coe 0
  | insert a t ha ih =>
    rw [Finset.sum_insert ha]
    exact (h a (Finset.mem_insert_self a t)).add (ih fun i hi => h i (Finset.mem_insert_of_mem hi))

/-- The scale of the logits is one eighth. -/
theorem scale_eq : Ideal.ofBits .f32 0x3E000000#32 = ((1 / 8 : ℝ) : EReal) := by
  simp [Ideal.ofBits, Ideal.ieee, -EReal.coe_mul]; norm_num

/-- The f32 infinity's pattern. -/
theorem inf_f32 : Ideal.ofBits .f32 0x7F800000#32 = ⊤ := by simp [Ideal.ofBits, Ideal.ieee]

/-- The bf16 infinity's pattern. -/
theorem inf_bf16 : Ideal.ofBits .bf16 0x7F80#16 = ⊤ := by simp [Ideal.ofBits, Ideal.ieee]

/-- An absolute value compared below the infinity: tame. -/
theorem tame_of_cmp (x t : EReal) (ht : t = ⊤) (h : Ideal.cmp .olt (max x (-x)) t = 1#1) : Tame x := by
  have h' : max x (-x) < t := by
    by_contra hn
    rw [Ideal.cmp_olt, decide_eq_false hn] at h
    exact absurd h (by decide)
  rw [ht, max_lt_iff] at h'
  exact ⟨h'.1.ne, fun hb => by rw [hb] at h'; simp at h'⟩

/-- What the precondition says of the token rows and of the bias table. -/
theorem pre_tame (X : FVec Ideal Cert.Pre_finite_logits.S18432x6144 .bf16) (T : FVec Ideal Cert.Pre_finite_logits.S513x8 .f32)
    (h1 : (Cert.Pre_finite_logits.fn (F := Ideal) X T).1 = (fun _ => 1#1)) (h2 : (Cert.Pre_finite_logits.fn (F := Ideal) X T).2 = (fun _ => 1#1)) :
    (∀ (r : Fin 18432) (c : Fin 6144), r.val < 16384 → c.val < 1024 → Tame (X (ix2 r c))) ∧ (∀ (r : Fin 513) (c : Fin 8), Tame (T (ix2 r c))) := by
  refine ⟨fun r c hr hc => ?_, fun r c => ?_⟩
  · have h := congrFun h1 (ix2 (⟨r.val, hr⟩ : Fin 16384) (⟨c.val, hc⟩ : Fin 1024))
    refine tame_of_cmp _ _ inf_bf16 (Eq.trans ?_ h)
    dsimp only [Cert.Pre_finite_logits.fn]
    show Ideal.cmp .olt _ _ = Ideal.cmp .olt (max (X _) (-(X _))) _
    refine congrArg (fun z => Ideal.cmp .olt (max (X z) (-(X z))) _) ?_
    funext a
    match a with
    | 0 => exact Fin.ext (show r.val = 0 + r.val by omega)
    | 1 => exact Fin.ext (show c.val = 0 + c.val by omega)
  · exact tame_of_cmp _ _ inf_f32 (congrFun h2 (ix2 r c))

end Cert.Band
-- ==== Proof.Band.Equal.lean ====
/- The kernel's chunk-band attention and the reference's, the same array. -/
module

public import proofs.«01_k».proof.Proof.Band.Array
public import proofs.«01_k».proof.Proof.Band.RefLogits
public import proofs.«01_k».proof.Proof.Band.Finite

@[expose] public section

set_option maxRecDepth 16384

noncomputable section

namespace Cert.Band

open Idealize.ShloMosaic Idealize.ShloMosaic.TcCoe Idealize.SL.Sem Idealize.ShloMosaic.StableHlo Cert.KernelIdeal
open scoped BigOperators

/-- A key place of a block that is not masked: the reference's padded row is the row the kernel loads. -/
theorem bandEntry_kernRow (X : FVec Ideal S18432x6144 .bf16) (g : Fin 32) (r : Fin 512) (w : Fin 576) (j : Fin 6144)
    (h : 512 ≤ 64 * (r.val / 64) + w.val ∨ 0 < g.val % 8) (hb : g.val / 8 < 4) :
    Ref.bandEntry X ⟨g.val / 8, hb⟩ (64 * (g.val % 8 * 8 + r.val / 64) + w.val) j = X (ix2 (kernRow g (place r w)) j) := by
  have hg := g.isLt
  have hr := r.isLt
  have hw := w.isLt
  have hc : 512 ≤ 64 * (g.val % 8 * 8 + r.val / 64) + w.val ∧ 64 * (g.val % 8 * 8 + r.val / 64) + w.val < 512 + 4096 := by omega
  unfold Ref.bandEntry
  rw [dif_pos hc]
  refine congrArg (fun z => X (ix2 z j)) (Fin.ext ?_)
  unfold kernRow place
  dsimp only
  split_ifs with hp
  · show _ = 512 * (8 * (g.val / 8) + (g.val % 8 - 1)) + (64 * (r.val / 64) + w.val)
    omega
  · show _ = 512 * g.val + (64 * (r.val / 64) + w.val - 512)
    omega

/-- The reference's logits are the kernel's. -/
theorem logits_eq (V0 : Valuation Cert.ReferenceIdeal.τ Cert.ReferenceIdeal.sig (Elt Ideal)) (X : FVec Ideal S18432x6144 .bf16) (T : FVec Ideal S513x8 .f32)
    (hX : V0 (Proc.devRef .tc Cert.ReferenceIdeal.main_arg0) = X) (hT : V0 (Proc.devRef .tc Cert.ReferenceIdeal.main_arg1) = T)
    (g : Fin 32) (r col : Fin 512) (w : Fin 576) (h1 : g.val / 8 < 4) (h2 : g.val % 8 * 8 + r.val / 64 < 64) (h3 : col.val / 64 < 8) (h4 : r.val % 64 < 64) :
    Cert.ReferenceIdeal.Value.res_main_v90 (F := Ideal) V0 (ix5 (⟨g.val / 8, h1⟩ : Fin 4) (⟨g.val % 8 * 8 + r.val / 64, h2⟩ : Fin 64) (⟨col.val / 64, h3⟩ : Fin 8) (⟨r.val % 64, h4⟩ : Fin 64) w)
      = bandLogits X T g r col w := by
  refine (Ref.v90_apply V0 X T hX hT _ _ _ _ _).trans ?_
  unfold bandLogits
  have hg := g.isLt
  have hr := r.isLt
  have hw := w.isLt
  by_cases h : 512 ≤ 64 * (r.val / 64) + w.val ∨ 0 < g.val % 8
  · rw [if_pos h, if_pos (show 512 ≤ 64 * (g.val % 8 * 8 + r.val / 64) + w.val by omega)]
    refine congrArg₂ (· + ·) (congrArg (· * _) (Finset.sum_congr rfl fun e _ => congrArg₂ (· * ·) ?_ ?_)) rfl
    · refine congrArg X (congrArg₂ ix2 (Fin.ext ?_) (Fin.ext ?_))
      · show g.val / 8 * 4096 + ((g.val % 8 * 8 + r.val / 64) * 64 + r.val % 64) = 512 * g.val + r.val
        omega
      · show col.val / 64 * 64 + e.val = 64 * (col.val / 64) + e.val
        omega
    · exact bandEntry_kernRow X g r w _ h h1
  · rw [if_neg h, if_neg (show ¬ 512 ≤ 64 * (g.val % 8 * 8 + r.val / 64) + w.val by omega)]

/-- A row the band loads at an unmasked place is one of the stream's rows. -/
theorem kernRow_lt (g : Fin 32) (r : Fin 512) (w : Fin 576) : (kernRow g (place r w)).val < 16384 := by
  have hg := g.isLt
  have hr := r.isLt
  have hw := w.isLt
  unfold kernRow place
  dsimp only
  split_ifs with hp
  · show 512 * (8 * (g.val / 8) + (g.val % 8 - 1)) + (64 * (r.val / 64) + w.val) < 16384
    omega
  · show 512 * g.val + (64 * (r.val / 64) + w.val - 512) < 16384
    omega

/-- With tame queries, keys and biases an unmasked logit is tame. -/
theorem bandLogits_tame (X : FVec Ideal S18432x6144 .bf16) (T : FVec Ideal S513x8 .f32)
    (hX : ∀ (r : Fin 18432) (c : Fin 6144), r.val < 16384 → c.val < 1024 → Tame (X (ix2 r c))) (hT : ∀ (r : Fin 513) (c : Fin 8), Tame (T (ix2 r c)))
    (g : Fin 32) (r col : Fin 512) (w : Fin 576) (h : 512 ≤ 64 * (r.val / 64) + w.val ∨ 0 < g.val % 8) : Tame (bandLogits X T g r col w) := by
  unfold bandLogits
  rw [if_pos h]
  refine Tame.add (Tame.mul (tame_sum _ _ fun e _ => Tame.mul (hX _ _ ?_ ?_) (hX _ _ (kernRow_lt g r w) ?_)) (scale_eq ▸ tame_coe _)) (hT _ _)
  · show 512 * g.val + r.val < 16384
    omega
  · show 64 * (col.val / 64) + e.val < 1024
    omega
  · show 512 + (64 * (col.val / 64) + e.val) < 1024
    omega

/-- The reference's weighted mixture is the array the kernel leaves. -/
theorem mix_eq (V0 : Valuation Cert.ReferenceIdeal.τ Cert.ReferenceIdeal.sig (Elt Ideal)) (X : FVec Ideal S18432x6144 .bf16) (T : FVec Ideal S513x8 .f32)
    (hV : V0 (Proc.devRef .tc Cert.ReferenceIdeal.main_arg0) = X) (hV' : V0 (Proc.devRef .tc Cert.ReferenceIdeal.main_arg1) = T)
    (hX : ∀ (r : Fin 18432) (c : Fin 6144), r.val < 16384 → c.val < 1024 → Tame (X (ix2 r c))) (hT : ∀ (r : Fin 513) (c : Fin 8), Tame (T (ix2 r c))) :
    Ref.mixOf (Cert.ReferenceIdeal.Value.res_main_v97 (F := Ideal) V0) (Cert.ReferenceIdeal.Value.res_main_v24 (F := Ideal) V0)
      = (fun y : S32x512x512.Idx => attendLate (bandLogits X T (y 0) (y 1) (y 2)) (bandValues X (y 0) (y 1) (y 2))) := by
  rw [Ref.v97_eq V0]
  funext y
  obtain ⟨g, r, col, rfl⟩ : ∃ (g : Fin 32) (r col : Fin 512), y = ix3 g r col := ⟨y 0, y 1, y 2, by funext a; match a with | 0 => rfl | 1 => rfl | 2 => rfl⟩
  show _ = attendLate (bandLogits X T g r col) (bandValues X g r col)
  have hg := g.isLt
  have hr := r.isLt
  have hcol := col.isLt
  have hs : ∀ w : Fin 576, bandLogits X T g r col w ≠ ⊤ := fun w => by
    by_cases h : 512 ≤ 64 * (r.val / 64) + w.val ∨ 0 < g.val % 8
    · exact (bandLogits_tame X T hX hT g r col w h).1
    · unfold bandLogits
      rw [if_neg h]
      exact bot_ne_top
  have hv : ∀ w : Fin 576, bandLogits X T g r col w ≠ ⊥ → bandValues X g r col w
      = Ref.bandEntry X ⟨g.val / 8, by omega⟩ (64 * (g.val % 8 * 8 + r.val / 64) + w.val) ⟨512 * ((1 : Fin 2).val + 1) + (64 * (col.val / 64) + col.val % 64), by show 512 * (1 + 1) + _ < _; omega⟩ := fun w hw => by
    have h : 512 ≤ 64 * (r.val / 64) + w.val ∨ 0 < g.val % 8 := by
      by_contra h
      refine hw ?_
      unfold bandLogits
      rw [if_neg h]
    rw [bandEntry_kernRow X g r w _ h]
    unfold bandValues
    refine congrArg (fun z => X (ix2 _ z)) (Fin.ext ?_)
    show 1024 + col.val = 512 * (1 + 1) + (64 * (col.val / 64) + col.val % 64)
    omega
  rw [attendLate_eq_attendEarly _ _ _ hs (⟨512, by omega⟩ : Fin 576) (bandLogits_tame X T hX hT g r col _ (Or.inl (by show 512 ≤ 64 * (r.val / 64) + 512; omega))).2 hv]
  refine (Ref.mixOf_apply _ _ g r col).trans ?_
  unfold attendEarly
  have hsoft : ∀ w : Fin 576, Ref.softOf (Cert.ReferenceIdeal.Value.res_main_v90 (F := Ideal) V0) (ix5 (⟨g.val / 8, by omega⟩ : Fin 4) (⟨g.val % 8 * 8 + r.val / 64, by omega⟩ : Fin 64) (⟨col.val / 64, by omega⟩ : Fin 8) (⟨r.val % 64, by omega⟩ : Fin 64) w)
      = weight (bandLogits X T g r col) w := fun w =>
    (Ref.softOf_apply _ _ _ _ _ _).trans (congrArg (fun s => weight s w) (funext fun x => logits_eq V0 X T hV hV' g r col x _ _ _ _))
  refine Finset.sum_congr rfl fun w _ => congrArg₂ (· * ·) (Ref.v24_apply V0 X hV _ _ _ _ _ _) (congrArg₂ Ideal.div (hsoft w) (Finset.sum_congr rfl fun x _ => hsoft x))

end Cert.Band
-- ==== Proof.Experts.UpTablesIdeal.lean ====
/- The tables the up projection's pipeline prefetches, as the host leaves them: the number of used tiles, and for each
   tile the expert of the tile or of the last used one. -/
module

public import proofs.«01_k».proof.Proof.Gen.ExpertUpIdeal.Launch
public import proofs.«01_k».proof.Proof.Gen.ExpertUpIdeal.Skeleton
public import proofs.«01_k».proof.Proof.Band.Words
public import Idealize.ShloMosaic.Lib.Pointwise
public import Idealize.ShloMosaic.Lib.StableHlo.ReadAt
public import Idealize.ShloMosaic.Lib.Pipeline.TableIdle
public import Idealize.ShloMosaic.Lib.Pipeline.FrameBody
public import Idealize.ShloMosaic.Lib.Pipeline.Kit

@[expose] public section

set_option maxHeartbeats 4000000
set_option maxRecDepth 16384

noncomputable section

namespace Cert.ExpertUpIdeal.Tiles

open Idealize.ShloMosaic Idealize.ShloMosaic.TcCoe Idealize.SL.Sem
open Cert.ExpertUpIdeal Cert.ExpertUpIdeal.Gen

variable {F : FTy → Type} [FloatOps F]
variable (m : (ℓ : Loc nD τ sig) → Buf (Elt F) ℓ)

/-- What a buffer holds once the host operations ahead of the call have run. -/
abbrev start (c : Dev nD) (b : Ref sig .tc) : Buf (Elt F) ((c : Thread nD τ).loc b) := StableHlo.after hostOps0 (fun b => m (c, b)) b

/-- The tables at that moment. -/
def words : pre0.Contents (Elt F) := fun j => start m (0 : Dev nD) (pre0.ref j)

/-- The tile count the call is given. -/
def used : BitVec 32 := m (((0 : Dev nD) : Thread nD τ).loc main_arg1) (ix1 (0 : Fin 1))

/-- The expert of a tile, as the call is given it. -/
def expert (d : Fin 80) : BitVec 32 := m (((0 : Dev nD) : Thread nD τ).loc main_arg0) (ix1 d)

/-- The range the tables are drawn from: one to eighty used tiles, and experts below eight. -/
structure Drawn : Prop where
  one_le : 1 ≤ (used m).toNat
  le : (used m).toNat ≤ 80
  below : ∀ d, (expert m d).toNat < 8

/-- The tile whose data a point of the tile axis works on. -/
def tileOf (d : ℕ) : ℕ := min d ((used m).toNat - 1)

theorem tileOf_lt (h : Drawn m) (d : ℕ) : tileOf m d < 80 := by
  have := h.le; have := h.one_le; unfold tileOf; omega

/-- The gather of the experts at a tile: the table at the clamped start index. -/
theorem gather_tile (T : IVec S80 32) (idx : IVec S80x1 32) (t : Fin 80) :
    Host.gather gather_S80_S80x1_S80_n_0_n_n_0_1_1 T idx (ix1 t) = T (ix1 ⟨min (idx (ix2 t (0 : Fin 1))).toInt.toNat 79, by omega⟩) := by
  unfold Host.gather
  congr 1
  funext a
  refine Fin.ext ?_
  show GatherDims.start _ (ix1 t) idx a + GatherDims.batchCoord _ (ix1 t) a + GatherDims.offCoord _ (ix1 t) a = _
  obtain rfl : a = 0 := Subsingleton.elim _ _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S80_S80x1_S80_n_0_n_n_0_1_1.startIndexMap from List.mem_singleton.mpr rfl)]
  have hsi : gather_S80_S80x1_S80_n_0_n_n_0_1_1.siIdx (ix1 t) ⟨List.idxOf (0 : Fin 1) gather_S80_S80x1_S80_n_0_n_n_0_1_1.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The signed value of a word of the range. -/
theorem toInt_of_le (x : BitVec 32) (h : x.toNat ≤ 80) : x.toInt = x.toNat := by
  rw [BitVec.toInt_eq_toNat_of_lt (by omega)]

/-- The word of the tile a point works on. -/
theorem min_word (h : Drawn m) (d : ℕ) (hd : d < 80) :
    IntOp.minsi (BitVec.ofNat 32 d) (IntOp.subi (used m) 1#32) = BitVec.ofNat 32 (tileOf m d) := by
  have hu := toInt_of_le _ h.le
  have h1 : (1#32 : BitVec 32).toInt = 1 := by decide
  have := h.one_le
  have := h.le
  refine BitVec.toInt_inj.mp ?_
  rw [Cert.Band.toInt_minsi, Cert.Band.toInt_small _ (by omega), Cert.Band.toInt_subi _ _ (by rw [hu, h1]; omega) (by rw [hu, h1]; omega), hu, h1,
    Cert.Band.toInt_small _ (by unfold tileOf; omega)]
  unfold tileOf
  omega

/-- The count the call prefetches is the one it was given. -/
theorem words_used : words m 1 (ix1 (0 : Fin 1)) = used m := by
  unfold words used
  show start m 0 main_arg1 (ix1 (0 : Fin 1)) = _
  unfold start
  after_reads_at

/-- The expert the call prefetches for a tile. -/
theorem words_expert (h : Drawn m) (d : Fin 80) : words m 0 (ix1 d) = expert m ⟨tileOf m d.val, tileOf_lt m h d.val⟩ := by
  unfold words
  show start m 0 main_v11 (ix1 d) = _
  unfold start
  after_reads_at
  clean_types
  rw [gather_tile]
  refine congrArg (fun z => m (((0 : Dev nD) : Thread nD τ).loc main_arg0) (ix1 z)) (Fin.ext ?_)
  dsimp only
  have hi : ∀ x : BitVec 32, x = BitVec.ofNat 32 (tileOf m d.val) → min x.toInt.toNat 79 = tileOf m d.val := by
    rintro _ rfl
    have := tileOf_lt m h d.val
    rw [Cert.Band.toInt_small _ (by omega)]
    omega
  refine hi _ ?_
  refine Eq.trans (b := Scalar.select (IntOp.cmpi .slt (IntOp.minsi (BitVec.ofNat 32 d.val) (IntOp.subi (used m) 1#32)) 0#32)
    (IntOp.addi (IntOp.minsi (BitVec.ofNat 32 d.val) (IntOp.subi (used m) 1#32)) 80#32)
    (IntOp.minsi (BitVec.ofNat 32 d.val) (IntOp.subi (used m) 1#32))) rfl ?_
  rw [min_word m h d.val d.isLt]
  exact Cert.Band.wrap_word _ _ (by rw [Cert.Band.toInt_small _ (by have := tileOf_lt m h d.val; omega)]; omega)

/-- The count an index map loads. -/
theorem at_used : (words m).at 1 (Rect.unit (s := S1) ![0] S1.size inb_S1_S1_0) numel1_S1 = used m := by
  refine Eq.trans (congrArg (words m 1) ?_) (words_used m)
  funext (a : Fin 1)
  refine Fin.ext ?_
  obtain rfl : a = 0 := Subsingleton.elim _ _
  exact Nat.lt_one_iff.mp (Fin.isLt _)

/-- The expert an index map loads. -/
theorem at_expert (h : Drawn m) (i : grid0.Coords) :
    (words m).at 0 (Rect.unit (s := S80) (k0_off1 i) S1.size (k0_off1_inb i)) numel1_S1 = expert m ⟨tileOf m (i 1).val, tileOf_lt m h _⟩ := by
  refine Eq.trans (congrArg (words m 0) ?_) (words_expert m h (i 1))
  funext (a : Fin 1)
  refine Fin.ext ?_
  obtain rfl : a = 0 := Subsingleton.elim _ _
  have hz : ∀ x : Fin (S1.size 0), k0_off1 i 0 + 1 * x.val = (i 1).val := fun x => by
    rw [k0_off1_eq, Nat.lt_one_iff.mp x.isLt]
    rfl
  exact hz _

/-- The word of the tile is the tile. -/
theorem min_toNat (h : Drawn m) (d : ℕ) (hd : d < 80) :
    (Scalar.minsi (BitVec.ofNat 32 d) (Scalar.subi (used m) 1#32)).toNat = tileOf m d := by
  refine (congrArg BitVec.toNat (min_word m h d hd)).trans ?_
  rw [BitVec.toNat_ofNat]
  exact Nat.mod_eq_of_lt (by have := tileOf_lt m h d; omega)

/-- The rows' block at a point: the tile's. -/
theorem map_rows (h : Drawn m) (i : grid0.Coords) : cc0_transform_0 inb_S1_S1_0 numel1_S1 (words m) i = ![tileOf m (i 1).val, 0] := by
  unfold cc0_transform_0
  rw [at_used]
  dsimp only
  rw [min_toNat m h _ (i 1).isLt]
  rfl

/-- The weights' block at a point: the tile's expert and the point's columns. -/
theorem map_weights (h : Drawn m) (i : grid0.Coords) :
    cc0_transform_1 k0_off1_inb numel1_S1 (words m) i = ![(expert m ⟨tileOf m (i 1).val, tileOf_lt m h _⟩).toNat, 0, (i 0).val] := by
  unfold cc0_transform_1
  have e := at_expert m h i
  dsimp only
  refine Eq.trans (b := ![((words m).at 0 (Rect.unit (s := S80) (k0_off1 i) S1.size (k0_off1_inb i)) numel1_S1 : BitVec 32).toNat, 0, (BitVec.ofNat 32 (i 0).val).toNat]) rfl ?_
  rw [e, BitVec.toNat_ofNat, Nat.mod_eq_of_lt (by have : (i 0).val < 14 := (i 0).isLt; omega)]

/-- The block of the second half of the weights at a point: the tile's expert and the point's columns, past the first half's. -/
theorem map_second (h : Drawn m) (i : grid0.Coords) :
    cc0_transform_2 k0_off1_inb numel1_S1 (words m) i = ![(expert m ⟨tileOf m (i 1).val, tileOf_lt m h _⟩).toNat, 0, 14 + (i 0).val] := by
  unfold cc0_transform_2
  have e := at_expert m h i
  have hw : (Scalar.addi 14#32 (BitVec.ofNat 32 (i 0).val)).toNat = 14 + (i 0).val := by
    have hlt : (i 0).val < 14 := (i 0).isLt
    have hn : (BitVec.ofNat 32 (i 0).val).toNat = (i 0).val := by
      rw [BitVec.toNat_ofNat]
      exact Nat.mod_eq_of_lt (by omega)
    show (14#32 + BitVec.ofNat 32 (i 0).val).toNat = _
    rw [BitVec.toNat_add, hn]
    show (14 + (i 0).val) % 4294967296 = _
    omega
  dsimp only
  refine Eq.trans (b := ![((words m).at 0 (Rect.unit (s := S80) (k0_off1 i) S1.size (k0_off1_inb i)) numel1_S1 : BitVec 32).toNat, 0, (Scalar.addi 14#32 (BitVec.ofNat 32 (i 0).val)).toNat]) rfl ?_
  rw [e, hw]

/-- The result's block at a point: the tile's rows and the point's columns. -/
theorem map_out (h : Drawn m) (i : grid0.Coords) : cc0_transform_3 inb_S1_S1_0 numel1_S1 (words m) i = ![tileOf m (i 1).val, (i 0).val] := by
  unfold cc0_transform_3
  rw [at_used]
  dsimp only
  rw [min_toNat m h _ (i 1).isLt, BitVec.toNat_ofNat, Nat.mod_eq_of_lt (by have : (i 0).val < 14 := (i 0).isLt; omega)]

/-- Every block the maps name lies inside its array and is moved in whole words. -/
theorem admitted (h : Drawn m) : ok0 (F := F) (words m) := by
  refine ⟨fun i => ?_, fun i => ?_, fun i => ?_, fun i => ?_⟩
  · rw [map_rows m h]
    have := tileOf_lt m h (i 1).val
    refine ⟨fun a => ?_, .inr (.inl (.inr ⟨by decide, rfl, .inl ⟨?_, ⟨256, rfl⟩⟩⟩))⟩
    · match a with
      | ⟨0, _⟩ => show (tileOf m (i 1).val + 1) * 512 ≤ 40960; omega
      | ⟨1, _⟩ => show (0 + 1) * 2048 ≤ 2048; omega
    · show 2 ∣ tileOf m (i 1).val * 512
      omega
  · rw [map_weights m h]
    have hb := h.below ⟨tileOf m (i 1).val, tileOf_lt m h _⟩
    have hn : (i 0).val < 14 := (i 0).isLt
    refine ⟨fun a => ?_, .inr (.inl (.inr ⟨by decide, rfl, .inl ⟨?_, ⟨1024, rfl⟩⟩⟩))⟩
    · match a with
      | ⟨0, _⟩ => show ((expert m ⟨tileOf m (i 1).val, tileOf_lt m h _⟩).toNat + 1) * 1 ≤ 8; omega
      | ⟨1, _⟩ => show (0 + 1) * 2048 ≤ 2048; omega
      | ⟨2, _⟩ => show ((i 0).val + 1) * 512 ≤ 14336; omega
    · show 2 ∣ 0 * 2048
      omega
  · rw [map_second m h]
    have hb := h.below ⟨tileOf m (i 1).val, tileOf_lt m h _⟩
    have hn : (i 0).val < 14 := (i 0).isLt
    refine ⟨fun a => ?_, .inr (.inl (.inr ⟨by decide, rfl, .inl ⟨?_, ⟨1024, rfl⟩⟩⟩))⟩
    · match a with
      | ⟨0, _⟩ => show ((expert m ⟨tileOf m (i 1).val, tileOf_lt m h _⟩).toNat + 1) * 1 ≤ 8; omega
      | ⟨1, _⟩ => show (0 + 1) * 2048 ≤ 2048; omega
      | ⟨2, _⟩ => show (14 + (i 0).val + 1) * 512 ≤ 14336; omega
    · show 2 ∣ 0 * 2048
      omega
  · rw [map_out m h]
    have := tileOf_lt m h (i 1).val
    have hn : (i 0).val < 14 := (i 0).isLt
    refine ⟨fun a => ?_, .inr (.inl (.inr ⟨by decide, rfl, .inl ⟨?_, ⟨256, rfl⟩⟩⟩))⟩
    · match a with
      | ⟨0, _⟩ => show (tileOf m (i 1).val + 1) * 512 ≤ 40960; omega
      | ⟨1, _⟩ => show ((i 0).val + 1) * 512 ≤ 7168; omega
    · show 2 ∣ tileOf m (i 1).val * 512
      omega

end Cert.ExpertUpIdeal.Tiles

end
-- ==== Proof.Experts.UpPreIdeal.lean ====
/- From the range the tables are drawn from, as the claim states it, to the bounds the proof uses. -/
module

public import proofs.«01_k».proof.Proof.Experts.UpTablesIdeal
public import proofs.«01_k».proof.Proof.Gen.Pre_tables_ok_up
public import Idealize.ShloMosaic.Lib.ReduceAll
public import Idealize.ShloMosaic.Lib.Affine

@[expose] public section

set_option maxHeartbeats 4000000

noncomputable section

namespace Cert.ExpertUpIdeal.Tiles

open Idealize.ShloMosaic Idealize.ShloMosaic.TcCoe Idealize.SL.Sem
open Cert.ExpertUpIdeal Cert.ExpertUpIdeal.Gen

variable {F : FTy → Type} [FloatOps F]
variable (m : (ℓ : Loc nD τ sig) → Buf (Elt F) ℓ)

/-- The stated range of the tables gives the bounds. -/
theorem drawn_of (X : FVec F Cert.Pre_tables_ok_up.S40960x2048 .bf16) (W : FVec F Cert.Pre_tables_ok_up.S8x2048x14336 .bf16)
    (h : Cert.Pre_tables_ok_up.fn (F := F) (m (((0 : Dev nD) : Thread nD τ).loc main_arg0)) (m (((0 : Dev nD) : Thread nD τ).loc main_arg1)) X W
      = fun _ => 1#1) : Drawn m := by
  have h0 := congrFun h (fun a => a.elim0)
  dsimp only [Cert.Pre_tables_ok_up.fn] at h0
  obtain ⟨ha, hb⟩ := IntOp.andi_eq_one.mp h0
  have hA : ∀ d : Fin 80, (expert m d).toNat < 8 := fun d => by
    have := Host.reduce_andi_all _ _ _ _ _ ha (ix1 d)
    obtain ⟨h1, h2⟩ := IntOp.andi_eq_one.mp this
    have h1 : IntOp.cmpi .sge (expert m d) 0#32 = 1#1 := h1
    have h2 : IntOp.cmpi .slt (expert m d) 8#32 = 1#1 := h2
    rw [IntOp.cmpi_sge] at h1
    rw [IntOp.cmpi_slt] at h2
    have e0 : (0#32 : BitVec 32).toInt = 0 := by decide
    have e8 : (8#32 : BitVec 32).toInt = 8 := by decide
    rw [e0] at h1
    rw [e8] at h2
    have := BitVec.toInt_eq_toNat_cond (expert m d)
    have := (expert m d).isLt
    split at * <;> omega
  have hB := Host.reduce_andi_all _ _ _ _ _ hb (ix1 (0 : Fin 1))
  obtain ⟨h1, h2⟩ := IntOp.andi_eq_one.mp hB
  have h1 : IntOp.cmpi .sge (used m) 1#32 = 1#1 := h1
  have h2 : IntOp.cmpi .sle (used m) 80#32 = 1#1 := h2
  rw [IntOp.cmpi_sge] at h1
  rw [IntOp.cmpi_sle] at h2
  have e1 : (1#32 : BitVec 32).toInt = 1 := by decide
  have e80 : (80#32 : BitVec 32).toInt = 80 := by decide
  rw [e1] at h1
  rw [e80] at h2
  have := BitVec.toInt_eq_toNat_cond (used m)
  have := (used m).isLt
  refine ⟨?_, ?_, hA⟩ <;> (split at * <;> omega)

end Cert.ExpertUpIdeal.Tiles

end
-- ==== Proof.Experts.UpRunIdeal.lean ====
/- The body of the up projection at one grid point: where the point's tile is used it stores the gated product of its three
   blocks, and elsewhere it does nothing. -/
module

public import proofs.«01_k».proof.Proof.Experts.UpTablesIdeal
public import Idealize.ShloMosaic.Lib.Pipeline.Quiescent
public import Idealize.ShloMosaic.Lib.Pipeline.Frame
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option maxHeartbeats 4000000

noncomputable section

namespace Cert.ExpertUpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertUpIdeal Cert.ExpertUpIdeal.Gen

variable {F : FTy → Type} [FloatOps F]

/-- The assertions of the program's logic. -/
abbrev Asn (F : FTy → Type) [FloatOps F] : Type := sProp (MT nD τ sig Unit (Elt F) ℕ (UR sig nD τ) ℕ)

/-- The expert table as the body is handed it. -/
abbrev expertTab : Memref sig .tc .smem S80 .i32 := Memref.whole main_v11
/-- The count as the body is handed it. -/
abbrev countTab : Memref sig .tc .smem S1 .i32 := Memref.whole main_arg1

/-- A table held at half of the full share. -/
abbrev held (c : Dev nD) {S : Shape} {e : EltTy} (M : Memref sig .tc .smem S e) (f : Buf (Elt F) (M.view.loc (c : Thread nD τ))) : Asn F :=
  M.view.loc (c : Thread nD τ) ↦{fullShare.right} f

/-- The whole block of rows. -/
abbrev rowsRect : Rect S512x2048 := Rect.unit (s := S512x2048) ![0, 0] S512x2048.size inb_S512x2048_S512x2048_0_0
/-- The whole block of weights. -/
abbrev weightsRect : Rect S1x2048x512 := Rect.unit (s := S1x2048x512) ![0, 0, 0] S1x2048x512.size inb_S1x2048x512_S1x2048x512_0_0_0
/-- The whole block of the result. -/
abbrev outRect : Rect S512x512 := Rect.unit (s := S512x512) ![0, 0] S512x512.size inb_S512x512_S512x512_0_0

/-- The block the body stores, from the block of rows and the two blocks of weights. -/
def product (x : Vec F S512x2048 .bf16) (w u : Vec F S1x2048x512 .bf16) : Vec F S512x512 .bf16 :=
  View.canon [⟨outRect, k0_pay1 (View.ld x rowsRect) (View.ld w weightsRect) (View.ld u weightsRect)⟩]

/-- The store covers the block. -/
theorem product_covers (p : Vec F S512x512 .bf16) (y : S512x512.Idx) :
    ∃ pc ∈ ([⟨outRect, p⟩] : List (View.Piece (Elt F) S512x512 .bf16)), y ∈ pc.1.set :=
  View.cover_of_tiledL ([⟨outRect, p⟩] : List (View.Piece (Elt F) S512x512 .bf16)) S512x512.size (by sl_kernel_rfl) y

/-- The count the body loads. -/
abbrev loaded (T : S1.Idx → Elt F .i32) : Elt F .i32 :=
  View.readAt (Elt F) countTab.view (Rect.unit (s := S1) ![0] S1.size inb_S1_S1_0).toLoadRect T (Shape.Idx.first (numel1_S1.symm ▸ Nat.one_pos))

/-- Where the tile is used, the body leaves the product in the block of the result. -/
theorem body_used (c : Dev nD) (E : Set ℕ) (i : grid0.Coords) (arg4 : Memref sig .tc .vmem S512x2048 .bf16) (harg4 : arg4.IsWhole)
    (arg5 : Memref sig .tc .vmem S1x2048x512 .bf16) (harg5 : arg5.IsWhole) (arg6 : Memref sig .tc .vmem S1x2048x512 .bf16) (harg6 : arg6.IsWhole)
    (arg7 : Memref sig .tc .vmem S512x512 .bf16) (harg7 : arg7.IsWhole)
    (T0 : S80.Idx → Elt F .i32) (T1 : S1.Idx → Elt F .i32) (x0 : Vec F S512x2048 .bf16) (x1 x2 : Vec F S1x2048x512 .bf16)
    (hc : k0_cond1 i (loaded T1) = 1#1) (K : PUnit → Asn F) :
    iprop(owns (c : Thread nD τ) arg4 fullShare x0 ∗ owns (c : Thread nD τ) arg5 fullShare x1 ∗ owns (c : Thread nD τ) arg6 fullShare x2
        ∗ (∃ d, owns (c : Thread nD τ) arg7 fullShare d)
        ∗ held c expertTab T0 ∗ held c countTab T1
        ∗ (iprop(owns (c : Thread nD τ) arg4 fullShare x0 ∗ owns (c : Thread nD τ) arg5 fullShare x1 ∗ owns (c : Thread nD τ) arg6 fullShare x2
            ∗ owns (c : Thread nD τ) arg7 fullShare (product x0 x1 x2)
            ∗ held c expertTab T0 ∗ held c countTab T1) -∗ K ⟨⟩))
      ⊢ wp frame (wpE (defs₀ (F := F)) Variants.none c none) E
          (cc0_moe_expert_up i expertTab (Memref.isWhole_whole _) countTab (Memref.isWhole_whole _) arg4 harg4 arg5 harg5 arg6 harg6 arg7 harg7) K := by
  simp only [cc0_moe_expert_up_eq_skeleton]; unfold cc0_moe_expert_up_skel
  unfold owns
  iintro ⟨⟨%f0, %hf0, H0⟩, ⟨%f1, %hf1, H1⟩, ⟨%f2, %hf2, H2⟩, ⟨%d3, %f3, -, H3⟩, HT0, HT1, Hk⟩
  have hT0 : expertTab.IsWhole := Memref.isWhole_whole _
  have hT1 : countTab.IsWhole := Memref.isWhole_whole _
  subst hf0 hf1 hf2
  sl_exec! (disch := first | (guard_target = k0_cond1 _ _ = _; exact hc))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (product_covers _)
  isplitl [HT0]; · iexact HT0
  iexact HT1

/-- Where it is not, the body leaves everything as it was. -/
theorem body_unused (c : Dev nD) (E : Set ℕ) (i : grid0.Coords) (arg4 : Memref sig .tc .vmem S512x2048 .bf16) (harg4 : arg4.IsWhole)
    (arg5 : Memref sig .tc .vmem S1x2048x512 .bf16) (harg5 : arg5.IsWhole) (arg6 : Memref sig .tc .vmem S1x2048x512 .bf16) (harg6 : arg6.IsWhole)
    (arg7 : Memref sig .tc .vmem S512x512 .bf16) (harg7 : arg7.IsWhole)
    (T0 : S80.Idx → Elt F .i32) (T1 : S1.Idx → Elt F .i32)
    (hc : ¬ k0_cond1 i (loaded T1) = 1#1) (K : PUnit → Asn F) :
    iprop(held c expertTab T0 ∗ held c countTab T1
        ∗ (iprop(held c expertTab T0 ∗ held c countTab T1) -∗ K ⟨⟩))
      ⊢ wp frame (wpE (defs₀ (F := F)) Variants.none c none) E
          (cc0_moe_expert_up i expertTab (Memref.isWhole_whole _) countTab (Memref.isWhole_whole _) arg4 harg4 arg5 harg5 arg6 harg6 arg7 harg7) K := by
  simp only [cc0_moe_expert_up_eq_skeleton]; unfold cc0_moe_expert_up_skel
  iintro ⟨HT0, HT1, Hk⟩
  have hT0 : expertTab.IsWhole := Memref.isWhole_whole _
  have hT1 : countTab.IsWhole := Memref.isWhole_whole _
  sl_exec! (disch := first | exact hc)
  sl_step
  iapply Hk
  isplitl [HT0]; · iexact HT0
  iexact HT1

end Cert.ExpertUpIdeal.Tiles

end
-- ==== Proof.Experts.UpFrameIdeal.lean ====
/- The up projection runs to its end, leaves its arguments as they were, and writes into the result the gated product of each
   tile's rows with the weights of the tile's expert. -/
module

public import proofs.«01_k».proof.Proof.Experts.UpRunIdeal

@[expose] public section

set_option maxRecDepth 16384
set_option maxHeartbeats 4000000

noncomputable section

namespace Cert.ExpertUpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertUpIdeal Cert.ExpertUpIdeal.Gen

variable {F : FTy → Type} [FloatOps F]
variable (m : (ℓ : Loc nD τ sig) → Buf (Elt F) ℓ) (ρ : Dev nD → PrngReg)

/-! ## Up to the call -/

/-- The host operations name no buffer anew. -/
theorem host_fresh : (hostOps0 : List (HloOp τ sig (Elt F))).Forall fun op => op.fresh = ∅ := by
  simp only [List.Forall]; repeat' constructor

/-- The program runs its host operations and then the call. -/
theorem to_call (𝒱₀ : Variants) : Pipeline.HMainP (Ix := Unit) (Name := ℕ) (U := UR sig nD τ) (Lvl := ℕ) pcfgs 0 defs₀ 𝒱₀ m (main (F := F)) (start m) :=
  Pipeline.hmainP_prefix pcfgs 0 defs₀ 𝒱₀ m main hostOps0 hostOps0_sub host_fresh main_chain

/-- The host operations leave the expert table alone. -/
theorem keeps0 (c : Dev nD) : start m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave the count alone. -/
theorem keeps1 (c : Dev nD) : start m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave the rows alone. -/
theorem keeps2 (c : Dev nD) : start m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave the weights alone. -/
theorem keeps3 (c : Dev nD) : start m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The tables on the one device. -/
theorem start_tables (c : Dev nD) (j : Fin 2) : start m c (pre0.ref j) = words m j := by
  obtain rfl : c = 0 := Subsingleton.elim _ _; rfl

/-! ## The pipeline at the tables -/

variable (h : Drawn m)

/-- The tables with the proof that the blocks they name are inside the arrays. -/
abbrev adm : (pcfg0 (F := F)).Adm := ⟨words m, admitted m h⟩
/-- The pipeline at these tables. -/
abbrev pipe : Pipeline.Cfg sig Λ₀ := cfg0 (adm m h)

/-- The two tables' halves, one by one. -/
theorem tables_eq (c : Dev nD) : (Pipeline.ΦT pre0 (words m) c : Asn F) = iprop(held c expertTab (words m 0) ∗ held c countTab (words m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, in the array the call finds. -/
def block (c : Dev nD) (w : Fin (pipe m h).W) (t : Fin (pipe m h).N) : (((pipe m h).win w).xblock ((pipe m h).grid.coords t)).Idx → Elt F ((pipe m h).win w).elt :=
  (((pipe m h).win w).blk t).view.read (Elt F) (start m c (Pipeline.arrRef spec0 w))

/-- The tile's place in the grid. -/
theorem place_tile (t : Fin grid0.N) : (grid0.coords t 1).val = t.val % 80 := by
  rw [Pipeline.Grid.coords_val t 1 (S := 1) (B := 80) (by decide) rfl, Nat.div_one]

/-- The columns' place in the grid. -/
theorem place_cols (t : Fin grid0.N) : (grid0.coords t 0).val = t.val / 80 := by
  rw [Pipeline.Grid.coords_val t 0 (S := 80) (B := 14) (by decide) rfl]
  have := t.isLt
  have e : grid0.N = 80 * 14 := by decide
  exact Nat.mod_eq_of_lt (by omega)

/-- The expert of a tile as a number. -/
def expertNat (d : ℕ) : ℕ := (expert m ⟨d % 80, Nat.mod_lt _ (by decide)⟩).toNat

/-- The rows of a tile. -/
def rowsOf (d : ℕ) : Vec F S512x2048 .bf16 := fun y =>
  m (((0 : Dev nD) : Thread nD τ).loc main_arg2) (ix2 (⟨(d * 512 + (y 0).val) % 40960, Nat.mod_lt _ (by decide)⟩ : Fin 40960) (⟨(y 1).val, (y 1).isLt⟩ : Fin 2048))

/-- A block of columns of an expert's weights. -/
def weightsOf (e n : ℕ) : Vec F S1x2048x512 .bf16 := fun y =>
  m (((0 : Dev nD) : Thread nD τ).loc main_arg3) (ix3 (⟨e % 8, Nat.mod_lt _ (by decide)⟩ : Fin 8) (⟨(y 1).val, (y 1).isLt⟩ : Fin 2048) (⟨(n * 512 + (y 2).val) % 14336, Nat.mod_lt _ (by decide)⟩ : Fin 14336))

/-- What is stored for a tile and a block of columns. -/
def stored (d n : ℕ) : Vec F S512x512 .bf16 := product (rowsOf m d) (weightsOf m (expertNat m d) n) (weightsOf m (expertNat m d) (14 + n))

/-- The block index of the rows at a point. -/
theorem index_rows (t : Fin (pipe m h).N) : ((pipe m h).win 0).index t = ![tileOf m (t.val % 80), 0] := by
  have key : ∀ (pf : pre0.Contents (Elt F)) (hok : ok0 pf) (t : Fin grid0.N), ((cfg0 ⟨pf, hok⟩).win 0).index t = cc0_transform_0 inb_S1_S1_0 numel1_S1 pf (grid0.coords t) :=
    fun _ _ _ => rfl
  refine (key (words m) (admitted m h) t).trans ?_
  rw [map_rows m h, place_tile]

/-- The block index of the weights at a point. -/
theorem index_weights (t : Fin (pipe m h).N) : ((pipe m h).win 1).index t = ![expertNat m (tileOf m (t.val % 80)), 0, t.val / 80] := by
  have key : ∀ (pf : pre0.Contents (Elt F)) (hok : ok0 pf) (t : Fin grid0.N), ((cfg0 ⟨pf, hok⟩).win 1).index t = cc0_transform_1 k0_off1_inb numel1_S1 pf (grid0.coords t) :=
    fun _ _ _ => rfl
  refine (key (words m) (admitted m h) t).trans ?_
  rw [map_weights m h, place_cols]
  have e : (⟨tileOf m (grid0.coords t 1).val, tileOf_lt m h _⟩ : Fin 80) = ⟨tileOf m (t.val % 80) % 80, Nat.mod_lt _ (by decide)⟩ :=
    Fin.ext (by show tileOf m (grid0.coords t 1).val = _; rw [place_tile]; exact (Nat.mod_eq_of_lt (tileOf_lt m h _)).symm)
  rw [e]
  rfl

/-- The block index of the second half of the weights at a point. -/
theorem index_second (t : Fin (pipe m h).N) : ((pipe m h).win 2).index t = ![expertNat m (tileOf m (t.val % 80)), 0, 14 + t.val / 80] := by
  have key : ∀ (pf : pre0.Contents (Elt F)) (hok : ok0 pf) (t : Fin grid0.N), ((cfg0 ⟨pf, hok⟩).win 2).index t = cc0_transform_2 k0_off1_inb numel1_S1 pf (grid0.coords t) :=
    fun _ _ _ => rfl
  refine (key (words m) (admitted m h) t).trans ?_
  rw [map_second m h, place_cols]
  have e : (⟨tileOf m (grid0.coords t 1).val, tileOf_lt m h _⟩ : Fin 80) = ⟨tileOf m (t.val % 80) % 80, Nat.mod_lt _ (by decide)⟩ :=
    Fin.ext (by show tileOf m (grid0.coords t 1).val = _; rw [place_tile]; exact (Nat.mod_eq_of_lt (tileOf_lt m h _)).symm)
  rw [e]
  rfl

/-- The block index of the result at a point. -/
theorem index_out (t : Fin (pipe m h).N) : ((pipe m h).win 3).index t = ![tileOf m (t.val % 80), t.val / 80] := by
  have key : ∀ (pf : pre0.Contents (Elt F)) (hok : ok0 pf) (t : Fin grid0.N), ((cfg0 ⟨pf, hok⟩).win 3).index t = cc0_transform_3 inb_S1_S1_0 numel1_S1 pf (grid0.coords t) :=
    fun _ _ _ => rfl
  refine (key (words m) (admitted m h) t).trans ?_
  rw [map_out m h, place_tile, place_cols]

/-- The number of points. -/
theorem points_lt (t : Fin (pipe m h).N) : t.val < 80 * 14 := by
  have e : (pipe m h).N = 80 * 14 := N_0
  have := t.isLt
  omega

/-- The block of rows at a point. -/
theorem block_rows (c : Dev nD) (t : Fin (pipe m h).N) : block m h c 0 t = rowsOf m (tileOf m (t.val % 80)) := by
  obtain rfl : c = 0 := Subsingleton.elim _ _
  funext (y : S512x2048.Idx)
  unfold block rowsOf
  have key : ∀ V : (b : Ref sig .tc) → Buf (Elt F) (((0 : Dev nD) : Thread nD τ).loc b),
      (((pipe m h).win 0).blk t).view.read (Elt F) (V (Pipeline.arrRef spec0 0)) y = V main_arg2 ((((pipe m h).win 0).rect t).idx y) := fun V => rfl
  refine (key (start m 0)).trans ?_
  rw [keeps2]
  refine congrArg (m (((0 : Dev nD) : Thread nD τ).loc main_arg2)) ?_
  have hd := tileOf_lt m h (t.val % 80)
  have y0 : (y 0).val < 512 := (y 0).isLt
  funext (a : Fin 2)
  refine Fin.ext ?_
  match a with
  | ⟨0, _⟩ =>
    exact (congrArg (fun f : Fin 2 → ℕ => f 0 * 512 + 1 * (y 0).val) (index_rows m h t)).trans
      (by show tileOf m (t.val % 80) * 512 + 1 * (y 0).val = (tileOf m (t.val % 80) * 512 + (y 0).val) % 40960; omega)
  | ⟨1, _⟩ =>
    exact (congrArg (fun f : Fin 2 → ℕ => f 1 * 2048 + 1 * (y 1).val) (index_rows m h t)).trans
      (by show 0 * 2048 + 1 * (y 1).val = (y 1).val; omega)

/-- The block of weights at a point. -/
theorem block_weights (c : Dev nD) (t : Fin (pipe m h).N) : block m h c 1 t = weightsOf m (expertNat m (tileOf m (t.val % 80))) (t.val / 80) := by
  obtain rfl : c = 0 := Subsingleton.elim _ _
  funext (y : S1x2048x512.Idx)
  unfold block weightsOf
  have key : ∀ V : (b : Ref sig .tc) → Buf (Elt F) (((0 : Dev nD) : Thread nD τ).loc b),
      (((pipe m h).win 1).blk t).view.read (Elt F) (V (Pipeline.arrRef spec0 1)) y = V main_arg3 ((((pipe m h).win 1).rect t).idx y) := fun V => rfl
  refine (key (start m 0)).trans ?_
  rw [keeps3]
  refine congrArg (m (((0 : Dev nD) : Thread nD τ).loc main_arg3)) ?_
  have he : expertNat m (tileOf m (t.val % 80)) < 8 := h.below _
  have ht := points_lt m h t
  have y0 : (y 0).val < 1 := (y 0).isLt
  have y2 : (y 2).val < 512 := (y 2).isLt
  funext (a : Fin 3)
  refine Fin.ext ?_
  match a with
  | ⟨0, _⟩ =>
    exact (congrArg (fun f : Fin 3 → ℕ => f 0 * 1 + 1 * (y 0).val) (index_weights m h t)).trans
      (by show expertNat m (tileOf m (t.val % 80)) * 1 + 1 * (y 0).val = expertNat m (tileOf m (t.val % 80)) % 8; omega)
  | ⟨1, _⟩ =>
    exact (congrArg (fun f : Fin 3 → ℕ => f 1 * 2048 + 1 * (y 1).val) (index_weights m h t)).trans
      (by show 0 * 2048 + 1 * (y 1).val = (y 1).val; omega)
  | ⟨2, _⟩ =>
    exact (congrArg (fun f : Fin 3 → ℕ => f 2 * 512 + 1 * (y 2).val) (index_weights m h t)).trans
      (by show (t.val / 80) * 512 + 1 * (y 2).val = ((t.val / 80) * 512 + (y 2).val) % 14336; omega)

/-- The block of the second half of the weights at a point. -/
theorem block_second (c : Dev nD) (t : Fin (pipe m h).N) : block m h c 2 t = weightsOf m (expertNat m (tileOf m (t.val % 80))) (14 + t.val / 80) := by
  obtain rfl : c = 0 := Subsingleton.elim _ _
  funext (y : S1x2048x512.Idx)
  unfold block weightsOf
  have key : ∀ V : (b : Ref sig .tc) → Buf (Elt F) (((0 : Dev nD) : Thread nD τ).loc b),
      (((pipe m h).win 2).blk t).view.read (Elt F) (V (Pipeline.arrRef spec0 2)) y = V main_arg3 ((((pipe m h).win 2).rect t).idx y) := fun V => rfl
  refine (key (start m 0)).trans ?_
  rw [keeps3]
  refine congrArg (m (((0 : Dev nD) : Thread nD τ).loc main_arg3)) ?_
  have he : expertNat m (tileOf m (t.val % 80)) < 8 := h.below _
  have ht := points_lt m h t
  have y0 : (y 0).val < 1 := (y 0).isLt
  have y2 : (y 2).val < 512 := (y 2).isLt
  funext (a : Fin 3)
  refine Fin.ext ?_
  match a with
  | ⟨0, _⟩ =>
    exact (congrArg (fun f : Fin 3 → ℕ => f 0 * 1 + 1 * (y 0).val) (index_second m h t)).trans
      (by show expertNat m (tileOf m (t.val % 80)) * 1 + 1 * (y 0).val = expertNat m (tileOf m (t.val % 80)) % 8; omega)
  | ⟨1, _⟩ =>
    exact (congrArg (fun f : Fin 3 → ℕ => f 1 * 2048 + 1 * (y 1).val) (index_second m h t)).trans
      (by show 0 * 2048 + 1 * (y 1).val = (y 1).val; omega)
  | ⟨2, _⟩ =>
    exact (congrArg (fun f : Fin 3 → ℕ => f 2 * 512 + 1 * (y 2).val) (index_second m h t)).trans
      (by show (14 + t.val / 80) * 512 + 1 * (y 2).val = ((14 + t.val / 80) * 512 + (y 2).val) % 14336; omega)

/-! ## Which points store -/

/-- The count the body loads is the one given. -/
theorem loaded_used : loaded (F := F) (words m 1) = used m := by
  refine Eq.trans (congrArg (words m 1) ?_) (words_used m)
  funext (a : Fin 1)
  refine Fin.ext ?_
  obtain rfl : a = 0 := Subsingleton.elim _ _
  exact Nat.lt_one_iff.mp (Fin.isLt _)

/-- The body's condition: the tile is below the count. -/
theorem cond_iff (hd : Drawn m) (i : grid0.Coords) : k0_cond1 i (used m) = 1#1 ↔ (i 1).val < (used m).toNat := by
  have h1 : (i 1).val < 80 := (i 1).isLt
  have hu := toInt_of_le _ hd.le
  unfold k0_cond1
  dsimp only
  have hs : (Scalar.cmpi .slt (BitVec.ofNat 32 (i 1).val) (used m) = 1#1) ↔ (i 1).val < (used m).toNat := by
    show (IntOp.cmpi .slt (BitVec.ofNat 32 (i 1).val) (used m) = 1#1) ↔ _
    rw [IntOp.cmpi_slt, Cert.Band.toInt_small _ (by omega), hu]
    omega
  rw [← hs]
  generalize Scalar.cmpi .slt (BitVec.ofNat 32 (i 1).val) (used m) = b
  revert b
  decide

/-- The count at its only place. -/
theorem at_count (pf : pre0.Contents (Elt F)) : pf.atD 1 ![0] = pf 1 (ix1 (0 : Fin 1)) := by
  unfold Pipeline.Prefetch.Contents.atD
  rw [dif_pos (by decide)]
  refine congrArg (pf 1) ?_
  funext (a : Fin 1)
  refine Fin.ext ?_
  obtain rfl : a = 0 := Subsingleton.elim _ _
  rfl

/-- The result's window is idle exactly where the tile is not used. -/
theorem idle_iff (t : Fin (pipe m h).N) : (pipe m h).idle 3 ((pipe m h).grid.coords t) = true ↔ (used m).toNat ≤ t.val % 80 := by
  have key : ∀ (pf : pre0.Contents (Elt F)) (hok : ok0 pf) (t : Fin grid0.N),
      (cfg0 ⟨pf, hok⟩).idle 3 ((cfg0 ⟨pf, hok⟩).grid.coords t) = !(k0_cond1 (grid0.coords t) (pf.atD 1 ![0]) == 1#1) := fun _ _ _ => rfl
  rw [key (words m) (admitted m h) t, at_count (words m), words_used]
  have := cond_iff m h (grid0.coords t)
  rw [place_tile] at this
  rw [Bool.not_eq_true', beq_eq_false_iff_ne, ne_eq, this]
  omega

end Cert.ExpertUpIdeal.Tiles

end
-- ==== Proof.Experts.UpLaunchIdeal.lean ====
/- The up projection at every point of its grid, and so to its end. -/
module

public import proofs.«01_k».proof.Proof.Experts.UpFrameIdeal

@[expose] public section

set_option maxRecDepth 16384
set_option maxHeartbeats 4000000

noncomputable section

namespace Cert.ExpertUpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertUpIdeal Cert.ExpertUpIdeal.Gen

variable {F : FTy → Type} [FloatOps F]
variable (m : (ℓ : Loc nD τ sig) → Buf (Elt F) ℓ) (ρ : Dev nD → PrngReg) (h : Drawn m)

/-! ## The points where the tile is not used -/

/-- Past the used tiles the block of the result stays the one before. -/
theorem tile_stays (hd : Drawn m) (n : ℕ) (hn : (used m).toNat ≤ (n + 1) % 80) :
    tileOf m ((n + 1) % 80) = tileOf m (n % 80) ∧ (n + 1) / 80 = n / 80 := by
  have := hd.one_le
  unfold tileOf
  omega

/-- Past the used tiles the buffer of the result holds what the last used tile left. -/
theorem not_fresh : ∀ n, n < (pipe m h).grid.N → (used m).toNat ≤ n % 80 → (pipe m h).fresh 3 n = false
  | 0, _, hu => absurd h.one_le (by omega)
  | n + 1, hn, hu => by
    obtain ⟨e1, e2⟩ := tile_stays m h n hu
    have hn0 : n < (pipe m h).grid.N := Nat.lt_of_succ_lt hn
    rw [Cfg.fresh_succ (pipe m h) 3 n hn0]
    have hf : ((pipe m h).win 3).flush ⟨n, hn0⟩ = false := by
      have hix : ((pipe m h).win 3).index ⟨n + 1, hn⟩ = ((pipe m h).win 3).index ⟨n, hn0⟩ := by
        rw [index_out, index_out]
        dsimp only
        rw [e1, e2]
      unfold Window.flush
      have hn' : ¬ (n + 1 = (pipe m h).grid.N) := Nat.ne_of_lt hn
      simp only [hix, ne_eq, not_true_eq_false, exists_false, decide_false, Bool.or_false, Bool.and_eq_false_iff]
      exact .inr (by simpa using hn')
    rw [hf, Bool.false_or]
    by_cases hi : (used m).toNat ≤ n % 80
    · rw [not_fresh n hn0 hi, Bool.and_false]
    · have : (pipe m h).idle 3 ((pipe m h).grid.coords ⟨n, hn0⟩) = false :=
        Bool.eq_false_iff.mpr fun e => hi ((idle_iff m h _).mp e)
      rw [this, Bool.false_and]

/-! ## The data of the pipeline -/

/-- What the arrays hold, what the body leaves at each point, and what is kept throughout. -/
def dats (_ : Fin 1) (c : Dev nD) : Dat τ (Elt F) Unit ℕ (UR sig nD τ) ℕ (pipe m h) c where
  A w := start m c (Pipeline.arrRef spec0 w)
  after w t := match w with
    | ⟨0, _⟩ => block m h c 0 t
    | ⟨1, _⟩ => block m h c 1 t
    | ⟨2, _⟩ => block m h c 2 t
    | ⟨3, _⟩ => stored m (tileOf m (t.val % 80)) (t.val / 80)
  Φ _ := iprop(Pipeline.ΦA spec0 c ∗ Pipeline.ΦT pre0 (words m) c)
  q w := Pipeline.shareOf spec0 w
  owed _ := 0

/-- The arrays are those the call finds. -/
theorem arrays_found (c : Dev nD) (w : Fin (pipe m h).W) : (dats m h 0 c).A w = start m c (Pipeline.arrRef spec0 w) := by
  dsimp only [dats]
/-- The rows stay. -/
theorem after_rows (c : Dev nD) (t : Fin (pipe m h).N) : (dats m h 0 c).after 0 t = block m h c 0 t := by dsimp only [dats]; try rfl
/-- The weights stay. -/
theorem after_weights (c : Dev nD) (t : Fin (pipe m h).N) : (dats m h 0 c).after 1 t = block m h c 1 t := by dsimp only [dats]; try rfl
/-- The second half of the weights stays. -/
theorem after_second (c : Dev nD) (t : Fin (pipe m h).N) : (dats m h 0 c).after 2 t = block m h c 2 t := by dsimp only [dats]; try rfl
/-- The result is the tile's product. -/
theorem after_out (c : Dev nD) (t : Fin (pipe m h).N) : (dats m h 0 c).after 3 t = stored m (tileOf m (t.val % 80)) (t.val / 80) := by dsimp only [dats]; try rfl

/-- The body finds the rows' block. -/
theorem before_rows (c : Dev nD) (t : Fin (pipe m h).N) (d) : (dats m h 0 c).before 0 t d = block m h c 0 t :=
  ((dats m h 0 c).before_in_eq_fetched 0 rfl (fun _ => rfl) (fun _ _ _ => rfl)
    (fun t => by rw [after_rows]; unfold Dat.blockOf block; rw [arrays_found]; try rfl) t d).trans
    (by unfold Dat.fetched Dat.blockOf block; rw [arrays_found]; try rfl)
/-- The body finds the weights' block. -/
theorem before_weights (c : Dev nD) (t : Fin (pipe m h).N) (d) : (dats m h 0 c).before 1 t d = block m h c 1 t :=
  ((dats m h 0 c).before_in_eq_fetched 1 rfl (fun _ => rfl) (fun _ _ _ => rfl)
    (fun t => by rw [after_weights]; unfold Dat.blockOf block; rw [arrays_found]; try rfl) t d).trans
    (by unfold Dat.fetched Dat.blockOf block; rw [arrays_found]; try rfl)

/-- The body finds the block of the second half of the weights. -/
theorem before_second (c : Dev nD) (t : Fin (pipe m h).N) (d) : (dats m h 0 c).before 2 t d = block m h c 2 t :=
  ((dats m h 0 c).before_in_eq_fetched 2 rfl (fun _ => rfl) (fun _ _ _ => rfl)
    (fun t => by rw [after_second]; unfold Dat.blockOf block; rw [arrays_found]; try rfl) t d).trans
    (by unfold Dat.fetched Dat.blockOf block; rw [arrays_found]; try rfl)

/-- Past the used tiles the body finds in the result's buffer what it is to leave there. -/
theorem before_unused (c : Dev nD) (t : Fin (pipe m h).N) (hu : (used m).toNat ≤ t.val % 80) (d) :
    (dats m h 0 c).before 3 t d = (dats m h 0 c).after 3 t := by
  have carry : ∀ (t : Fin (pipe m h).N) (_ : t.val ≠ 0), (used m).toNat ≤ t.val % 80 →
      (dats m h 0 c).after 3 t = (dats m h 0 c).after 3 ⟨t.val - 1, by omega⟩ := fun t h0 hu => by
    obtain ⟨n, hn⟩ := Nat.exists_eq_succ_of_ne_zero h0
    obtain ⟨e1, e2⟩ := tile_stays m h n (by rw [← Nat.succ_eq_add_one, ← hn]; exact hu)
    rw [after_out, after_out]
    dsimp only
    rw [hn, Nat.succ_eq_add_one, e1, e2, Nat.add_sub_cancel]
  have h0 : t.val ≠ 0 := fun e => absurd h.one_le (by rw [e] at hu; omega)
  rw [(dats m h 0 c).before_out_traj 3 rfl (fun _ _ => rfl) (fun t h0 hi _ => carry t h0 ((idle_iff m h t).mp hi)) t.val t rfl d,
    not_fresh m h t.val t.isLt hu, if_neg Bool.false_ne_true]
  exact (carry t h0 hu).symm

/-! ## The body at a point -/

/-- The rows' buffer at a point. -/
abbrev buf0 (t : Fin (pipe m h).N) : Memref sig .tc .vmem S512x2048 .bf16 := spec0_0.stage ((pipe m h).slots t 0)
/-- The weights' buffer at a point. -/
abbrev buf1 (t : Fin (pipe m h).N) : Memref sig .tc .vmem S1x2048x512 .bf16 := spec0_1.stage ((pipe m h).slots t 1)
/-- The buffer of the second half of the weights at a point. -/
abbrev buf2 (t : Fin (pipe m h).N) : Memref sig .tc .vmem S1x2048x512 .bf16 := spec0_2.stage ((pipe m h).slots t 2)
/-- The result's buffer at a point. -/
abbrev buf3 (t : Fin (pipe m h).N) : Memref sig .tc .vmem S512x512 .bf16 := spec0_3.stage ((pipe m h).slots t 3)
/-- The body at a point. -/
abbrev bodyOf (t : Fin (pipe m h).N) : Prog (TpuEff nD τ sig (Elt F) Λ₀ .tc) PUnit :=
  cc0_moe_expert_up (grid0.coords t) expertTab (Memref.isWhole_whole _) countTab (Memref.isWhole_whole _)
    (buf0 m h t) (hstage0_0 (((pipe m h).slots t 0).cast nbuf0_0)) (buf1 m h t) (hstage0_1 (((pipe m h).slots t 1).cast nbuf0_1))
    (buf2 m h t) (hstage0_2 (((pipe m h).slots t 2).cast nbuf0_2)) (buf3 m h t) (hstage0_3 (((pipe m h).slots t 3).cast nbuf0_3))

/-- What a point starts from. -/
def ahead (c : Dev nD) (t : Fin (pipe m h).N) : Asn F :=
  iprop((dats m h 0 c).Φ t.castSucc ∗ (dats m h 0 c).owesAt () t.castSucc
    ∗ (∃ d, owns (c : Thread nD τ) (buf0 m h t) fullShare ((dats m h 0 c).before 0 t d))
    ∗ (∃ d, owns (c : Thread nD τ) (buf1 m h t) fullShare ((dats m h 0 c).before 1 t d))
    ∗ (∃ d, owns (c : Thread nD τ) (buf2 m h t) fullShare ((dats m h 0 c).before 2 t d))
    ∗ (∃ d, owns (c : Thread nD τ) (buf3 m h t) fullShare ((dats m h 0 c).before 3 t d)))

/-- What a point leaves. -/
def behind (c : Dev nD) (t : Fin (pipe m h).N) : Asn F :=
  iprop((dats m h 0 c).Φ t.succ ∗ (dats m h 0 c).owesAt () t.succ
    ∗ owns (c : Thread nD τ) (buf0 m h t) fullShare ((dats m h 0 c).after 0 t)
    ∗ owns (c : Thread nD τ) (buf1 m h t) fullShare ((dats m h 0 c).after 1 t)
    ∗ owns (c : Thread nD τ) (buf2 m h t) fullShare ((dats m h 0 c).after 2 t)
    ∗ owns (c : Thread nD τ) (buf3 m h t) fullShare ((dats m h 0 c).after 3 t))

/-- A point runs. -/
theorem point_runs (c : Dev nD) (t : Fin (pipe m h).N) :
    ahead m h c t ⊢ wp frame (wpE (defs₀ (F := F)) Variants.none c none) Set.univ (bodyOf m h t) (fun _ => behind m h c t) := by
  unfold ahead behind bodyOf
  simp only [before_rows, before_weights, before_second]
  rw [show (dats m h 0 c).Φ t.succ = (dats m h 0 c).Φ t.castSucc from rfl,
    show (dats m h 0 c).owesAt () t.succ = (dats m h 0 c).owesAt () t.castSucc from rfl, after_rows, after_weights, after_second]
  rw [show (dats m h 0 c).Φ t.castSucc = iprop(Pipeline.ΦA spec0 c ∗ Pipeline.ΦT pre0 (words m) c) from rfl, tables_eq]
  have hc := cond_iff m h (grid0.coords t)
  rw [place_tile, ← loaded_used m] at hc
  by_cases hu : (used m).toNat ≤ t.val % 80
  · simp only [before_unused m h c t hu]
    iintro ⟨⟨HΦ, ⟨HT0, HT1⟩⟩, Ho, ⟨%d0, H0⟩, ⟨%d1, H1⟩, ⟨%d2, H2⟩, ⟨%d3, H3⟩⟩
    iapply (body_unused c Set.univ (grid0.coords t) _ _ _ _ _ _ _ _ (words m 0) (words m 1) (fun e => absurd (hc.mp e) (by rw [loaded_used]; omega)) _)
    isplitl [HT0]; · iexact HT0
    isplitl [HT1]; · iexact HT1
    iintro ⟨HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3
  · rw [after_out]
    unfold stored
    rw [← block_rows m h c t, ← block_weights m h c t, ← block_second m h c t]
    iintro ⟨⟨HΦ, ⟨HT0, HT1⟩⟩, Ho, ⟨%d0, H0⟩, ⟨%d1, H1⟩, ⟨%d2, H2⟩, ⟨%d3, H3⟩⟩
    iapply (body_used c Set.univ (grid0.coords t) _ _ _ _ _ _ _ _ (words m 0) (words m 1) (block m h c 0 t) (block m h c 1 t) (block m h c 2 t) (hc.mpr (by rw [loaded_used]; omega)) _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3

/-- The result's buffer is handed back as the pipeline asks, at used and at unused points. -/
theorem handed (c : Dev nD) (t : Fin (pipe m h).N) :
    (owns (c : Thread nD τ) (buf3 m h t) fullShare ((dats m h 0 c).after 3 t) : Asn F) ⊢
      (match (pipe m h).idle 3 ((pipe m h).grid.coords t) with
      | true => (match ((pipe m h).win 3).flush t with
        | false => iprop(∃ d, owns (c : Thread nD τ) (buf3 m h t) fullShare ((dats m h 0 c).before 3 t d))
        | true => owns (c : Thread nD τ) (buf3 m h t) fullShare ((dats m h 0 c).after 3 t))
      | false => owns (c : Thread nD τ) (buf3 m h t) fullShare ((dats m h 0 c).after 3 t)) := by
  cases hi : (pipe m h).idle 3 ((pipe m h).grid.coords t) with
  | false => exact .rfl
  | true =>
    cases hf : ((pipe m h).win 3).flush t with
    | true => exact .rfl
    | false =>
      dsimp only
      iintro H
      iexists ((dats m h 0 c).after 3 t)
      rw [before_unused m h c t ((idle_iff m h t).mp hi)]
      iexact H

/-- What a point leaves is what the pipeline asks to be left. -/
theorem left_as_asked (c : Dev nD) (t : Fin (pipe m h).N) :
    behind m h c t ⊢ iprop((dats m h 0 c).Φ t.succ ∗ (dats m h 0 c).owesAt () t.succ
      ∗ owns (c : Thread nD τ) (buf0 m h t) fullShare ((dats m h 0 c).after 0 t)
      ∗ owns (c : Thread nD τ) (buf1 m h t) fullShare ((dats m h 0 c).after 1 t)
      ∗ owns (c : Thread nD τ) (buf2 m h t) fullShare ((dats m h 0 c).after 2 t)
      ∗ (match (pipe m h).idle 3 ((pipe m h).grid.coords t) with
        | true => (match ((pipe m h).win 3).flush t with
          | false => iprop(∃ d, owns (c : Thread nD τ) (buf3 m h t) fullShare ((dats m h 0 c).before 3 t d))
          | true => owns (c : Thread nD τ) (buf3 m h t) fullShare ((dats m h 0 c).after 3 t))
        | false => owns (c : Thread nD τ) (buf3 m h t) fullShare ((dats m h 0 c).after 3 t))) := by
  unfold behind
  iintro ⟨HΦ, Ho, H0, H1, H2, H3⟩
  isplitl [HΦ]; · iexact HΦ
  isplitl [Ho]; · iexact Ho
  isplitl [H0]; · iexact H0
  isplitl [H1]; · iexact H1
  isplitl [H2]; · iexact H2
  iapply (handed m h c t)
  iexact H3

/-- The pipeline's label runs the body. -/
theorem label_row (t : Fin (pipe m h).N) :
    defs₀ (F := F) .tc (pipe m h).body ((pipe m h).bodyArgs t ((pipe m h).slots t)) = bodyOf m h t := by
  unfold defs₀; rw [Defs.onTc_tc]

/-- Every point does what the pipeline asks of it. -/
theorem obligation (c : Dev nD) : BodyObligation (dats (F := F) m h 0 c) (defs₀ (F := F)) Variants.none () Set.univ := fun t => by
  rw [bigSep_W0, bigSep_W0, label_row]
  exact triple_restated (point_runs m h c t) rfl .rfl fun _ => left_as_asked m h c t

/-! ## The run -/

set_option backward.isDefEq.respectTransparency.types false in
/-- The program runs to its end with every array at what the points leave in it, and no semaphore counting. -/
theorem runs : θ_run defs (onTc (τ := τ) (main (F := F))) (s₀ m ρ)
    (fun r => (Pipeline.FramePost (Pipeline.pin pcfgs fun _ => adm m h) (dats m h) 0 (start m)) r ∧ r.2.sem = fun _ => 0) :=
  Pipeline.θ_run_frameP_shared (Q' := _) pcfgs (fun _ => adm m h) (dats m h) (0 : Fin 1) launch₀0 defs₀ Variants.none m ρ main
    (hbody := fun c => (obligation m h c).loose) (hq := fun _ _ _ => rfl)
    (howed := fun _ _ => rfl) (V := start m) (hmain := to_call m Variants.none) (hA := arrays_found m h) (hpf := start_tables m)
    (hΦ := fun _ _ => rfl)

/-- The program runs to its end and leaves its arguments as they were. -/
theorem leaves_args (h : Drawn m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c =>
    ⟨((hr.1 c).2 main_arg0 (by decide : main_arg0 ∈ Pipeline.restRefs sig spec0)).trans (keeps0 m c),
      ((hr.1 c).2 main_arg1 (by decide : main_arg1 ∈ Pipeline.restRefs sig spec0)).trans (keeps1 m c),
      ((hr.1 c).1 0).trans (((dats m h 0 c).arrAt_in 0 rfl _).trans ((arrays_found m h c 0).trans (keeps2 m c))),
      ((hr.1 c).1 1).trans (((dats m h 0 c).arrAt_in 1 rfl _).trans ((arrays_found m h c 1).trans (keeps3 m c)))⟩, hr.2⟩) (runs m ρ h)

end Cert.ExpertUpIdeal.Tiles

end
-- ==== Proof.Experts.UpValue.lean ====
/- What the up projection leaves in the rows of the used tiles, over the extended reals: each entry the
   row times a column of the first half of the expert's weights, through the gate, times the row with the second half's. -/
module

public import proofs.«01_k».proof.Proof.Experts.UpLaunchIdeal
public import Idealize.ShloMosaic.Lib.Pipeline.Value
public import Idealize.ShloMosaic.Lib.Pipeline.ValueKit.Basic

@[expose] public section

set_option maxHeartbeats 4000000
set_option maxRecDepth 16384

noncomputable section

namespace Cert.ExpertUpIdeal.Tiles

open Idealize.ShloMosaic Idealize.ShloMosaic.TcCoe Idealize.SL.Sem
open Idealize.ShloMosaic.Pipeline (Dat Cfg Window)
open Cert.ExpertUpIdeal Cert.ExpertUpIdeal.Gen

/-- The gate: a value times its logistic. -/
def gate (z : EReal) : EReal := z * Ideal.logistic z

/-- A row of the block times a column of a block of weights. -/
theorem dot_apply (x : FVec Ideal S512x2048 .bf16) (w : FVec Ideal S1x2048x512 .bf16) (r j : Fin 512) :
    (matmul dot_S512x2048_S2048x512_S512x512_1_0_0_1_n_n none x (shapeCast S2048x512 w shapeCasts_S1x2048x512_S2048x512) (constant S512x512 .f32 0x00000000#32) : FVec Ideal S512x512 .f32) (ix2 r j)
      = ∑ k : Fin 2048, x (ix2 r k) * w (ix3 (0 : Fin 1) k j) := by
  have h1 : ∀ (A : FVec Ideal S512x2048 .bf16) (B : FVec Ideal S2048x512 .bf16),
      (matmul dot_S512x2048_S2048x512_S512x512_1_0_0_1_n_n none A B (constant S512x512 .f32 0x00000000#32) : FVec Ideal S512x512 .f32) (ix2 r j)
        = ∑ k : Fin 2048, A (ix2 r k) * B (ix2 k j) := fun A B => by
    pointwise
  have h2 : ∀ k : Fin 2048, shapeCast S2048x512 w shapeCasts_S1x2048x512_S2048x512 (ix2 k j) = w (ix3 (0 : Fin 1) k j) := fun k => by
    pointwise
  refine (h1 _ _).trans (Finset.sum_congr rfl fun k _ => ?_)
  rw [h2]

/-- The body's gated product entry by entry. -/
theorem pay_apply (x : FVec Ideal S512x2048 .bf16) (w u : FVec Ideal S1x2048x512 .bf16) (r j : Fin 512) :
    k0_pay1 (F := Ideal) x w u (ix2 r j) = gate (∑ k : Fin 2048, x (ix2 r k) * w (ix3 (0 : Fin 1) k j))
      * (∑ k : Fin 2048, x (ix2 r k) * u (ix3 (0 : Fin 1) k j) : EReal) := by
  have key : ∀ G U : FVec Ideal S512x512 .f32,
      (truncf .bf16 (mulf (mulf G (logistic G)) U) bitsLt_bf16_f32 : FVec Ideal S512x512 .bf16) (ix2 r j) = gate (G (ix2 r j)) * (U (ix2 r j) : EReal) :=
    fun _ _ => rfl
  unfold k0_pay1
  refine (key _ _).trans ?_
  rw [dot_apply x w r j, dot_apply x u r j]

/-- A block loaded whole starts at zero on both axes. -/
theorem zero2 : ∀ a : Fin 2, (![0, 0] : Fin 2 → ℕ) a = 0 := by decide

/-- A block loaded whole starts at zero on its three axes. -/
theorem zero3 : ∀ a : Fin 3, (![0, 0, 0] : Fin 3 → ℕ) a = 0 := by decide

/-- The stored block entry by entry. -/
theorem product_apply (x : FVec Ideal S512x2048 .bf16) (w u : FVec Ideal S1x2048x512 .bf16) (r j : Fin 512) :
    product (F := Ideal) x w u (ix2 r j) = gate (∑ k : Fin 2048, x (ix2 r k) * w (ix3 (0 : Fin 1) k j))
      * (∑ k : Fin 2048, x (ix2 r k) * u (ix3 (0 : Fin 1) k j) : EReal) := by
  unfold product
  refine (congrFun (View.canon_cons_unit_lit inb_S512x512_S512x512_0_0 _ _ (by decide)) (ix2 r j)).trans ?_
  have ex := View.ld_unit_lit (Val := Elt Ideal) (e := .bf16) (S := S512x2048) inb_S512x2048_S512x2048_0_0 x zero2
  have ew := View.ld_unit_lit (Val := Elt Ideal) (e := .bf16) (S := S1x2048x512) inb_S1x2048x512_S1x2048x512_0_0_0 w zero3
  have eu := View.ld_unit_lit (Val := Elt Ideal) (e := .bf16) (S := S1x2048x512) inb_S1x2048x512_S1x2048x512_0_0_0 u zero3
  have key : ∀ (a : FVec Ideal S512x2048 .bf16) (b c : FVec Ideal S1x2048x512 .bf16), a = x → b = w → c = u →
      k0_pay1 (F := Ideal) a b c (ix2 r j) = k0_pay1 (F := Ideal) x w u (ix2 r j) := by
    rintro _ _ _ rfl rfl rfl
    rfl
  exact (key _ _ _ ex ew eu).trans (pay_apply x w u r j)

variable (m : (ℓ : Loc nD τ sig) → Buf (Elt Ideal) ℓ) (h : Drawn m)

/-- The result, were every tile used. -/
def whole : S40960x7168.Idx → Elt Ideal .bf16 := fun i =>
  stored m ((i 0).val / 512) ((i 1).val / 512) (ix2 (⟨(i 0).val % 512, Nat.mod_lt _ (by decide)⟩ : Fin 512) (⟨(i 1).val % 512, Nat.mod_lt _ (by decide)⟩ : Fin 512))

/-- What a point writes back is the whole's block there. -/
theorem writes_whole (c : Dev nD) (t : Fin (pipe m h).N) :
    (dats m h 0 c).flushed 3 t = (((pipe m h).win 3).blk t).view.read (Elt Ideal) (whole m) := by
  refine Eq.trans (b := (dats m h 0 c).after 3 t) rfl ?_
  rw [after_out]
  funext (y : S512x512.Idx)
  have key : ∀ V : S40960x7168.Idx → Elt Ideal .bf16,
      (((pipe m h).win 3).blk t).view.read (Elt Ideal) V y = V ((((pipe m h).win 3).rect t).idx y) := fun V => rfl
  refine Eq.trans ?_ (key (whole m)).symm
  have y0 : (y 0).val < 512 := (y 0).isLt
  have y1 : (y 1).val < 512 := (y 1).isLt
  have e0 : ((((pipe m h).win 3).rect t).idx y (0 : Fin 2)).val = tileOf m (t.val % 80) * 512 + (y 0).val :=
    (congrArg (fun f : Fin 2 → ℕ => f 0 * 512 + 1 * (y 0).val) (index_out m h t)).trans (by show tileOf m (t.val % 80) * 512 + 1 * (y 0).val = _; omega)
  have e1 : ((((pipe m h).win 3).rect t).idx y (1 : Fin 2)).val = (t.val / 80) * 512 + (y 1).val :=
    (congrArg (fun f : Fin 2 → ℕ => f 1 * 512 + 1 * (y 1).val) (index_out m h t)).trans (by show (t.val / 80) * 512 + 1 * (y 1).val = _; omega)
  have aux : ∀ (i : S40960x7168.Idx), (i 0).val = tileOf m (t.val % 80) * 512 + (y 0).val → (i 1).val = (t.val / 80) * 512 + (y 1).val →
      stored m (tileOf m (t.val % 80)) (t.val / 80) y = whole m i := fun i h0 h1 => by
    unfold whole
    have q0 : (i 0).val / 512 = tileOf m (t.val % 80) := by omega
    have q1 : (i 1).val / 512 = t.val / 80 := by omega
    rw [q0, q1]
    refine congrArg _ ?_
    funext (a : Fin 2)
    refine Fin.ext ?_
    match a with
    | ⟨0, _⟩ => show (y 0).val = (i 0).val % 512; omega
    | ⟨1, _⟩ => show (y 1).val = (i 1).val % 512; omega
  exact aux _ e0 e1

/-- The last point that works on a used tile and a block of columns writes it back. -/
theorem written (d n : ℕ) (hd : d < (used m).toNat) (hn : n < 14) :
    ∃ t : Fin (pipe m h).N, ((pipe m h).win 3).flush t = true ∧ tileOf m (t.val % 80) = d ∧ t.val / 80 = n := by
  have eN : (pipe m h).grid.N = 1120 := N_0
  have hle := h.le
  have main : ∀ x : ℕ, x < 80 → tileOf m x = d → (x = 79 ∨ tileOf m (x + 1) ≠ d) →
      ∃ t : Fin (pipe m h).N, ((pipe m h).win 3).flush t = true ∧ tileOf m (t.val % 80) = d ∧ t.val / 80 = n := fun x hx hxd hlast => by
    have hlt : n * 80 + x < (pipe m h).grid.N := by rw [eN]; omega
    have em : (n * 80 + x) % 80 = x := by omega
    have ed : (n * 80 + x) / 80 = n := by omega
    refine ⟨⟨n * 80 + x, hlt⟩, ?_, by dsimp only; rw [em]; exact hxd, ed⟩
    unfold Window.flush
    rw [Bool.and_eq_true]
    refine ⟨rfl, ?_⟩
    rw [Bool.or_eq_true, decide_eq_true_eq, decide_eq_true_eq]
    by_cases hend : n * 80 + x + 1 = (pipe m h).grid.N
    · exact .inl hend
    refine .inr ⟨Nat.lt_of_le_of_ne hlt hend, fun he => ?_⟩
    rw [index_out, index_out] at he
    dsimp only at he
    have f0 := congrFun he (0 : Fin 2)
    have f1 := congrFun he (1 : Fin 2)
    have f0 : tileOf m ((n * 80 + x + 1) % 80) = tileOf m ((n * 80 + x) % 80) := f0
    have f1 : (n * 80 + x + 1) / 80 = (n * 80 + x) / 80 := f1
    rcases hlast with rfl | hne
    · omega
    · by_cases hx79 : x = 79
      · omega
      · rw [show (n * 80 + x + 1) % 80 = x + 1 from by omega, em, hxd] at f0
        exact hne f0
  have hone := h.one_le
  by_cases hlast : d + 1 = (used m).toNat
  · exact main 79 (by omega) (by unfold tileOf; omega) (.inl rfl)
  · exact main d (by omega) (by unfold tileOf; omega) (.inr (by unfold tileOf; omega))

/-- At the end, the rows of the used tiles hold the whole's. -/
theorem ends_with (c : Dev nD) (i : S40960x7168.Idx) (hi : (i 0).val / 512 < (used m).toNat) :
    (dats m h 0 c).arrAt 3 (pipe m h).N i = whole m i := by
  have i1 : (i 1).val < 7168 := (i 1).isLt
  obtain ⟨t, hf, hd, hn⟩ := written m h ((i 0).val / 512) ((i 1).val / 512) hi (by omega)
  refine Dat.arrAt_apply_of_mem (dats m h 0 c) 3 (whole m) (fun t _ => writes_whole m h c t) (pipe m h).N t i t.isLt hf ?_
  have e : (((pipe m h).win 3).blk t).view.emb (ix2 (⟨(i 0).val % 512, Nat.mod_lt _ (by decide)⟩ : Fin 512) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 512 + 1 * ((i 0).val % 512)) (index_out m h t)).trans
        (by show tileOf m (t.val % 80) * 512 + 1 * ((i 0).val % 512) = (i 0).val; omega)
    | ⟨1, _⟩ =>
      exact (congrArg (fun f : Fin 2 → ℕ => f 1 * 512 + 1 * ((i 1).val % 512)) (index_out m h t)).trans
        (by show (t.val / 80) * 512 + 1 * ((i 1).val % 512) = (i 1).val; omega)
  exact e ▸ (((pipe m h).win 3).blk t).view.emb_mem_set _

/-- An entry of the product with a block of columns is a sum of products. -/
theorem column_apply (d : Fin 80) (r : Fin 512) (n : ℕ) (j : Fin 512) (f : Fin 14336) (hf : f.val = n * 512 + j.val) (X : FVec Ideal S40960x2048 .bf16) (W : FVec Ideal S8x2048x14336 .bf16)
    (hX : m (((0 : Dev nD) : Thread nD τ).loc main_arg2) = X) (hW : m (((0 : Dev nD) : Thread nD τ).loc main_arg3) = W) :
    (∑ k : Fin 2048, (rowsOf m d.val (ix2 r k) : EReal) * weightsOf m (expertNat m d.val) n (ix3 (0 : Fin 1) k j)) =
      ∑ k : Fin 2048, (X (ix2 (⟨d.val * 512 + r.val, by omega⟩ : Fin 40960) k) : EReal)
        * W (ix3 (⟨(expert m d).toNat % 8, Nat.mod_lt _ (by decide)⟩ : Fin 8) k f) := by
  subst hX hW
  refine Finset.sum_congr rfl fun k _ => ?_
  unfold rowsOf weightsOf
  refine congrArg₂ (fun a b : EReal => a * b) (congrArg (m (((0 : Dev nD) : Thread nD τ).loc main_arg2)) ?_) (congrArg (m (((0 : Dev nD) : Thread nD τ).loc main_arg3)) ?_)
  · funext (a : Fin 2)
    refine Fin.ext ?_
    match a with
    | ⟨0, _⟩ => show (d.val * 512 + r.val) % 40960 = d.val * 512 + r.val; omega
    | ⟨1, _⟩ => rfl
  · funext (a : Fin 3)
    refine Fin.ext ?_
    match a with
    | ⟨0, _⟩ =>
      show expertNat m d.val % 8 = (expert m d).toNat % 8
      unfold expertNat
      rw [show (⟨d.val % 80, Nat.mod_lt _ (by decide)⟩ : Fin 80) = d from Fin.ext (Nat.mod_eq_of_lt d.isLt)]
    | ⟨1, _⟩ => rfl
    | ⟨2, _⟩ => show (n * 512 + j.val) % 14336 = f.val; have := f.isLt; omega

/-- Every entry of the whole is a gated product of two sums of products. -/
theorem whole_apply (d : Fin 80) (r : Fin 512) (f : Fin 7168) (X : FVec Ideal S40960x2048 .bf16) (W : FVec Ideal S8x2048x14336 .bf16)
    (hX : m (((0 : Dev nD) : Thread nD τ).loc main_arg2) = X) (hW : m (((0 : Dev nD) : Thread nD τ).loc main_arg3) = W) :
    whole m (ix2 (⟨d.val * 512 + r.val, by omega⟩ : Fin 40960) f) =
      gate (∑ k : Fin 2048, (X (ix2 (⟨d.val * 512 + r.val, by omega⟩ : Fin 40960) k) : EReal)
        * W (ix3 (⟨(expert m d).toNat % 8, Nat.mod_lt _ (by decide)⟩ : Fin 8) k (⟨f.val, by omega⟩ : Fin 14336)))
      * (∑ k : Fin 2048, (X (ix2 (⟨d.val * 512 + r.val, by omega⟩ : Fin 40960) k) : EReal)
        * W (ix3 (⟨(expert m d).toNat % 8, Nat.mod_lt _ (by decide)⟩ : Fin 8) k (⟨7168 + f.val, by omega⟩ : Fin 14336)) : EReal) := by
  unfold whole
  have key : ∀ (a b : ℕ) (p q : Fin 512), a = d.val → b = f.val / 512 → p = r → q.val = f.val % 512 →
      stored m a b (ix2 p q) = gate (∑ k : Fin 2048, (X (ix2 (⟨d.val * 512 + r.val, by omega⟩ : Fin 40960) k) : EReal)
        * W (ix3 (⟨(expert m d).toNat % 8, Nat.mod_lt _ (by decide)⟩ : Fin 8) k (⟨f.val, by omega⟩ : Fin 14336)))
      * (∑ k : Fin 2048, (X (ix2 (⟨d.val * 512 + r.val, by omega⟩ : Fin 40960) k) : EReal)
        * W (ix3 (⟨(expert m d).toNat % 8, Nat.mod_lt _ (by decide)⟩ : Fin 8) k (⟨7168 + f.val, by omega⟩ : Fin 14336)) : EReal) := by
    rintro _ _ _ q rfl rfl rfl hq
    unfold stored
    refine (product_apply _ _ _ _ _).trans ?_
    exact congrArg₂ (fun a b : EReal => gate a * b)
      (column_apply m d _ _ q (⟨f.val, by omega⟩ : Fin 14336) (by dsimp only; omega) X W hX hW)
      (column_apply m d _ _ q (⟨7168 + f.val, by omega⟩ : Fin 14336) (by dsimp only; omega) X W hX hW)
  exact key _ _ _ _ (by show (d.val * 512 + r.val) / 512 = d.val; omega) rfl (Fin.ext (by show (d.val * 512 + r.val) % 512 = r.val; omega)) rfl

end Cert.ExpertUpIdeal.Tiles

end
-- ==== Proof.Experts.UpRef.lean ====
/- The reference of the up projection entry by entry: the row times a column of the first half of the expert's weights,
   through the gate, times the row with the column of the second half. -/
module

public import proofs.«01_k».proof.Proof.Gen.RefExpertUpIdeal.Run
public import proofs.«01_k».proof.Proof.Band.Words
public import Idealize.ShloMosaic.Lib.Pointwise

@[expose] public section

set_option maxHeartbeats 4000000
set_option maxRecDepth 16384

noncomputable section

namespace Cert.RefExpertUpIdeal.Tiles

open Idealize.ShloMosaic Idealize.SL.Sem
open Cert.RefExpertUpIdeal Cert.RefExpertUpIdeal.Gen

/-- The gather of the weights at a tile. -/
theorem gather_weights (W : FVec Ideal S8x2048x14336 .f32) (idx : IVec S80x1 32) (t : Fin 80) (k : Fin 2048) (f : Fin 14336) :
    Host.gather gather_S8x2048x14336_S80x1_S80x2048x14336_12_0_n_n_0_1_1204814336 W idx (ix3 t k f)
      = W (ix3 (⟨min (idx (ix2 t (0 : Fin 1))).toInt.toNat 7, by omega⟩ : Fin 8) k f) := by
  unfold Host.gather
  congr 1
  funext (a : Fin 3)
  refine Fin.ext ?_
  show GatherDims.start gather_S8x2048x14336_S80x1_S80x2048x14336_12_0_n_n_0_1_1204814336 (ix3 t k f) idx a + GatherDims.batchCoord gather_S8x2048x14336_S80x1_S80x2048x14336_12_0_n_n_0_1_1204814336 (ix3 t k f) a + GatherDims.offCoord gather_S8x2048x14336_S80x1_S80x2048x14336_12_0_n_n_0_1_1204814336 (ix3 t k f) a = _
  rw [GatherDims.batchCoord_eq_zero _ _ _ List.not_mem_nil]
  have hsi : gather_S8x2048x14336_S80x1_S80x2048x14336_12_0_n_n_0_1_1204814336.siIdx (ix3 t k f)
      ⟨List.idxOf (0 : Fin 3) gather_S8x2048x14336_S80x1_S80x2048x14336_12_0_n_n_0_1_1204814336.startIndexMap,
        List.idxOf_lt_length_iff.2 (List.mem_singleton.mpr rfl)⟩ = ix2 t (0 : Fin 1) := by
    funext b; refine Fin.ext ?_
    match b with
    | ⟨0, _⟩ => rfl
    | ⟨1, _⟩ => rfl
  match a with
  | ⟨0, _⟩ =>
    show GatherDims.start gather_S8x2048x14336_S80x1_S80x2048x14336_12_0_n_n_0_1_1204814336 (ix3 t k f) idx (0 : Fin 3) + 0 + GatherDims.offCoord gather_S8x2048x14336_S80x1_S80x2048x14336_12_0_n_n_0_1_1204814336 (ix3 t k f) (0 : Fin 3) = _
    rw [GatherDims.offCoord_eq_zero _ _ _ (fun h => ((GatherDims.mem_sKept _ _).mp h).1 (List.mem_singleton.mpr rfl))]
    unfold GatherDims.start
    rw [dif_pos (show (0 : Fin 3) ∈ gather_S8x2048x14336_S80x1_S80x2048x14336_12_0_n_n_0_1_1204814336.startIndexMap from List.mem_singleton.mpr rfl), hsi]
    rfl
  | ⟨1, _⟩ =>
    show GatherDims.start gather_S8x2048x14336_S80x1_S80x2048x14336_12_0_n_n_0_1_1204814336 (ix3 t k f) idx (1 : Fin 3) + 0 + GatherDims.offCoord gather_S8x2048x14336_S80x1_S80x2048x14336_12_0_n_n_0_1_1204814336 (ix3 t k f) (1 : Fin 3) = k.val
    unfold GatherDims.start
    rw [dif_neg (show ¬ (1 : Fin 3) ∈ gather_S8x2048x14336_S80x1_S80x2048x14336_12_0_n_n_0_1_1204814336.startIndexMap from fun h => absurd (List.mem_singleton.mp h) (by decide))]
    exact (Nat.zero_add _).trans rfl
  | ⟨2, _⟩ =>
    show GatherDims.start gather_S8x2048x14336_S80x1_S80x2048x14336_12_0_n_n_0_1_1204814336 (ix3 t k f) idx (2 : Fin 3) + 0 + GatherDims.offCoord gather_S8x2048x14336_S80x1_S80x2048x14336_12_0_n_n_0_1_1204814336 (ix3 t k f) (2 : Fin 3) = f.val
    unfold GatherDims.start
    rw [dif_neg (show ¬ (2 : Fin 3) ∈ gather_S8x2048x14336_S80x1_S80x2048x14336_12_0_n_n_0_1_1204814336.startIndexMap from fun h => absurd (List.mem_singleton.mp h) (by decide))]
    exact (Nat.zero_add _).trans rfl

/-- The batched product of tiles and their weights. -/
theorem tile_dot (A : FVec Ideal S80x512x2048 .f32) (B : FVec Ideal S80x2048x14336 .f32) (t : Fin 80) (r : Fin 512) (f : Fin 14336) :
    Host.dotGeneral (F := Ideal) (φ₁ := .f32) (φ₂ := .f32) dot_S80x512x2048_S80x2048x14336_S80x512x14336_2_1_1_2_0_0 none A B (ix3 t r f)
      = ∑ k : Fin 2048, A (ix3 t r k) * B (ix3 t k f) := by
  pointwise

/-- The rows split into tiles. -/
theorem split_rows (X : FVec Ideal S40960x2048 .bf16) (t : Fin 80) (r : Fin 512) (k : Fin 2048) :
    (shapeCast S80x512x2048 (extf .f32 X bitsLt_bf16_f32 : FVec Ideal S40960x2048 .f32) shapeCasts_S40960x2048_S80x512x2048) (ix3 t r k)
      = X (ix2 (⟨t.val * 512 + r.val, by omega⟩ : Fin 40960) k) := by
  pointwise

/-- The tiles joined into rows. -/
theorem join_rows (D : FVec Ideal S80x512x7168 .f32) (t : Fin 80) (r : Fin 512) (f : Fin 7168) :
    (truncf .bf16 (shapeCast S40960x7168 D shapeCasts_S80x512x7168_S40960x7168 : FVec Ideal S40960x7168 .f32) bitsLt_bf16_f32 : FVec Ideal S40960x7168 .bf16)
      (ix2 (⟨t.val * 512 + r.val, by omega⟩ : Fin 40960) f) = D (ix3 t r f) := by
  pointwise

/-- The first half of the columns. -/
theorem first_half (D : FVec Ideal S80x512x14336 .f32) (t : Fin 80) (r : Fin 512) (f : Fin 7168) :
    extractStridedSlice S80x512x7168 ![0, 0, 0] D slices_S80x512x14336_S80x512x7168_0_0_0 (ix3 t r f) = D (ix3 t r (⟨f.val, by omega⟩ : Fin 14336)) := by
  pointwise

/-- The second half of the columns. -/
theorem second_half (D : FVec Ideal S80x512x14336 .f32) (t : Fin 80) (r : Fin 512) (f : Fin 7168) :
    extractStridedSlice S80x512x7168 ![0, 0, 7168] D slices_S80x512x14336_S80x512x7168_0_0_7168 (ix3 t r f)
      = D (ix3 t r (⟨7168 + f.val, by omega⟩ : Fin 14336)) := by
  pointwise

/-- The word of one is one. -/
theorem one_word : (FloatOps.ofBits .f32 0x3F800000#32 : Ideal .f32) = (1 : EReal) := by
  pointwise

/-- The gated product entry by entry. -/
theorem gated (A B : FVec Ideal S80x512x7168 .f32) (t : Fin 80) (r : Fin 512) (f : Fin 7168) :
    mulf (mulf A (Host.divf (broadcastInDim S80x512x7168 ![] bcast_S_S80x512x7168 (constant S_ .f32 0x3F800000#32))
      (addf (broadcastInDim S80x512x7168 ![] bcast_S_S80x512x7168 (constant S_ .f32 0x3F800000#32)) (Host.exp (Host.negf A))))) B (ix3 t r f)
      = ((A (ix3 t r f) : EReal) * Ideal.logistic (A (ix3 t r f))) * B (ix3 t r f) := by
  refine Eq.trans (b := ((A (ix3 t r f) : EReal) * Ideal.div (FloatOps.ofBits .f32 0x3F800000#32 : Ideal .f32)
    ((FloatOps.ofBits .f32 0x3F800000#32 : Ideal .f32) + Ideal.exp (-(A (ix3 t r f) : EReal)))) * B (ix3 t r f)) rfl ?_
  rw [one_word]
  rfl

/-- The index the weights are gathered at. -/
theorem gather_word (e : IVec S80 32) (t : Fin 80) (h : (e (ix1 t)).toNat < 8) :
    min (broadcastInDim S80x1 ![0] bcast_S80_S80x1_0 (select (cmpi .slt e (broadcastInDim S80 ![] bcast_S_S80 (constantI S_ 32 0#32)))
      (addi e (broadcastInDim S80 ![] bcast_S_S80 (constantI S_ 32 8#32))) e) (ix2 t (0 : Fin 1))).toInt.toNat 7 = (e (ix1 t)).toNat % 8 := by
  have h1 : broadcastInDim S80x1 ![0] bcast_S80_S80x1_0 (select (cmpi .slt e (broadcastInDim S80 ![] bcast_S_S80 (constantI S_ 32 0#32)))
      (addi e (broadcastInDim S80 ![] bcast_S_S80 (constantI S_ 32 8#32))) e) (ix2 t (0 : Fin 1))
      = Scalar.select (IntOp.cmpi .slt (e (ix1 t)) 0#32) (IntOp.addi (e (ix1 t)) 8#32) (e (ix1 t)) := by
    pointwise
  have h2 : (e (ix1 t)).toInt = (e (ix1 t)).toNat := BitVec.toInt_eq_toNat_of_lt (by omega)
  rw [h1, Cert.Band.wrap_word _ _ (by rw [h2]; omega), h2]
  omega

/-- The products of the tiles' rows with their experts' weights, both halves. -/
def both (e : IVec S80 32) (X : FVec Ideal S40960x2048 .bf16) (W : FVec Ideal S8x2048x14336 .bf16) : FVec Ideal S80x512x14336 .f32 :=
  Host.dotGeneral (F := Ideal) (φ₁ := .f32) (φ₂ := .f32) dot_S80x512x2048_S80x2048x14336_S80x512x14336_2_1_1_2_0_0 none
    (shapeCast S80x512x2048 (extf .f32 X bitsLt_bf16_f32 : FVec Ideal S40960x2048 .f32) shapeCasts_S40960x2048_S80x512x2048)
    (Host.gather gather_S8x2048x14336_S80x1_S80x2048x14336_12_0_n_n_0_1_1204814336 (extf .f32 W bitsLt_bf16_f32 : FVec Ideal S8x2048x14336 .f32)
      (broadcastInDim S80x1 ![0] bcast_S80_S80x1_0 (select (cmpi .slt e (broadcastInDim S80 ![] bcast_S_S80 (constantI S_ 32 0#32)))
        (addi e (broadcastInDim S80 ![] bcast_S_S80 (constantI S_ 32 8#32))) e)))

/-- Those products entry by entry. -/
theorem both_apply (e : IVec S80 32) (X : FVec Ideal S40960x2048 .bf16) (W : FVec Ideal S8x2048x14336 .bf16) (t : Fin 80) (r : Fin 512) (f : Fin 14336)
    (h : (e (ix1 t)).toNat < 8) :
    both e X W (ix3 t r f) = ∑ k : Fin 2048, (X (ix2 (⟨t.val * 512 + r.val, by omega⟩ : Fin 40960) k) : EReal)
        * W (ix3 (⟨(e (ix1 t)).toNat % 8, Nat.mod_lt _ (by decide)⟩ : Fin 8) k f) := by
  unfold both
  refine (tile_dot _ _ t r f).trans (Finset.sum_congr rfl fun k _ => ?_)
  refine congrArg₂ (fun a b : EReal => a * b) (split_rows X t r k) ((gather_weights _ _ t k f).trans ?_)
  refine congrArg (fun z : Fin 8 => W (ix3 z k f)) (Fin.ext ?_)
  exact gather_word e t h

/-- The reference's array from those products. -/
def joined (D : FVec Ideal S80x512x14336 .f32) : FVec Ideal S40960x7168 .bf16 :=
  truncf .bf16 (shapeCast S40960x7168 (mulf (mulf (extractStridedSlice S80x512x7168 ![0, 0, 0] D slices_S80x512x14336_S80x512x7168_0_0_0)
      (Host.divf (broadcastInDim S80x512x7168 ![] bcast_S_S80x512x7168 (constant S_ .f32 0x3F800000#32))
        (addf (broadcastInDim S80x512x7168 ![] bcast_S_S80x512x7168 (constant S_ .f32 0x3F800000#32))
          (Host.exp (Host.negf (extractStridedSlice S80x512x7168 ![0, 0, 0] D slices_S80x512x14336_S80x512x7168_0_0_0))))))
      (extractStridedSlice S80x512x7168 ![0, 0, 7168] D slices_S80x512x14336_S80x512x7168_0_0_7168))
    shapeCasts_S80x512x7168_S40960x7168 : FVec Ideal S40960x7168 .f32) bitsLt_bf16_f32

/-- That array entry by entry. -/
theorem joined_apply (D : FVec Ideal S80x512x14336 .f32) (t : Fin 80) (r : Fin 512) (f : Fin 7168) :
    joined D (ix2 (⟨t.val * 512 + r.val, by omega⟩ : Fin 40960) f)
      = ((D (ix3 t r (⟨f.val, by omega⟩ : Fin 14336)) : EReal) * Ideal.logistic (D (ix3 t r (⟨f.val, by omega⟩ : Fin 14336))))
        * D (ix3 t r (⟨7168 + f.val, by omega⟩ : Fin 14336)) := by
  unfold joined
  refine (join_rows _ t r f).trans ((gated _ _ t r f).trans ?_)
  rw [first_half, second_half]

end Cert.RefExpertUpIdeal.Tiles

end
-- ==== Proof.Experts.UpEqual.lean ====
/- On the rows of the used tiles, the up projection's array is the reference's. -/
module

public import proofs.«01_k».proof.Defs
public import proofs.«01_k».proof.Proof.Experts.UpPre
public import proofs.«01_k».proof.Proof.Experts.UpPreIdeal
public import proofs.«01_k».proof.Proof.Experts.UpLaunch
public import proofs.«01_k».proof.Proof.Experts.UpValue
public import proofs.«01_k».proof.Proof.Experts.UpRef
public import proofs.«01_k».proof.Proof.Gen.On_rows_used_up

@[expose] public section

set_option maxHeartbeats 4000000
set_option maxRecDepth 16384

noncomputable section

namespace Cert.ExpertUpIdeal.Tiles

open Idealize.ShloMosaic Idealize.ShloMosaic.TcCoe Idealize.SL.Sem
open Cert.ExpertUpIdeal Cert.ExpertUpIdeal.Gen

/-- The mask selects rows of used tiles only. -/
theorem row_used (e : IVec Cert.On_rows_used_up.S80 32) (n : IVec Cert.On_rows_used_up.S1 32)
    (X : FVec Ideal Cert.On_rows_used_up.S40960x2048 .bf16) (W : FVec Ideal Cert.On_rows_used_up.S8x2048x14336 .bf16)
    (r : Fin 40960) (f : Fin 7168) (hn : (n (ix1 (0 : Fin 1))).toNat ≤ 80)
    (h : Cert.On_rows_used_up.fn (F := Ideal) e n X W (ix2 r f) = 1#1) : r.val / 512 < (n (ix1 (0 : Fin 1))).toNat := by
  have h1 : Cert.On_rows_used_up.fn (F := Ideal) e n X W (ix2 r f) =
      IntOp.cmpi .slt (BitVec.ofNat 32 r.val) (IntOp.muli (n (ix1 (0 : Fin 1))) 512#32) := by
    unfold Cert.On_rows_used_up.fn
    pointwise
  rw [h1, IntOp.cmpi_slt] at h
  have hm : (IntOp.muli (n (ix1 (0 : Fin 1))) 512#32).toNat = (n (ix1 (0 : Fin 1))).toNat * 512 := by
    show (n (ix1 (0 : Fin 1)) * 512#32).toNat = _
    rw [BitVec.toNat_mul]
    show (n (ix1 (0 : Fin 1))).toNat * 512 % 4294967296 = _
    omega
  have hr : (BitVec.ofNat 32 r.val).toNat = r.val := by
    rw [BitVec.toNat_ofNat]
    exact Nat.mod_eq_of_lt (by omega)
  rw [BitVec.toInt_eq_toNat_of_lt (by rw [hr]; omega), BitVec.toInt_eq_toNat_of_lt (by rw [hm]; omega), hr, hm] at h
  omega

/-- The array the run leaves is the whole's on the rows of the used tiles, and the arguments end as they were. -/
theorem leaves_whole (m : (ℓ : Loc nD τ sig) → Buf (Elt Ideal) ℓ) (ρ : Dev nD → PrngReg) (h : Drawn m) :
    θ_run defs (onTc (τ := τ) (main (F := Ideal))) ⟨m, fun _ => 0, ρ⟩ (fun r => ∀ c : Dev nD,
      (∀ i : S40960x7168.Idx, (i 0).val / 512 < (used m).toNat → r.2.mem ((c.tc : Thread nD τ).loc main_v12) i = whole m i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨fun i hi => (congrFun ((hr.1 c).1 3) i).trans (ends_with m h c i hi),
    ((hr.1 c).2 main_arg0 (by decide : main_arg0 ∈ Pipeline.restRefs sig spec0)).trans (keeps0 m c),
    ((hr.1 c).2 main_arg1 (by decide : main_arg1 ∈ Pipeline.restRefs sig spec0)).trans (keeps1 m c),
    ((hr.1 c).1 0).trans (((dats m h 0 c).arrAt_in 0 rfl _).trans ((arrays_found m h c 0).trans (keeps2 m c))),
    ((hr.1 c).1 1).trans (((dats m h 0 c).arrAt_in 1 rfl _).trans ((arrays_found m h c 1).trans (keeps3 m c)))⟩) (runs m ρ h)

/-- The reference's entry is the whole's, in every row. -/
theorem reference_entry (m : (ℓ : Loc nD τ sig) → Buf (Elt Ideal) ℓ) (h : Drawn m) (e : IVec S80 32) (X : FVec Ideal S40960x2048 .bf16) (W : FVec Ideal S8x2048x14336 .bf16)
    (he : m (((0 : Dev nD) : Thread nD τ).loc main_arg0) = e)
    (hX : m (((0 : Dev nD) : Thread nD τ).loc main_arg2) = X) (hW : m (((0 : Dev nD) : Thread nD τ).loc main_arg3) = W) (r : Fin 40960) (f : Fin 7168) :
    Cert.RefExpertUpIdeal.Tiles.joined (Cert.RefExpertUpIdeal.Tiles.both e X W) (ix2 r f)
      = whole m (ix2 r f) := by
  obtain ⟨t, q, rfl⟩ : ∃ (t : Fin 80) (q : Fin 512), r = ⟨t.val * 512 + q.val, by omega⟩ :=
    ⟨⟨r.val / 512, by omega⟩, ⟨r.val % 512, Nat.mod_lt _ (by decide)⟩, Fin.ext (by dsimp only; omega)⟩
  have hb : ∀ g : Fin 14336, Cert.RefExpertUpIdeal.Tiles.both e X W (ix3 t q g) =
      ∑ k : Fin 2048, (X (ix2 (⟨t.val * 512 + q.val, by omega⟩ : Fin 40960) k) : EReal)
        * W (ix3 (⟨(expert m t).toNat % 8, Nat.mod_lt _ (by decide)⟩ : Fin 8) k g) := fun g => by
    refine (Cert.RefExpertUpIdeal.Tiles.both_apply e X W t q g (by rw [← he]; exact h.below t)).trans ?_
    rw [← he]
    rfl
  refine (Cert.RefExpertUpIdeal.Tiles.joined_apply _ t q f).trans ?_
  rw [hb, hb]
  exact (whole_apply m t q f X W hX hW).symm

end Cert.ExpertUpIdeal.Tiles

namespace Cert.Proof

open Idealize.ShloMosaic Idealize.SL.Sem

/-- The up projection runs from every memory whose tables are in range, and leaves its arguments as they were. -/
theorem frame_expert_up : Cert.quiescent_ExpertUp := fun m ρ hpre =>
  Cert.ExpertUp.Tiles.leaves_args m ρ (Cert.ExpertUp.Tiles.drawn_of m _ _ (hpre 0))

/-- The same of the idealized one. -/
theorem frame_expert_up_ideal : Cert.quiescent_ExpertUpIdeal := fun m ρ hpre =>
  Cert.ExpertUpIdeal.Tiles.leaves_args m ρ (Cert.ExpertUpIdeal.Tiles.drawn_of m _ _ (hpre 0))

/-- The reference of the up projection runs and keeps its arguments. -/
theorem frame_expert_up_reference : Cert.quiescent_RefExpertUpIdeal := fun m ρ _ =>
  (θ_run (Cert.RefExpertUpIdeal.defs (F := Ideal)) _ _).mono (fun r h => ⟨fun c => (h c).2, sem_eq_zero_of_no_sems (by decide) r.2⟩)
    (Cert.RefExpertUpIdeal.Value.run (F := Ideal) m ρ)

/-- On the rows of the used tiles the up projection's array and its reference's are equal, element by element. -/
theorem expert_up_equal : Cert.algebraic_ExpertUpIdeal_RefExpertUpIdeal_on_rows_used_up := fun m g m' g' hpre hag => by
  have h := Cert.ExpertUpIdeal.Tiles.drawn_of m _ _ (hpre 0)
  refine ⟨fun _ => Cert.ExpertUpIdeal.Tiles.whole m, ?_, ?_⟩
  · refine (θ_run (Cert.ExpertUpIdeal.defs (F := Ideal)) _ _).mono (fun r hr c => ⟨fun i hi => (hr c).1 i ?_, (hr c).2⟩)
      (Cert.ExpertUpIdeal.Tiles.leaves_whole m g h)
    obtain rfl : c = 0 := Subsingleton.elim _ _
    have ei : i = ix2 (i 0) (i 1) := by
      funext (a : Fin 2)
      match a with
      | ⟨0, _⟩ => rfl
      | ⟨1, _⟩ => rfl
    rw [ei] at hi
    exact Cert.ExpertUpIdeal.Tiles.row_used _ _ _ _ (i 0) (i 1) h.le hi
  · refine (θ_run (Cert.RefExpertUpIdeal.defs (F := Ideal)) _ _).mono (fun r hr c => ⟨fun i _ => (congrFun (hr c).1 i).trans ?_, (hr c).2⟩)
      (Cert.RefExpertUpIdeal.Value.run (F := Ideal) m' g')
    obtain rfl : c = 0 := Subsingleton.elim _ _
    have ei : i = ix2 (i 0) (i 1) := by
      funext (a : Fin 2)
      match a with
      | ⟨0, _⟩ => rfl
      | ⟨1, _⟩ => rfl
    rw [ei]
    exact Cert.ExpertUpIdeal.Tiles.reference_entry m h _ _ _ (hag 0).1.symm (hag 0).2.2.1.symm (hag 0).2.2.2.symm (i 0) (i 1)

end Cert.Proof

end
-- ==== Proof.Experts.DownTablesIdeal.lean ====
/- The tables the down projection's pipeline prefetches, as the host leaves them: the number of used tiles, and for each
   tile the expert of the tile or of the last used one. -/
module

public import proofs.«01_k».proof.Proof.Gen.ExpertDownIdeal.Launch
public import proofs.«01_k».proof.Proof.Gen.ExpertDownIdeal.Skeleton
public import proofs.«01_k».proof.Proof.Band.Words
public import Idealize.ShloMosaic.Lib.Pointwise
public import Idealize.ShloMosaic.Lib.StableHlo.ReadAt
public import Idealize.ShloMosaic.Lib.Pipeline.TableIdle
public import Idealize.ShloMosaic.Lib.Pipeline.FrameBody
public import Idealize.ShloMosaic.Lib.Pipeline.Kit

@[expose] public section

set_option maxHeartbeats 4000000
set_option maxRecDepth 16384

noncomputable section

namespace Cert.ExpertDownIdeal.Tiles

open Idealize.ShloMosaic Idealize.ShloMosaic.TcCoe Idealize.SL.Sem
open Cert.ExpertDownIdeal Cert.ExpertDownIdeal.Gen

variable {F : FTy → Type} [FloatOps F]
variable (m : (ℓ : Loc nD τ sig) → Buf (Elt F) ℓ)

/-- What a buffer holds once the host operations ahead of the call have run. -/
abbrev start (c : Dev nD) (b : Ref sig .tc) : Buf (Elt F) ((c : Thread nD τ).loc b) := StableHlo.after hostOps0 (fun b => m (c, b)) b

/-- The tables at that moment. -/
def words : pre0.Contents (Elt F) := fun j => start m (0 : Dev nD) (pre0.ref j)

/-- The tile count the call is given. -/
def used : BitVec 32 := m (((0 : Dev nD) : Thread nD τ).loc main_arg1) (ix1 (0 : Fin 1))

/-- The expert of a tile, as the call is given it. -/
def expert (d : Fin 80) : BitVec 32 := m (((0 : Dev nD) : Thread nD τ).loc main_arg0) (ix1 d)

/-- The range the tables are drawn from: one to eighty used tiles, and experts below eight. -/
structure Drawn : Prop where
  one_le : 1 ≤ (used m).toNat
  le : (used m).toNat ≤ 80
  below : ∀ d, (expert m d).toNat < 8

/-- The tile whose data a point of the tile axis works on. -/
def tileOf (d : ℕ) : ℕ := min d ((used m).toNat - 1)

theorem tileOf_lt (h : Drawn m) (d : ℕ) : tileOf m d < 80 := by
  have := h.le; have := h.one_le; unfold tileOf; omega

/-- The gather of the experts at a tile: the table at the clamped start index. -/
theorem gather_tile (T : IVec S80 32) (idx : IVec S80x1 32) (t : Fin 80) :
    Host.gather gather_S80_S80x1_S80_n_0_n_n_0_1_1 T idx (ix1 t) = T (ix1 ⟨min (idx (ix2 t (0 : Fin 1))).toInt.toNat 79, by omega⟩) := by
  unfold Host.gather
  congr 1
  funext a
  refine Fin.ext ?_
  show GatherDims.start _ (ix1 t) idx a + GatherDims.batchCoord _ (ix1 t) a + GatherDims.offCoord _ (ix1 t) a = _
  obtain rfl : a = 0 := Subsingleton.elim _ _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S80_S80x1_S80_n_0_n_n_0_1_1.startIndexMap from List.mem_singleton.mpr rfl)]
  have hsi : gather_S80_S80x1_S80_n_0_n_n_0_1_1.siIdx (ix1 t) ⟨List.idxOf (0 : Fin 1) gather_S80_S80x1_S80_n_0_n_n_0_1_1.startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The signed value of a word of the range. -/
theorem toInt_of_le (x : BitVec 32) (h : x.toNat ≤ 80) : x.toInt = x.toNat := by
  rw [BitVec.toInt_eq_toNat_of_lt (by omega)]

/-- The word of the tile a point works on. -/
theorem min_word (h : Drawn m) (d : ℕ) (hd : d < 80) :
    IntOp.minsi (BitVec.ofNat 32 d) (IntOp.subi (used m) 1#32) = BitVec.ofNat 32 (tileOf m d) := by
  have hu := toInt_of_le _ h.le
  have h1 : (1#32 : BitVec 32).toInt = 1 := by decide
  have := h.one_le
  have := h.le
  refine BitVec.toInt_inj.mp ?_
  rw [Cert.Band.toInt_minsi, Cert.Band.toInt_small _ (by omega), Cert.Band.toInt_subi _ _ (by rw [hu, h1]; omega) (by rw [hu, h1]; omega), hu, h1,
    Cert.Band.toInt_small _ (by unfold tileOf; omega)]
  unfold tileOf
  omega

/-- The count the call prefetches is the one it was given. -/
theorem words_used : words m 1 (ix1 (0 : Fin 1)) = used m := by
  unfold words used
  show start m 0 main_arg1 (ix1 (0 : Fin 1)) = _
  unfold start
  after_reads_at

/-- The expert the call prefetches for a tile. -/
theorem words_expert (h : Drawn m) (d : Fin 80) : words m 0 (ix1 d) = expert m ⟨tileOf m d.val, tileOf_lt m h d.val⟩ := by
  unfold words
  show start m 0 main_v11 (ix1 d) = _
  unfold start
  after_reads_at
  clean_types
  rw [gather_tile]
  refine congrArg (fun z => m (((0 : Dev nD) : Thread nD τ).loc main_arg0) (ix1 z)) (Fin.ext ?_)
  dsimp only
  have hi : ∀ x : BitVec 32, x = BitVec.ofNat 32 (tileOf m d.val) → min x.toInt.toNat 79 = tileOf m d.val := by
    rintro _ rfl
    have := tileOf_lt m h d.val
    rw [Cert.Band.toInt_small _ (by omega)]
    omega
  refine hi _ ?_
  refine Eq.trans (b := Scalar.select (IntOp.cmpi .slt (IntOp.minsi (BitVec.ofNat 32 d.val) (IntOp.subi (used m) 1#32)) 0#32)
    (IntOp.addi (IntOp.minsi (BitVec.ofNat 32 d.val) (IntOp.subi (used m) 1#32)) 80#32)
    (IntOp.minsi (BitVec.ofNat 32 d.val) (IntOp.subi (used m) 1#32))) rfl ?_
  rw [min_word m h d.val d.isLt]
  exact Cert.Band.wrap_word _ _ (by rw [Cert.Band.toInt_small _ (by have := tileOf_lt m h d.val; omega)]; omega)

/-- The count an index map loads. -/
theorem at_used : (words m).at 1 (Rect.unit (s := S1) ![0] S1.size inb_S1_S1_0) numel1_S1 = used m := by
  refine Eq.trans (congrArg (words m 1) ?_) (words_used m)
  funext (a : Fin 1)
  refine Fin.ext ?_
  obtain rfl : a = 0 := Subsingleton.elim _ _
  exact Nat.lt_one_iff.mp (Fin.isLt _)

/-- The expert an index map loads. -/
theorem at_expert (h : Drawn m) (i : grid0.Coords) :
    (words m).at 0 (Rect.unit (s := S80) (k0_off1 i) S1.size (k0_off1_inb i)) numel1_S1 = expert m ⟨tileOf m (i 1).val, tileOf_lt m h _⟩ := by
  refine Eq.trans (congrArg (words m 0) ?_) (words_expert m h (i 1))
  funext (a : Fin 1)
  refine Fin.ext ?_
  obtain rfl : a = 0 := Subsingleton.elim _ _
  have hz : ∀ x : Fin (S1.size 0), k0_off1 i 0 + 1 * x.val = (i 1).val := fun x => by
    rw [k0_off1_eq, Nat.lt_one_iff.mp x.isLt]
    rfl
  exact hz _

/-- The word of the tile is the tile. -/
theorem min_toNat (h : Drawn m) (d : ℕ) (hd : d < 80) :
    (Scalar.minsi (BitVec.ofNat 32 d) (Scalar.subi (used m) 1#32)).toNat = tileOf m d := by
  refine (congrArg BitVec.toNat (min_word m h d hd)).trans ?_
  rw [BitVec.toNat_ofNat]
  exact Nat.mod_eq_of_lt (by have := tileOf_lt m h d; omega)

/-- The rows' block at a point: the tile's. -/
theorem map_rows (h : Drawn m) (i : grid0.Coords) : cc0_transform_0 inb_S1_S1_0 numel1_S1 (words m) i = ![tileOf m (i 1).val, 0] := by
  unfold cc0_transform_0
  rw [at_used]
  dsimp only
  rw [min_toNat m h _ (i 1).isLt]
  rfl

/-- The weights' block at a point: the tile's expert and the point's columns. -/
theorem map_weights (h : Drawn m) (i : grid0.Coords) :
    cc0_transform_1 k0_off1_inb numel1_S1 (words m) i = ![(expert m ⟨tileOf m (i 1).val, tileOf_lt m h _⟩).toNat, 0, (i 0).val] := by
  unfold cc0_transform_1
  have e := at_expert m h i
  dsimp only
  refine Eq.trans (b := ![((words m).at 0 (Rect.unit (s := S80) (k0_off1 i) S1.size (k0_off1_inb i)) numel1_S1 : BitVec 32).toNat, 0, (BitVec.ofNat 32 (i 0).val).toNat]) rfl ?_
  rw [e, BitVec.toNat_ofNat, Nat.mod_eq_of_lt (by have : (i 0).val < 4 := (i 0).isLt; omega)]

/-- The result's block at a point: the tile's rows and the point's columns. -/
theorem map_out (h : Drawn m) (i : grid0.Coords) : cc0_transform_2 inb_S1_S1_0 numel1_S1 (words m) i = ![tileOf m (i 1).val, (i 0).val] := by
  unfold cc0_transform_2
  rw [at_used]
  dsimp only
  rw [min_toNat m h _ (i 1).isLt, BitVec.toNat_ofNat, Nat.mod_eq_of_lt (by have : (i 0).val < 4 := (i 0).isLt; omega)]

/-- Every block the maps name lies inside its array and is moved in whole words. -/
theorem admitted (h : Drawn m) : ok0 (F := F) (words m) := by
  refine ⟨fun i => ?_, fun i => ?_, fun i => ?_⟩
  · rw [map_rows m h]
    have := tileOf_lt m h (i 1).val
    refine ⟨fun a => ?_, .inr (.inl (.inr ⟨by decide, rfl, .inl ⟨?_, ⟨256, rfl⟩⟩⟩))⟩
    · match a with
      | ⟨0, _⟩ => show (tileOf m (i 1).val + 1) * 512 ≤ 40960; omega
      | ⟨1, _⟩ => show (0 + 1) * 7168 ≤ 7168; omega
    · show 2 ∣ tileOf m (i 1).val * 512
      omega
  · rw [map_weights m h]
    have hb := h.below ⟨tileOf m (i 1).val, tileOf_lt m h _⟩
    have hn : (i 0).val < 4 := (i 0).isLt
    refine ⟨fun a => ?_, .inr (.inl (.inr ⟨by decide, rfl, .inl ⟨?_, ⟨3584, rfl⟩⟩⟩))⟩
    · match a with
      | ⟨0, _⟩ => show ((expert m ⟨tileOf m (i 1).val, tileOf_lt m h _⟩).toNat + 1) * 1 ≤ 8; omega
      | ⟨1, _⟩ => show (0 + 1) * 7168 ≤ 7168; omega
      | ⟨2, _⟩ => show ((i 0).val + 1) * 512 ≤ 2048; omega
    · show 2 ∣ 0 * 7168
      omega
  · rw [map_out m h]
    have := tileOf_lt m h (i 1).val
    have hn : (i 0).val < 4 := (i 0).isLt
    refine ⟨fun a => ?_, .inr (.inl (.inr ⟨by decide, rfl, .inl ⟨?_, ⟨256, rfl⟩⟩⟩))⟩
    · match a with
      | ⟨0, _⟩ => show (tileOf m (i 1).val + 1) * 512 ≤ 40960; omega
      | ⟨1, _⟩ => show ((i 0).val + 1) * 512 ≤ 2048; omega
    · show 2 ∣ tileOf m (i 1).val * 512
      omega

end Cert.ExpertDownIdeal.Tiles

end
-- ==== Proof.Experts.DownPreIdeal.lean ====
/- From the range the tables are drawn from, as the claim states it, to the bounds the proof uses. -/
module

public import proofs.«01_k».proof.Proof.Experts.DownTablesIdeal
public import proofs.«01_k».proof.Proof.Gen.Pre_tables_ok_down
public import Idealize.ShloMosaic.Lib.ReduceAll
public import Idealize.ShloMosaic.Lib.Affine

@[expose] public section

set_option maxHeartbeats 4000000

noncomputable section

namespace Cert.ExpertDownIdeal.Tiles

open Idealize.ShloMosaic Idealize.ShloMosaic.TcCoe Idealize.SL.Sem
open Cert.ExpertDownIdeal Cert.ExpertDownIdeal.Gen

variable {F : FTy → Type} [FloatOps F]
variable (m : (ℓ : Loc nD τ sig) → Buf (Elt F) ℓ)

/-- The stated range of the tables gives the bounds. -/
theorem drawn_of (X : FVec F Cert.Pre_tables_ok_down.S40960x7168 .bf16) (W : FVec F Cert.Pre_tables_ok_down.S8x7168x2048 .bf16)
    (h : Cert.Pre_tables_ok_down.fn (F := F) (m (((0 : Dev nD) : Thread nD τ).loc main_arg0)) (m (((0 : Dev nD) : Thread nD τ).loc main_arg1)) X W
      = fun _ => 1#1) : Drawn m := by
  have h0 := congrFun h (fun a => a.elim0)
  dsimp only [Cert.Pre_tables_ok_down.fn] at h0
  obtain ⟨ha, hb⟩ := IntOp.andi_eq_one.mp h0
  have hA : ∀ d : Fin 80, (expert m d).toNat < 8 := fun d => by
    have := Host.reduce_andi_all _ _ _ _ _ ha (ix1 d)
    obtain ⟨h1, h2⟩ := IntOp.andi_eq_one.mp this
    have h1 : IntOp.cmpi .sge (expert m d) 0#32 = 1#1 := h1
    have h2 : IntOp.cmpi .slt (expert m d) 8#32 = 1#1 := h2
    rw [IntOp.cmpi_sge] at h1
    rw [IntOp.cmpi_slt] at h2
    have e0 : (0#32 : BitVec 32).toInt = 0 := by decide
    have e8 : (8#32 : BitVec 32).toInt = 8 := by decide
    rw [e0] at h1
    rw [e8] at h2
    have := BitVec.toInt_eq_toNat_cond (expert m d)
    have := (expert m d).isLt
    split at * <;> omega
  have hB := Host.reduce_andi_all _ _ _ _ _ hb (ix1 (0 : Fin 1))
  obtain ⟨h1, h2⟩ := IntOp.andi_eq_one.mp hB
  have h1 : IntOp.cmpi .sge (used m) 1#32 = 1#1 := h1
  have h2 : IntOp.cmpi .sle (used m) 80#32 = 1#1 := h2
  rw [IntOp.cmpi_sge] at h1
  rw [IntOp.cmpi_sle] at h2
  have e1 : (1#32 : BitVec 32).toInt = 1 := by decide
  have e80 : (80#32 : BitVec 32).toInt = 80 := by decide
  rw [e1] at h1
  rw [e80] at h2
  have := BitVec.toInt_eq_toNat_cond (used m)
  have := (used m).isLt
  refine ⟨?_, ?_, hA⟩ <;> (split at * <;> omega)

end Cert.ExpertDownIdeal.Tiles

end
-- ==== Proof.Experts.DownRunIdeal.lean ====
/- The body of the down projection at one grid point: where the point's tile is used it stores the product of its two
   blocks, and elsewhere it does nothing. -/
module

public import proofs.«01_k».proof.Proof.Experts.DownTablesIdeal
public import Idealize.ShloMosaic.Lib.Pipeline.Quiescent
public import Idealize.ShloMosaic.Lib.Pipeline.Frame
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option maxHeartbeats 4000000

noncomputable section

namespace Cert.ExpertDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertDownIdeal Cert.ExpertDownIdeal.Gen

variable {F : FTy → Type} [FloatOps F]

/-- The assertions of the program's logic. -/
abbrev Asn (F : FTy → Type) [FloatOps F] : Type := sProp (MT nD τ sig Unit (Elt F) ℕ (UR sig nD τ) ℕ)

/-- The expert table as the body is handed it. -/
abbrev expertTab : Memref sig .tc .smem S80 .i32 := Memref.whole main_v11
/-- The count as the body is handed it. -/
abbrev countTab : Memref sig .tc .smem S1 .i32 := Memref.whole main_arg1

/-- A table held at half of the full share. -/
abbrev held (c : Dev nD) {S : Shape} {e : EltTy} (M : Memref sig .tc .smem S e) (f : Buf (Elt F) (M.view.loc (c : Thread nD τ))) : Asn F :=
  M.view.loc (c : Thread nD τ) ↦{fullShare.right} f

/-- The whole block of rows. -/
abbrev rowsRect : Rect S512x7168 := Rect.unit (s := S512x7168) ![0, 0] S512x7168.size inb_S512x7168_S512x7168_0_0
/-- The whole block of weights. -/
abbrev weightsRect : Rect S1x7168x512 := Rect.unit (s := S1x7168x512) ![0, 0, 0] S1x7168x512.size inb_S1x7168x512_S1x7168x512_0_0_0
/-- The whole block of the result. -/
abbrev outRect : Rect S512x512 := Rect.unit (s := S512x512) ![0, 0] S512x512.size inb_S512x512_S512x512_0_0

/-- The block the body stores, from the blocks of rows and of weights. -/
def product (x : Vec F S512x7168 .bf16) (w : Vec F S1x7168x512 .bf16) : Vec F S512x512 .bf16 :=
  View.canon [⟨outRect, k0_pay1 (View.ld x rowsRect) (View.ld w weightsRect)⟩]

/-- The store covers the block. -/
theorem product_covers (p : Vec F S512x512 .bf16) (y : S512x512.Idx) :
    ∃ pc ∈ ([⟨outRect, p⟩] : List (View.Piece (Elt F) S512x512 .bf16)), y ∈ pc.1.set :=
  View.cover_of_tiledL ([⟨outRect, p⟩] : List (View.Piece (Elt F) S512x512 .bf16)) S512x512.size (by sl_kernel_rfl) y

/-- The count the body loads. -/
abbrev loaded (T : S1.Idx → Elt F .i32) : Elt F .i32 :=
  View.readAt (Elt F) countTab.view (Rect.unit (s := S1) ![0] S1.size inb_S1_S1_0).toLoadRect T (Shape.Idx.first (numel1_S1.symm ▸ Nat.one_pos))

/-- Where the tile is used, the body leaves the product in the block of the result. -/
theorem body_used (c : Dev nD) (E : Set ℕ) (i : grid0.Coords) (arg4 : Memref sig .tc .vmem S512x7168 .bf16) (harg4 : arg4.IsWhole)
    (arg5 : Memref sig .tc .vmem S1x7168x512 .bf16) (harg5 : arg5.IsWhole) (arg6 : Memref sig .tc .vmem S512x512 .bf16) (harg6 : arg6.IsWhole)
    (T0 : S80.Idx → Elt F .i32) (T1 : S1.Idx → Elt F .i32) (x0 : Vec F S512x7168 .bf16) (x1 : Vec F S1x7168x512 .bf16)
    (hc : k0_cond1 i (loaded T1) = 1#1) (K : PUnit → Asn F) :
    iprop(owns (c : Thread nD τ) arg4 fullShare x0 ∗ owns (c : Thread nD τ) arg5 fullShare x1 ∗ (∃ d, owns (c : Thread nD τ) arg6 fullShare d)
        ∗ held c expertTab T0 ∗ held c countTab T1
        ∗ (iprop(owns (c : Thread nD τ) arg4 fullShare x0 ∗ owns (c : Thread nD τ) arg5 fullShare x1 ∗ owns (c : Thread nD τ) arg6 fullShare (product x0 x1)
            ∗ held c expertTab T0 ∗ held c countTab T1) -∗ K ⟨⟩))
      ⊢ wp frame (wpE (defs₀ (F := F)) Variants.none c none) E
          (cc0_moe_expert_down i expertTab (Memref.isWhole_whole _) countTab (Memref.isWhole_whole _) arg4 harg4 arg5 harg5 arg6 harg6) K := by
  simp only [cc0_moe_expert_down_eq_skeleton]; unfold cc0_moe_expert_down_skel
  unfold owns
  iintro ⟨⟨%f0, %hf0, H0⟩, ⟨%f1, %hf1, H1⟩, ⟨%d2, %f2, -, H2⟩, HT0, HT1, Hk⟩
  have hT0 : expertTab.IsWhole := Memref.isWhole_whole _
  have hT1 : countTab.IsWhole := Memref.isWhole_whole _
  subst hf0 hf1
  sl_exec! (disch := first | (guard_target = k0_cond1 _ _ = _; exact hc))
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (product_covers _)
  isplitl [HT0]; · iexact HT0
  iexact HT1

/-- Where it is not, the body leaves everything as it was. -/
theorem body_unused (c : Dev nD) (E : Set ℕ) (i : grid0.Coords) (arg4 : Memref sig .tc .vmem S512x7168 .bf16) (harg4 : arg4.IsWhole)
    (arg5 : Memref sig .tc .vmem S1x7168x512 .bf16) (harg5 : arg5.IsWhole) (arg6 : Memref sig .tc .vmem S512x512 .bf16) (harg6 : arg6.IsWhole)
    (T0 : S80.Idx → Elt F .i32) (T1 : S1.Idx → Elt F .i32)
    (hc : ¬ k0_cond1 i (loaded T1) = 1#1) (K : PUnit → Asn F) :
    iprop(held c expertTab T0 ∗ held c countTab T1
        ∗ (iprop(held c expertTab T0 ∗ held c countTab T1) -∗ K ⟨⟩))
      ⊢ wp frame (wpE (defs₀ (F := F)) Variants.none c none) E
          (cc0_moe_expert_down i expertTab (Memref.isWhole_whole _) countTab (Memref.isWhole_whole _) arg4 harg4 arg5 harg5 arg6 harg6) K := by
  simp only [cc0_moe_expert_down_eq_skeleton]; unfold cc0_moe_expert_down_skel
  iintro ⟨HT0, HT1, Hk⟩
  have hT0 : expertTab.IsWhole := Memref.isWhole_whole _
  have hT1 : countTab.IsWhole := Memref.isWhole_whole _
  sl_exec! (disch := first | exact hc)
  sl_step
  iapply Hk
  isplitl [HT0]; · iexact HT0
  iexact HT1

end Cert.ExpertDownIdeal.Tiles

end
-- ==== Proof.Experts.DownFrameIdeal.lean ====
/- The down projection runs to its end, leaves its arguments as they were, and writes into the result the product of each
   tile's rows with the weights of the tile's expert. -/
module

public import proofs.«01_k».proof.Proof.Experts.DownRunIdeal

@[expose] public section

set_option maxRecDepth 16384
set_option maxHeartbeats 4000000

noncomputable section

namespace Cert.ExpertDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertDownIdeal Cert.ExpertDownIdeal.Gen

variable {F : FTy → Type} [FloatOps F]
variable (m : (ℓ : Loc nD τ sig) → Buf (Elt F) ℓ) (ρ : Dev nD → PrngReg)

/-! ## Up to the call -/

/-- The host operations name no buffer anew. -/
theorem host_fresh : (hostOps0 : List (HloOp τ sig (Elt F))).Forall fun op => op.fresh = ∅ := by
  simp only [List.Forall]; repeat' constructor

/-- The program runs its host operations and then the call. -/
theorem to_call (𝒱₀ : Variants) : Pipeline.HMainP (Ix := Unit) (Name := ℕ) (U := UR sig nD τ) (Lvl := ℕ) pcfgs 0 defs₀ 𝒱₀ m (main (F := F)) (start m) :=
  Pipeline.hmainP_prefix pcfgs 0 defs₀ 𝒱₀ m main hostOps0 hostOps0_sub host_fresh main_chain

/-- The host operations leave the expert table alone. -/
theorem keeps0 (c : Dev nD) : start m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave the count alone. -/
theorem keeps1 (c : Dev nD) : start m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave the rows alone. -/
theorem keeps2 (c : Dev nD) : start m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave the weights alone. -/
theorem keeps3 (c : Dev nD) : start m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

/-- The tables on the one device. -/
theorem start_tables (c : Dev nD) (j : Fin 2) : start m c (pre0.ref j) = words m j := by
  obtain rfl : c = 0 := Subsingleton.elim _ _; rfl

/-! ## The pipeline at the tables -/

variable (h : Drawn m)

/-- The tables with the proof that the blocks they name are inside the arrays. -/
abbrev adm : (pcfg0 (F := F)).Adm := ⟨words m, admitted m h⟩
/-- The pipeline at these tables. -/
abbrev pipe : Pipeline.Cfg sig Λ₀ := cfg0 (adm m h)

/-- The two tables' halves, one by one. -/
theorem tables_eq (c : Dev nD) : (Pipeline.ΦT pre0 (words m) c : Asn F) = iprop(held c expertTab (words m 0) ∗ held c countTab (words m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, in the array the call finds. -/
def block (c : Dev nD) (w : Fin (pipe m h).W) (t : Fin (pipe m h).N) : (((pipe m h).win w).xblock ((pipe m h).grid.coords t)).Idx → Elt F ((pipe m h).win w).elt :=
  (((pipe m h).win w).blk t).view.read (Elt F) (start m c (Pipeline.arrRef spec0 w))

/-- The tile's place in the grid. -/
theorem place_tile (t : Fin grid0.N) : (grid0.coords t 1).val = t.val % 80 := by
  rw [Pipeline.Grid.coords_val t 1 (S := 1) (B := 80) (by decide) rfl, Nat.div_one]

/-- The columns' place in the grid. -/
theorem place_cols (t : Fin grid0.N) : (grid0.coords t 0).val = t.val / 80 := by
  rw [Pipeline.Grid.coords_val t 0 (S := 80) (B := 4) (by decide) rfl]
  have := t.isLt
  have e : grid0.N = 80 * 4 := by decide
  exact Nat.mod_eq_of_lt (by omega)

/-- The expert of a tile as a number. -/
def expertNat (d : ℕ) : ℕ := (expert m ⟨d % 80, Nat.mod_lt _ (by decide)⟩).toNat

/-- The rows of a tile. -/
def rowsOf (d : ℕ) : Vec F S512x7168 .bf16 := fun y =>
  m (((0 : Dev nD) : Thread nD τ).loc main_arg2) (ix2 (⟨(d * 512 + (y 0).val) % 40960, Nat.mod_lt _ (by decide)⟩ : Fin 40960) (⟨(y 1).val, (y 1).isLt⟩ : Fin 7168))

/-- A block of columns of an expert's weights. -/
def weightsOf (e n : ℕ) : Vec F S1x7168x512 .bf16 := fun y =>
  m (((0 : Dev nD) : Thread nD τ).loc main_arg3) (ix3 (⟨e % 8, Nat.mod_lt _ (by decide)⟩ : Fin 8) (⟨(y 1).val, (y 1).isLt⟩ : Fin 7168) (⟨(n * 512 + (y 2).val) % 2048, Nat.mod_lt _ (by decide)⟩ : Fin 2048))

/-- What is stored for a tile and a block of columns. -/
def stored (d n : ℕ) : Vec F S512x512 .bf16 := product (rowsOf m d) (weightsOf m (expertNat m d) n)

/-- The block index of the rows at a point. -/
theorem index_rows (t : Fin (pipe m h).N) : ((pipe m h).win 0).index t = ![tileOf m (t.val % 80), 0] := by
  have key : ∀ (pf : pre0.Contents (Elt F)) (hok : ok0 pf) (t : Fin grid0.N), ((cfg0 ⟨pf, hok⟩).win 0).index t = cc0_transform_0 inb_S1_S1_0 numel1_S1 pf (grid0.coords t) :=
    fun _ _ _ => rfl
  refine (key (words m) (admitted m h) t).trans ?_
  rw [map_rows m h, place_tile]

/-- The block index of the weights at a point. -/
theorem index_weights (t : Fin (pipe m h).N) : ((pipe m h).win 1).index t = ![expertNat m (tileOf m (t.val % 80)), 0, t.val / 80] := by
  have key : ∀ (pf : pre0.Contents (Elt F)) (hok : ok0 pf) (t : Fin grid0.N), ((cfg0 ⟨pf, hok⟩).win 1).index t = cc0_transform_1 k0_off1_inb numel1_S1 pf (grid0.coords t) :=
    fun _ _ _ => rfl
  refine (key (words m) (admitted m h) t).trans ?_
  rw [map_weights m h, place_cols]
  have e : (⟨tileOf m (grid0.coords t 1).val, tileOf_lt m h _⟩ : Fin 80) = ⟨tileOf m (t.val % 80) % 80, Nat.mod_lt _ (by decide)⟩ :=
    Fin.ext (by show tileOf m (grid0.coords t 1).val = _; rw [place_tile]; exact (Nat.mod_eq_of_lt (tileOf_lt m h _)).symm)
  rw [e]
  rfl

/-- The block index of the result at a point. -/
theorem index_out (t : Fin (pipe m h).N) : ((pipe m h).win 2).index t = ![tileOf m (t.val % 80), t.val / 80] := by
  have key : ∀ (pf : pre0.Contents (Elt F)) (hok : ok0 pf) (t : Fin grid0.N), ((cfg0 ⟨pf, hok⟩).win 2).index t = cc0_transform_2 inb_S1_S1_0 numel1_S1 pf (grid0.coords t) :=
    fun _ _ _ => rfl
  refine (key (words m) (admitted m h) t).trans ?_
  rw [map_out m h, place_tile, place_cols]

/-- The number of points. -/
theorem points_lt (t : Fin (pipe m h).N) : t.val < 80 * 4 := by
  have e : (pipe m h).N = 80 * 4 := N_0
  have := t.isLt
  omega

/-- The block of rows at a point. -/
theorem block_rows (c : Dev nD) (t : Fin (pipe m h).N) : block m h c 0 t = rowsOf m (tileOf m (t.val % 80)) := by
  obtain rfl : c = 0 := Subsingleton.elim _ _
  funext (y : S512x7168.Idx)
  unfold block rowsOf
  have key : ∀ V : (b : Ref sig .tc) → Buf (Elt F) (((0 : Dev nD) : Thread nD τ).loc b),
      (((pipe m h).win 0).blk t).view.read (Elt F) (V (Pipeline.arrRef spec0 0)) y = V main_arg2 ((((pipe m h).win 0).rect t).idx y) := fun V => rfl
  refine (key (start m 0)).trans ?_
  rw [keeps2]
  refine congrArg (m (((0 : Dev nD) : Thread nD τ).loc main_arg2)) ?_
  have hd := tileOf_lt m h (t.val % 80)
  have y0 : (y 0).val < 512 := (y 0).isLt
  funext (a : Fin 2)
  refine Fin.ext ?_
  match a with
  | ⟨0, _⟩ =>
    exact (congrArg (fun f : Fin 2 → ℕ => f 0 * 512 + 1 * (y 0).val) (index_rows m h t)).trans
      (by show tileOf m (t.val % 80) * 512 + 1 * (y 0).val = (tileOf m (t.val % 80) * 512 + (y 0).val) % 40960; omega)
  | ⟨1, _⟩ =>
    exact (congrArg (fun f : Fin 2 → ℕ => f 1 * 7168 + 1 * (y 1).val) (index_rows m h t)).trans
      (by show 0 * 7168 + 1 * (y 1).val = (y 1).val; omega)

/-- The block of weights at a point. -/
theorem block_weights (c : Dev nD) (t : Fin (pipe m h).N) : block m h c 1 t = weightsOf m (expertNat m (tileOf m (t.val % 80))) (t.val / 80) := by
  obtain rfl : c = 0 := Subsingleton.elim _ _
  funext (y : S1x7168x512.Idx)
  unfold block weightsOf
  have key : ∀ V : (b : Ref sig .tc) → Buf (Elt F) (((0 : Dev nD) : Thread nD τ).loc b),
      (((pipe m h).win 1).blk t).view.read (Elt F) (V (Pipeline.arrRef spec0 1)) y = V main_arg3 ((((pipe m h).win 1).rect t).idx y) := fun V => rfl
  refine (key (start m 0)).trans ?_
  rw [keeps3]
  refine congrArg (m (((0 : Dev nD) : Thread nD τ).loc main_arg3)) ?_
  have he : expertNat m (tileOf m (t.val % 80)) < 8 := h.below _
  have ht := points_lt m h t
  have y0 : (y 0).val < 1 := (y 0).isLt
  have y2 : (y 2).val < 512 := (y 2).isLt
  funext (a : Fin 3)
  refine Fin.ext ?_
  match a with
  | ⟨0, _⟩ =>
    exact (congrArg (fun f : Fin 3 → ℕ => f 0 * 1 + 1 * (y 0).val) (index_weights m h t)).trans
      (by show expertNat m (tileOf m (t.val % 80)) * 1 + 1 * (y 0).val = expertNat m (tileOf m (t.val % 80)) % 8; omega)
  | ⟨1, _⟩ =>
    exact (congrArg (fun f : Fin 3 → ℕ => f 1 * 7168 + 1 * (y 1).val) (index_weights m h t)).trans
      (by show 0 * 7168 + 1 * (y 1).val = (y 1).val; omega)
  | ⟨2, _⟩ =>
    exact (congrArg (fun f : Fin 3 → ℕ => f 2 * 512 + 1 * (y 2).val) (index_weights m h t)).trans
      (by show (t.val / 80) * 512 + 1 * (y 2).val = ((t.val / 80) * 512 + (y 2).val) % 2048; omega)

/-! ## Which points store -/

/-- The count the body loads is the one given. -/
theorem loaded_used : loaded (F := F) (words m 1) = used m := by
  refine Eq.trans (congrArg (words m 1) ?_) (words_used m)
  funext (a : Fin 1)
  refine Fin.ext ?_
  obtain rfl : a = 0 := Subsingleton.elim _ _
  exact Nat.lt_one_iff.mp (Fin.isLt _)

/-- The body's condition: the tile is below the count. -/
theorem cond_iff (hd : Drawn m) (i : grid0.Coords) : k0_cond1 i (used m) = 1#1 ↔ (i 1).val < (used m).toNat := by
  have h1 : (i 1).val < 80 := (i 1).isLt
  have hu := toInt_of_le _ hd.le
  unfold k0_cond1
  dsimp only
  have hs : (Scalar.cmpi .slt (BitVec.ofNat 32 (i 1).val) (used m) = 1#1) ↔ (i 1).val < (used m).toNat := by
    show (IntOp.cmpi .slt (BitVec.ofNat 32 (i 1).val) (used m) = 1#1) ↔ _
    rw [IntOp.cmpi_slt, Cert.Band.toInt_small _ (by omega), hu]
    omega
  rw [← hs]
  generalize Scalar.cmpi .slt (BitVec.ofNat 32 (i 1).val) (used m) = b
  revert b
  decide

/-- The count at its only place. -/
theorem at_count (pf : pre0.Contents (Elt F)) : pf.atD 1 ![0] = pf 1 (ix1 (0 : Fin 1)) := by
  unfold Pipeline.Prefetch.Contents.atD
  rw [dif_pos (by decide)]
  refine congrArg (pf 1) ?_
  funext (a : Fin 1)
  refine Fin.ext ?_
  obtain rfl : a = 0 := Subsingleton.elim _ _
  rfl

/-- The result's window is idle exactly where the tile is not used. -/
theorem idle_iff (t : Fin (pipe m h).N) : (pipe m h).idle 2 ((pipe m h).grid.coords t) = true ↔ (used m).toNat ≤ t.val % 80 := by
  have key : ∀ (pf : pre0.Contents (Elt F)) (hok : ok0 pf) (t : Fin grid0.N),
      (cfg0 ⟨pf, hok⟩).idle 2 ((cfg0 ⟨pf, hok⟩).grid.coords t) = !(k0_cond1 (grid0.coords t) (pf.atD 1 ![0]) == 1#1) := fun _ _ _ => rfl
  rw [key (words m) (admitted m h) t, at_count (words m), words_used]
  have := cond_iff m h (grid0.coords t)
  rw [place_tile] at this
  rw [Bool.not_eq_true', beq_eq_false_iff_ne, ne_eq, this]
  omega

end Cert.ExpertDownIdeal.Tiles

end
-- ==== Proof.Experts.DownLaunchIdeal.lean ====
/- The down projection at every point of its grid, and so to its end. -/
module

public import proofs.«01_k».proof.Proof.Experts.DownFrameIdeal

@[expose] public section

set_option maxRecDepth 16384
set_option maxHeartbeats 4000000

noncomputable section

namespace Cert.ExpertDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertDownIdeal Cert.ExpertDownIdeal.Gen

variable {F : FTy → Type} [FloatOps F]
variable (m : (ℓ : Loc nD τ sig) → Buf (Elt F) ℓ) (ρ : Dev nD → PrngReg) (h : Drawn m)

/-! ## The points where the tile is not used -/

/-- Past the used tiles the block of the result stays the one before. -/
theorem tile_stays (hd : Drawn m) (n : ℕ) (hn : (used m).toNat ≤ (n + 1) % 80) :
    tileOf m ((n + 1) % 80) = tileOf m (n % 80) ∧ (n + 1) / 80 = n / 80 := by
  have := hd.one_le
  unfold tileOf
  omega

/-- Past the used tiles the buffer of the result holds what the last used tile left. -/
theorem not_fresh : ∀ n, n < (pipe m h).grid.N → (used m).toNat ≤ n % 80 → (pipe m h).fresh 2 n = false
  | 0, _, hu => absurd h.one_le (by omega)
  | n + 1, hn, hu => by
    obtain ⟨e1, e2⟩ := tile_stays m h n hu
    have hn0 : n < (pipe m h).grid.N := Nat.lt_of_succ_lt hn
    rw [Cfg.fresh_succ (pipe m h) 2 n hn0]
    have hf : ((pipe m h).win 2).flush ⟨n, hn0⟩ = false := by
      have hix : ((pipe m h).win 2).index ⟨n + 1, hn⟩ = ((pipe m h).win 2).index ⟨n, hn0⟩ := by
        rw [index_out, index_out]
        dsimp only
        rw [e1, e2]
      unfold Window.flush
      have hn' : ¬ (n + 1 = (pipe m h).grid.N) := Nat.ne_of_lt hn
      simp only [hix, ne_eq, not_true_eq_false, exists_false, decide_false, Bool.or_false, Bool.and_eq_false_iff]
      exact .inr (by simpa using hn')
    rw [hf, Bool.false_or]
    by_cases hi : (used m).toNat ≤ n % 80
    · rw [not_fresh n hn0 hi, Bool.and_false]
    · have : (pipe m h).idle 2 ((pipe m h).grid.coords ⟨n, hn0⟩) = false :=
        Bool.eq_false_iff.mpr fun e => hi ((idle_iff m h _).mp e)
      rw [this, Bool.false_and]

/-! ## The data of the pipeline -/

/-- What the arrays hold, what the body leaves at each point, and what is kept throughout. -/
def dats (_ : Fin 1) (c : Dev nD) : Dat τ (Elt F) Unit ℕ (UR sig nD τ) ℕ (pipe m h) c where
  A w := start m c (Pipeline.arrRef spec0 w)
  after w t := match w with
    | ⟨0, _⟩ => block m h c 0 t
    | ⟨1, _⟩ => block m h c 1 t
    | ⟨2, _⟩ => stored m (tileOf m (t.val % 80)) (t.val / 80)
  Φ _ := iprop(Pipeline.ΦA spec0 c ∗ Pipeline.ΦT pre0 (words m) c)
  q _ := fullShare
  owed _ := 0

/-- The arrays are those the call finds. -/
theorem arrays_found (c : Dev nD) (w : Fin (pipe m h).W) : (dats m h 0 c).A w = start m c (Pipeline.arrRef spec0 w) := by
  dsimp only [dats]
/-- The rows stay. -/
theorem after_rows (c : Dev nD) (t : Fin (pipe m h).N) : (dats m h 0 c).after 0 t = block m h c 0 t := by dsimp only [dats]; try rfl
/-- The weights stay. -/
theorem after_weights (c : Dev nD) (t : Fin (pipe m h).N) : (dats m h 0 c).after 1 t = block m h c 1 t := by dsimp only [dats]; try rfl
/-- The result is the tile's product. -/
theorem after_out (c : Dev nD) (t : Fin (pipe m h).N) : (dats m h 0 c).after 2 t = stored m (tileOf m (t.val % 80)) (t.val / 80) := by dsimp only [dats]; try rfl

/-- The body finds the rows' block. -/
theorem before_rows (c : Dev nD) (t : Fin (pipe m h).N) (d) : (dats m h 0 c).before 0 t d = block m h c 0 t :=
  ((dats m h 0 c).before_in_eq_fetched 0 rfl (fun _ => rfl) (fun _ _ _ => rfl)
    (fun t => by rw [after_rows]; unfold Dat.blockOf block; rw [arrays_found]; try rfl) t d).trans
    (by unfold Dat.fetched Dat.blockOf block; rw [arrays_found]; try rfl)
/-- The body finds the weights' block. -/
theorem before_weights (c : Dev nD) (t : Fin (pipe m h).N) (d) : (dats m h 0 c).before 1 t d = block m h c 1 t :=
  ((dats m h 0 c).before_in_eq_fetched 1 rfl (fun _ => rfl) (fun _ _ _ => rfl)
    (fun t => by rw [after_weights]; unfold Dat.blockOf block; rw [arrays_found]; try rfl) t d).trans
    (by unfold Dat.fetched Dat.blockOf block; rw [arrays_found]; try rfl)

/-- Past the used tiles the body finds in the result's buffer what it is to leave there. -/
theorem before_unused (c : Dev nD) (t : Fin (pipe m h).N) (hu : (used m).toNat ≤ t.val % 80) (d) :
    (dats m h 0 c).before 2 t d = (dats m h 0 c).after 2 t := by
  have carry : ∀ (t : Fin (pipe m h).N) (_ : t.val ≠ 0), (used m).toNat ≤ t.val % 80 →
      (dats m h 0 c).after 2 t = (dats m h 0 c).after 2 ⟨t.val - 1, by omega⟩ := fun t h0 hu => by
    obtain ⟨n, hn⟩ := Nat.exists_eq_succ_of_ne_zero h0
    obtain ⟨e1, e2⟩ := tile_stays m h n (by rw [← Nat.succ_eq_add_one, ← hn]; exact hu)
    rw [after_out, after_out]
    dsimp only
    rw [hn, Nat.succ_eq_add_one, e1, e2, Nat.add_sub_cancel]
  have h0 : t.val ≠ 0 := fun e => absurd h.one_le (by rw [e] at hu; omega)
  rw [(dats m h 0 c).before_out_traj 2 rfl (fun _ _ => rfl) (fun t h0 hi _ => carry t h0 ((idle_iff m h t).mp hi)) t.val t rfl d,
    not_fresh m h t.val t.isLt hu, if_neg Bool.false_ne_true]
  exact (carry t h0 hu).symm

/-! ## The body at a point -/

/-- The rows' buffer at a point. -/
abbrev buf0 (t : Fin (pipe m h).N) : Memref sig .tc .vmem S512x7168 .bf16 := spec0_0.stage ((pipe m h).slots t 0)
/-- The weights' buffer at a point. -/
abbrev buf1 (t : Fin (pipe m h).N) : Memref sig .tc .vmem S1x7168x512 .bf16 := spec0_1.stage ((pipe m h).slots t 1)
/-- The result's buffer at a point. -/
abbrev buf2 (t : Fin (pipe m h).N) : Memref sig .tc .vmem S512x512 .bf16 := spec0_2.stage ((pipe m h).slots t 2)
/-- The body at a point. -/
abbrev bodyOf (t : Fin (pipe m h).N) : Prog (TpuEff nD τ sig (Elt F) Λ₀ .tc) PUnit :=
  cc0_moe_expert_down (grid0.coords t) expertTab (Memref.isWhole_whole _) countTab (Memref.isWhole_whole _)
    (buf0 m h t) (hstage0_0 (((pipe m h).slots t 0).cast nbuf0_0)) (buf1 m h t) (hstage0_1 (((pipe m h).slots t 1).cast nbuf0_1))
    (buf2 m h t) (hstage0_2 (((pipe m h).slots t 2).cast nbuf0_2))

/-- What a point starts from. -/
def ahead (c : Dev nD) (t : Fin (pipe m h).N) : Asn F :=
  iprop((dats m h 0 c).Φ t.castSucc ∗ (dats m h 0 c).owesAt () t.castSucc
    ∗ (∃ d, owns (c : Thread nD τ) (buf0 m h t) fullShare ((dats m h 0 c).before 0 t d))
    ∗ (∃ d, owns (c : Thread nD τ) (buf1 m h t) fullShare ((dats m h 0 c).before 1 t d))
    ∗ (∃ d, owns (c : Thread nD τ) (buf2 m h t) fullShare ((dats m h 0 c).before 2 t d)))

/-- What a point leaves. -/
def behind (c : Dev nD) (t : Fin (pipe m h).N) : Asn F :=
  iprop((dats m h 0 c).Φ t.succ ∗ (dats m h 0 c).owesAt () t.succ
    ∗ owns (c : Thread nD τ) (buf0 m h t) fullShare ((dats m h 0 c).after 0 t)
    ∗ owns (c : Thread nD τ) (buf1 m h t) fullShare ((dats m h 0 c).after 1 t)
    ∗ owns (c : Thread nD τ) (buf2 m h t) fullShare ((dats m h 0 c).after 2 t))

/-- A point runs. -/
theorem point_runs (c : Dev nD) (t : Fin (pipe m h).N) :
    ahead m h c t ⊢ wp frame (wpE (defs₀ (F := F)) Variants.none c none) Set.univ (bodyOf m h t) (fun _ => behind m h c t) := by
  unfold ahead behind bodyOf
  simp only [before_rows, before_weights]
  rw [show (dats m h 0 c).Φ t.succ = (dats m h 0 c).Φ t.castSucc from rfl,
    show (dats m h 0 c).owesAt () t.succ = (dats m h 0 c).owesAt () t.castSucc from rfl, after_rows, after_weights]
  rw [show (dats m h 0 c).Φ t.castSucc = iprop(Pipeline.ΦA spec0 c ∗ Pipeline.ΦT pre0 (words m) c) from rfl, tables_eq]
  have hc := cond_iff m h (grid0.coords t)
  rw [place_tile, ← loaded_used m] at hc
  by_cases hu : (used m).toNat ≤ t.val % 80
  · simp only [before_unused m h c t hu]
    iintro ⟨⟨HΦ, ⟨HT0, HT1⟩⟩, Ho, ⟨%d0, H0⟩, ⟨%d1, H1⟩, ⟨%d2, H2⟩⟩
    iapply (body_unused c Set.univ (grid0.coords t) _ _ _ _ _ _ (words m 0) (words m 1) (fun e => absurd (hc.mp e) (by rw [loaded_used]; omega)) _)
    isplitl [HT0]; · iexact HT0
    isplitl [HT1]; · iexact HT1
    iintro ⟨HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · rw [after_out]
    unfold stored
    rw [← block_rows m h c t, ← block_weights m h c t]
    iintro ⟨⟨HΦ, ⟨HT0, HT1⟩⟩, Ho, ⟨%d0, H0⟩, ⟨%d1, H1⟩, ⟨%d2, H2⟩⟩
    iapply (body_used c Set.univ (grid0.coords t) _ _ _ _ _ _ (words m 0) (words m 1) (block m h c 0 t) (block m h c 1 t) (hc.mpr (by rw [loaded_used]; omega)) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

/-- The result's buffer is handed back as the pipeline asks, at used and at unused points. -/
theorem handed (c : Dev nD) (t : Fin (pipe m h).N) :
    (owns (c : Thread nD τ) (buf2 m h t) fullShare ((dats m h 0 c).after 2 t) : Asn F) ⊢
      (match (pipe m h).idle 2 ((pipe m h).grid.coords t) with
      | true => (match ((pipe m h).win 2).flush t with
        | false => iprop(∃ d, owns (c : Thread nD τ) (buf2 m h t) fullShare ((dats m h 0 c).before 2 t d))
        | true => owns (c : Thread nD τ) (buf2 m h t) fullShare ((dats m h 0 c).after 2 t))
      | false => owns (c : Thread nD τ) (buf2 m h t) fullShare ((dats m h 0 c).after 2 t)) := by
  cases hi : (pipe m h).idle 2 ((pipe m h).grid.coords t) with
  | false => exact .rfl
  | true =>
    cases hf : ((pipe m h).win 2).flush t with
    | true => exact .rfl
    | false =>
      dsimp only
      iintro H
      iexists ((dats m h 0 c).after 2 t)
      rw [before_unused m h c t ((idle_iff m h t).mp hi)]
      iexact H

/-- What a point leaves is what the pipeline asks to be left. -/
theorem left_as_asked (c : Dev nD) (t : Fin (pipe m h).N) :
    behind m h c t ⊢ iprop((dats m h 0 c).Φ t.succ ∗ (dats m h 0 c).owesAt () t.succ
      ∗ owns (c : Thread nD τ) (buf0 m h t) fullShare ((dats m h 0 c).after 0 t)
      ∗ owns (c : Thread nD τ) (buf1 m h t) fullShare ((dats m h 0 c).after 1 t)
      ∗ (match (pipe m h).idle 2 ((pipe m h).grid.coords t) with
        | true => (match ((pipe m h).win 2).flush t with
          | false => iprop(∃ d, owns (c : Thread nD τ) (buf2 m h t) fullShare ((dats m h 0 c).before 2 t d))
          | true => owns (c : Thread nD τ) (buf2 m h t) fullShare ((dats m h 0 c).after 2 t))
        | false => owns (c : Thread nD τ) (buf2 m h t) fullShare ((dats m h 0 c).after 2 t))) := by
  unfold behind
  iintro ⟨HΦ, Ho, H0, H1, H2⟩
  isplitl [HΦ]; · iexact HΦ
  isplitl [Ho]; · iexact Ho
  isplitl [H0]; · iexact H0
  isplitl [H1]; · iexact H1
  iapply (handed m h c t)
  iexact H2

/-- The pipeline's label runs the body. -/
theorem label_row (t : Fin (pipe m h).N) :
    defs₀ (F := F) .tc (pipe m h).body ((pipe m h).bodyArgs t ((pipe m h).slots t)) = bodyOf m h t := by
  unfold defs₀; rw [Defs.onTc_tc]

/-- Every point does what the pipeline asks of it. -/
theorem obligation (c : Dev nD) : BodyObligation (dats (F := F) m h 0 c) (defs₀ (F := F)) Variants.none () Set.univ := fun t => by
  rw [bigSep_W0, bigSep_W0, label_row]
  exact triple_restated (point_runs m h c t) rfl .rfl fun _ => left_as_asked m h c t

/-! ## The run -/

set_option backward.isDefEq.respectTransparency.types false in
/-- The program runs to its end with every array at what the points leave in it, and no semaphore counting. -/
theorem runs : θ_run defs (onTc (τ := τ) (main (F := F))) (s₀ m ρ)
    (fun r => (Pipeline.FramePost (Pipeline.pin pcfgs fun _ => adm m h) (dats m h) 0 (start m)) r ∧ r.2.sem = fun _ => 0) :=
  Pipeline.θ_run_frameP (Q' := _) pcfgs (fun _ => adm m h) (dats m h) (0 : Fin 1) launch0 defs₀ Variants.none m ρ main
    (hbody := fun c => (obligation m h c).loose) (hshare := fun c => (dats m h 0 c).share_full fun _ => rfl)
    (howed := fun _ _ => rfl) (V := start m) (hmain := to_call m Variants.none) (hA := arrays_found m h) (hpf := start_tables m)
    (hΦ := fun _ _ => rfl)

/-- The program runs to its end and leaves its arguments as they were. -/
theorem leaves_args (h : Drawn m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c =>
    ⟨((hr.1 c).2 main_arg0 (by decide : main_arg0 ∈ Pipeline.restRefs sig spec0)).trans (keeps0 m c),
      ((hr.1 c).2 main_arg1 (by decide : main_arg1 ∈ Pipeline.restRefs sig spec0)).trans (keeps1 m c),
      ((hr.1 c).1 0).trans (((dats m h 0 c).arrAt_in 0 rfl _).trans ((arrays_found m h c 0).trans (keeps2 m c))),
      ((hr.1 c).1 1).trans (((dats m h 0 c).arrAt_in 1 rfl _).trans ((arrays_found m h c 1).trans (keeps3 m c)))⟩, hr.2⟩) (runs m ρ h)

end Cert.ExpertDownIdeal.Tiles

end
-- ==== Proof.Experts.DownValue.lean ====
/- What the down projection leaves in the rows of the used tiles, over the extended reals: each entry the sum of the
   products of the row with the column of the tile's expert. -/
module

public import proofs.«01_k».proof.Proof.Experts.DownLaunchIdeal
public import Idealize.ShloMosaic.Lib.Pipeline.Value
public import Idealize.ShloMosaic.Lib.Pipeline.ValueKit.Basic

@[expose] public section

set_option maxHeartbeats 4000000
set_option maxRecDepth 16384

noncomputable section

namespace Cert.ExpertDownIdeal.Tiles

open Idealize.ShloMosaic Idealize.ShloMosaic.TcCoe Idealize.SL.Sem
open Idealize.ShloMosaic.Pipeline (Dat Cfg Window)
open Cert.ExpertDownIdeal Cert.ExpertDownIdeal.Gen

/-- The body's product entry by entry. -/
theorem pay_apply (x : FVec Ideal S512x7168 .bf16) (w : FVec Ideal S1x7168x512 .bf16) (r j : Fin 512) :
    k0_pay1 (F := Ideal) x w (ix2 r j) = ∑ k : Fin 7168, x (ix2 r k) * w (ix3 (0 : Fin 1) k j) := by
  unfold k0_pay1
  have h1 : ∀ (A : FVec Ideal S512x7168 .bf16) (B : FVec Ideal S7168x512 .bf16),
      (truncf .bf16 (matmul dot_S512x7168_S7168x512_S512x512_1_0_0_1_n_n none A B (constant S512x512 .f32 0x00000000#32)) bitsLt_bf16_f32 : FVec Ideal S512x512 .bf16) (ix2 r j)
        = ∑ k : Fin 7168, A (ix2 r k) * B (ix2 k j) := fun A B => by
    pointwise
  have h2 : ∀ k : Fin 7168, shapeCast S7168x512 w shapeCasts_S1x7168x512_S7168x512 (ix2 k j) = w (ix3 (0 : Fin 1) k j) := fun k => by
    pointwise
  refine (h1 _ _).trans (Finset.sum_congr rfl fun k _ => ?_)
  rw [h2]

/-- A block loaded whole starts at zero on both axes. -/
theorem zero2 : ∀ a : Fin 2, (![0, 0] : Fin 2 → ℕ) a = 0 := by decide

/-- A block loaded whole starts at zero on its three axes. -/
theorem zero3 : ∀ a : Fin 3, (![0, 0, 0] : Fin 3 → ℕ) a = 0 := by decide

/-- The stored block entry by entry. -/
theorem product_apply (x : FVec Ideal S512x7168 .bf16) (w : FVec Ideal S1x7168x512 .bf16) (r j : Fin 512) :
    product (F := Ideal) x w (ix2 r j) = ∑ k : Fin 7168, x (ix2 r k) * w (ix3 (0 : Fin 1) k j) := by
  unfold product
  refine (congrFun (View.canon_cons_unit_lit inb_S512x512_S512x512_0_0 _ _ (by decide)) (ix2 r j)).trans ?_
  exact (congrArg₂ (fun a b => k0_pay1 (F := Ideal) a b (ix2 r j)) (View.ld_unit_lit (Val := Elt Ideal) (e := .bf16) (S := S512x7168) inb_S512x7168_S512x7168_0_0 x zero2)
    (View.ld_unit_lit (Val := Elt Ideal) (e := .bf16) (S := S1x7168x512) inb_S1x7168x512_S1x7168x512_0_0_0 w zero3)).trans (pay_apply x w r j)

variable (m : (ℓ : Loc nD τ sig) → Buf (Elt Ideal) ℓ) (h : Drawn m)

/-- The result, were every tile used. -/
def whole : S40960x2048.Idx → Elt Ideal .bf16 := fun i =>
  stored m ((i 0).val / 512) ((i 1).val / 512) (ix2 (⟨(i 0).val % 512, Nat.mod_lt _ (by decide)⟩ : Fin 512) (⟨(i 1).val % 512, Nat.mod_lt _ (by decide)⟩ : Fin 512))

/-- What a point writes back is the whole's block there. -/
theorem writes_whole (c : Dev nD) (t : Fin (pipe m h).N) :
    (dats m h 0 c).flushed 2 t = (((pipe m h).win 2).blk t).view.read (Elt Ideal) (whole m) := by
  refine Eq.trans (b := (dats m h 0 c).after 2 t) rfl ?_
  rw [after_out]
  funext (y : S512x512.Idx)
  have key : ∀ V : S40960x2048.Idx → Elt Ideal .bf16,
      (((pipe m h).win 2).blk t).view.read (Elt Ideal) V y = V ((((pipe m h).win 2).rect t).idx y) := fun V => rfl
  refine Eq.trans ?_ (key (whole m)).symm
  have y0 : (y 0).val < 512 := (y 0).isLt
  have y1 : (y 1).val < 512 := (y 1).isLt
  have e0 : ((((pipe m h).win 2).rect t).idx y (0 : Fin 2)).val = tileOf m (t.val % 80) * 512 + (y 0).val :=
    (congrArg (fun f : Fin 2 → ℕ => f 0 * 512 + 1 * (y 0).val) (index_out m h t)).trans (by show tileOf m (t.val % 80) * 512 + 1 * (y 0).val = _; omega)
  have e1 : ((((pipe m h).win 2).rect t).idx y (1 : Fin 2)).val = (t.val / 80) * 512 + (y 1).val :=
    (congrArg (fun f : Fin 2 → ℕ => f 1 * 512 + 1 * (y 1).val) (index_out m h t)).trans (by show (t.val / 80) * 512 + 1 * (y 1).val = _; omega)
  have aux : ∀ (i : S40960x2048.Idx), (i 0).val = tileOf m (t.val % 80) * 512 + (y 0).val → (i 1).val = (t.val / 80) * 512 + (y 1).val →
      stored m (tileOf m (t.val % 80)) (t.val / 80) y = whole m i := fun i h0 h1 => by
    unfold whole
    have q0 : (i 0).val / 512 = tileOf m (t.val % 80) := by omega
    have q1 : (i 1).val / 512 = t.val / 80 := by omega
    rw [q0, q1]
    refine congrArg _ ?_
    funext (a : Fin 2)
    refine Fin.ext ?_
    match a with
    | ⟨0, _⟩ => show (y 0).val = (i 0).val % 512; omega
    | ⟨1, _⟩ => show (y 1).val = (i 1).val % 512; omega
  exact aux _ e0 e1

/-- The last point that works on a used tile and a block of columns writes it back. -/
theorem written (d n : ℕ) (hd : d < (used m).toNat) (hn : n < 4) :
    ∃ t : Fin (pipe m h).N, ((pipe m h).win 2).flush t = true ∧ tileOf m (t.val % 80) = d ∧ t.val / 80 = n := by
  have eN : (pipe m h).grid.N = 320 := N_0
  have hle := h.le
  have main : ∀ x : ℕ, x < 80 → tileOf m x = d → (x = 79 ∨ tileOf m (x + 1) ≠ d) →
      ∃ t : Fin (pipe m h).N, ((pipe m h).win 2).flush t = true ∧ tileOf m (t.val % 80) = d ∧ t.val / 80 = n := fun x hx hxd hlast => by
    have hlt : n * 80 + x < (pipe m h).grid.N := by rw [eN]; omega
    have em : (n * 80 + x) % 80 = x := by omega
    have ed : (n * 80 + x) / 80 = n := by omega
    refine ⟨⟨n * 80 + x, hlt⟩, ?_, by dsimp only; rw [em]; exact hxd, ed⟩
    unfold Window.flush
    rw [Bool.and_eq_true]
    refine ⟨rfl, ?_⟩
    rw [Bool.or_eq_true, decide_eq_true_eq, decide_eq_true_eq]
    by_cases hend : n * 80 + x + 1 = (pipe m h).grid.N
    · exact .inl hend
    refine .inr ⟨Nat.lt_of_le_of_ne hlt hend, fun he => ?_⟩
    rw [index_out, index_out] at he
    dsimp only at he
    have f0 := congrFun he (0 : Fin 2)
    have f1 := congrFun he (1 : Fin 2)
    have f0 : tileOf m ((n * 80 + x + 1) % 80) = tileOf m ((n * 80 + x) % 80) := f0
    have f1 : (n * 80 + x + 1) / 80 = (n * 80 + x) / 80 := f1
    rcases hlast with rfl | hne
    · omega
    · by_cases hx79 : x = 79
      · omega
      · rw [show (n * 80 + x + 1) % 80 = x + 1 from by omega, em, hxd] at f0
        exact hne f0
  have hone := h.one_le
  by_cases hlast : d + 1 = (used m).toNat
  · exact main 79 (by omega) (by unfold tileOf; omega) (.inl rfl)
  · exact main d (by omega) (by unfold tileOf; omega) (.inr (by unfold tileOf; omega))

/-- At the end, the rows of the used tiles hold the whole's. -/
theorem ends_with (c : Dev nD) (i : S40960x2048.Idx) (hi : (i 0).val / 512 < (used m).toNat) :
    (dats m h 0 c).arrAt 2 (pipe m h).N i = whole m i := by
  have i1 : (i 1).val < 2048 := (i 1).isLt
  obtain ⟨t, hf, hd, hn⟩ := written m h ((i 0).val / 512) ((i 1).val / 512) hi (by omega)
  refine Dat.arrAt_apply_of_mem (dats m h 0 c) 2 (whole m) (fun t _ => writes_whole m h c t) (pipe m h).N t i t.isLt hf ?_
  have e : (((pipe m h).win 2).blk t).view.emb (ix2 (⟨(i 0).val % 512, Nat.mod_lt _ (by decide)⟩ : Fin 512) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 512 + 1 * ((i 0).val % 512)) (index_out m h t)).trans
        (by show tileOf m (t.val % 80) * 512 + 1 * ((i 0).val % 512) = (i 0).val; omega)
    | ⟨1, _⟩ =>
      exact (congrArg (fun f : Fin 2 → ℕ => f 1 * 512 + 1 * ((i 1).val % 512)) (index_out m h t)).trans
        (by show (t.val / 80) * 512 + 1 * ((i 1).val % 512) = (i 1).val; omega)
  exact e ▸ (((pipe m h).win 2).blk t).view.emb_mem_set _

/-- Every entry of the whole is a sum of products. -/
theorem whole_apply (d : Fin 80) (r : Fin 512) (f : Fin 2048) (X : FVec Ideal S40960x7168 .bf16) (W : FVec Ideal S8x7168x2048 .bf16)
    (hX : m (((0 : Dev nD) : Thread nD τ).loc main_arg2) = X) (hW : m (((0 : Dev nD) : Thread nD τ).loc main_arg3) = W) :
    whole m (ix2 (⟨d.val * 512 + r.val, by omega⟩ : Fin 40960) f) =
      ∑ k : Fin 7168, X (ix2 (⟨d.val * 512 + r.val, by omega⟩ : Fin 40960) k)
        * W (ix3 (⟨(expert m d).toNat % 8, Nat.mod_lt _ (by decide)⟩ : Fin 8) k f) := by
  subst hX hW
  unfold whole
  have q0 : (d.val * 512 + r.val) / 512 = d.val := by omega
  have q1 : (d.val * 512 + r.val) % 512 = r.val := by omega
  refine Eq.trans (b := stored m ((d.val * 512 + r.val) / 512) (f.val / 512) (ix2 (⟨(d.val * 512 + r.val) % 512, Nat.mod_lt _ (by decide)⟩ : Fin 512) (⟨f.val % 512, Nat.mod_lt _ (by decide)⟩ : Fin 512))) rfl ?_
  unfold stored
  refine (product_apply _ _ _ _).trans (Finset.sum_congr rfl fun k _ => ?_)
  unfold rowsOf weightsOf
  refine congrArg₂ (fun a b : EReal => a * b) (congrArg (m (((0 : Dev nD) : Thread nD τ).loc main_arg2)) ?_) (congrArg (m (((0 : Dev nD) : Thread nD τ).loc main_arg3)) ?_)
  · funext (a : Fin 2)
    refine Fin.ext ?_
    match a with
    | ⟨0, _⟩ => show ((d.val * 512 + r.val) / 512 * 512 + (d.val * 512 + r.val) % 512) % 40960 = d.val * 512 + r.val; omega
    | ⟨1, _⟩ => rfl
  · funext (a : Fin 3)
    refine Fin.ext ?_
    match a with
    | ⟨0, _⟩ =>
      show expertNat m ((d.val * 512 + r.val) / 512) % 8 = (expert m d).toNat % 8
      rw [q0]
      unfold expertNat
      rw [show (⟨d.val % 80, Nat.mod_lt _ (by decide)⟩ : Fin 80) = d from Fin.ext (Nat.mod_eq_of_lt d.isLt)]
    | ⟨1, _⟩ => rfl
    | ⟨2, _⟩ => show (f.val / 512 * 512 + f.val % 512) % 2048 = f.val; omega

end Cert.ExpertDownIdeal.Tiles

end
-- ==== Proof.Experts.DownRef.lean ====
/- The reference of the down projection entry by entry: the row times the column of its tile's expert. -/
module

public import proofs.«01_k».proof.Proof.Gen.RefExpertDownIdeal.Run
public import proofs.«01_k».proof.Proof.Band.Words
public import Idealize.ShloMosaic.Lib.Pointwise

@[expose] public section

set_option maxHeartbeats 4000000
set_option maxRecDepth 16384

noncomputable section

namespace Cert.RefExpertDownIdeal.Tiles

open Idealize.ShloMosaic Idealize.SL.Sem
open Cert.RefExpertDownIdeal Cert.RefExpertDownIdeal.Gen

/-- The gather of the weights at a tile. -/
theorem gather_weights (W : FVec Ideal S8x7168x2048 .f32) (idx : IVec S80x1 32) (t : Fin 80) (k : Fin 7168) (f : Fin 2048) :
    Host.gather gather_S8x7168x2048_S80x1_S80x7168x2048_12_0_n_n_0_1_171682048 W idx (ix3 t k f)
      = W (ix3 (⟨min (idx (ix2 t (0 : Fin 1))).toInt.toNat 7, by omega⟩ : Fin 8) k f) := by
  unfold Host.gather
  congr 1
  funext (a : Fin 3)
  refine Fin.ext ?_
  show GatherDims.start gather_S8x7168x2048_S80x1_S80x7168x2048_12_0_n_n_0_1_171682048 (ix3 t k f) idx a + GatherDims.batchCoord gather_S8x7168x2048_S80x1_S80x7168x2048_12_0_n_n_0_1_171682048 (ix3 t k f) a + GatherDims.offCoord gather_S8x7168x2048_S80x1_S80x7168x2048_12_0_n_n_0_1_171682048 (ix3 t k f) a = _
  rw [GatherDims.batchCoord_eq_zero _ _ _ List.not_mem_nil]
  have hsi : gather_S8x7168x2048_S80x1_S80x7168x2048_12_0_n_n_0_1_171682048.siIdx (ix3 t k f)
      ⟨List.idxOf (0 : Fin 3) gather_S8x7168x2048_S80x1_S80x7168x2048_12_0_n_n_0_1_171682048.startIndexMap,
        List.idxOf_lt_length_iff.2 (List.mem_singleton.mpr rfl)⟩ = ix2 t (0 : Fin 1) := by
    funext b; refine Fin.ext ?_
    match b with
    | ⟨0, _⟩ => rfl
    | ⟨1, _⟩ => rfl
  match a with
  | ⟨0, _⟩ =>
    show GatherDims.start gather_S8x7168x2048_S80x1_S80x7168x2048_12_0_n_n_0_1_171682048 (ix3 t k f) idx (0 : Fin 3) + 0 + GatherDims.offCoord gather_S8x7168x2048_S80x1_S80x7168x2048_12_0_n_n_0_1_171682048 (ix3 t k f) (0 : Fin 3) = _
    rw [GatherDims.offCoord_eq_zero _ _ _ (fun h => ((GatherDims.mem_sKept _ _).mp h).1 (List.mem_singleton.mpr rfl))]
    unfold GatherDims.start
    rw [dif_pos (show (0 : Fin 3) ∈ gather_S8x7168x2048_S80x1_S80x7168x2048_12_0_n_n_0_1_171682048.startIndexMap from List.mem_singleton.mpr rfl), hsi]
    rfl
  | ⟨1, _⟩ =>
    show GatherDims.start gather_S8x7168x2048_S80x1_S80x7168x2048_12_0_n_n_0_1_171682048 (ix3 t k f) idx (1 : Fin 3) + 0 + GatherDims.offCoord gather_S8x7168x2048_S80x1_S80x7168x2048_12_0_n_n_0_1_171682048 (ix3 t k f) (1 : Fin 3) = k.val
    unfold GatherDims.start
    rw [dif_neg (show ¬ (1 : Fin 3) ∈ gather_S8x7168x2048_S80x1_S80x7168x2048_12_0_n_n_0_1_171682048.startIndexMap from fun h => absurd (List.mem_singleton.mp h) (by decide))]
    exact (Nat.zero_add _).trans rfl
  | ⟨2, _⟩ =>
    show GatherDims.start gather_S8x7168x2048_S80x1_S80x7168x2048_12_0_n_n_0_1_171682048 (ix3 t k f) idx (2 : Fin 3) + 0 + GatherDims.offCoord gather_S8x7168x2048_S80x1_S80x7168x2048_12_0_n_n_0_1_171682048 (ix3 t k f) (2 : Fin 3) = f.val
    unfold GatherDims.start
    rw [dif_neg (show ¬ (2 : Fin 3) ∈ gather_S8x7168x2048_S80x1_S80x7168x2048_12_0_n_n_0_1_171682048.startIndexMap from fun h => absurd (List.mem_singleton.mp h) (by decide))]
    exact (Nat.zero_add _).trans rfl

/-- The batched product of tiles and their weights. -/
theorem tile_dot (A : FVec Ideal S80x512x7168 .f32) (B : FVec Ideal S80x7168x2048 .f32) (t : Fin 80) (r : Fin 512) (f : Fin 2048) :
    Host.dotGeneral (F := Ideal) (φ₁ := .f32) (φ₂ := .f32) dot_S80x512x7168_S80x7168x2048_S80x512x2048_2_1_1_2_0_0 none A B (ix3 t r f)
      = ∑ k : Fin 7168, A (ix3 t r k) * B (ix3 t k f) := by
  pointwise

/-- The rows split into tiles. -/
theorem split_rows (X : FVec Ideal S40960x7168 .bf16) (t : Fin 80) (r : Fin 512) (k : Fin 7168) :
    (shapeCast S80x512x7168 (extf .f32 X bitsLt_bf16_f32 : FVec Ideal S40960x7168 .f32) shapeCasts_S40960x7168_S80x512x7168) (ix3 t r k)
      = X (ix2 (⟨t.val * 512 + r.val, by omega⟩ : Fin 40960) k) := by
  pointwise

/-- The tiles joined into rows. -/
theorem join_rows (D : FVec Ideal S80x512x2048 .f32) (t : Fin 80) (r : Fin 512) (f : Fin 2048) :
    (truncf .bf16 (shapeCast S40960x2048 D shapeCasts_S80x512x2048_S40960x2048 : FVec Ideal S40960x2048 .f32) bitsLt_bf16_f32 : FVec Ideal S40960x2048 .bf16)
      (ix2 (⟨t.val * 512 + r.val, by omega⟩ : Fin 40960) f) = D (ix3 t r f) := by
  pointwise

/-- The index the weights are gathered at. -/
theorem gather_word (e : IVec S80 32) (t : Fin 80) (h : (e (ix1 t)).toNat < 8) :
    min (broadcastInDim S80x1 ![0] bcast_S80_S80x1_0 (select (cmpi .slt e (broadcastInDim S80 ![] bcast_S_S80 (constantI S_ 32 0#32)))
      (addi e (broadcastInDim S80 ![] bcast_S_S80 (constantI S_ 32 8#32))) e) (ix2 t (0 : Fin 1))).toInt.toNat 7 = (e (ix1 t)).toNat % 8 := by
  have h1 : broadcastInDim S80x1 ![0] bcast_S80_S80x1_0 (select (cmpi .slt e (broadcastInDim S80 ![] bcast_S_S80 (constantI S_ 32 0#32)))
      (addi e (broadcastInDim S80 ![] bcast_S_S80 (constantI S_ 32 8#32))) e) (ix2 t (0 : Fin 1))
      = Scalar.select (IntOp.cmpi .slt (e (ix1 t)) 0#32) (IntOp.addi (e (ix1 t)) 8#32) (e (ix1 t)) := by
    pointwise
  have h2 : (e (ix1 t)).toInt = (e (ix1 t)).toNat := BitVec.toInt_eq_toNat_of_lt (by omega)
  rw [h1, Cert.Band.wrap_word _ _ (by rw [h2]; omega), h2]
  omega

/-- The reference entry by entry. -/
theorem entry (e : IVec S80 32) (X : FVec Ideal S40960x7168 .bf16) (W : FVec Ideal S8x7168x2048 .bf16) (t : Fin 80) (r : Fin 512) (f : Fin 2048)
    (h : (e (ix1 t)).toNat < 8) :
    (truncf .bf16 (shapeCast S40960x2048 (Host.dotGeneral (F := Ideal) (φ₁ := .f32) (φ₂ := .f32) dot_S80x512x7168_S80x7168x2048_S80x512x2048_2_1_1_2_0_0 none
        (shapeCast S80x512x7168 (extf .f32 X bitsLt_bf16_f32 : FVec Ideal S40960x7168 .f32) shapeCasts_S40960x7168_S80x512x7168)
        (Host.gather gather_S8x7168x2048_S80x1_S80x7168x2048_12_0_n_n_0_1_171682048 (extf .f32 W bitsLt_bf16_f32 : FVec Ideal S8x7168x2048 .f32)
          (broadcastInDim S80x1 ![0] bcast_S80_S80x1_0 (select (cmpi .slt e (broadcastInDim S80 ![] bcast_S_S80 (constantI S_ 32 0#32)))
            (addi e (broadcastInDim S80 ![] bcast_S_S80 (constantI S_ 32 8#32))) e))))
        shapeCasts_S80x512x2048_S40960x2048 : FVec Ideal S40960x2048 .f32) bitsLt_bf16_f32 : FVec Ideal S40960x2048 .bf16)
      (ix2 (⟨t.val * 512 + r.val, by omega⟩ : Fin 40960) f)
    = ∑ k : Fin 7168, (X (ix2 (⟨t.val * 512 + r.val, by omega⟩ : Fin 40960) k) : EReal)
        * W (ix3 (⟨(e (ix1 t)).toNat % 8, Nat.mod_lt _ (by decide)⟩ : Fin 8) k f) := by
  refine (join_rows _ t r f).trans ((tile_dot _ _ t r f).trans (Finset.sum_congr rfl fun k _ => ?_))
  refine congrArg₂ (fun a b : EReal => a * b) (split_rows X t r k) ((gather_weights _ _ t k f).trans ?_)
  refine congrArg (fun z : Fin 8 => W (ix3 z k f)) (Fin.ext ?_)
  exact gather_word e t h

end Cert.RefExpertDownIdeal.Tiles

end
-- ==== Proof.Experts.DownEqual.lean ====
/- On the rows of the used tiles, the down projection's array is the reference's. -/
module

public import proofs.«01_k».proof.Defs
public import proofs.«01_k».proof.Proof.Experts.DownPre
public import proofs.«01_k».proof.Proof.Experts.DownPreIdeal
public import proofs.«01_k».proof.Proof.Experts.DownLaunch
public import proofs.«01_k».proof.Proof.Experts.DownValue
public import proofs.«01_k».proof.Proof.Experts.DownRef
public import proofs.«01_k».proof.Proof.Gen.On_rows_used_down

@[expose] public section

set_option maxHeartbeats 4000000
set_option maxRecDepth 16384

noncomputable section

namespace Cert.ExpertDownIdeal.Tiles

open Idealize.ShloMosaic Idealize.ShloMosaic.TcCoe Idealize.SL.Sem
open Cert.ExpertDownIdeal Cert.ExpertDownIdeal.Gen

/-- The mask selects rows of used tiles only. -/
theorem row_used (e : IVec Cert.On_rows_used_down.S80 32) (n : IVec Cert.On_rows_used_down.S1 32)
    (X : FVec Ideal Cert.On_rows_used_down.S40960x7168 .bf16) (W : FVec Ideal Cert.On_rows_used_down.S8x7168x2048 .bf16)
    (r : Fin 40960) (f : Fin 2048) (hn : (n (ix1 (0 : Fin 1))).toNat ≤ 80)
    (h : Cert.On_rows_used_down.fn (F := Ideal) e n X W (ix2 r f) = 1#1) : r.val / 512 < (n (ix1 (0 : Fin 1))).toNat := by
  have h1 : Cert.On_rows_used_down.fn (F := Ideal) e n X W (ix2 r f) =
      IntOp.cmpi .slt (BitVec.ofNat 32 r.val) (IntOp.muli (n (ix1 (0 : Fin 1))) 512#32) := by
    unfold Cert.On_rows_used_down.fn
    pointwise
  rw [h1, IntOp.cmpi_slt] at h
  have hm : (IntOp.muli (n (ix1 (0 : Fin 1))) 512#32).toNat = (n (ix1 (0 : Fin 1))).toNat * 512 := by
    show (n (ix1 (0 : Fin 1)) * 512#32).toNat = _
    rw [BitVec.toNat_mul]
    show (n (ix1 (0 : Fin 1))).toNat * 512 % 4294967296 = _
    omega
  have hr : (BitVec.ofNat 32 r.val).toNat = r.val := by
    rw [BitVec.toNat_ofNat]
    exact Nat.mod_eq_of_lt (by omega)
  rw [BitVec.toInt_eq_toNat_of_lt (by rw [hr]; omega), BitVec.toInt_eq_toNat_of_lt (by rw [hm]; omega), hr, hm] at h
  omega

/-- The array the run leaves is the whole's on the rows of the used tiles, and the arguments end as they were. -/
theorem leaves_whole (m : (ℓ : Loc nD τ sig) → Buf (Elt Ideal) ℓ) (ρ : Dev nD → PrngReg) (h : Drawn m) :
    θ_run defs (onTc (τ := τ) (main (F := Ideal))) ⟨m, fun _ => 0, ρ⟩ (fun r => ∀ c : Dev nD,
      (∀ i : S40960x2048.Idx, (i 0).val / 512 < (used m).toNat → r.2.mem ((c.tc : Thread nD τ).loc main_v12) i = whole m i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨fun i hi => (congrFun ((hr.1 c).1 2) i).trans (ends_with m h c i hi),
    ((hr.1 c).2 main_arg0 (by decide : main_arg0 ∈ Pipeline.restRefs sig spec0)).trans (keeps0 m c),
    ((hr.1 c).2 main_arg1 (by decide : main_arg1 ∈ Pipeline.restRefs sig spec0)).trans (keeps1 m c),
    ((hr.1 c).1 0).trans (((dats m h 0 c).arrAt_in 0 rfl _).trans ((arrays_found m h c 0).trans (keeps2 m c))),
    ((hr.1 c).1 1).trans (((dats m h 0 c).arrAt_in 1 rfl _).trans ((arrays_found m h c 1).trans (keeps3 m c)))⟩) (runs m ρ h)

/-- The reference's entry is the whole's, in every row. -/
theorem reference_entry (m : (ℓ : Loc nD τ sig) → Buf (Elt Ideal) ℓ) (h : Drawn m) (e : IVec S80 32) (X : FVec Ideal S40960x7168 .bf16) (W : FVec Ideal S8x7168x2048 .bf16)
    (he : m (((0 : Dev nD) : Thread nD τ).loc main_arg0) = e)
    (hX : m (((0 : Dev nD) : Thread nD τ).loc main_arg2) = X) (hW : m (((0 : Dev nD) : Thread nD τ).loc main_arg3) = W) (r : Fin 40960) (f : Fin 2048) :
    (truncf .bf16 (shapeCast Cert.RefExpertDownIdeal.S40960x2048 (Host.dotGeneral (F := Ideal) (φ₁ := .f32) (φ₂ := .f32) Cert.RefExpertDownIdeal.dot_S80x512x7168_S80x7168x2048_S80x512x2048_2_1_1_2_0_0 none
        (shapeCast Cert.RefExpertDownIdeal.S80x512x7168 (extf .f32 X Cert.RefExpertDownIdeal.Gen.bitsLt_bf16_f32 : FVec Ideal S40960x7168 .f32) Cert.RefExpertDownIdeal.Gen.shapeCasts_S40960x7168_S80x512x7168)
        (Host.gather Cert.RefExpertDownIdeal.gather_S8x7168x2048_S80x1_S80x7168x2048_12_0_n_n_0_1_171682048 (extf .f32 W Cert.RefExpertDownIdeal.Gen.bitsLt_bf16_f32 : FVec Ideal S8x7168x2048 .f32)
          (broadcastInDim Cert.RefExpertDownIdeal.S80x1 ![0] Cert.RefExpertDownIdeal.Gen.bcast_S80_S80x1_0 (select (cmpi .slt e (broadcastInDim Cert.RefExpertDownIdeal.S80 ![] Cert.RefExpertDownIdeal.Gen.bcast_S_S80 (constantI Cert.RefExpertDownIdeal.S_ 32 0#32)))
            (addi e (broadcastInDim Cert.RefExpertDownIdeal.S80 ![] Cert.RefExpertDownIdeal.Gen.bcast_S_S80 (constantI Cert.RefExpertDownIdeal.S_ 32 8#32))) e))))
        Cert.RefExpertDownIdeal.Gen.shapeCasts_S80x512x2048_S40960x2048 : FVec Ideal Cert.RefExpertDownIdeal.S40960x2048 .f32) Cert.RefExpertDownIdeal.Gen.bitsLt_bf16_f32 : FVec Ideal Cert.RefExpertDownIdeal.S40960x2048 .bf16) (ix2 r f)
      = whole m (ix2 r f) := by
  obtain ⟨t, q, rfl⟩ : ∃ (t : Fin 80) (q : Fin 512), r = ⟨t.val * 512 + q.val, by omega⟩ :=
    ⟨⟨r.val / 512, by omega⟩, ⟨r.val % 512, Nat.mod_lt _ (by decide)⟩, Fin.ext (by dsimp only; omega)⟩
  refine (Cert.RefExpertDownIdeal.Tiles.entry e X W t q f ?_).trans ?_
  · rw [← he]; exact h.below t
  · refine Eq.trans ?_ (whole_apply m t q f X W hX hW).symm
    rw [← he]
    rfl

end Cert.ExpertDownIdeal.Tiles

namespace Cert.Proof

open Idealize.ShloMosaic Idealize.SL.Sem

/-- The down projection runs from every memory whose tables are in range, and leaves its arguments as they were. -/
theorem frame_expert_down : Cert.quiescent_ExpertDown := fun m ρ hpre =>
  Cert.ExpertDown.Tiles.leaves_args m ρ (Cert.ExpertDown.Tiles.drawn_of m _ _ (hpre 0))

/-- The same of the idealized one. -/
theorem frame_expert_down_ideal : Cert.quiescent_ExpertDownIdeal := fun m ρ hpre =>
  Cert.ExpertDownIdeal.Tiles.leaves_args m ρ (Cert.ExpertDownIdeal.Tiles.drawn_of m _ _ (hpre 0))

/-- The reference of the down projection runs and keeps its arguments. -/
theorem frame_expert_down_reference : Cert.quiescent_RefExpertDownIdeal := fun m ρ _ =>
  (θ_run (Cert.RefExpertDownIdeal.defs (F := Ideal)) _ _).mono (fun r h => ⟨fun c => (h c).2, sem_eq_zero_of_no_sems (by decide) r.2⟩)
    (Cert.RefExpertDownIdeal.Value.run (F := Ideal) m ρ)

/-- On the rows of the used tiles the down projection's array and its reference's are equal, element by element. -/
theorem expert_down_equal : Cert.algebraic_ExpertDownIdeal_RefExpertDownIdeal_on_rows_used_down := fun m g m' g' hpre hag => by
  have h := Cert.ExpertDownIdeal.Tiles.drawn_of m _ _ (hpre 0)
  refine ⟨fun _ => Cert.ExpertDownIdeal.Tiles.whole m, ?_, ?_⟩
  · refine (θ_run (Cert.ExpertDownIdeal.defs (F := Ideal)) _ _).mono (fun r hr c => ⟨fun i hi => (hr c).1 i ?_, (hr c).2⟩)
      (Cert.ExpertDownIdeal.Tiles.leaves_whole m g h)
    obtain rfl : c = 0 := Subsingleton.elim _ _
    have ei : i = ix2 (i 0) (i 1) := by
      funext (a : Fin 2)
      match a with
      | ⟨0, _⟩ => rfl
      | ⟨1, _⟩ => rfl
    rw [ei] at hi
    exact Cert.ExpertDownIdeal.Tiles.row_used _ _ _ _ (i 0) (i 1) h.le hi
  · refine (θ_run (Cert.RefExpertDownIdeal.defs (F := Ideal)) _ _).mono (fun r hr c => ⟨fun i _ => (congrFun (hr c).1 i).trans ?_, (hr c).2⟩)
      (Cert.RefExpertDownIdeal.Value.run (F := Ideal) m' g')
    obtain rfl : c = 0 := Subsingleton.elim _ _
    have ei : i = ix2 (i 0) (i 1) := by
      funext (a : Fin 2)
      match a with
      | ⟨0, _⟩ => rfl
      | ⟨1, _⟩ => rfl
    rw [ei]
    exact Cert.ExpertDownIdeal.Tiles.reference_entry m h _ _ _ (hag 0).1.symm (hag 0).2.2.1.symm (hag 0).2.2.2.symm (i 0) (i 1)

end Cert.Proof

end
-- ==== Proof.Dense.SwigluEqual.lean ====
/- The dense feed-forward's first product: the gated array is the reference's. -/
module

public import proofs.«01_k».proof.Defs
public import proofs.«01_k».proof.Proof.Gen.SwigluUp.Frame
public import proofs.«01_k».proof.Proof.Gen.SwigluUpIdeal.Value
public import proofs.«01_k».proof.Proof.Gen.RefSwigluUpIdeal.Run
public import Idealize.ShloMosaic.Lib.Pointwise
public import Idealize.ShloMosaic.Lib.Pipeline.Value
public import Idealize.ShloMosaic.Lib.Pipeline.ValueKit.Acc
public import Idealize.ShloMosaic.Lib.Pipeline.ReadBack

@[expose] public section

set_option maxHeartbeats 4000000
set_option maxRecDepth 16384

noncomputable section

namespace Cert.SwigluUpIdeal.Dense

open Idealize.ShloMosaic Idealize.ShloMosaic.TcCoe Idealize.SL.Sem
open Idealize.ShloMosaic.Pipeline (Dat Cfg Window)
open Cert.SwigluUpIdeal Cert.SwigluUpIdeal.Gen

/-- A small number survives its word. -/
theorem small (n : ℕ) (h : n < 4294967296) : (BitVec.ofNat 32 n).toNat = n := by
  rw [BitVec.toNat_ofNat]
  exact Nat.mod_eq_of_lt h

/-- The number of points. -/
theorem points_lt (t : Fin cfg0.N) : t.val < 198 := by
  have e : cfg0.N = 198 := N_0
  have := t.isLt
  omega

/-- The columns' place in the grid. -/
theorem place_cols (t : Fin cfg0.N) : (grid0.coords t 0).val = t.val / 18 := by
  rw [Pipeline.Grid.coords_val t 0 (S := 18) (B := 11) (by decide) rfl]
  have := points_lt t
  exact Nat.mod_eq_of_lt (by omega)

/-- The rows' place in the grid. -/
theorem place_rows (t : Fin cfg0.N) : (grid0.coords t 1).val = t.val % 18 := by
  rw [Pipeline.Grid.coords_val t 1 (S := 1) (B := 18) (by decide) rfl, Nat.div_one]

/-- The rows' block at a point. -/
theorem index_rows (t : Fin cfg0.N) : (cfg0.win 0).index t = ![t.val % 18, 0] := by
  have h : cc0_transform_0 (grid0.coords t) = ![(BitVec.ofNat 32 (grid0.coords t 1).val).toNat, 0] := rfl
  refine Eq.trans (b := cc0_transform_0 (grid0.coords t)) rfl (h.trans ?_)
  rw [place_rows, small _ (by omega)]

/-- The gates' block at a point. -/
theorem index_gates (t : Fin cfg0.N) : (cfg0.win 1).index t = ![0, t.val / 18] := by
  have h : cc0_transform_1 (grid0.coords t) = ![0, (BitVec.ofNat 32 (grid0.coords t 0).val).toNat] := rfl
  refine Eq.trans (b := cc0_transform_1 (grid0.coords t)) rfl (h.trans ?_)
  have := points_lt t
  rw [place_cols, small _ (by omega)]

/-- The other columns' block at a point. -/
theorem index_others (t : Fin cfg0.N) : (cfg0.win 2).index t = ![0, 11 + t.val / 18] := by
  have h : cc0_transform_2 (grid0.coords t) = ![0, (11#32 + BitVec.ofNat 32 (grid0.coords t 0).val).toNat] := rfl
  refine Eq.trans (b := cc0_transform_2 (grid0.coords t)) rfl (h.trans ?_)
  have := points_lt t
  have e : (11#32 + BitVec.ofNat 32 (t.val / 18)).toNat = 11 + t.val / 18 := by
    have hn : (BitVec.ofNat 32 (t.val / 18)).toNat = t.val / 18 := small _ (by omega)
    rw [BitVec.toNat_add, hn]
    show (11 + t.val / 18) % 4294967296 = _
    omega
  rw [place_cols, e]

/-- The result's block at a point. -/
theorem index_result (t : Fin cfg0.N) : (cfg0.win 3).index t = ![t.val % 18, t.val / 18] := by
  have h : cc0_transform_3 (grid0.coords t) = ![(BitVec.ofNat 32 (grid0.coords t 1).val).toNat, (BitVec.ofNat 32 (grid0.coords t 0).val).toNat] := rfl
  refine Eq.trans (b := cc0_transform_3 (grid0.coords t)) rfl (h.trans ?_)
  have := points_lt t
  rw [place_rows, place_cols, small _ (by omega), small _ (by omega)]

/-- The gated product of a block entry by entry. -/
theorem pay_apply (x : FVec Ideal S1024x2048 .bf16) (g u : FVec Ideal S2048x512 .bf16) (r : Fin 1024) (j : Fin 512) :
    k0_pay3 (F := Ideal) x g u (ix2 r j)
      = ((∑ k : Fin 2048, (x (ix2 r k) : EReal) * g (ix2 k j)) * Ideal.logistic (∑ k : Fin 2048, (x (ix2 r k) : EReal) * g (ix2 k j)))
        * ∑ k : Fin 2048, (x (ix2 r k) : EReal) * u (ix2 k j) := by
  unfold k0_pay3
  have h1 : ∀ (A : FVec Ideal S1024x2048 .bf16) (B : FVec Ideal S2048x512 .bf16),
      (matmul dot_S1024x2048_S2048x512_S1024x512_1_0_0_1_n_n none A B (constant S1024x512 .f32 0x00000000#32) : FVec Ideal S1024x512 .f32) (ix2 r j)
        = ∑ k : Fin 2048, A (ix2 r k) * B (ix2 k j) := fun A B => by
    pointwise
  have key : ∀ G U : FVec Ideal S1024x512 .f32, (truncf .bf16 (mulf (mulf G (logistic G)) U) bitsLt_bf16_f32 : FVec Ideal S1024x512 .bf16) (ix2 r j)
      = ((G (ix2 r j) : EReal) * Ideal.logistic (G (ix2 r j))) * U (ix2 r j) := fun _ _ => rfl
  refine (key _ _).trans ?_
  exact congrArg₂ (fun a b : EReal => (a * Ideal.logistic a) * b) (h1 x g) (h1 x u)

/-- The gates' weights are kept as they are. -/
theorem keep_gates (g : FVec Ideal S2048x512 .f32) (k : Fin 2048) (j : Fin 512) : k0_pay1 (F := Ideal) g (ix2 k j) = (g (ix2 k j) : EReal) := by
  unfold k0_pay1
  have h1 : ∀ A : FVec Ideal S2048x512 .bf16, (shapeCast S2048x512 A shapeCasts_S2048x512_S2048x512 : FVec Ideal S2048x512 .bf16) (ix2 k j) = A (ix2 k j) := fun A => by
    pointwise
  exact h1 _

/-- The other weights are kept as they are. -/
theorem keep_others (g : FVec Ideal S2048x512 .f32) (k : Fin 2048) (j : Fin 512) : k0_pay2 (F := Ideal) g (ix2 k j) = (g (ix2 k j) : EReal) := by
  unfold k0_pay2
  have h1 : ∀ A : FVec Ideal S2048x512 .bf16, (shapeCast S2048x512 A shapeCasts_S2048x512_S2048x512 : FVec Ideal S2048x512 .bf16) (ix2 k j) = A (ix2 k j) := fun A => by
    pointwise
  exact h1 _

variable (m : (ℓ : Loc nD τ sig) → Buf (Elt Ideal) ℓ)

/-- The rows as the call is given them. -/
abbrev rows : FVec Ideal S18432x2048 .bf16 := m (((0 : Dev nD) : Thread nD τ).loc main_arg0)
/-- The weights as the call is given them. -/
abbrev weights : FVec Ideal S2048x11264 .f32 := m (((0 : Dev nD) : Thread nD τ).loc main_arg1)

/-- The rows of a point. -/
abbrev rowsAt (t : Fin cfg0.N) : FVec Ideal S1024x2048 .bf16 := iblk m (0 : Dev nD) 0 t
/-- The gates' weights of a point. -/
abbrev gatesAt (t : Fin cfg0.N) : FVec Ideal S2048x512 .f32 := iblk m (0 : Dev nD) 1 t
/-- The other weights of a point. -/
abbrev othersAt (t : Fin cfg0.N) : FVec Ideal S2048x512 .f32 := iblk m (0 : Dev nD) 2 t

/-- A row times a column of the weights. -/
def dot (X : FVec Ideal S18432x2048 .bf16) (W : FVec Ideal S2048x11264 .f32) (r : Fin 18432) (f : Fin 11264) : EReal :=
  ∑ k : Fin 2048, (X (ix2 r k) : EReal) * W (ix2 k f)

/-- The whole result. -/
def whole (X : FVec Ideal S18432x2048 .bf16) (W : FVec Ideal S2048x11264 .f32) : FVec Ideal S18432x5632 .bf16 := fun i =>
  (dot X W (⟨(i 0).val, (i 0).isLt⟩ : Fin 18432) (⟨(i 1).val, Nat.lt_trans (i 1).isLt (by decide)⟩ : Fin 11264)
    * Ideal.logistic (dot X W (⟨(i 0).val, (i 0).isLt⟩ : Fin 18432) (⟨(i 1).val, Nat.lt_trans (i 1).isLt (by decide)⟩ : Fin 11264)))
    * dot X W (⟨(i 0).val, (i 0).isLt⟩ : Fin 18432) (⟨5632 + (i 1).val, Nat.add_lt_add_left (i 1).isLt 5632⟩ : Fin 11264)

/-- The block of rows at a point. -/
theorem block_rows (t : Fin cfg0.N) (r : Fin 1024) (k : Fin 2048) (i : Fin 18432) (hi : i.val = t.val % 18 * 1024 + r.val) :
    rowsAt m t (ix2 r k) = rows m (ix2 i k) := by
  have key : rowsAt m t (ix2 r k) = rows m (((cfg0.win 0).rect t).idx (ix2 r k)) := rfl
  refine key.trans (congrArg (rows m) ?_)
  funext (a : Fin 2)
  refine Fin.ext ?_
  match a with
  | ⟨0, _⟩ =>
    exact (congrArg (fun f : Fin 2 → ℕ => f 0 * 1024 + 1 * r.val) (index_rows t)).trans (by show t.val % 18 * 1024 + 1 * r.val = i.val; omega)
  | ⟨1, _⟩ =>
    exact (congrArg (fun f : Fin 2 → ℕ => f 1 * 2048 + 1 * k.val) (index_rows t)).trans (by show 0 * 2048 + 1 * k.val = k.val; omega)

/-- The block of gates' weights at a point. -/
theorem block_gates (t : Fin cfg0.N) (k : Fin 2048) (j : Fin 512) (i : Fin 11264) (hi : i.val = t.val / 18 * 512 + j.val) :
    gatesAt m t (ix2 k j) = weights m (ix2 k i) := by
  have key : gatesAt m t (ix2 k j) = weights m (((cfg0.win 1).rect t).idx (ix2 k j)) := rfl
  refine key.trans (congrArg (weights m) ?_)
  funext (a : Fin 2)
  refine Fin.ext ?_
  match a with
  | ⟨0, _⟩ =>
    exact (congrArg (fun f : Fin 2 → ℕ => f 0 * 2048 + 1 * k.val) (index_gates t)).trans (by show 0 * 2048 + 1 * k.val = k.val; omega)
  | ⟨1, _⟩ =>
    exact (congrArg (fun f : Fin 2 → ℕ => f 1 * 512 + 1 * j.val) (index_gates t)).trans (by show t.val / 18 * 512 + 1 * j.val = i.val; omega)

/-- The block of the other weights at a point. -/
theorem block_others (t : Fin cfg0.N) (k : Fin 2048) (j : Fin 512) (i : Fin 11264) (hi : i.val = 5632 + (t.val / 18 * 512 + j.val)) :
    othersAt m t (ix2 k j) = weights m (ix2 k i) := by
  have key : othersAt m t (ix2 k j) = weights m (((cfg0.win 2).rect t).idx (ix2 k j)) := rfl
  refine key.trans (congrArg (weights m) ?_)
  funext (a : Fin 2)
  refine Fin.ext ?_
  match a with
  | ⟨0, _⟩ =>
    exact (congrArg (fun f : Fin 2 → ℕ => f 0 * 2048 + 1 * k.val) (index_others t)).trans (by show 0 * 2048 + 1 * k.val = k.val; omega)
  | ⟨1, _⟩ =>
    exact (congrArg (fun f : Fin 2 → ℕ => f 1 * 512 + 1 * j.val) (index_others t)).trans (by show (11 + t.val / 18) * 512 + 1 * j.val = i.val; omega)

/-- What the first point of a column block keeps of the gates' weights. -/
theorem first_gates (t : Fin cfg0.N) (h0 : t.val % 18 = 0) : (outsAt0 m (0 : Dev nD) t.val t.isLt).2.1 = k0_pay1 (F := Ideal) (gatesAt m t) := by
  rw [outsAt0_A m (0 : Dev nD) t h0]
  frame_out

/-- What it keeps of the other weights. -/
theorem first_others (t : Fin cfg0.N) (h0 : t.val % 18 = 0) : (outsAt0 m (0 : Dev nD) t.val t.isLt).2.2 = k0_pay2 (F := Ideal) (othersAt m t) := by
  rw [outsAt0_A m (0 : Dev nD) t h0]
  frame_out

/-- A later point keeps the gates' weights as they were. -/
theorem later_gates (t : Fin cfg0.N) (h0 : ¬t.val % 18 = 0) :
    (outsAt0 m (0 : Dev nD) t.val t.isLt).2.1 = (outsAt0 m (0 : Dev nD) (t.val - 1) (Nat.lt_of_le_of_lt (Nat.sub_le _ _) t.isLt)).2.1 := by
  rw [outsAt0_B m (0 : Dev nD) t h0]
  rfl

/-- And the other weights. -/
theorem later_others (t : Fin cfg0.N) (h0 : ¬t.val % 18 = 0) :
    (outsAt0 m (0 : Dev nD) t.val t.isLt).2.2 = (outsAt0 m (0 : Dev nD) (t.val - 1) (Nat.lt_of_le_of_lt (Nat.sub_le _ _) t.isLt)).2.2 := by
  rw [outsAt0_B m (0 : Dev nD) t h0]
  rfl

/-- What the first point stores in the result. -/
theorem first_stored (t : Fin cfg0.N) (h0 : t.val % 18 = 0) :
    (outsAt0 m (0 : Dev nD) t.val t.isLt).1 = k0_pay3 (F := Ideal) (rowsAt m t) (k0_pay1 (F := Ideal) (gatesAt m t)) (k0_pay2 (F := Ideal) (othersAt m t)) := by
  rw [outsAt0_A m (0 : Dev nD) t h0]
  frame_out

/-- What a later point stores in the result. -/
theorem later_stored (t : Fin cfg0.N) (h0 : ¬t.val % 18 = 0) :
    (outsAt0 m (0 : Dev nD) t.val t.isLt).1 = k0_pay3 (F := Ideal) (rowsAt m t)
      (outsAt0 m (0 : Dev nD) (t.val - 1) (Nat.lt_of_le_of_lt (Nat.sub_le _ _) t.isLt)).2.1
      (outsAt0 m (0 : Dev nD) (t.val - 1) (Nat.lt_of_le_of_lt (Nat.sub_le _ _) t.isLt)).2.2 := by
  rw [outsAt0_B m (0 : Dev nD) t h0]
  frame_out
  rw [read_unread_whole, read_unread_whole]

/-- After every point the kept gates' weights are those of its column block. -/
theorem held_gates (n : ℕ) : ∀ (hn : n < cfg0.N) (k : Fin 2048) (j : Fin 512) (i : Fin 11264), i.val = n / 18 * 512 + j.val →
    (outsAt0 m (0 : Dev nD) n hn).2.1 (ix2 k j) = (weights m (ix2 k i) : EReal) := by
  induction n with
  | zero =>
    intro hn k j i hi
    exact (congrFun (first_gates m ⟨0, hn⟩ (Nat.zero_mod _)) (ix2 k j)).trans ((keep_gates _ k j).trans (block_gates m ⟨0, hn⟩ k j i hi))
  | succ n ih =>
    intro hn k j i hi
    by_cases h : (n + 1) % 18 = 0
    · exact (congrFun (first_gates m ⟨n + 1, hn⟩ h) (ix2 k j)).trans ((keep_gates _ k j).trans (block_gates m ⟨n + 1, hn⟩ k j i hi))
    · exact (congrFun (later_gates m ⟨n + 1, hn⟩ h) (ix2 k j)).trans (ih (Nat.lt_of_succ_lt hn) k j i (by omega))

/-- After every point the kept other weights are those of its column block. -/
theorem held_others (n : ℕ) : ∀ (hn : n < cfg0.N) (k : Fin 2048) (j : Fin 512) (i : Fin 11264), i.val = 5632 + (n / 18 * 512 + j.val) →
    (outsAt0 m (0 : Dev nD) n hn).2.2 (ix2 k j) = (weights m (ix2 k i) : EReal) := by
  induction n with
  | zero =>
    intro hn k j i hi
    exact (congrFun (first_others m ⟨0, hn⟩ (Nat.zero_mod _)) (ix2 k j)).trans ((keep_others _ k j).trans (block_others m ⟨0, hn⟩ k j i hi))
  | succ n ih =>
    intro hn k j i hi
    by_cases h : (n + 1) % 18 = 0
    · exact (congrFun (first_others m ⟨n + 1, hn⟩ h) (ix2 k j)).trans ((keep_others _ k j).trans (block_others m ⟨n + 1, hn⟩ k j i hi))
    · exact (congrFun (later_others m ⟨n + 1, hn⟩ h) (ix2 k j)).trans (ih (Nat.lt_of_succ_lt hn) k j i (by omega))

/-- A block's gated product is the whole's entry when its weights are the whole's columns. -/
theorem pay_whole (t : Fin cfg0.N) (G U : FVec Ideal S2048x512 .bf16) (r : Fin 1024) (j : Fin 512) (i : S18432x5632.Idx)
    (h0 : (i 0).val = t.val % 18 * 1024 + r.val)
    (hG : ∀ k : Fin 2048, G (ix2 k j) = (weights m (ix2 k (⟨(i 1).val, Nat.lt_trans (i 1).isLt (by decide)⟩ : Fin 11264)) : EReal))
    (hU : ∀ k : Fin 2048, U (ix2 k j) = (weights m (ix2 k (⟨5632 + (i 1).val, Nat.add_lt_add_left (i 1).isLt 5632⟩ : Fin 11264)) : EReal)) :
    k0_pay3 (F := Ideal) (rowsAt m t) G U (ix2 r j) = whole (rows m) (weights m) i := by
  refine (pay_apply _ _ _ r j).trans ?_
  have eG : (∑ k : Fin 2048, (rowsAt m t (ix2 r k) : EReal) * G (ix2 k j))
      = dot (rows m) (weights m) (⟨(i 0).val, (i 0).isLt⟩ : Fin 18432) (⟨(i 1).val, Nat.lt_trans (i 1).isLt (by decide)⟩ : Fin 11264) := by
    unfold dot
    exact Finset.sum_congr rfl fun k _ => congrArg₂ (fun a b : EReal => a * b) (block_rows m t r k ⟨(i 0).val, (i 0).isLt⟩ h0) (hG k)
  have eU : (∑ k : Fin 2048, (rowsAt m t (ix2 r k) : EReal) * U (ix2 k j))
      = dot (rows m) (weights m) (⟨(i 0).val, (i 0).isLt⟩ : Fin 18432) (⟨5632 + (i 1).val, Nat.add_lt_add_left (i 1).isLt 5632⟩ : Fin 11264) := by
    unfold dot
    exact Finset.sum_congr rfl fun k _ => congrArg₂ (fun a b : EReal => a * b) (block_rows m t r k ⟨(i 0).val, (i 0).isLt⟩ h0) (hU k)
  unfold whole
  exact congrArg₂ (fun a b : EReal => (a * Ideal.logistic a) * b) eG eU

/-- What a point stores is the whole's entry. -/
theorem stored_whole (t : Fin cfg0.N) (r : Fin 1024) (j : Fin 512) (i : S18432x5632.Idx) (h0 : (i 0).val = t.val % 18 * 1024 + r.val)
    (h1 : (i 1).val = t.val / 18 * 512 + j.val) :
    (outsAt0 m (0 : Dev nD) t.val t.isLt).1 (ix2 r j) = whole (rows m) (weights m) i := by
  by_cases h : t.val % 18 = 0
  · refine (congrFun (first_stored m t h) (ix2 r j)).trans (pay_whole m t _ _ r j i h0 (fun k => ?_) (fun k => ?_))
    · exact (keep_gates _ k j).trans (block_gates m t k j _ h1)
    · exact (keep_others _ k j).trans (block_others m t k j _ (by show 5632 + (i 1).val = _; omega))
  · refine (congrFun (later_stored m t h) (ix2 r j)).trans (pay_whole m t _ _ r j i h0 (fun k => ?_) (fun k => ?_))
    · exact held_gates m (t.val - 1) _ k j _ (by show (i 1).val = (t.val - 1) / 18 * 512 + j.val; omega)
    · exact held_others m (t.val - 1) _ k j _ (by show 5632 + (i 1).val = 5632 + ((t.val - 1) / 18 * 512 + j.val); omega)

/-- What a point writes back is the whole's block there. -/
theorem writes_whole (t : Fin cfg0.N) :
    (dats m 0 (0 : Dev nD)).flushed 3 t = ((cfg0.win 3).blk t).view.read (Elt Ideal) (whole (rows m) (weights m)) := by
  refine Eq.trans (b := (dats m 0 (0 : Dev nD)).after 3 t) rfl ?_
  rw [after0_3]
  funext (y : S1024x512.Idx)
  obtain ⟨r, j, rfl⟩ : ∃ (r : Fin 1024) (j : Fin 512), y = ix2 r j := ⟨y 0, y 1, by
    funext (a : Fin 2)
    match a with
    | ⟨0, _⟩ => rfl
    | ⟨1, _⟩ => rfl⟩
  have key : ∀ V : FVec Ideal S18432x5632 .bf16, ((cfg0.win 3).blk t).view.read (Elt Ideal) V (ix2 r j) = V (((cfg0.win 3).rect t).idx (ix2 r j)) := fun _ => rfl
  refine Eq.trans ?_ (key _).symm
  refine stored_whole m t r j _ ?_ ?_
  · exact (congrArg (fun f : Fin 2 → ℕ => f 0 * 1024 + 1 * r.val) (index_result t)).trans (by show t.val % 18 * 1024 + 1 * r.val = _; omega)
  · exact (congrArg (fun f : Fin 2 → ℕ => f 1 * 512 + 1 * j.val) (index_result t)).trans (by show t.val / 18 * 512 + 1 * j.val = _; omega)

/-- At the end the result is the whole. -/
theorem ends_whole : (dats m 0 (0 : Dev nD)).arrAt 3 cfg0.N = whole (rows m) (weights m) := by
  funext (i : S18432x5632.Idx)
  have i0 : (i 0).val < 18432 := (i 0).isLt
  have i1 : (i 1).val < 5632 := (i 1).isLt
  have eN : cfg0.N = 198 := N_0
  have hlt : (i 1).val / 512 * 18 + (i 0).val / 1024 < cfg0.N := by rw [eN]; omega
  let t : Fin cfg0.N := ⟨(i 1).val / 512 * 18 + (i 0).val / 1024, hlt⟩
  have t0 : t.val % 18 = (i 0).val / 1024 := by show ((i 1).val / 512 * 18 + (i 0).val / 1024) % 18 = _; omega
  have t1 : t.val / 18 = (i 1).val / 512 := by show ((i 1).val / 512 * 18 + (i 0).val / 1024) / 18 = _; omega
  refine Dat.arrAt_apply_of_mem (dats m 0 (0 : Dev nD)) 3 (whole (rows m) (weights m)) (fun t _ => writes_whole m t) cfg0.N t i t.isLt (flush0_3 t) ?_
  have e : ((cfg0.win 3).blk t).view.emb (ix2 (⟨(i 0).val % 1024, Nat.mod_lt _ (by decide)⟩ : Fin 1024) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 1024 + 1 * ((i 0).val % 1024)) (index_result t)).trans
        (by show t.val % 18 * 1024 + 1 * ((i 0).val % 1024) = (i 0).val; omega)
    | ⟨1, _⟩ =>
      exact (congrArg (fun f : Fin 2 → ℕ => f 1 * 512 + 1 * ((i 1).val % 512)) (index_result t)).trans
        (by show t.val / 18 * 512 + 1 * ((i 1).val % 512) = (i 1).val; omega)
  exact e ▸ ((cfg0.win 3).blk t).view.emb_mem_set _

end Cert.SwigluUpIdeal.Dense

namespace Cert.RefSwigluUpIdeal.Dense

open Idealize.ShloMosaic Idealize.SL.Sem
open Cert.RefSwigluUpIdeal Cert.RefSwigluUpIdeal.Gen

/-- The product entry by entry. -/
theorem dot_apply (A : FVec Ideal S18432x2048 .f32) (B : FVec Ideal S2048x11264 .f32) (r : Fin 18432) (f : Fin 11264) :
    Host.dotGeneral (F := Ideal) (φ₁ := .f32) (φ₂ := .f32) dot_S18432x2048_S2048x11264_S18432x11264_1_0_0_1_n_n none A B (ix2 r f)
      = ∑ k : Fin 2048, A (ix2 r k) * B (ix2 k f) := by
  pointwise

/-- The first half of the columns. -/
theorem first_half (D : FVec Ideal S18432x11264 .f32) (r : Fin 18432) (f : Fin 5632) :
    extractStridedSlice S18432x5632 ![0, 0] D slices_S18432x11264_S18432x5632_0_0 (ix2 r f) = D (ix2 r (⟨f.val, by omega⟩ : Fin 11264)) := by
  pointwise

/-- The second half of the columns. -/
theorem second_half (D : FVec Ideal S18432x11264 .f32) (r : Fin 18432) (f : Fin 5632) :
    extractStridedSlice S18432x5632 ![0, 5632] D slices_S18432x11264_S18432x5632_0_5632 (ix2 r f) = D (ix2 r (⟨5632 + f.val, by omega⟩ : Fin 11264)) := by
  pointwise

/-- The word of one is one. -/
theorem one_word : (FloatOps.ofBits .f32 0x3F800000#32 : Ideal .f32) = (1 : EReal) := by
  pointwise

/-- The gated product entry by entry. -/
theorem gated (A B : FVec Ideal S18432x5632 .f32) (r : Fin 18432) (f : Fin 5632) :
    (truncf .bf16 (mulf (mulf A (Host.divf (broadcastInDim S18432x5632 ![] bcast_S_S18432x5632 (constant S_ .f32 0x3F800000#32))
      (addf (broadcastInDim S18432x5632 ![] bcast_S_S18432x5632 (constant S_ .f32 0x3F800000#32)) (Host.exp (Host.negf A))))) B) bitsLt_bf16_f32 : FVec Ideal S18432x5632 .bf16) (ix2 r f)
      = ((A (ix2 r f) : EReal) * Ideal.logistic (A (ix2 r f))) * B (ix2 r f) := by
  refine Eq.trans (b := ((A (ix2 r f) : EReal) * Ideal.div (FloatOps.ofBits .f32 0x3F800000#32 : Ideal .f32)
    ((FloatOps.ofBits .f32 0x3F800000#32 : Ideal .f32) + Ideal.exp (-(A (ix2 r f) : EReal)))) * B (ix2 r f)) rfl ?_
  rw [one_word]
  rfl

/-- The reference's array from its product. -/
def joined (D : FVec Ideal S18432x11264 .f32) : FVec Ideal S18432x5632 .bf16 :=
  truncf .bf16 (mulf (mulf (extractStridedSlice S18432x5632 ![0, 0] D slices_S18432x11264_S18432x5632_0_0)
    (Host.divf (broadcastInDim S18432x5632 ![] bcast_S_S18432x5632 (constant S_ .f32 0x3F800000#32))
      (addf (broadcastInDim S18432x5632 ![] bcast_S_S18432x5632 (constant S_ .f32 0x3F800000#32))
        (Host.exp (Host.negf (extractStridedSlice S18432x5632 ![0, 0] D slices_S18432x11264_S18432x5632_0_0))))))
    (extractStridedSlice S18432x5632 ![0, 5632] D slices_S18432x11264_S18432x5632_0_5632)) bitsLt_bf16_f32

/-- That array entry by entry. -/
theorem joined_apply (D : FVec Ideal S18432x11264 .f32) (r : Fin 18432) (f : Fin 5632) :
    joined D (ix2 r f) = ((D (ix2 r (⟨f.val, by omega⟩ : Fin 11264)) : EReal) * Ideal.logistic (D (ix2 r (⟨f.val, by omega⟩ : Fin 11264))))
      * D (ix2 r (⟨5632 + f.val, by omega⟩ : Fin 11264)) := by
  unfold joined
  refine (gated _ _ r f).trans ?_
  rw [first_half, second_half]

/-- The reference's product. -/
def product (X : FVec Ideal S18432x2048 .bf16) (W : FVec Ideal S2048x11264 .f32) : FVec Ideal S18432x11264 .f32 :=
  Host.dotGeneral (F := Ideal) (φ₁ := .f32) (φ₂ := .f32) dot_S18432x2048_S2048x11264_S18432x11264_1_0_0_1_n_n none
    (extf .f32 X bitsLt_bf16_f32 : FVec Ideal S18432x2048 .f32) W

/-- That product entry by entry. -/
theorem product_apply (X : FVec Ideal S18432x2048 .bf16) (W : FVec Ideal S2048x11264 .f32) (r : Fin 18432) (f : Fin 11264) :
    product X W (ix2 r f) = Cert.SwigluUpIdeal.Dense.dot X W r f := by
  unfold product Cert.SwigluUpIdeal.Dense.dot
  exact (dot_apply _ _ r f).trans rfl

/-- The reference's array is the whole. -/
theorem joined_whole (X : FVec Ideal S18432x2048 .bf16) (W : FVec Ideal S2048x11264 .f32) :
    joined (product X W) = Cert.SwigluUpIdeal.Dense.whole X W := by
  funext (i : S18432x5632.Idx)
  obtain ⟨r, f, rfl⟩ : ∃ (r : Fin 18432) (f : Fin 5632), i = ix2 r f := ⟨i 0, i 1, by
    funext (a : Fin 2)
    match a with
    | ⟨0, _⟩ => rfl
    | ⟨1, _⟩ => rfl⟩
  refine (joined_apply _ r f).trans ?_
  rw [product_apply, product_apply]
  rfl

end Cert.RefSwigluUpIdeal.Dense

namespace Cert.Proof

open Idealize.ShloMosaic Idealize.SL.Sem

/-- The dense feed-forward's first call runs and leaves its arguments as they were. -/
theorem frame_swiglu_up : Cert.quiescent_SwigluUp := fun m ρ _ => Cert.SwigluUp.Gen.frame m ρ

/-- The same of the idealized one. -/
theorem frame_swiglu_up_ideal : Cert.quiescent_SwigluUpIdeal := fun m ρ _ => Cert.SwigluUpIdeal.Gen.frame m ρ

/-- Its reference runs and keeps its arguments. -/
theorem frame_swiglu_up_reference : Cert.quiescent_RefSwigluUpIdeal := fun m ρ _ =>
  (θ_run (Cert.RefSwigluUpIdeal.defs (F := Ideal)) _ _).mono (fun r h => ⟨fun c => (h c).2, sem_eq_zero_of_no_sems (by decide) r.2⟩)
    (Cert.RefSwigluUpIdeal.Value.run (F := Ideal) m ρ)

/-- The array of the dense feed-forward's first call and its reference's are equal, element by element. -/
theorem swiglu_up_equal : Cert.algebraic_SwigluUpIdeal_RefSwigluUpIdeal := fun m g m' g' _ hag => by
  refine ⟨fun _ => Cert.SwigluUpIdeal.Dense.whole (Cert.SwigluUpIdeal.Dense.rows m) (Cert.SwigluUpIdeal.Dense.weights m), ?_, ?_⟩
  · refine (θ_run (Cert.SwigluUpIdeal.defs (F := Ideal)) _ _).mono (fun r hr c => ?_) (Cert.SwigluUpIdeal.Value.run_blocks (F := Ideal) m g)
    obtain ⟨h2, ha⟩ := hr c
    obtain rfl : c = 0 := Subsingleton.elim _ _
    exact ⟨h2.trans (Cert.SwigluUpIdeal.Dense.ends_whole m), ha⟩
  · refine (θ_run (Cert.RefSwigluUpIdeal.defs (F := Ideal)) _ _).mono (fun r hr c => ?_) (Cert.RefSwigluUpIdeal.Value.run (F := Ideal) m' g')
    obtain ⟨h2, ha⟩ := hr c
    obtain rfl : c = 0 := Subsingleton.elim _ _
    have key : ∀ (X : FVec Ideal Cert.SwigluUpIdeal.S18432x2048 .bf16) (W : FVec Ideal Cert.SwigluUpIdeal.S2048x11264 .f32),
        X = Cert.SwigluUpIdeal.Dense.rows m → W = Cert.SwigluUpIdeal.Dense.weights m →
        Cert.RefSwigluUpIdeal.Dense.joined (Cert.RefSwigluUpIdeal.Dense.product X W)
          = Cert.SwigluUpIdeal.Dense.whole (Cert.SwigluUpIdeal.Dense.rows m) (Cert.SwigluUpIdeal.Dense.weights m) := by
      rintro _ _ rfl rfl
      exact Cert.RefSwigluUpIdeal.Dense.joined_whole _ _
    exact ⟨h2.trans (key _ _ (hag 0).1 (hag 0).2), ha⟩

end Cert.Proof

end
-- ==== Proof.Dense.MergeEqual.lean ====
/- The gates and branch projections: the running sum over the four branches is the reference's. -/
module

public import proofs.«01_k».proof.Defs
public import proofs.«01_k».proof.Proof.Gen.Merge.Frame
public import proofs.«01_k».proof.Proof.Gen.MergeIdeal.Value
public import proofs.«01_k».proof.Proof.Gen.RefMergeIdeal.Run
public import Idealize.ShloMosaic.Lib.Pointwise
public import Idealize.ShloMosaic.Lib.Pipeline.Value
public import Idealize.ShloMosaic.Lib.Pipeline.ValueKit.Acc
public import Idealize.ShloMosaic.Lib.Pipeline.ReadBack

@[expose] public section

set_option maxHeartbeats 4000000
set_option maxRecDepth 16384

noncomputable section

namespace Cert.MergeIdeal.Dense

open Idealize.ShloMosaic Idealize.ShloMosaic.TcCoe Idealize.SL.Sem
open Idealize.ShloMosaic.Pipeline (Dat Cfg Window)
open Cert.MergeIdeal Cert.MergeIdeal.Gen

/-- A small number survives its word. -/
theorem small (n : ℕ) (h : n < 4294967296) : (BitVec.ofNat 32 n).toNat = n := by
  rw [BitVec.toNat_ofNat]
  exact Nat.mod_eq_of_lt h

/-- The number of points. -/
theorem points_lt (t : Fin cfg0.N) : t.val < 288 := by
  have e : cfg0.N = 288 := N_0
  have := t.isLt
  omega

/-- The rows' place in the grid. -/
theorem place_rows (t : Fin cfg0.N) : (grid0.coords t 0).val = t.val / 16 := by
  rw [Pipeline.Grid.coords_val t 0 (S := 16) (B := 18) (by decide) rfl]
  have := points_lt t
  exact Nat.mod_eq_of_lt (by omega)

/-- The columns' place in the grid. -/
theorem place_cols (t : Fin cfg0.N) : (grid0.coords t 1).val = t.val / 4 % 4 :=
  Pipeline.Grid.coords_val t 1 (S := 4) (B := 4) (by decide) rfl

/-- The branch's place in the grid. -/
theorem place_branch (t : Fin cfg0.N) : (grid0.coords t 2).val = t.val % 4 := by
  rw [Pipeline.Grid.coords_val t 2 (S := 1) (B := 4) (by decide) rfl, Nat.div_one]

/-- The rows' block at a point. -/
theorem index_rows (t : Fin cfg0.N) : (cfg0.win 0).index t = ![t.val / 16, 0] := by
  have h : cc0_transform_0 (grid0.coords t) = ![(BitVec.ofNat 32 (grid0.coords t 0).val).toNat, 0] := rfl
  refine Eq.trans (b := cc0_transform_0 (grid0.coords t)) rfl (h.trans ?_)
  have := points_lt t
  rw [place_rows, small _ (by omega)]

/-- The gate weights' block at a point. -/
theorem index_gates (t : Fin cfg0.N) : (cfg0.win 1).index t = ![t.val % 4, 0, t.val / 4 % 4] := by
  have h : cc0_transform_1 (grid0.coords t) = ![(BitVec.ofNat 32 (grid0.coords t 2).val).toNat, 0, (BitVec.ofNat 32 (grid0.coords t 1).val).toNat] := rfl
  refine Eq.trans (b := cc0_transform_1 (grid0.coords t)) rfl (h.trans ?_)
  rw [place_branch, place_cols, small _ (by omega), small _ (by omega)]

/-- The branch outputs' block at a point. -/
theorem index_outs (t : Fin cfg0.N) : (cfg0.win 2).index t = ![t.val % 4, t.val / 16, 0] := by
  have h : cc0_transform_2 (grid0.coords t) = ![(BitVec.ofNat 32 (grid0.coords t 2).val).toNat, (BitVec.ofNat 32 (grid0.coords t 0).val).toNat, 0] := rfl
  refine Eq.trans (b := cc0_transform_2 (grid0.coords t)) rfl (h.trans ?_)
  have := points_lt t
  rw [place_branch, place_rows, small _ (by omega), small _ (by omega)]

/-- The branch weights' block at a point. -/
theorem index_weights (t : Fin cfg0.N) : (cfg0.win 3).index t = ![t.val % 4, 0, t.val / 4 % 4] := by
  have h : cc0_transform_3 (grid0.coords t) = ![(BitVec.ofNat 32 (grid0.coords t 2).val).toNat, 0, (BitVec.ofNat 32 (grid0.coords t 1).val).toNat] := rfl
  refine Eq.trans (b := cc0_transform_3 (grid0.coords t)) rfl (h.trans ?_)
  rw [place_branch, place_cols, small _ (by omega), small _ (by omega)]

/-- The result's block at a point. -/
theorem index_result (t : Fin cfg0.N) : (cfg0.win 4).index t = ![t.val / 16, t.val / 4 % 4] := by
  have h : cc0_transform_4 (grid0.coords t) = ![(BitVec.ofNat 32 (grid0.coords t 0).val).toNat, (BitVec.ofNat 32 (grid0.coords t 1).val).toNat] := rfl
  refine Eq.trans (b := cc0_transform_4 (grid0.coords t)) rfl (h.trans ?_)
  have := points_lt t
  rw [place_rows, place_cols, small _ (by omega), small _ (by omega)]

/-- A branch's gated term of a block. -/
def part (x : FVec Ideal S1024x2048 .bf16) (g : FVec Ideal S1x2048x512 .f32) (o : FVec Ideal S1x1024x512 .bf16) (w : FVec Ideal S1x512x512 .f32)
    (r : Fin 1024) (j : Fin 512) : EReal :=
  Ideal.logistic (∑ k : Fin 2048, (x (ix2 r k) : EReal) * g (ix3 (0 : Fin 1) k j)) * ∑ l : Fin 512, (o (ix3 (0 : Fin 1) r l) : EReal) * w (ix3 (0 : Fin 1) l j)

/-- The gate's product entry by entry. -/
theorem gate_dot (A : FVec Ideal S1024x2048 .bf16) (B : FVec Ideal S1x2048x512 .f32) (r : Fin 1024) (j : Fin 512) :
    (matmul dot_S1024x2048_S2048x512_S1024x512_1_0_0_1_n_n none A
      (truncf .bf16 (shapeCast S2048x512 B shapeCasts_S1x2048x512_S2048x512 : FVec Ideal S2048x512 .f32) bitsLt_bf16_f32 : FVec Ideal S2048x512 .bf16)
      (constant S1024x512 .f32 0x00000000#32) : FVec Ideal S1024x512 .f32) (ix2 r j)
      = ∑ k : Fin 2048, (A (ix2 r k) : EReal) * B (ix3 (0 : Fin 1) k j) := by
  have h1 : ∀ (A : FVec Ideal S1024x2048 .bf16) (B : FVec Ideal S2048x512 .bf16),
      (matmul dot_S1024x2048_S2048x512_S1024x512_1_0_0_1_n_n none A B (constant S1024x512 .f32 0x00000000#32) : FVec Ideal S1024x512 .f32) (ix2 r j)
        = ∑ k : Fin 2048, A (ix2 r k) * B (ix2 k j) := fun A B => by
    pointwise
  have h2 : ∀ k : Fin 2048, (shapeCast S2048x512 B shapeCasts_S1x2048x512_S2048x512 : FVec Ideal S2048x512 .f32) (ix2 k j) = B (ix3 (0 : Fin 1) k j) := fun k => by
    pointwise
  exact (h1 _ _).trans (Finset.sum_congr rfl fun k _ => congrArg (fun b : EReal => (A (ix2 r k) : EReal) * b) (h2 k))

/-- The branch's product entry by entry. -/
theorem branch_dot (A : FVec Ideal S1x1024x512 .bf16) (B : FVec Ideal S1x512x512 .f32) (r : Fin 1024) (j : Fin 512) :
    (matmul dot_S1024x512_S512x512_S1024x512_1_0_0_1_n_n none (shapeCast S1024x512 A shapeCasts_S1x1024x512_S1024x512 : FVec Ideal S1024x512 .bf16)
      (truncf .bf16 (shapeCast S512x512 B shapeCasts_S1x512x512_S512x512 : FVec Ideal S512x512 .f32) bitsLt_bf16_f32 : FVec Ideal S512x512 .bf16)
      (constant S1024x512 .f32 0x00000000#32) : FVec Ideal S1024x512 .f32) (ix2 r j)
      = ∑ l : Fin 512, (A (ix3 (0 : Fin 1) r l) : EReal) * B (ix3 (0 : Fin 1) l j) := by
  have h1 : ∀ (A : FVec Ideal S1024x512 .bf16) (B : FVec Ideal S512x512 .bf16),
      (matmul dot_S1024x512_S512x512_S1024x512_1_0_0_1_n_n none A B (constant S1024x512 .f32 0x00000000#32) : FVec Ideal S1024x512 .f32) (ix2 r j)
        = ∑ l : Fin 512, A (ix2 r l) * B (ix2 l j) := fun A B => by
    pointwise
  have h2 : ∀ l : Fin 512, (shapeCast S1024x512 A shapeCasts_S1x1024x512_S1024x512 : FVec Ideal S1024x512 .bf16) (ix2 r l) = A (ix3 (0 : Fin 1) r l) := fun l => by
    pointwise
  have h3 : ∀ l : Fin 512, (shapeCast S512x512 B shapeCasts_S1x512x512_S512x512 : FVec Ideal S512x512 .f32) (ix2 l j) = B (ix3 (0 : Fin 1) l j) := fun l => by
    pointwise
  exact (h1 _ _).trans (Finset.sum_congr rfl fun l _ => congrArg₂ (fun a b : EReal => a * b) (h2 l) (h3 l))

/-- The running sum after a point: the sum before it and the point's term. -/
theorem add_apply (x : FVec Ideal S1024x2048 .bf16) (g : FVec Ideal S1x2048x512 .f32) (acc : FVec Ideal S1024x512 .f32) (o : FVec Ideal S1x1024x512 .bf16)
    (w : FVec Ideal S1x512x512 .f32) (r : Fin 1024) (j : Fin 512) :
    k0_pay2 (F := Ideal) x g acc o w (ix2 r j) = (acc (ix2 r j) : EReal) + part x g o w r j := by
  unfold k0_pay2 part
  have h1 : ∀ A : FVec Ideal S1024x512 .f32, (shapeCast S1024x512 A shapeCasts_S1024x512_S1024x512 : FVec Ideal S1024x512 .f32) (ix2 r j) = A (ix2 r j) := fun A => by
    pointwise
  refine (h1 _).trans ?_
  have key : ∀ A G P : FVec Ideal S1024x512 .f32, (addf A (mulf (logistic G) P)) (ix2 r j) = (A (ix2 r j) : EReal) + Ideal.logistic (G (ix2 r j)) * P (ix2 r j) := fun _ _ _ => rfl
  refine (key _ _ _).trans ?_
  exact congrArg₂ (fun a b : EReal => (acc (ix2 r j) : EReal) + Ideal.logistic a * b) (gate_dot x g r j) (branch_dot o w r j)

/-- The running sum starts from zero. -/
theorem zero_apply (r : Fin 1024) (j : Fin 512) : k0_pay1 (F := Ideal) (ix2 r j) = (0 : EReal) := by
  unfold k0_pay1
  have h1 : ∀ A : FVec Ideal S1024x512 .f32, (shapeCast S1024x512 A shapeCasts_S1024x512_S1024x512 : FVec Ideal S1024x512 .f32) (ix2 r j) = A (ix2 r j) := fun A => by
    pointwise
  refine (h1 _).trans ?_
  have h2 : (Scalar.ofBits .f32 0x00000000#32 : Ideal .f32) = (0 : EReal) := by
    pointwise
  exact Eq.trans (b := (Scalar.ofBits .f32 0x00000000#32 : Ideal .f32)) rfl h2

variable (m : (ℓ : Loc nD τ sig) → Buf (Elt Ideal) ℓ)

/-- The rows as the call is given them. -/
abbrev rows : FVec Ideal S18432x2048 .bf16 := m (((0 : Dev nD) : Thread nD τ).loc main_arg0)
/-- The gates' weights as the call is given them. -/
abbrev gates : FVec Ideal S4x2048x2048 .f32 := m (((0 : Dev nD) : Thread nD τ).loc main_arg1)
/-- The branches' outputs as the call is given them. -/
abbrev outs : FVec Ideal S4x18432x512 .bf16 := m (((0 : Dev nD) : Thread nD τ).loc main_arg2)
/-- The branches' weights as the call is given them. -/
abbrev weights : FVec Ideal S4x512x2048 .f32 := m (((0 : Dev nD) : Thread nD τ).loc main_arg3)

/-- The rows of a point. -/
abbrev rowsAt (t : Fin cfg0.N) : FVec Ideal S1024x2048 .bf16 := iblk m (0 : Dev nD) 0 t
/-- The gate weights of a point. -/
abbrev gatesAt (t : Fin cfg0.N) : FVec Ideal S1x2048x512 .f32 := iblk m (0 : Dev nD) 1 t
/-- The branch outputs of a point. -/
abbrev outsAt (t : Fin cfg0.N) : FVec Ideal S1x1024x512 .bf16 := iblk m (0 : Dev nD) 2 t
/-- The branch weights of a point. -/
abbrev weightsAt (t : Fin cfg0.N) : FVec Ideal S1x512x512 .f32 := iblk m (0 : Dev nD) 3 t

/-- One branch's gated term of the whole. -/
def term (H : FVec Ideal S18432x2048 .bf16) (G : FVec Ideal S4x2048x2048 .f32) (O : FVec Ideal S4x18432x512 .bf16) (W : FVec Ideal S4x512x2048 .f32)
    (b : Fin 4) (r : Fin 18432) (f : Fin 2048) : EReal :=
  Ideal.logistic (∑ k : Fin 2048, (H (ix2 r k) : EReal) * G (ix3 b k f)) * ∑ l : Fin 512, (O (ix3 b r l) : EReal) * W (ix3 b l f)

/-- The whole result. -/
def whole (H : FVec Ideal S18432x2048 .bf16) (G : FVec Ideal S4x2048x2048 .f32) (O : FVec Ideal S4x18432x512 .bf16) (W : FVec Ideal S4x512x2048 .f32) :
    FVec Ideal S18432x2048 .bf16 := fun i =>
  term H G O W 0 (⟨(i 0).val, (i 0).isLt⟩ : Fin 18432) (⟨(i 1).val, (i 1).isLt⟩ : Fin 2048)
    + term H G O W 1 (⟨(i 0).val, (i 0).isLt⟩ : Fin 18432) (⟨(i 1).val, (i 1).isLt⟩ : Fin 2048)
    + term H G O W 2 (⟨(i 0).val, (i 0).isLt⟩ : Fin 18432) (⟨(i 1).val, (i 1).isLt⟩ : Fin 2048)
    + term H G O W 3 (⟨(i 0).val, (i 0).isLt⟩ : Fin 18432) (⟨(i 1).val, (i 1).isLt⟩ : Fin 2048)

/-- The block of rows at a point. -/
theorem block_rows (t : Fin cfg0.N) (r : Fin 1024) (k : Fin 2048) (i : Fin 18432) (hi : i.val = t.val / 16 * 1024 + r.val) :
    rowsAt m t (ix2 r k) = rows m (ix2 i k) := by
  have key : rowsAt m t (ix2 r k) = rows m (((cfg0.win 0).rect t).idx (ix2 r k)) := rfl
  refine key.trans (congrArg (rows m) ?_)
  funext (a : Fin 2)
  refine Fin.ext ?_
  match a with
  | ⟨0, _⟩ =>
    exact (congrArg (fun f : Fin 2 → ℕ => f 0 * 1024 + 1 * r.val) (index_rows t)).trans (by show t.val / 16 * 1024 + 1 * r.val = i.val; omega)
  | ⟨1, _⟩ =>
    exact (congrArg (fun f : Fin 2 → ℕ => f 1 * 2048 + 1 * k.val) (index_rows t)).trans (by show 0 * 2048 + 1 * k.val = k.val; omega)

/-- The block of gate weights at a point. -/
theorem block_gates (t : Fin cfg0.N) (k : Fin 2048) (j : Fin 512) (b : Fin 4) (i : Fin 2048) (hb : b.val = t.val % 4) (hi : i.val = t.val / 4 % 4 * 512 + j.val) :
    gatesAt m t (ix3 (0 : Fin 1) k j) = gates m (ix3 b k i) := by
  have key : gatesAt m t (ix3 (0 : Fin 1) k j) = gates m (((cfg0.win 1).rect t).idx (ix3 (0 : Fin 1) k j)) := rfl
  refine key.trans (congrArg (gates m) ?_)
  funext (a : Fin 3)
  refine Fin.ext ?_
  match a with
  | ⟨0, _⟩ =>
    exact (congrArg (fun f : Fin 3 → ℕ => f 0 * 1 + 1 * 0) (index_gates t)).trans (by show t.val % 4 * 1 + 1 * 0 = b.val; omega)
  | ⟨1, _⟩ =>
    exact (congrArg (fun f : Fin 3 → ℕ => f 1 * 2048 + 1 * k.val) (index_gates t)).trans (by show 0 * 2048 + 1 * k.val = k.val; omega)
  | ⟨2, _⟩ =>
    exact (congrArg (fun f : Fin 3 → ℕ => f 2 * 512 + 1 * j.val) (index_gates t)).trans (by show t.val / 4 % 4 * 512 + 1 * j.val = i.val; omega)

/-- The block of branch outputs at a point. -/
theorem block_outs (t : Fin cfg0.N) (r : Fin 1024) (l : Fin 512) (b : Fin 4) (i : Fin 18432) (hb : b.val = t.val % 4) (hi : i.val = t.val / 16 * 1024 + r.val) :
    outsAt m t (ix3 (0 : Fin 1) r l) = outs m (ix3 b i l) := by
  have key : outsAt m t (ix3 (0 : Fin 1) r l) = outs m (((cfg0.win 2).rect t).idx (ix3 (0 : Fin 1) r l)) := rfl
  refine key.trans (congrArg (outs m) ?_)
  funext (a : Fin 3)
  refine Fin.ext ?_
  match a with
  | ⟨0, _⟩ =>
    exact (congrArg (fun f : Fin 3 → ℕ => f 0 * 1 + 1 * 0) (index_outs t)).trans (by show t.val % 4 * 1 + 1 * 0 = b.val; omega)
  | ⟨1, _⟩ =>
    exact (congrArg (fun f : Fin 3 → ℕ => f 1 * 1024 + 1 * r.val) (index_outs t)).trans (by show t.val / 16 * 1024 + 1 * r.val = i.val; omega)
  | ⟨2, _⟩ =>
    exact (congrArg (fun f : Fin 3 → ℕ => f 2 * 512 + 1 * l.val) (index_outs t)).trans (by show 0 * 512 + 1 * l.val = l.val; omega)

/-- The block of branch weights at a point. -/
theorem block_weights (t : Fin cfg0.N) (l : Fin 512) (j : Fin 512) (b : Fin 4) (i : Fin 2048) (hb : b.val = t.val % 4) (hi : i.val = t.val / 4 % 4 * 512 + j.val) :
    weightsAt m t (ix3 (0 : Fin 1) l j) = weights m (ix3 b l i) := by
  have key : weightsAt m t (ix3 (0 : Fin 1) l j) = weights m (((cfg0.win 3).rect t).idx (ix3 (0 : Fin 1) l j)) := rfl
  refine key.trans (congrArg (weights m) ?_)
  funext (a : Fin 3)
  refine Fin.ext ?_
  match a with
  | ⟨0, _⟩ =>
    exact (congrArg (fun f : Fin 3 → ℕ => f 0 * 1 + 1 * 0) (index_weights t)).trans (by show t.val % 4 * 1 + 1 * 0 = b.val; omega)
  | ⟨1, _⟩ =>
    exact (congrArg (fun f : Fin 3 → ℕ => f 1 * 512 + 1 * l.val) (index_weights t)).trans (by show 0 * 512 + 1 * l.val = l.val; omega)
  | ⟨2, _⟩ =>
    exact (congrArg (fun f : Fin 3 → ℕ => f 2 * 512 + 1 * j.val) (index_weights t)).trans (by show t.val / 4 % 4 * 512 + 1 * j.val = i.val; omega)

/-- A point's term is the whole's term of its branch. -/
theorem part_term (t : Fin cfg0.N) (r : Fin 1024) (j : Fin 512) (b : Fin 4) (i : Fin 18432) (f : Fin 2048) (hb : b.val = t.val % 4)
    (hi : i.val = t.val / 16 * 1024 + r.val) (hf : f.val = t.val / 4 % 4 * 512 + j.val) :
    part (rowsAt m t) (gatesAt m t) (outsAt m t) (weightsAt m t) r j = term (rows m) (gates m) (outs m) (weights m) b i f := by
  unfold part term
  refine congrArg₂ (fun a b : EReal => Ideal.logistic a * b) ?_ ?_
  · exact Finset.sum_congr rfl fun k _ => congrArg₂ (fun a b : EReal => a * b) (block_rows m t r k i hi) (block_gates m t k j b f hb hf)
  · exact Finset.sum_congr rfl fun l _ => congrArg₂ (fun a b : EReal => a * b) (block_outs m t r l b i hb hi) (block_weights m t l j b f hb hf)

/-- What the first of a block's four points leaves in the running sum. -/
theorem first_point (t : Fin cfg0.N) (h0 : t.val % 4 = 0) :
    (outsAt0 m (0 : Dev nD) t.val t.isLt).2 = k0_pay2 (F := Ideal) (rowsAt m t) (gatesAt m t) (k0_pay1 (F := Ideal)) (outsAt m t) (weightsAt m t) := by
  rw [outsAt0_A m (0 : Dev nD) t h0 (by omega)]
  frame_out

/-- What a middle point leaves in it. -/
theorem middle_point (t : Fin cfg0.N) (h0 : ¬t.val % 4 = 0) (h1 : ¬t.val % 4 = 3) :
    (outsAt0 m (0 : Dev nD) t.val t.isLt).2 = k0_pay2 (F := Ideal) (rowsAt m t) (gatesAt m t)
      (outsAt0 m (0 : Dev nD) (t.val - 1) (Nat.lt_of_le_of_lt (Nat.sub_le _ _) t.isLt)).2 (outsAt m t) (weightsAt m t) := by
  rw [outsAt0_B m (0 : Dev nD) t h0 h1]
  frame_out
  rw [read_unread_whole]

/-- What the last point stores in the result. -/
theorem last_point (t : Fin cfg0.N) (h1 : t.val % 4 = 3) :
    (outsAt0 m (0 : Dev nD) t.val t.isLt).1 = k0_pay3 (F := Ideal) (k0_pay2 (F := Ideal) (rowsAt m t) (gatesAt m t)
      (outsAt0 m (0 : Dev nD) (t.val - 1) (Nat.lt_of_le_of_lt (Nat.sub_le _ _) t.isLt)).2 (outsAt m t) (weightsAt m t)) := by
  rw [outsAt0_C m (0 : Dev nD) t (by omega) h1]
  frame_out
  rw [read_unread_whole]

/-- The last point of a block stores the sum of the four branches' terms. -/
theorem four_points (t : Fin cfg0.N) (h : t.val % 4 = 3) (r : Fin 1024) (j : Fin 512) (i : S18432x2048.Idx) (h0 : (i 0).val = t.val / 16 * 1024 + r.val)
    (h1 : (i 1).val = t.val / 4 % 4 * 512 + j.val) :
    (outsAt0 m (0 : Dev nD) t.val t.isLt).1 (ix2 r j) = whole (rows m) (gates m) (outs m) (weights m) i := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e3 := (congrFun (last_point m t h) (ix2 r j)).trans (Eq.trans (b := k0_pay2 (F := Ideal) (rowsAt m t) (gatesAt m t)
      (outsAt0 m (0 : Dev nD) (t.val - 1) (Nat.lt_of_le_of_lt (Nat.sub_le _ _) t.isLt)).2 (outsAt m t) (weightsAt m t) (ix2 r j)) rfl (add_apply _ _ _ _ _ r j))
  have e2 := (congrFun (middle_point m t2 (by show ¬(t.val - 1) % 4 = 0; omega) (by show ¬(t.val - 1) % 4 = 3; omega)) (ix2 r j)).trans (add_apply _ _ _ _ _ r j)
  have e1 := (congrFun (middle_point m t1 (by show ¬(t.val - 1 - 1) % 4 = 0; omega) (by show ¬(t.val - 1 - 1) % 4 = 3; omega)) (ix2 r j)).trans (add_apply _ _ _ _ _ r j)
  have e0 := (congrFun (first_point m t0 (by show (t.val - 1 - 1 - 1) % 4 = 0; omega)) (ix2 r j)).trans (add_apply _ _ _ _ _ r j)
  rw [zero_apply, zero_add] at e0
  have p3 := part_term m t r j 3 ⟨(i 0).val, (i 0).isLt⟩ ⟨(i 1).val, (i 1).isLt⟩ (by show 3 = t.val % 4; omega) h0 h1
  have p2 := part_term m t2 r j 2 ⟨(i 0).val, (i 0).isLt⟩ ⟨(i 1).val, (i 1).isLt⟩ (by show 2 = (t.val - 1) % 4; omega)
    (by show (i 0).val = (t.val - 1) / 16 * 1024 + r.val; omega) (by show (i 1).val = (t.val - 1) / 4 % 4 * 512 + j.val; omega)
  have p1 := part_term m t1 r j 1 ⟨(i 0).val, (i 0).isLt⟩ ⟨(i 1).val, (i 1).isLt⟩ (by show 1 = (t.val - 1 - 1) % 4; omega)
    (by show (i 0).val = (t.val - 1 - 1) / 16 * 1024 + r.val; omega) (by show (i 1).val = (t.val - 1 - 1) / 4 % 4 * 512 + j.val; omega)
  have p0 := part_term m t0 r j 0 ⟨(i 0).val, (i 0).isLt⟩ ⟨(i 1).val, (i 1).isLt⟩ (by show 0 = (t.val - 1 - 1 - 1) % 4; omega)
    (by show (i 0).val = (t.val - 1 - 1 - 1) / 16 * 1024 + r.val; omega) (by show (i 1).val = (t.val - 1 - 1 - 1) / 4 % 4 * 512 + j.val; omega)
  unfold whole
  refine e3.trans ?_
  refine congrArg₂ (fun a b : EReal => a + b) (Eq.trans e2 ?_) p3
  refine congrArg₂ (fun a b : EReal => a + b) (Eq.trans e1 ?_) p2
  exact congrArg₂ (fun a b : EReal => a + b) (Eq.trans e0 p0) p1

/-- What a storing point writes back is the whole's block there. -/
theorem writes_whole (t : Fin cfg0.N) (hf : (cfg0.win 4).flush t = true) :
    (dats m 0 (0 : Dev nD)).flushed 4 t = ((cfg0.win 4).blk t).view.read (Elt Ideal) (whole (rows m) (gates m) (outs m) (weights m)) := by
  refine Eq.trans (b := (dats m 0 (0 : Dev nD)).after 4 t) rfl ?_
  rw [after0_4]
  funext (y : S1024x512.Idx)
  obtain ⟨r, j, rfl⟩ : ∃ (r : Fin 1024) (j : Fin 512), y = ix2 r j := ⟨y 0, y 1, by
    funext (a : Fin 2)
    match a with
    | ⟨0, _⟩ => rfl
    | ⟨1, _⟩ => rfl⟩
  have key : ∀ V : FVec Ideal S18432x2048 .bf16, ((cfg0.win 4).blk t).view.read (Elt Ideal) V (ix2 r j) = V (((cfg0.win 4).rect t).idx (ix2 r j)) := fun _ => rfl
  refine Eq.trans ?_ (key _).symm
  refine four_points m t ((flush0_4 t).mp hf) r j _ ?_ ?_
  · exact (congrArg (fun f : Fin 2 → ℕ => f 0 * 1024 + 1 * r.val) (index_result t)).trans (by show t.val / 16 * 1024 + 1 * r.val = _; omega)
  · exact (congrArg (fun f : Fin 2 → ℕ => f 1 * 512 + 1 * j.val) (index_result t)).trans (by show t.val / 4 % 4 * 512 + 1 * j.val = _; omega)

/-- At the end the result is the whole. -/
theorem ends_whole : (dats m 0 (0 : Dev nD)).arrAt 4 cfg0.N = whole (rows m) (gates m) (outs m) (weights m) := by
  funext (i : S18432x2048.Idx)
  have i0 : (i 0).val < 18432 := (i 0).isLt
  have i1 : (i 1).val < 2048 := (i 1).isLt
  have eN : cfg0.N = 288 := N_0
  have hlt : (i 0).val / 1024 * 16 + (i 1).val / 512 * 4 + 3 < cfg0.N := by rw [eN]; omega
  let t : Fin cfg0.N := ⟨(i 0).val / 1024 * 16 + (i 1).val / 512 * 4 + 3, hlt⟩
  have t0 : t.val / 16 = (i 0).val / 1024 := by show ((i 0).val / 1024 * 16 + (i 1).val / 512 * 4 + 3) / 16 = _; omega
  have t1 : t.val / 4 % 4 = (i 1).val / 512 := by show ((i 0).val / 1024 * 16 + (i 1).val / 512 * 4 + 3) / 4 % 4 = _; omega
  have t2 : t.val % 4 = 3 := by show ((i 0).val / 1024 * 16 + (i 1).val / 512 * 4 + 3) % 4 = _; omega
  refine Dat.arrAt_apply_of_mem (dats m 0 (0 : Dev nD)) 4 (whole (rows m) (gates m) (outs m) (weights m)) (fun t hf => writes_whole m t hf) cfg0.N t i t.isLt
    ((flush0_4 t).mpr t2) ?_
  have e : ((cfg0.win 4).blk t).view.emb (ix2 (⟨(i 0).val % 1024, Nat.mod_lt _ (by decide)⟩ : Fin 1024) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 1024 + 1 * ((i 0).val % 1024)) (index_result t)).trans
        (by show t.val / 16 * 1024 + 1 * ((i 0).val % 1024) = (i 0).val; omega)
    | ⟨1, _⟩ =>
      exact (congrArg (fun f : Fin 2 → ℕ => f 1 * 512 + 1 * ((i 1).val % 512)) (index_result t)).trans
        (by show t.val / 4 % 4 * 512 + 1 * ((i 1).val % 512) = (i 1).val; omega)
  exact e ▸ ((cfg0.win 4).blk t).view.emb_mem_set _

end Cert.MergeIdeal.Dense

namespace Cert.RefMergeIdeal.Dense

open Idealize.ShloMosaic Idealize.SL.Sem
open Cert.RefMergeIdeal Cert.RefMergeIdeal.Gen

/-- The gate's product entry by entry. -/
theorem gate_dot (A : FVec Ideal S18432x2048 .f32) (B : FVec Ideal S2048x2048 .f32) (r : Fin 18432) (f : Fin 2048) :
    Host.dotGeneral (F := Ideal) (φ₁ := .f32) (φ₂ := .f32) dot_S18432x2048_S2048x2048_S18432x2048_1_0_0_1_n_n none A B (ix2 r f)
      = ∑ k : Fin 2048, A (ix2 r k) * B (ix2 k f) := by
  pointwise

/-- The branch's product entry by entry. -/
theorem branch_dot (A : FVec Ideal S18432x512 .f32) (B : FVec Ideal S512x2048 .f32) (r : Fin 18432) (f : Fin 2048) :
    Host.dotGeneral (F := Ideal) (φ₁ := .f32) (φ₂ := .f32) dot_S18432x512_S512x2048_S18432x2048_1_0_0_1_n_n none A B (ix2 r f)
      = ∑ k : Fin 512, A (ix2 r k) * B (ix2 k f) := by
  pointwise

/-- The word of one is one. -/
theorem one_word : (FloatOps.ofBits .f32 0x3F800000#32 : Ideal .f32) = (1 : EReal) := by
  pointwise

/-- A gated array. -/
def gated (A B : FVec Ideal S18432x2048 .f32) : FVec Ideal S18432x2048 .f32 :=
  mulf (Host.divf (broadcastInDim S18432x2048 ![] bcast_S_S18432x2048 (constant S_ .f32 0x3F800000#32))
    (addf (broadcastInDim S18432x2048 ![] bcast_S_S18432x2048 (constant S_ .f32 0x3F800000#32)) (Host.exp (Host.negf A)))) B

/-- A gated array entry by entry. -/
theorem gated_apply (A B : FVec Ideal S18432x2048 .f32) (r : Fin 18432) (f : Fin 2048) :
    gated A B (ix2 r f) = Ideal.logistic (A (ix2 r f)) * (B (ix2 r f) : EReal) := by
  refine Eq.trans (b := Ideal.div (FloatOps.ofBits .f32 0x3F800000#32 : Ideal .f32)
    ((FloatOps.ofBits .f32 0x3F800000#32 : Ideal .f32) + Ideal.exp (-(A (ix2 r f) : EReal))) * (B (ix2 r f) : EReal)) rfl ?_
  rw [one_word]
  rfl

/-- The first branch's part of the reference. -/
def first (H : FVec Ideal S18432x2048 .bf16) (G : FVec Ideal S4x2048x2048 .f32) (O : FVec Ideal S4x18432x512 .bf16) (W : FVec Ideal S4x512x2048 .f32) : FVec Ideal S18432x2048 .f32 :=
  gated (Host.dotGeneral (F := Ideal) (φ₁ := .f32) (φ₂ := .f32) dot_S18432x2048_S2048x2048_S18432x2048_1_0_0_1_n_n none (extf .f32 H bitsLt_bf16_f32 : FVec Ideal S18432x2048 .f32)
      (shapeCast S2048x2048 (extractStridedSlice S1x2048x2048 ![0, 0, 0] G slices_S4x2048x2048_S1x2048x2048_0_0_0) shapeCasts_S1x2048x2048_S2048x2048))
    (Host.dotGeneral (F := Ideal) (φ₁ := .f32) (φ₂ := .f32) dot_S18432x512_S512x2048_S18432x2048_1_0_0_1_n_n none
      (shapeCast S18432x512 (extractStridedSlice S1x18432x512 ![0, 0, 0] (extf .f32 O bitsLt_bf16_f32 : FVec Ideal S4x18432x512 .f32) slices_S4x18432x512_S1x18432x512_0_0_0) shapeCasts_S1x18432x512_S18432x512)
      (shapeCast S512x2048 (extractStridedSlice S1x512x2048 ![0, 0, 0] W slices_S4x512x2048_S1x512x2048_0_0_0) shapeCasts_S1x512x2048_S512x2048))

/-- That part entry by entry. -/
theorem first_apply (H : FVec Ideal S18432x2048 .bf16) (G : FVec Ideal S4x2048x2048 .f32) (O : FVec Ideal S4x18432x512 .bf16) (W : FVec Ideal S4x512x2048 .f32) (r : Fin 18432) (f : Fin 2048) :
    first H G O W (ix2 r f) = Cert.MergeIdeal.Dense.term H G O W 0 r f := by
  have hg : ∀ k : Fin 2048, (shapeCast S2048x2048 (extractStridedSlice S1x2048x2048 ![0, 0, 0] G slices_S4x2048x2048_S1x2048x2048_0_0_0) shapeCasts_S1x2048x2048_S2048x2048 : FVec Ideal S2048x2048 .f32)
      (ix2 k f) = G (ix3 (0 : Fin 4) k f) := fun k => by
    pointwise
  have ho : ∀ l : Fin 512, (shapeCast S18432x512 (extractStridedSlice S1x18432x512 ![0, 0, 0] (extf .f32 O bitsLt_bf16_f32 : FVec Ideal S4x18432x512 .f32) slices_S4x18432x512_S1x18432x512_0_0_0)
      shapeCasts_S1x18432x512_S18432x512 : FVec Ideal S18432x512 .f32) (ix2 r l) = O (ix3 (0 : Fin 4) r l) := fun l => by
    pointwise
  have hw : ∀ l : Fin 512, (shapeCast S512x2048 (extractStridedSlice S1x512x2048 ![0, 0, 0] W slices_S4x512x2048_S1x512x2048_0_0_0) shapeCasts_S1x512x2048_S512x2048 : FVec Ideal S512x2048 .f32)
      (ix2 l f) = W (ix3 (0 : Fin 4) l f) := fun l => by
    pointwise
  unfold first Cert.MergeIdeal.Dense.term
  refine (gated_apply _ _ r f).trans (congrArg₂ (fun a b : EReal => Ideal.logistic a * b) ?_ ?_)
  · exact (gate_dot _ _ r f).trans (Finset.sum_congr rfl fun k _ => congrArg (fun b : EReal => (H (ix2 r k) : EReal) * b) (hg k))
  · exact (branch_dot _ _ r f).trans (Finset.sum_congr rfl fun l _ => congrArg₂ (fun a b : EReal => a * b) (ho l) (hw l))

/-- The second branch's part of the reference. -/
def second (H : FVec Ideal S18432x2048 .bf16) (G : FVec Ideal S4x2048x2048 .f32) (O : FVec Ideal S4x18432x512 .bf16) (W : FVec Ideal S4x512x2048 .f32) : FVec Ideal S18432x2048 .f32 :=
  gated (Host.dotGeneral (F := Ideal) (φ₁ := .f32) (φ₂ := .f32) dot_S18432x2048_S2048x2048_S18432x2048_1_0_0_1_n_n none (extf .f32 H bitsLt_bf16_f32 : FVec Ideal S18432x2048 .f32)
      (shapeCast S2048x2048 (extractStridedSlice S1x2048x2048 ![1, 0, 0] G slices_S4x2048x2048_S1x2048x2048_1_0_0) shapeCasts_S1x2048x2048_S2048x2048))
    (Host.dotGeneral (F := Ideal) (φ₁ := .f32) (φ₂ := .f32) dot_S18432x512_S512x2048_S18432x2048_1_0_0_1_n_n none
      (shapeCast S18432x512 (extractStridedSlice S1x18432x512 ![1, 0, 0] (extf .f32 O bitsLt_bf16_f32 : FVec Ideal S4x18432x512 .f32) slices_S4x18432x512_S1x18432x512_1_0_0) shapeCasts_S1x18432x512_S18432x512)
      (shapeCast S512x2048 (extractStridedSlice S1x512x2048 ![1, 0, 0] W slices_S4x512x2048_S1x512x2048_1_0_0) shapeCasts_S1x512x2048_S512x2048))

/-- That part entry by entry. -/
theorem second_apply (H : FVec Ideal S18432x2048 .bf16) (G : FVec Ideal S4x2048x2048 .f32) (O : FVec Ideal S4x18432x512 .bf16) (W : FVec Ideal S4x512x2048 .f32) (r : Fin 18432) (f : Fin 2048) :
    second H G O W (ix2 r f) = Cert.MergeIdeal.Dense.term H G O W 1 r f := by
  have hg : ∀ k : Fin 2048, (shapeCast S2048x2048 (extractStridedSlice S1x2048x2048 ![1, 0, 0] G slices_S4x2048x2048_S1x2048x2048_1_0_0) shapeCasts_S1x2048x2048_S2048x2048 : FVec Ideal S2048x2048 .f32)
      (ix2 k f) = G (ix3 (1 : Fin 4) k f) := fun k => by
    pointwise
  have ho : ∀ l : Fin 512, (shapeCast S18432x512 (extractStridedSlice S1x18432x512 ![1, 0, 0] (extf .f32 O bitsLt_bf16_f32 : FVec Ideal S4x18432x512 .f32) slices_S4x18432x512_S1x18432x512_1_0_0)
      shapeCasts_S1x18432x512_S18432x512 : FVec Ideal S18432x512 .f32) (ix2 r l) = O (ix3 (1 : Fin 4) r l) := fun l => by
    pointwise
  have hw : ∀ l : Fin 512, (shapeCast S512x2048 (extractStridedSlice S1x512x2048 ![1, 0, 0] W slices_S4x512x2048_S1x512x2048_1_0_0) shapeCasts_S1x512x2048_S512x2048 : FVec Ideal S512x2048 .f32)
      (ix2 l f) = W (ix3 (1 : Fin 4) l f) := fun l => by
    pointwise
  unfold second Cert.MergeIdeal.Dense.term
  refine (gated_apply _ _ r f).trans (congrArg₂ (fun a b : EReal => Ideal.logistic a * b) ?_ ?_)
  · exact (gate_dot _ _ r f).trans (Finset.sum_congr rfl fun k _ => congrArg (fun b : EReal => (H (ix2 r k) : EReal) * b) (hg k))
  · exact (branch_dot _ _ r f).trans (Finset.sum_congr rfl fun l _ => congrArg₂ (fun a b : EReal => a * b) (ho l) (hw l))

/-- The third branch's part of the reference. -/
def third (H : FVec Ideal S18432x2048 .bf16) (G : FVec Ideal S4x2048x2048 .f32) (O : FVec Ideal S4x18432x512 .bf16) (W : FVec Ideal S4x512x2048 .f32) : FVec Ideal S18432x2048 .f32 :=
  gated (Host.dotGeneral (F := Ideal) (φ₁ := .f32) (φ₂ := .f32) dot_S18432x2048_S2048x2048_S18432x2048_1_0_0_1_n_n none (extf .f32 H bitsLt_bf16_f32 : FVec Ideal S18432x2048 .f32)
      (shapeCast S2048x2048 (extractStridedSlice S1x2048x2048 ![2, 0, 0] G slices_S4x2048x2048_S1x2048x2048_2_0_0) shapeCasts_S1x2048x2048_S2048x2048))
    (Host.dotGeneral (F := Ideal) (φ₁ := .f32) (φ₂ := .f32) dot_S18432x512_S512x2048_S18432x2048_1_0_0_1_n_n none
      (shapeCast S18432x512 (extractStridedSlice S1x18432x512 ![2, 0, 0] (extf .f32 O bitsLt_bf16_f32 : FVec Ideal S4x18432x512 .f32) slices_S4x18432x512_S1x18432x512_2_0_0) shapeCasts_S1x18432x512_S18432x512)
      (shapeCast S512x2048 (extractStridedSlice S1x512x2048 ![2, 0, 0] W slices_S4x512x2048_S1x512x2048_2_0_0) shapeCasts_S1x512x2048_S512x2048))

/-- That part entry by entry. -/
theorem third_apply (H : FVec Ideal S18432x2048 .bf16) (G : FVec Ideal S4x2048x2048 .f32) (O : FVec Ideal S4x18432x512 .bf16) (W : FVec Ideal S4x512x2048 .f32) (r : Fin 18432) (f : Fin 2048) :
    third H G O W (ix2 r f) = Cert.MergeIdeal.Dense.term H G O W 2 r f := by
  have hg : ∀ k : Fin 2048, (shapeCast S2048x2048 (extractStridedSlice S1x2048x2048 ![2, 0, 0] G slices_S4x2048x2048_S1x2048x2048_2_0_0) shapeCasts_S1x2048x2048_S2048x2048 : FVec Ideal S2048x2048 .f32)
      (ix2 k f) = G (ix3 (2 : Fin 4) k f) := fun k => by
    pointwise
  have ho : ∀ l : Fin 512, (shapeCast S18432x512 (extractStridedSlice S1x18432x512 ![2, 0, 0] (extf .f32 O bitsLt_bf16_f32 : FVec Ideal S4x18432x512 .f32) slices_S4x18432x512_S1x18432x512_2_0_0)
      shapeCasts_S1x18432x512_S18432x512 : FVec Ideal S18432x512 .f32) (ix2 r l) = O (ix3 (2 : Fin 4) r l) := fun l => by
    pointwise
  have hw : ∀ l : Fin 512, (shapeCast S512x2048 (extractStridedSlice S1x512x2048 ![2, 0, 0] W slices_S4x512x2048_S1x512x2048_2_0_0) shapeCasts_S1x512x2048_S512x2048 : FVec Ideal S512x2048 .f32)
      (ix2 l f) = W (ix3 (2 : Fin 4) l f) := fun l => by
    pointwise
  unfold third Cert.MergeIdeal.Dense.term
  refine (gated_apply _ _ r f).trans (congrArg₂ (fun a b : EReal => Ideal.logistic a * b) ?_ ?_)
  · exact (gate_dot _ _ r f).trans (Finset.sum_congr rfl fun k _ => congrArg (fun b : EReal => (H (ix2 r k) : EReal) * b) (hg k))
  · exact (branch_dot _ _ r f).trans (Finset.sum_congr rfl fun l _ => congrArg₂ (fun a b : EReal => a * b) (ho l) (hw l))

/-- The fourth branch's part of the reference. -/
def fourth (H : FVec Ideal S18432x2048 .bf16) (G : FVec Ideal S4x2048x2048 .f32) (O : FVec Ideal S4x18432x512 .bf16) (W : FVec Ideal S4x512x2048 .f32) : FVec Ideal S18432x2048 .f32 :=
  gated (Host.dotGeneral (F := Ideal) (φ₁ := .f32) (φ₂ := .f32) dot_S18432x2048_S2048x2048_S18432x2048_1_0_0_1_n_n none (extf .f32 H bitsLt_bf16_f32 : FVec Ideal S18432x2048 .f32)
      (shapeCast S2048x2048 (extractStridedSlice S1x2048x2048 ![3, 0, 0] G slices_S4x2048x2048_S1x2048x2048_3_0_0) shapeCasts_S1x2048x2048_S2048x2048))
    (Host.dotGeneral (F := Ideal) (φ₁ := .f32) (φ₂ := .f32) dot_S18432x512_S512x2048_S18432x2048_1_0_0_1_n_n none
      (shapeCast S18432x512 (extractStridedSlice S1x18432x512 ![3, 0, 0] (extf .f32 O bitsLt_bf16_f32 : FVec Ideal S4x18432x512 .f32) slices_S4x18432x512_S1x18432x512_3_0_0) shapeCasts_S1x18432x512_S18432x512)
      (shapeCast S512x2048 (extractStridedSlice S1x512x2048 ![3, 0, 0] W slices_S4x512x2048_S1x512x2048_3_0_0) shapeCasts_S1x512x2048_S512x2048))

/-- That part entry by entry. -/
theorem fourth_apply (H : FVec Ideal S18432x2048 .bf16) (G : FVec Ideal S4x2048x2048 .f32) (O : FVec Ideal S4x18432x512 .bf16) (W : FVec Ideal S4x512x2048 .f32) (r : Fin 18432) (f : Fin 2048) :
    fourth H G O W (ix2 r f) = Cert.MergeIdeal.Dense.term H G O W 3 r f := by
  have hg : ∀ k : Fin 2048, (shapeCast S2048x2048 (extractStridedSlice S1x2048x2048 ![3, 0, 0] G slices_S4x2048x2048_S1x2048x2048_3_0_0) shapeCasts_S1x2048x2048_S2048x2048 : FVec Ideal S2048x2048 .f32)
      (ix2 k f) = G (ix3 (3 : Fin 4) k f) := fun k => by
    pointwise
  have ho : ∀ l : Fin 512, (shapeCast S18432x512 (extractStridedSlice S1x18432x512 ![3, 0, 0] (extf .f32 O bitsLt_bf16_f32 : FVec Ideal S4x18432x512 .f32) slices_S4x18432x512_S1x18432x512_3_0_0)
      shapeCasts_S1x18432x512_S18432x512 : FVec Ideal S18432x512 .f32) (ix2 r l) = O (ix3 (3 : Fin 4) r l) := fun l => by
    pointwise
  have hw : ∀ l : Fin 512, (shapeCast S512x2048 (extractStridedSlice S1x512x2048 ![3, 0, 0] W slices_S4x512x2048_S1x512x2048_3_0_0) shapeCasts_S1x512x2048_S512x2048 : FVec Ideal S512x2048 .f32)
      (ix2 l f) = W (ix3 (3 : Fin 4) l f) := fun l => by
    pointwise
  unfold fourth Cert.MergeIdeal.Dense.term
  refine (gated_apply _ _ r f).trans (congrArg₂ (fun a b : EReal => Ideal.logistic a * b) ?_ ?_)
  · exact (gate_dot _ _ r f).trans (Finset.sum_congr rfl fun k _ => congrArg (fun b : EReal => (H (ix2 r k) : EReal) * b) (hg k))
  · exact (branch_dot _ _ r f).trans (Finset.sum_congr rfl fun l _ => congrArg₂ (fun a b : EReal => a * b) (ho l) (hw l))

/-- The reference's array. -/
def summed (H : FVec Ideal S18432x2048 .bf16) (G : FVec Ideal S4x2048x2048 .f32) (O : FVec Ideal S4x18432x512 .bf16) (W : FVec Ideal S4x512x2048 .f32) : FVec Ideal S18432x2048 .bf16 :=
  truncf .bf16 (addf (addf (addf (first H G O W) (second H G O W)) (third H G O W)) (fourth H G O W)) bitsLt_bf16_f32

/-- The reference's array is the whole. -/
theorem summed_whole (H : FVec Ideal S18432x2048 .bf16) (G : FVec Ideal S4x2048x2048 .f32) (O : FVec Ideal S4x18432x512 .bf16) (W : FVec Ideal S4x512x2048 .f32) :
    summed H G O W = Cert.MergeIdeal.Dense.whole H G O W := by
  funext (i : S18432x2048.Idx)
  obtain ⟨r, f, rfl⟩ : ∃ (r : Fin 18432) (f : Fin 2048), i = ix2 r f := ⟨i 0, i 1, by
    funext (a : Fin 2)
    match a with
    | ⟨0, _⟩ => rfl
    | ⟨1, _⟩ => rfl⟩
  have key : ∀ A B C D : FVec Ideal S18432x2048 .f32, (truncf .bf16 (addf (addf (addf A B) C) D) bitsLt_bf16_f32 : FVec Ideal S18432x2048 .bf16) (ix2 r f)
      = (A (ix2 r f) : EReal) + B (ix2 r f) + C (ix2 r f) + D (ix2 r f) := fun _ _ _ _ => rfl
  unfold summed
  refine (key _ _ _ _).trans ?_
  rw [first_apply, second_apply, third_apply, fourth_apply]
  rfl

end Cert.RefMergeIdeal.Dense

namespace Cert.Proof

open Idealize.ShloMosaic Idealize.SL.Sem

/-- The call of the gates and branch projections runs and leaves its arguments as they were. -/
theorem frame_merge : Cert.quiescent_Merge := fun m ρ _ => Cert.Merge.Gen.frame m ρ

/-- The same of the idealized one. -/
theorem frame_merge_ideal : Cert.quiescent_MergeIdeal := fun m ρ _ => Cert.MergeIdeal.Gen.frame m ρ

/-- Its reference runs and keeps its arguments. -/
theorem frame_merge_reference : Cert.quiescent_RefMergeIdeal := fun m ρ _ =>
  (θ_run (Cert.RefMergeIdeal.defs (F := Ideal)) _ _).mono (fun r h => ⟨fun c => (h c).2, sem_eq_zero_of_no_sems (by decide) r.2⟩)
    (Cert.RefMergeIdeal.Value.run (F := Ideal) m ρ)

/-- The array of the gates and branch projections and its reference's are equal, element by element. -/
theorem merge_equal : Cert.algebraic_MergeIdeal_RefMergeIdeal := fun m g m' g' _ hag => by
  refine ⟨fun _ => Cert.MergeIdeal.Dense.whole (Cert.MergeIdeal.Dense.rows m) (Cert.MergeIdeal.Dense.gates m) (Cert.MergeIdeal.Dense.outs m) (Cert.MergeIdeal.Dense.weights m), ?_, ?_⟩
  · refine (θ_run (Cert.MergeIdeal.defs (F := Ideal)) _ _).mono (fun r hr c => ?_) (Cert.MergeIdeal.Value.run_blocks (F := Ideal) m g)
    obtain ⟨h2, ha⟩ := hr c
    obtain rfl : c = 0 := Subsingleton.elim _ _
    exact ⟨h2.trans (Cert.MergeIdeal.Dense.ends_whole m), ha⟩
  · refine (θ_run (Cert.RefMergeIdeal.defs (F := Ideal)) _ _).mono (fun r hr c => ?_) (Cert.RefMergeIdeal.Value.run (F := Ideal) m' g')
    obtain ⟨h2, ha⟩ := hr c
    obtain rfl : c = 0 := Subsingleton.elim _ _
    have key : ∀ (H : FVec Ideal Cert.MergeIdeal.S18432x2048 .bf16) (G : FVec Ideal Cert.MergeIdeal.S4x2048x2048 .f32) (O : FVec Ideal Cert.MergeIdeal.S4x18432x512 .bf16)
        (W : FVec Ideal Cert.MergeIdeal.S4x512x2048 .f32),
        H = Cert.MergeIdeal.Dense.rows m → G = Cert.MergeIdeal.Dense.gates m → O = Cert.MergeIdeal.Dense.outs m → W = Cert.MergeIdeal.Dense.weights m →
        Cert.RefMergeIdeal.Dense.summed H G O W = Cert.MergeIdeal.Dense.whole (Cert.MergeIdeal.Dense.rows m) (Cert.MergeIdeal.Dense.gates m) (Cert.MergeIdeal.Dense.outs m) (Cert.MergeIdeal.Dense.weights m) := by
      rintro _ _ _ _ rfl rfl rfl rfl
      exact Cert.RefMergeIdeal.Dense.summed_whole _ _ _ _
    exact ⟨h2.trans (key _ _ _ _ (hag 0).1 (hag 0).2.1 (hag 0).2.2.1 (hag 0).2.2.2), ha⟩

end Cert.Proof

end
-- ==== Proof.Dense.MmEqual.lean ====
/- The dense feed-forward's second product: the residual with the gated product is the reference's. -/
module

public import proofs.«01_k».proof.Defs
public import proofs.«01_k».proof.Proof.Gen.MmDown.Frame
public import proofs.«01_k».proof.Proof.Gen.MmDownIdeal.Value
public import proofs.«01_k».proof.Proof.Gen.RefMmDownIdeal.Run
public import Idealize.ShloMosaic.Lib.Pointwise
public import Idealize.ShloMosaic.Lib.Pipeline.Value
public import Idealize.ShloMosaic.Lib.Pipeline.ValueKit.Acc
public import Idealize.ShloMosaic.Lib.Pipeline.ReadBack

@[expose] public section

set_option maxHeartbeats 4000000
set_option maxRecDepth 16384

noncomputable section

namespace Cert.MmDownIdeal.Dense

open Idealize.ShloMosaic Idealize.ShloMosaic.TcCoe Idealize.SL.Sem
open Idealize.ShloMosaic.Pipeline (Dat Cfg Window)
open Cert.MmDownIdeal Cert.MmDownIdeal.Gen

/-- A small number survives its word. -/
theorem small (n : ℕ) (h : n < 4294967296) : (BitVec.ofNat 32 n).toNat = n := by
  rw [BitVec.toNat_ofNat]
  exact Nat.mod_eq_of_lt h

/-- The number of points. -/
theorem points_lt (t : Fin cfg0.N) : t.val < 396 := by
  have e : cfg0.N = 396 := N_0
  have := t.isLt
  omega

/-- The rows' place in the grid. -/
theorem place_rows (t : Fin cfg0.N) : (grid0.coords t 0).val = t.val / 22 := by
  rw [Pipeline.Grid.coords_val t 0 (S := 22) (B := 18) (by decide) rfl]
  have := points_lt t
  exact Nat.mod_eq_of_lt (by omega)

/-- The columns' place in the grid. -/
theorem place_cols (t : Fin cfg0.N) : (grid0.coords t 1).val = t.val / 11 % 2 :=
  Pipeline.Grid.coords_val t 1 (S := 11) (B := 2) (by decide) rfl

/-- The step's place in the grid. -/
theorem place_step (t : Fin cfg0.N) : (grid0.coords t 2).val = t.val % 11 := by
  rw [Pipeline.Grid.coords_val t 2 (S := 1) (B := 11) (by decide) rfl, Nat.div_one]

/-- The rows' block at a point. -/
theorem index_rows (t : Fin cfg0.N) : (cfg0.win 0).index t = ![t.val / 22, t.val % 11] := by
  have h : cc0_transform_0 (grid0.coords t) = ![(BitVec.ofNat 32 (grid0.coords t 0).val).toNat, (BitVec.ofNat 32 (grid0.coords t 2).val).toNat] := rfl
  refine Eq.trans (b := cc0_transform_0 (grid0.coords t)) rfl (h.trans ?_)
  have := points_lt t
  rw [place_rows, place_step, small _ (by omega), small _ (by omega)]

/-- The weights' block at a point. -/
theorem index_weights (t : Fin cfg0.N) : (cfg0.win 1).index t = ![t.val % 11, t.val / 11 % 2] := by
  have h : cc0_transform_1 (grid0.coords t) = ![(BitVec.ofNat 32 (grid0.coords t 2).val).toNat, (BitVec.ofNat 32 (grid0.coords t 1).val).toNat] := rfl
  refine Eq.trans (b := cc0_transform_1 (grid0.coords t)) rfl (h.trans ?_)
  rw [place_step, place_cols, small _ (by omega), small _ (by omega)]

/-- The residual's block at a point. -/
theorem index_residual (t : Fin cfg0.N) : (cfg0.win 2).index t = ![t.val / 22, 0, t.val / 11 % 2] := by
  have h : cc0_transform_2 (grid0.coords t) = ![(BitVec.ofNat 32 (grid0.coords t 0).val).toNat, 0, (BitVec.ofNat 32 (grid0.coords t 1).val).toNat] := rfl
  refine Eq.trans (b := cc0_transform_2 (grid0.coords t)) rfl (h.trans ?_)
  have := points_lt t
  rw [place_rows, place_cols, small _ (by omega), small _ (by omega)]

/-- The modulation's block at a point. -/
theorem index_mods (t : Fin cfg0.N) : (cfg0.win 3).index t = ![t.val / 22, 0, 10 + t.val / 11 % 2] := by
  have h : cc0_transform_3 (grid0.coords t) = ![(BitVec.ofNat 32 (grid0.coords t 0).val).toNat, 0, (10#32 + BitVec.ofNat 32 (grid0.coords t 1).val).toNat] := rfl
  refine Eq.trans (b := cc0_transform_3 (grid0.coords t)) rfl (h.trans ?_)
  have := points_lt t
  have e : (10#32 + BitVec.ofNat 32 (t.val / 11 % 2)).toNat = 10 + t.val / 11 % 2 := by
    have hn : (BitVec.ofNat 32 (t.val / 11 % 2)).toNat = t.val / 11 % 2 := small _ (by omega)
    rw [BitVec.toNat_add, hn]
    show (10 + t.val / 11 % 2) % 4294967296 = _
    omega
  rw [place_rows, place_cols, e, small _ (by omega)]

/-- The result's block at a point. -/
theorem index_result (t : Fin cfg0.N) : (cfg0.win 4).index t = ![t.val / 22, 0, t.val / 11 % 2] := by
  have h : cc0_transform_4 (grid0.coords t) = ![(BitVec.ofNat 32 (grid0.coords t 0).val).toNat, 0, (BitVec.ofNat 32 (grid0.coords t 1).val).toNat] := rfl
  refine Eq.trans (b := cc0_transform_4 (grid0.coords t)) rfl (h.trans ?_)
  have := points_lt t
  rw [place_rows, place_cols, small _ (by omega), small _ (by omega)]

/-- A block's product. -/
def part (x : FVec Ideal S1024x512 .bf16) (w : FVec Ideal S512x1024 .f32) (r j : Fin 1024) : EReal :=
  ∑ k : Fin 512, (x (ix2 r k) : EReal) * w (ix2 k j)

/-- A step adds a block's product to the running sum. -/
theorem add_apply (acc : FVec Ideal S1024x1024 .f32) (x : FVec Ideal S1024x512 .bf16) (w : FVec Ideal S512x1024 .f32) (r j : Fin 1024) :
    k0_pay2 (F := Ideal) acc x w (ix2 r j) = (acc (ix2 r j) : EReal) + part x w r j := by
  unfold k0_pay2 part
  have h1 : ∀ (A : FVec Ideal S1024x512 .bf16) (B : FVec Ideal S512x1024 .bf16),
      (matmul dot_S1024x512_S512x1024_S1024x1024_1_0_0_1_n_n none A B (constant S1024x1024 .f32 0x00000000#32) : FVec Ideal S1024x1024 .f32) (ix2 r j)
        = ∑ k : Fin 512, A (ix2 r k) * B (ix2 k j) := fun A B => by
    pointwise
  have h2 : ∀ A : FVec Ideal S1024x1024 .f32, (shapeCast S1024x1024 A shapeCasts_S1024x1024_S1024x1024 : FVec Ideal S1024x1024 .f32) (ix2 r j) = A (ix2 r j) := fun A => by
    pointwise
  have key : ∀ A B : FVec Ideal S1024x1024 .f32, (addf A B : FVec Ideal S1024x1024 .f32) (ix2 r j) = (A (ix2 r j) : EReal) + B (ix2 r j) := fun _ _ => rfl
  refine (h2 _).trans ((key _ _).trans ?_)
  exact congrArg (fun b : EReal => (acc (ix2 r j) : EReal) + b) (h1 x _)

/-- The running sum starts at zero. -/
theorem zero_apply (r j : Fin 1024) : k0_pay1 (F := Ideal) (ix2 r j) = (0 : EReal) := by
  unfold k0_pay1
  pointwise

/-- The residual and the gated sum. -/
theorem out_apply (acc : FVec Ideal S1024x1024 .f32) (x : FVec Ideal S16x64x1024 .f32) (g : FVec Ideal S16x1x1024 .f32) (a : Fin 16) (q : Fin 64) (j : Fin 1024) :
    k0_pay3 (F := Ideal) acc x g (ix3 a q j)
      = (x (ix3 a q j) : EReal) + (g (ix3 a (0 : Fin 1) j) : EReal) * acc (ix2 (⟨a.val * 64 + q.val, by omega⟩ : Fin 1024) j) := by
  unfold k0_pay3
  have h1 : (shapeCast S16x64x1024 acc shapeCasts_S1024x1024_S16x64x1024 : FVec Ideal S16x64x1024 .f32) (ix3 a q j)
      = acc (ix2 (⟨a.val * 64 + q.val, by omega⟩ : Fin 1024) j) := by
    pointwise
  have h2 : (broadcastTo S16x64x1024 g broadcasts_S16x1x1024_S16x64x1024 : FVec Ideal S16x64x1024 .f32) (ix3 a q j) = g (ix3 a (0 : Fin 1) j) := by
    pointwise
  have key : ∀ A B : FVec Ideal S16x64x1024 .f32, (addf x (mulf A B) : FVec Ideal S16x64x1024 .f32) (ix3 a q j)
      = (x (ix3 a q j) : EReal) + (A (ix3 a q j) : EReal) * B (ix3 a q j) := fun _ _ => rfl
  exact (key _ _).trans (congrArg₂ (fun a' b' : EReal => (x (ix3 a q j) : EReal) + a' * b') h2 h1)

variable (m : (ℓ : Loc nD τ sig) → Buf (Elt Ideal) ℓ)

/-- The rows as the call is given them. -/
abbrev rows : FVec Ideal S18432x5632 .bf16 := m (((0 : Dev nD) : Thread nD τ).loc main_arg0)
/-- The weights as the call is given them. -/
abbrev weights : FVec Ideal S5632x2048 .f32 := m (((0 : Dev nD) : Thread nD τ).loc main_arg1)
/-- The residual as the call is given it. -/
abbrev residual : FVec Ideal S288x64x2048 .f32 := m (((0 : Dev nD) : Thread nD τ).loc main_arg2)
/-- The modulation as the call is given it. -/
abbrev mods : FVec Ideal S288x1x12288 .f32 := m (((0 : Dev nD) : Thread nD τ).loc main_arg3)

/-- The rows of a point. -/
abbrev rowsAt (t : Fin cfg0.N) : FVec Ideal S1024x512 .bf16 := iblk m (0 : Dev nD) 0 t
/-- The weights of a point. -/
abbrev weightsAt (t : Fin cfg0.N) : FVec Ideal S512x1024 .f32 := iblk m (0 : Dev nD) 1 t
/-- The residual of a point. -/
abbrev residualAt (t : Fin cfg0.N) : FVec Ideal S16x64x1024 .f32 := iblk m (0 : Dev nD) 2 t
/-- The modulation of a point. -/
abbrev modsAt (t : Fin cfg0.N) : FVec Ideal S16x1x1024 .f32 := iblk m (0 : Dev nD) 3 t

/-- A row times a column of the weights. -/
def dot (X : FVec Ideal S18432x5632 .bf16) (W : FVec Ideal S5632x2048 .f32) (r : Fin 18432) (f : Fin 2048) : EReal :=
  ∑ l : Fin 5632, (X (ix2 r l) : EReal) * W (ix2 l f)

/-- An entry of the result. -/
def entry (X : FVec Ideal S18432x5632 .bf16) (W : FVec Ideal S5632x2048 .f32) (R : FVec Ideal S288x64x2048 .f32) (G : FVec Ideal S288x1x12288 .f32)
    (a : Fin 288) (q : Fin 64) (f : Fin 2048) : EReal :=
  (R (ix3 a q f) : EReal) + (G (ix3 a (0 : Fin 1) (⟨10240 + f.val, by omega⟩ : Fin 12288)) : EReal) * dot X W (⟨a.val * 64 + q.val, by omega⟩ : Fin 18432) f

/-- The whole result. -/
def whole (X : FVec Ideal S18432x5632 .bf16) (W : FVec Ideal S5632x2048 .f32) (R : FVec Ideal S288x64x2048 .f32) (G : FVec Ideal S288x1x12288 .f32) :
    FVec Ideal S288x64x2048 .f32 := fun i =>
  entry X W R G (⟨(i 0).val, (i 0).isLt⟩ : Fin 288) (⟨(i 1).val, (i 1).isLt⟩ : Fin 64) (⟨(i 2).val, (i 2).isLt⟩ : Fin 2048)

/-- The block of rows at a point. -/
theorem block_rows (t : Fin cfg0.N) (r : Fin 1024) (k : Fin 512) (i : Fin 18432) (l : Fin 5632) (hi : i.val = t.val / 22 * 1024 + r.val)
    (hl : l.val = t.val % 11 * 512 + k.val) : rowsAt m t (ix2 r k) = rows m (ix2 i l) := by
  have key : rowsAt m t (ix2 r k) = rows m (((cfg0.win 0).rect t).idx (ix2 r k)) := rfl
  refine key.trans (congrArg (rows m) ?_)
  funext (a : Fin 2)
  refine Fin.ext ?_
  match a with
  | ⟨0, _⟩ =>
    exact (congrArg (fun f : Fin 2 → ℕ => f 0 * 1024 + 1 * r.val) (index_rows t)).trans (by show t.val / 22 * 1024 + 1 * r.val = i.val; omega)
  | ⟨1, _⟩ =>
    exact (congrArg (fun f : Fin 2 → ℕ => f 1 * 512 + 1 * k.val) (index_rows t)).trans (by show t.val % 11 * 512 + 1 * k.val = l.val; omega)

/-- The block of weights at a point. -/
theorem block_weights (t : Fin cfg0.N) (k : Fin 512) (j : Fin 1024) (l : Fin 5632) (i : Fin 2048) (hl : l.val = t.val % 11 * 512 + k.val)
    (hi : i.val = t.val / 11 % 2 * 1024 + j.val) : weightsAt m t (ix2 k j) = weights m (ix2 l i) := by
  have key : weightsAt m t (ix2 k j) = weights m (((cfg0.win 1).rect t).idx (ix2 k j)) := rfl
  refine key.trans (congrArg (weights m) ?_)
  funext (a : Fin 2)
  refine Fin.ext ?_
  match a with
  | ⟨0, _⟩ =>
    exact (congrArg (fun f : Fin 2 → ℕ => f 0 * 512 + 1 * k.val) (index_weights t)).trans (by show t.val % 11 * 512 + 1 * k.val = l.val; omega)
  | ⟨1, _⟩ =>
    exact (congrArg (fun f : Fin 2 → ℕ => f 1 * 1024 + 1 * j.val) (index_weights t)).trans (by show t.val / 11 % 2 * 1024 + 1 * j.val = i.val; omega)

/-- The block of the residual at a point. -/
theorem block_residual (t : Fin cfg0.N) (a : Fin 16) (q : Fin 64) (j : Fin 1024) (b : Fin 288) (i : Fin 2048) (hb : b.val = t.val / 22 * 16 + a.val)
    (hi : i.val = t.val / 11 % 2 * 1024 + j.val) : residualAt m t (ix3 a q j) = residual m (ix3 b q i) := by
  have key : residualAt m t (ix3 a q j) = residual m (((cfg0.win 2).rect t).idx (ix3 a q j)) := rfl
  refine key.trans (congrArg (residual m) ?_)
  funext (d : Fin 3)
  refine Fin.ext ?_
  match d with
  | ⟨0, _⟩ =>
    exact (congrArg (fun f : Fin 3 → ℕ => f 0 * 16 + 1 * a.val) (index_residual t)).trans (by show t.val / 22 * 16 + 1 * a.val = b.val; omega)
  | ⟨1, _⟩ =>
    exact (congrArg (fun f : Fin 3 → ℕ => f 1 * 64 + 1 * q.val) (index_residual t)).trans (by show 0 * 64 + 1 * q.val = q.val; omega)
  | ⟨2, _⟩ =>
    exact (congrArg (fun f : Fin 3 → ℕ => f 2 * 1024 + 1 * j.val) (index_residual t)).trans (by show t.val / 11 % 2 * 1024 + 1 * j.val = i.val; omega)

/-- The block of the modulation at a point. -/
theorem block_mods (t : Fin cfg0.N) (a : Fin 16) (j : Fin 1024) (b : Fin 288) (i : Fin 12288) (hb : b.val = t.val / 22 * 16 + a.val)
    (hi : i.val = 10240 + (t.val / 11 % 2 * 1024 + j.val)) : modsAt m t (ix3 a (0 : Fin 1) j) = mods m (ix3 b (0 : Fin 1) i) := by
  have key : modsAt m t (ix3 a (0 : Fin 1) j) = mods m (((cfg0.win 3).rect t).idx (ix3 a (0 : Fin 1) j)) := rfl
  refine key.trans (congrArg (mods m) ?_)
  funext (d : Fin 3)
  refine Fin.ext ?_
  match d with
  | ⟨0, _⟩ =>
    exact (congrArg (fun f : Fin 3 → ℕ => f 0 * 16 + 1 * a.val) (index_mods t)).trans (by show t.val / 22 * 16 + 1 * a.val = b.val; omega)
  | ⟨1, _⟩ =>
    exact (congrArg (fun f : Fin 3 → ℕ => f 1 * 1 + 1 * 0) (index_mods t)).trans rfl
  | ⟨2, _⟩ =>
    exact (congrArg (fun f : Fin 3 → ℕ => f 2 * 1024 + 1 * j.val) (index_mods t)).trans (by show (10 + t.val / 11 % 2) * 1024 + 1 * j.val = i.val; omega)

/-- What the first step of a block leaves in the running sum. -/
theorem first_step (t : Fin cfg0.N) (h0 : t.val % 11 = 0) :
    (outsAt0 m (0 : Dev nD) t.val t.isLt).2 = k0_pay2 (F := Ideal) (k0_pay1 (F := Ideal)) (rowsAt m t) (weightsAt m t) := by
  rw [outsAt0_A m (0 : Dev nD) t h0 (by omega)]
  frame_out

/-- What a later step leaves in it. -/
theorem later_step (t : Fin cfg0.N) (h0 : ¬t.val % 11 = 0) :
    (outsAt0 m (0 : Dev nD) t.val t.isLt).2 = k0_pay2 (F := Ideal)
      (outsAt0 m (0 : Dev nD) (t.val - 1) (Nat.lt_of_le_of_lt (Nat.sub_le _ _) t.isLt)).2 (rowsAt m t) (weightsAt m t) := by
  by_cases h1 : t.val % 11 = 10
  · rw [outsAt0_C m (0 : Dev nD) t h0 h1]
    frame_out
    rw [read_unread_whole]
  · rw [outsAt0_B m (0 : Dev nD) t h0 h1]
    frame_out
    rw [read_unread_whole]

/-- What the last step of a block stores in the result. -/
theorem last_step (t : Fin cfg0.N) (h1 : t.val % 11 = 10) :
    (outsAt0 m (0 : Dev nD) t.val t.isLt).1 = k0_pay3 (F := Ideal) (outsAt0 m (0 : Dev nD) t.val t.isLt).2 (residualAt m t) (modsAt m t) := by
  rw [later_step m t (by omega), outsAt0_C m (0 : Dev nD) t (by omega) h1]
  frame_out
  rw [read_unread_whole]

/-- At the last step of a block the running sum is the row times the column. -/
theorem summed (t : Fin cfg0.N) (h : t.val % 11 = 10) (r j : Fin 1024) (i : Fin 18432) (f : Fin 2048) (hi : i.val = t.val / 22 * 1024 + r.val)
    (hf : f.val = t.val / 11 % 2 * 1024 + j.val) :
    (outsAt0 m (0 : Dev nD) t.val t.isLt).2 (ix2 r j) = dot (rows m) (weights m) i f := by
  have e := Pipeline.eq_sum_fin_of_reset_step_apply_of_flush (M := EReal) (N := cfg0.N)
    (fun n hn (p : Fin 1024 × Fin 1024) => ((outsAt0 m (0 : Dev nD) n hn).2 (ix2 p.1 p.2) : EReal)) 11 (fun _ => (0 : EReal))
    (fun t p => part (rowsAt m t) (weightsAt m t) p.1 p.2)
    (fun t h p => (congrFun (first_step m t h) (ix2 p.1 p.2)).trans ((add_apply _ _ _ p.1 p.2).trans
      (congrArg (fun a : EReal => a + part (rowsAt m t) (weightsAt m t) p.1 p.2) (zero_apply p.1 p.2))))
    (fun t h p => (congrFun (later_step m t h) (ix2 p.1 p.2)).trans (add_apply _ _ _ p.1 p.2))
    t h (r, j)
  refine e.trans ((zero_add _).trans ?_)
  unfold part dot
  refine Fin.sum_mul_add_congr fun s k hl => ?_
  have hs := s.isLt
  exact congrArg₂ (fun a b : EReal => a * b)
    (block_rows m _ r k i ⟨s.val * 512 + k.val, hl⟩ (by show i.val = (11 * (t.val / 11) + s.val) / 22 * 1024 + r.val; omega)
      (by show s.val * 512 + k.val = (11 * (t.val / 11) + s.val) % 11 * 512 + k.val; omega))
    (block_weights m _ k j ⟨s.val * 512 + k.val, hl⟩ f (by show s.val * 512 + k.val = (11 * (t.val / 11) + s.val) % 11 * 512 + k.val; omega)
      (by show f.val = (11 * (t.val / 11) + s.val) / 11 % 2 * 1024 + j.val; omega))

/-- What the last step of a block stores is the whole's entry. -/
theorem stored_whole (t : Fin cfg0.N) (h : t.val % 11 = 10) (a : Fin 16) (q : Fin 64) (j : Fin 1024) (i : S288x64x2048.Idx)
    (h0 : (i 0).val = t.val / 22 * 16 + a.val) (h1 : (i 1).val = q.val) (h2 : (i 2).val = t.val / 11 % 2 * 1024 + j.val) :
    (outsAt0 m (0 : Dev nD) t.val t.isLt).1 (ix3 a q j) = whole (rows m) (weights m) (residual m) (mods m) i := by
  refine (congrFun (last_step m t h) (ix3 a q j)).trans ((out_apply _ _ _ a q j).trans ?_)
  have hq : (⟨(i 1).val, (i 1).isLt⟩ : Fin 64) = q := Fin.ext h1
  unfold whole entry
  rw [hq]
  refine congrArg₂ (fun a b : EReal => a + b) (block_residual m t a q j _ _ h0 h2) ?_
  refine congrArg₂ (fun a b : EReal => a * b) (block_mods m t a j _ _ h0 (by show 10240 + (i 2).val = _; omega)) ?_
  exact summed m t h _ j _ _ (by show (i 0).val * 64 + q.val = t.val / 22 * 1024 + (a.val * 64 + q.val); omega) h2

/-- What a storing point writes back is the whole's block there. -/
theorem writes_whole (t : Fin cfg0.N) (hf : (cfg0.win 4).flush t = true) :
    (dats m 0 (0 : Dev nD)).flushed 4 t = ((cfg0.win 4).blk t).view.read (Elt Ideal) (whole (rows m) (weights m) (residual m) (mods m)) := by
  refine Eq.trans (b := (dats m 0 (0 : Dev nD)).after 4 t) rfl ?_
  rw [after0_4]
  funext (y : S16x64x1024.Idx)
  obtain ⟨a, q, j, rfl⟩ : ∃ (a : Fin 16) (q : Fin 64) (j : Fin 1024), y = ix3 a q j := ⟨y 0, y 1, y 2, by
    funext (d : Fin 3)
    match d with
    | ⟨0, _⟩ => rfl
    | ⟨1, _⟩ => rfl
    | ⟨2, _⟩ => rfl⟩
  have key : ∀ V : FVec Ideal S288x64x2048 .f32, ((cfg0.win 4).blk t).view.read (Elt Ideal) V (ix3 a q j) = V (((cfg0.win 4).rect t).idx (ix3 a q j)) := fun _ => rfl
  refine Eq.trans ?_ (key _).symm
  refine stored_whole m t ((flush0_4 t).mp hf) a q j _ ?_ ?_ ?_
  · exact (congrArg (fun f : Fin 3 → ℕ => f 0 * 16 + 1 * a.val) (index_result t)).trans (by show t.val / 22 * 16 + 1 * a.val = _; omega)
  · exact (congrArg (fun f : Fin 3 → ℕ => f 1 * 64 + 1 * q.val) (index_result t)).trans (by show 0 * 64 + 1 * q.val = _; omega)
  · exact (congrArg (fun f : Fin 3 → ℕ => f 2 * 1024 + 1 * j.val) (index_result t)).trans (by show t.val / 11 % 2 * 1024 + 1 * j.val = _; omega)

/-- At the end the result is the whole. -/
theorem ends_whole : (dats m 0 (0 : Dev nD)).arrAt 4 cfg0.N = whole (rows m) (weights m) (residual m) (mods m) := by
  funext (i : S288x64x2048.Idx)
  have i0 : (i 0).val < 288 := (i 0).isLt
  have i1 : (i 1).val < 64 := (i 1).isLt
  have i2 : (i 2).val < 2048 := (i 2).isLt
  have eN : cfg0.N = 396 := N_0
  have hlt : (i 0).val / 16 * 22 + (i 2).val / 1024 * 11 + 10 < cfg0.N := by rw [eN]; omega
  let t : Fin cfg0.N := ⟨(i 0).val / 16 * 22 + (i 2).val / 1024 * 11 + 10, hlt⟩
  have t0 : t.val / 22 = (i 0).val / 16 := by show ((i 0).val / 16 * 22 + (i 2).val / 1024 * 11 + 10) / 22 = _; omega
  have t1 : t.val / 11 % 2 = (i 2).val / 1024 := by show ((i 0).val / 16 * 22 + (i 2).val / 1024 * 11 + 10) / 11 % 2 = _; omega
  have t2 : t.val % 11 = 10 := by show ((i 0).val / 16 * 22 + (i 2).val / 1024 * 11 + 10) % 11 = _; omega
  refine Dat.arrAt_apply_of_mem (dats m 0 (0 : Dev nD)) 4 (whole (rows m) (weights m) (residual m) (mods m)) (fun t hf => writes_whole m t hf) cfg0.N t i t.isLt
    ((flush0_4 t).mpr t2) ?_
  have e : ((cfg0.win 4).blk t).view.emb (ix3 (⟨(i 0).val % 16, Nat.mod_lt _ (by decide)⟩ : Fin 16) (⟨(i 1).val, i1⟩ : Fin 64)
      (⟨(i 2).val % 1024, Nat.mod_lt _ (by decide)⟩ : Fin 1024)) = i := by
    funext (d : Fin 3)
    refine Fin.ext ?_
    match d with
    | ⟨0, _⟩ =>
      exact (congrArg (fun f : Fin 3 → ℕ => f 0 * 16 + 1 * ((i 0).val % 16)) (index_result t)).trans
        (by show t.val / 22 * 16 + 1 * ((i 0).val % 16) = (i 0).val; omega)
    | ⟨1, _⟩ =>
      exact (congrArg (fun f : Fin 3 → ℕ => f 1 * 64 + 1 * (i 1).val) (index_result t)).trans
        (by show 0 * 64 + 1 * (i 1).val = (i 1).val; omega)
    | ⟨2, _⟩ =>
      exact (congrArg (fun f : Fin 3 → ℕ => f 2 * 1024 + 1 * ((i 2).val % 1024)) (index_result t)).trans
        (by show t.val / 11 % 2 * 1024 + 1 * ((i 2).val % 1024) = (i 2).val; omega)
  exact e ▸ ((cfg0.win 4).blk t).view.emb_mem_set _

end Cert.MmDownIdeal.Dense

namespace Cert.RefMmDownIdeal.Dense

open Idealize.ShloMosaic Idealize.SL.Sem
open Cert.RefMmDownIdeal Cert.RefMmDownIdeal.Gen

/-- The product entry by entry. -/
theorem dot_apply (A : FVec Ideal S18432x5632 .f32) (B : FVec Ideal S5632x2048 .f32) (r : Fin 18432) (f : Fin 2048) :
    Host.dotGeneral (F := Ideal) (φ₁ := .f32) (φ₂ := .f32) dot_S18432x5632_S5632x2048_S18432x2048_1_0_0_1_n_n none A B (ix2 r f)
      = ∑ l : Fin 5632, A (ix2 r l) * B (ix2 l f) := by
  pointwise

/-- The product's rows by group. -/
theorem grouped (D : FVec Ideal S18432x2048 .f32) (a : Fin 288) (q : Fin 64) (f : Fin 2048) :
    (shapeCast S288x64x2048 D shapeCasts_S18432x2048_S288x64x2048 : FVec Ideal S288x64x2048 .f32) (ix3 a q f)
      = D (ix2 (⟨a.val * 64 + q.val, by omega⟩ : Fin 18432) f) := by
  pointwise

/-- The gate of every row of a group. -/
theorem spread (G : FVec Ideal S288x1x2048 .f32) (a : Fin 288) (q : Fin 64) (f : Fin 2048) :
    (broadcastInDim S288x64x2048 ![0, 1, 2] bcast_S288x1x2048_S288x64x2048_0_1_2 G : FVec Ideal S288x64x2048 .f32) (ix3 a q f) = G (ix3 a (0 : Fin 1) f) := by
  pointwise

/-- The gate within the modulation. -/
theorem gate (G : FVec Ideal S288x1x12288 .f32) (a : Fin 288) (f : Fin 2048) :
    (extractStridedSlice S288x1x2048 ![0, 0, 10240] G slices_S288x1x12288_S288x1x2048_0_0_10240 : FVec Ideal S288x1x2048 .f32) (ix3 a (0 : Fin 1) f)
      = G (ix3 a (0 : Fin 1) (⟨10240 + f.val, by omega⟩ : Fin 12288)) := by
  pointwise

/-- The reference's array. -/
def joined (X : FVec Ideal S18432x5632 .bf16) (W : FVec Ideal S5632x2048 .f32) (R : FVec Ideal S288x64x2048 .f32) (G : FVec Ideal S288x1x12288 .f32) :
    FVec Ideal S288x64x2048 .f32 :=
  addf R (mulf (broadcastInDim S288x64x2048 ![0, 1, 2] bcast_S288x1x2048_S288x64x2048_0_1_2
      (extractStridedSlice S288x1x2048 ![0, 0, 10240] G slices_S288x1x12288_S288x1x2048_0_0_10240))
    (shapeCast S288x64x2048 (Host.dotGeneral (F := Ideal) (φ₁ := .f32) (φ₂ := .f32) dot_S18432x5632_S5632x2048_S18432x2048_1_0_0_1_n_n none
      (extf .f32 X bitsLt_bf16_f32 : FVec Ideal S18432x5632 .f32) W) shapeCasts_S18432x2048_S288x64x2048))

/-- That array is the whole. -/
theorem joined_whole (X : FVec Ideal S18432x5632 .bf16) (W : FVec Ideal S5632x2048 .f32) (R : FVec Ideal S288x64x2048 .f32) (G : FVec Ideal S288x1x12288 .f32) :
    joined X W R G = Cert.MmDownIdeal.Dense.whole X W R G := by
  funext (i : S288x64x2048.Idx)
  obtain ⟨a, q, f, rfl⟩ : ∃ (a : Fin 288) (q : Fin 64) (f : Fin 2048), i = ix3 a q f := ⟨i 0, i 1, i 2, by
    funext (d : Fin 3)
    match d with
    | ⟨0, _⟩ => rfl
    | ⟨1, _⟩ => rfl
    | ⟨2, _⟩ => rfl⟩
  have key : ∀ A B : FVec Ideal S288x64x2048 .f32, (addf R (mulf A B) : FVec Ideal S288x64x2048 .f32) (ix3 a q f)
      = (R (ix3 a q f) : EReal) + (A (ix3 a q f) : EReal) * B (ix3 a q f) := fun _ _ => rfl
  have same : Cert.MmDownIdeal.Dense.whole X W R G (ix3 a q f) = Cert.MmDownIdeal.Dense.entry X W R G a q f := rfl
  refine Eq.trans ?_ same.symm
  unfold joined Cert.MmDownIdeal.Dense.entry Cert.MmDownIdeal.Dense.dot
  refine (key _ _).trans ?_
  refine congrArg₂ (fun x y : EReal => (R (ix3 a q f) : EReal) + x * y) ((spread _ a q f).trans (gate G a f)) ?_
  exact (grouped _ a q f).trans ((dot_apply _ _ _ f).trans rfl)

end Cert.RefMmDownIdeal.Dense

namespace Cert.Proof

open Idealize.ShloMosaic Idealize.SL.Sem

/-- The dense feed-forward's second call runs and leaves its arguments as they were. -/
theorem frame_mm_down : Cert.quiescent_MmDown := fun m ρ _ => Cert.MmDown.Gen.frame m ρ

/-- The same of the idealized one. -/
theorem frame_mm_down_ideal : Cert.quiescent_MmDownIdeal := fun m ρ _ => Cert.MmDownIdeal.Gen.frame m ρ

/-- Its reference runs and keeps its arguments. -/
theorem frame_mm_down_reference : Cert.quiescent_RefMmDownIdeal := fun m ρ _ =>
  (θ_run (Cert.RefMmDownIdeal.defs (F := Ideal)) _ _).mono (fun r h => ⟨fun c => (h c).2, sem_eq_zero_of_no_sems (by decide) r.2⟩)
    (Cert.RefMmDownIdeal.Value.run (F := Ideal) m ρ)

/-- The dense feed-forward's second call: its array and its reference's are equal, element by element. -/
theorem mm_down_equal : Cert.algebraic_MmDownIdeal_RefMmDownIdeal := fun m g m' g' _ hag => by
  refine ⟨fun _ => Cert.MmDownIdeal.Dense.whole (Cert.MmDownIdeal.Dense.rows m) (Cert.MmDownIdeal.Dense.weights m) (Cert.MmDownIdeal.Dense.residual m) (Cert.MmDownIdeal.Dense.mods m), ?_, ?_⟩
  · refine (θ_run (Cert.MmDownIdeal.defs (F := Ideal)) _ _).mono (fun r hr c => ?_) (Cert.MmDownIdeal.Value.run_blocks (F := Ideal) m g)
    obtain ⟨h2, ha⟩ := hr c
    obtain rfl : c = 0 := Subsingleton.elim _ _
    exact ⟨h2.trans (Cert.MmDownIdeal.Dense.ends_whole m), ha⟩
  · refine (θ_run (Cert.RefMmDownIdeal.defs (F := Ideal)) _ _).mono (fun r hr c => ?_) (Cert.RefMmDownIdeal.Value.run (F := Ideal) m' g')
    obtain ⟨h2, ha⟩ := hr c
    obtain rfl : c = 0 := Subsingleton.elim _ _
    have key : ∀ (X : FVec Ideal Cert.MmDownIdeal.S18432x5632 .bf16) (W : FVec Ideal Cert.MmDownIdeal.S5632x2048 .f32) (R : FVec Ideal Cert.MmDownIdeal.S288x64x2048 .f32)
        (G : FVec Ideal Cert.MmDownIdeal.S288x1x12288 .f32),
        X = Cert.MmDownIdeal.Dense.rows m → W = Cert.MmDownIdeal.Dense.weights m → R = Cert.MmDownIdeal.Dense.residual m → G = Cert.MmDownIdeal.Dense.mods m →
        Cert.RefMmDownIdeal.Dense.joined X W R G
          = Cert.MmDownIdeal.Dense.whole (Cert.MmDownIdeal.Dense.rows m) (Cert.MmDownIdeal.Dense.weights m) (Cert.MmDownIdeal.Dense.residual m) (Cert.MmDownIdeal.Dense.mods m) := by
      rintro _ _ _ _ rfl rfl rfl rfl
      exact Cert.RefMmDownIdeal.Dense.joined_whole _ _ _ _
    exact ⟨h2.trans (key _ _ _ _ (hag 0).1 (hag 0).2.1 (hag 0).2.2.1 (hag 0).2.2.2), ha⟩

end Cert.Proof

end
-- ==== Proof.Dense.OutEqual.lean ====
/- The output projection: the residual with the gated product is the reference's. -/
module

public import proofs.«01_k».proof.Defs
public import proofs.«01_k».proof.Proof.Gen.MmOut.Frame
public import proofs.«01_k».proof.Proof.Gen.MmOutIdeal.Value
public import proofs.«01_k».proof.Proof.Gen.RefMmOutIdeal.Run
public import Idealize.ShloMosaic.Lib.Pointwise
public import Idealize.ShloMosaic.Lib.Pipeline.Value
public import Idealize.ShloMosaic.Lib.Pipeline.ValueKit.Acc
public import Idealize.ShloMosaic.Lib.Pipeline.ReadBack

@[expose] public section

set_option maxHeartbeats 4000000
set_option maxRecDepth 16384

noncomputable section

namespace Cert.MmOutIdeal.Dense

open Idealize.ShloMosaic Idealize.ShloMosaic.TcCoe Idealize.SL.Sem
open Idealize.ShloMosaic.Pipeline (Dat Cfg Window)
open Cert.MmOutIdeal Cert.MmOutIdeal.Gen

/-- A small number survives its word. -/
theorem small (n : ℕ) (h : n < 4294967296) : (BitVec.ofNat 32 n).toNat = n := by
  rw [BitVec.toNat_ofNat]
  exact Nat.mod_eq_of_lt h

/-- The number of points. -/
theorem points_lt (t : Fin cfg0.N) : t.val < 72 := by
  have e : cfg0.N = 72 := N_0
  have := t.isLt
  omega

/-- The rows' place in the grid. -/
theorem place_rows (t : Fin cfg0.N) : (grid0.coords t 0).val = t.val / 4 := by
  rw [Pipeline.Grid.coords_val t 0 (S := 4) (B := 18) (by decide) rfl]
  have := points_lt t
  exact Nat.mod_eq_of_lt (by omega)

/-- The columns' place in the grid. -/
theorem place_cols (t : Fin cfg0.N) : (grid0.coords t 1).val = t.val / 2 % 2 :=
  Pipeline.Grid.coords_val t 1 (S := 2) (B := 2) (by decide) rfl

/-- The step's place in the grid. -/
theorem place_step (t : Fin cfg0.N) : (grid0.coords t 2).val = t.val % 2 := by
  rw [Pipeline.Grid.coords_val t 2 (S := 1) (B := 2) (by decide) rfl, Nat.div_one]

/-- The rows' block at a point. -/
theorem index_rows (t : Fin cfg0.N) : (cfg0.win 0).index t = ![t.val / 4, t.val % 2] := by
  have h : cc0_transform_0 (grid0.coords t) = ![(BitVec.ofNat 32 (grid0.coords t 0).val).toNat, (BitVec.ofNat 32 (grid0.coords t 2).val).toNat] := rfl
  refine Eq.trans (b := cc0_transform_0 (grid0.coords t)) rfl (h.trans ?_)
  have := points_lt t
  rw [place_rows, place_step, small _ (by omega), small _ (by omega)]

/-- The weights' block at a point. -/
theorem index_weights (t : Fin cfg0.N) : (cfg0.win 1).index t = ![t.val % 2, t.val / 2 % 2] := by
  have h : cc0_transform_1 (grid0.coords t) = ![(BitVec.ofNat 32 (grid0.coords t 2).val).toNat, (BitVec.ofNat 32 (grid0.coords t 1).val).toNat] := rfl
  refine Eq.trans (b := cc0_transform_1 (grid0.coords t)) rfl (h.trans ?_)
  rw [place_step, place_cols, small _ (by omega), small _ (by omega)]

/-- The residual's block at a point. -/
theorem index_residual (t : Fin cfg0.N) : (cfg0.win 2).index t = ![t.val / 4, 0, t.val / 2 % 2] := by
  have h : cc0_transform_2 (grid0.coords t) = ![(BitVec.ofNat 32 (grid0.coords t 0).val).toNat, 0, (BitVec.ofNat 32 (grid0.coords t 1).val).toNat] := rfl
  refine Eq.trans (b := cc0_transform_2 (grid0.coords t)) rfl (h.trans ?_)
  have := points_lt t
  rw [place_rows, place_cols, small _ (by omega), small _ (by omega)]

/-- The modulation's block at a point. -/
theorem index_mods (t : Fin cfg0.N) : (cfg0.win 3).index t = ![t.val / 4, 0, 4 + t.val / 2 % 2] := by
  have h : cc0_transform_3 (grid0.coords t) = ![(BitVec.ofNat 32 (grid0.coords t 0).val).toNat, 0, (4#32 + BitVec.ofNat 32 (grid0.coords t 1).val).toNat] := rfl
  refine Eq.trans (b := cc0_transform_3 (grid0.coords t)) rfl (h.trans ?_)
  have := points_lt t
  have e : (4#32 + BitVec.ofNat 32 (t.val / 2 % 2)).toNat = 4 + t.val / 2 % 2 := by
    have hn : (BitVec.ofNat 32 (t.val / 2 % 2)).toNat = t.val / 2 % 2 := small _ (by omega)
    rw [BitVec.toNat_add, hn]
    show (4 + t.val / 2 % 2) % 4294967296 = _
    omega
  rw [place_rows, place_cols, e, small _ (by omega)]

/-- The result's block at a point. -/
theorem index_result (t : Fin cfg0.N) : (cfg0.win 4).index t = ![t.val / 4, 0, t.val / 2 % 2] := by
  have h : cc0_transform_4 (grid0.coords t) = ![(BitVec.ofNat 32 (grid0.coords t 0).val).toNat, 0, (BitVec.ofNat 32 (grid0.coords t 1).val).toNat] := rfl
  refine Eq.trans (b := cc0_transform_4 (grid0.coords t)) rfl (h.trans ?_)
  have := points_lt t
  rw [place_rows, place_cols, small _ (by omega), small _ (by omega)]

/-- A block's product. -/
def part (x : FVec Ideal S1024x1024 .bf16) (w : FVec Ideal S1024x1024 .f32) (r j : Fin 1024) : EReal :=
  ∑ k : Fin 1024, (x (ix2 r k) : EReal) * w (ix2 k j)

/-- A step adds a block's product to the running sum. -/
theorem add_apply (acc : FVec Ideal S1024x1024 .f32) (x : FVec Ideal S1024x1024 .bf16) (w : FVec Ideal S1024x1024 .f32) (r j : Fin 1024) :
    k0_pay2 (F := Ideal) acc x w (ix2 r j) = (acc (ix2 r j) : EReal) + part x w r j := by
  unfold k0_pay2 part
  have h1 : ∀ (A : FVec Ideal S1024x1024 .bf16) (B : FVec Ideal S1024x1024 .bf16),
      (matmul dot_S1024x1024_S1024x1024_S1024x1024_1_0_0_1_n_n none A B (constant S1024x1024 .f32 0x00000000#32) : FVec Ideal S1024x1024 .f32) (ix2 r j)
        = ∑ k : Fin 1024, A (ix2 r k) * B (ix2 k j) := fun A B => by
    pointwise
  have h2 : ∀ A : FVec Ideal S1024x1024 .f32, (shapeCast S1024x1024 A shapeCasts_S1024x1024_S1024x1024 : FVec Ideal S1024x1024 .f32) (ix2 r j) = A (ix2 r j) := fun A => by
    pointwise
  have key : ∀ A B : FVec Ideal S1024x1024 .f32, (addf A B : FVec Ideal S1024x1024 .f32) (ix2 r j) = (A (ix2 r j) : EReal) + B (ix2 r j) := fun _ _ => rfl
  refine (h2 _).trans ((key _ _).trans ?_)
  exact congrArg (fun b : EReal => (acc (ix2 r j) : EReal) + b) (h1 x _)

/-- The running sum starts at zero. -/
theorem zero_apply (r j : Fin 1024) : k0_pay1 (F := Ideal) (ix2 r j) = (0 : EReal) := by
  unfold k0_pay1
  pointwise

/-- The residual and the gated sum. -/
theorem out_apply (acc : FVec Ideal S1024x1024 .f32) (x : FVec Ideal S16x64x1024 .f32) (g : FVec Ideal S16x1x1024 .f32) (a : Fin 16) (q : Fin 64) (j : Fin 1024) :
    k0_pay3 (F := Ideal) acc x g (ix3 a q j)
      = (x (ix3 a q j) : EReal) + (g (ix3 a (0 : Fin 1) j) : EReal) * acc (ix2 (⟨a.val * 64 + q.val, by omega⟩ : Fin 1024) j) := by
  unfold k0_pay3
  have h1 : (shapeCast S16x64x1024 acc shapeCasts_S1024x1024_S16x64x1024 : FVec Ideal S16x64x1024 .f32) (ix3 a q j)
      = acc (ix2 (⟨a.val * 64 + q.val, by omega⟩ : Fin 1024) j) := by
    pointwise
  have h2 : (broadcastTo S16x64x1024 g broadcasts_S16x1x1024_S16x64x1024 : FVec Ideal S16x64x1024 .f32) (ix3 a q j) = g (ix3 a (0 : Fin 1) j) := by
    pointwise
  have key : ∀ A B : FVec Ideal S16x64x1024 .f32, (addf x (mulf A B) : FVec Ideal S16x64x1024 .f32) (ix3 a q j)
      = (x (ix3 a q j) : EReal) + (A (ix3 a q j) : EReal) * B (ix3 a q j) := fun _ _ => rfl
  exact (key _ _).trans (congrArg₂ (fun a' b' : EReal => (x (ix3 a q j) : EReal) + a' * b') h2 h1)

variable (m : (ℓ : Loc nD τ sig) → Buf (Elt Ideal) ℓ)

/-- The rows as the call is given them. -/
abbrev rows : FVec Ideal S18432x2048 .bf16 := m (((0 : Dev nD) : Thread nD τ).loc main_arg0)
/-- The weights as the call is given them. -/
abbrev weights : FVec Ideal S2048x2048 .f32 := m (((0 : Dev nD) : Thread nD τ).loc main_arg1)
/-- The residual as the call is given it. -/
abbrev residual : FVec Ideal S288x64x2048 .f32 := m (((0 : Dev nD) : Thread nD τ).loc main_arg2)
/-- The modulation as the call is given it. -/
abbrev mods : FVec Ideal S288x1x12288 .f32 := m (((0 : Dev nD) : Thread nD τ).loc main_arg3)

/-- The rows of a point. -/
abbrev rowsAt (t : Fin cfg0.N) : FVec Ideal S1024x1024 .bf16 := iblk m (0 : Dev nD) 0 t
/-- The weights of a point. -/
abbrev weightsAt (t : Fin cfg0.N) : FVec Ideal S1024x1024 .f32 := iblk m (0 : Dev nD) 1 t
/-- The residual of a point. -/
abbrev residualAt (t : Fin cfg0.N) : FVec Ideal S16x64x1024 .f32 := iblk m (0 : Dev nD) 2 t
/-- The modulation of a point. -/
abbrev modsAt (t : Fin cfg0.N) : FVec Ideal S16x1x1024 .f32 := iblk m (0 : Dev nD) 3 t

/-- A row times a column of the weights. -/
def dot (X : FVec Ideal S18432x2048 .bf16) (W : FVec Ideal S2048x2048 .f32) (r : Fin 18432) (f : Fin 2048) : EReal :=
  ∑ l : Fin 2048, (X (ix2 r l) : EReal) * W (ix2 l f)

/-- An entry of the result. -/
def entry (X : FVec Ideal S18432x2048 .bf16) (W : FVec Ideal S2048x2048 .f32) (R : FVec Ideal S288x64x2048 .f32) (G : FVec Ideal S288x1x12288 .f32)
    (a : Fin 288) (q : Fin 64) (f : Fin 2048) : EReal :=
  (R (ix3 a q f) : EReal) + (G (ix3 a (0 : Fin 1) (⟨4096 + f.val, by omega⟩ : Fin 12288)) : EReal) * dot X W (⟨a.val * 64 + q.val, by omega⟩ : Fin 18432) f

/-- The whole result. -/
def whole (X : FVec Ideal S18432x2048 .bf16) (W : FVec Ideal S2048x2048 .f32) (R : FVec Ideal S288x64x2048 .f32) (G : FVec Ideal S288x1x12288 .f32) :
    FVec Ideal S288x64x2048 .f32 := fun i =>
  entry X W R G (⟨(i 0).val, (i 0).isLt⟩ : Fin 288) (⟨(i 1).val, (i 1).isLt⟩ : Fin 64) (⟨(i 2).val, (i 2).isLt⟩ : Fin 2048)

/-- The block of rows at a point. -/
theorem block_rows (t : Fin cfg0.N) (r : Fin 1024) (k : Fin 1024) (i : Fin 18432) (l : Fin 2048) (hi : i.val = t.val / 4 * 1024 + r.val)
    (hl : l.val = t.val % 2 * 1024 + k.val) : rowsAt m t (ix2 r k) = rows m (ix2 i l) := by
  have key : rowsAt m t (ix2 r k) = rows m (((cfg0.win 0).rect t).idx (ix2 r k)) := rfl
  refine key.trans (congrArg (rows m) ?_)
  funext (a : Fin 2)
  refine Fin.ext ?_
  match a with
  | ⟨0, _⟩ =>
    exact (congrArg (fun f : Fin 2 → ℕ => f 0 * 1024 + 1 * r.val) (index_rows t)).trans (by show t.val / 4 * 1024 + 1 * r.val = i.val; omega)
  | ⟨1, _⟩ =>
    exact (congrArg (fun f : Fin 2 → ℕ => f 1 * 1024 + 1 * k.val) (index_rows t)).trans (by show t.val % 2 * 1024 + 1 * k.val = l.val; omega)

/-- The block of weights at a point. -/
theorem block_weights (t : Fin cfg0.N) (k : Fin 1024) (j : Fin 1024) (l : Fin 2048) (i : Fin 2048) (hl : l.val = t.val % 2 * 1024 + k.val)
    (hi : i.val = t.val / 2 % 2 * 1024 + j.val) : weightsAt m t (ix2 k j) = weights m (ix2 l i) := by
  have key : weightsAt m t (ix2 k j) = weights m (((cfg0.win 1).rect t).idx (ix2 k j)) := rfl
  refine key.trans (congrArg (weights m) ?_)
  funext (a : Fin 2)
  refine Fin.ext ?_
  match a with
  | ⟨0, _⟩ =>
    exact (congrArg (fun f : Fin 2 → ℕ => f 0 * 1024 + 1 * k.val) (index_weights t)).trans (by show t.val % 2 * 1024 + 1 * k.val = l.val; omega)
  | ⟨1, _⟩ =>
    exact (congrArg (fun f : Fin 2 → ℕ => f 1 * 1024 + 1 * j.val) (index_weights t)).trans (by show t.val / 2 % 2 * 1024 + 1 * j.val = i.val; omega)

/-- The block of the residual at a point. -/
theorem block_residual (t : Fin cfg0.N) (a : Fin 16) (q : Fin 64) (j : Fin 1024) (b : Fin 288) (i : Fin 2048) (hb : b.val = t.val / 4 * 16 + a.val)
    (hi : i.val = t.val / 2 % 2 * 1024 + j.val) : residualAt m t (ix3 a q j) = residual m (ix3 b q i) := by
  have key : residualAt m t (ix3 a q j) = residual m (((cfg0.win 2).rect t).idx (ix3 a q j)) := rfl
  refine key.trans (congrArg (residual m) ?_)
  funext (d : Fin 3)
  refine Fin.ext ?_
  match d with
  | ⟨0, _⟩ =>
    exact (congrArg (fun f : Fin 3 → ℕ => f 0 * 16 + 1 * a.val) (index_residual t)).trans (by show t.val / 4 * 16 + 1 * a.val = b.val; omega)
  | ⟨1, _⟩ =>
    exact (congrArg (fun f : Fin 3 → ℕ => f 1 * 64 + 1 * q.val) (index_residual t)).trans (by show 0 * 64 + 1 * q.val = q.val; omega)
  | ⟨2, _⟩ =>
    exact (congrArg (fun f : Fin 3 → ℕ => f 2 * 1024 + 1 * j.val) (index_residual t)).trans (by show t.val / 2 % 2 * 1024 + 1 * j.val = i.val; omega)

/-- The block of the modulation at a point. -/
theorem block_mods (t : Fin cfg0.N) (a : Fin 16) (j : Fin 1024) (b : Fin 288) (i : Fin 12288) (hb : b.val = t.val / 4 * 16 + a.val)
    (hi : i.val = 4096 + (t.val / 2 % 2 * 1024 + j.val)) : modsAt m t (ix3 a (0 : Fin 1) j) = mods m (ix3 b (0 : Fin 1) i) := by
  have key : modsAt m t (ix3 a (0 : Fin 1) j) = mods m (((cfg0.win 3).rect t).idx (ix3 a (0 : Fin 1) j)) := rfl
  refine key.trans (congrArg (mods m) ?_)
  funext (d : Fin 3)
  refine Fin.ext ?_
  match d with
  | ⟨0, _⟩ =>
    exact (congrArg (fun f : Fin 3 → ℕ => f 0 * 16 + 1 * a.val) (index_mods t)).trans (by show t.val / 4 * 16 + 1 * a.val = b.val; omega)
  | ⟨1, _⟩ =>
    exact (congrArg (fun f : Fin 3 → ℕ => f 1 * 1 + 1 * 0) (index_mods t)).trans rfl
  | ⟨2, _⟩ =>
    exact (congrArg (fun f : Fin 3 → ℕ => f 2 * 1024 + 1 * j.val) (index_mods t)).trans (by show (4 + t.val / 2 % 2) * 1024 + 1 * j.val = i.val; omega)

/-- What the first step of a block leaves in the running sum. -/
theorem first_step (t : Fin cfg0.N) (h0 : t.val % 2 = 0) :
    (outsAt0 m (0 : Dev nD) t.val t.isLt).2 = k0_pay2 (F := Ideal) (k0_pay1 (F := Ideal)) (rowsAt m t) (weightsAt m t) := by
  rw [outsAt0_A m (0 : Dev nD) t h0 (by omega)]
  frame_out

/-- What a later step leaves in it. -/
theorem later_step (t : Fin cfg0.N) (h0 : ¬t.val % 2 = 0) :
    (outsAt0 m (0 : Dev nD) t.val t.isLt).2 = k0_pay2 (F := Ideal)
      (outsAt0 m (0 : Dev nD) (t.val - 1) (Nat.lt_of_le_of_lt (Nat.sub_le _ _) t.isLt)).2 (rowsAt m t) (weightsAt m t) := by
  rw [outsAt0_B m (0 : Dev nD) t h0 (by omega)]
  frame_out
  rw [read_unread_whole]

/-- What the last step of a block stores in the result. -/
theorem last_step (t : Fin cfg0.N) (h1 : t.val % 2 = 1) :
    (outsAt0 m (0 : Dev nD) t.val t.isLt).1 = k0_pay3 (F := Ideal) (outsAt0 m (0 : Dev nD) t.val t.isLt).2 (residualAt m t) (modsAt m t) := by
  rw [later_step m t (by omega), outsAt0_B m (0 : Dev nD) t (by omega) h1]
  frame_out
  rw [read_unread_whole]

/-- At the last step of a block the running sum is the row times the column. -/
theorem summed (t : Fin cfg0.N) (h : t.val % 2 = 1) (r j : Fin 1024) (i : Fin 18432) (f : Fin 2048) (hi : i.val = t.val / 4 * 1024 + r.val)
    (hf : f.val = t.val / 2 % 2 * 1024 + j.val) :
    (outsAt0 m (0 : Dev nD) t.val t.isLt).2 (ix2 r j) = dot (rows m) (weights m) i f := by
  have e := Pipeline.eq_sum_fin_of_reset_step_apply_of_flush (M := EReal) (N := cfg0.N)
    (fun n hn (p : Fin 1024 × Fin 1024) => ((outsAt0 m (0 : Dev nD) n hn).2 (ix2 p.1 p.2) : EReal)) 2 (fun _ => (0 : EReal))
    (fun t p => part (rowsAt m t) (weightsAt m t) p.1 p.2)
    (fun t h p => (congrFun (first_step m t h) (ix2 p.1 p.2)).trans ((add_apply _ _ _ p.1 p.2).trans
      (congrArg (fun a : EReal => a + part (rowsAt m t) (weightsAt m t) p.1 p.2) (zero_apply p.1 p.2))))
    (fun t h p => (congrFun (later_step m t h) (ix2 p.1 p.2)).trans (add_apply _ _ _ p.1 p.2))
    t h (r, j)
  refine e.trans ((zero_add _).trans ?_)
  unfold part dot
  refine Fin.sum_mul_add_congr fun s k hl => ?_
  have hs := s.isLt
  exact congrArg₂ (fun a b : EReal => a * b)
    (block_rows m _ r k i ⟨s.val * 1024 + k.val, hl⟩ (by show i.val = (2 * (t.val / 2) + s.val) / 4 * 1024 + r.val; omega)
      (by show s.val * 1024 + k.val = (2 * (t.val / 2) + s.val) % 2 * 1024 + k.val; omega))
    (block_weights m _ k j ⟨s.val * 1024 + k.val, hl⟩ f (by show s.val * 1024 + k.val = (2 * (t.val / 2) + s.val) % 2 * 1024 + k.val; omega)
      (by show f.val = (2 * (t.val / 2) + s.val) / 2 % 2 * 1024 + j.val; omega))

/-- What the last step of a block stores is the whole's entry. -/
theorem stored_whole (t : Fin cfg0.N) (h : t.val % 2 = 1) (a : Fin 16) (q : Fin 64) (j : Fin 1024) (i : S288x64x2048.Idx)
    (h0 : (i 0).val = t.val / 4 * 16 + a.val) (h1 : (i 1).val = q.val) (h2 : (i 2).val = t.val / 2 % 2 * 1024 + j.val) :
    (outsAt0 m (0 : Dev nD) t.val t.isLt).1 (ix3 a q j) = whole (rows m) (weights m) (residual m) (mods m) i := by
  refine (congrFun (last_step m t h) (ix3 a q j)).trans ((out_apply _ _ _ a q j).trans ?_)
  have hq : (⟨(i 1).val, (i 1).isLt⟩ : Fin 64) = q := Fin.ext h1
  unfold whole entry
  rw [hq]
  refine congrArg₂ (fun a b : EReal => a + b) (block_residual m t a q j _ _ h0 h2) ?_
  refine congrArg₂ (fun a b : EReal => a * b) (block_mods m t a j _ _ h0 (by show 4096 + (i 2).val = _; omega)) ?_
  exact summed m t h _ j _ _ (by show (i 0).val * 64 + q.val = t.val / 4 * 1024 + (a.val * 64 + q.val); omega) h2

/-- What a storing point writes back is the whole's block there. -/
theorem writes_whole (t : Fin cfg0.N) (hf : (cfg0.win 4).flush t = true) :
    (dats m 0 (0 : Dev nD)).flushed 4 t = ((cfg0.win 4).blk t).view.read (Elt Ideal) (whole (rows m) (weights m) (residual m) (mods m)) := by
  refine Eq.trans (b := (dats m 0 (0 : Dev nD)).after 4 t) rfl ?_
  rw [after0_4]
  funext (y : S16x64x1024.Idx)
  obtain ⟨a, q, j, rfl⟩ : ∃ (a : Fin 16) (q : Fin 64) (j : Fin 1024), y = ix3 a q j := ⟨y 0, y 1, y 2, by
    funext (d : Fin 3)
    match d with
    | ⟨0, _⟩ => rfl
    | ⟨1, _⟩ => rfl
    | ⟨2, _⟩ => rfl⟩
  have key : ∀ V : FVec Ideal S288x64x2048 .f32, ((cfg0.win 4).blk t).view.read (Elt Ideal) V (ix3 a q j) = V (((cfg0.win 4).rect t).idx (ix3 a q j)) := fun _ => rfl
  refine Eq.trans ?_ (key _).symm
  refine stored_whole m t ((flush0_4 t).mp hf) a q j _ ?_ ?_ ?_
  · exact (congrArg (fun f : Fin 3 → ℕ => f 0 * 16 + 1 * a.val) (index_result t)).trans (by show t.val / 4 * 16 + 1 * a.val = _; omega)
  · exact (congrArg (fun f : Fin 3 → ℕ => f 1 * 64 + 1 * q.val) (index_result t)).trans (by show 0 * 64 + 1 * q.val = _; omega)
  · exact (congrArg (fun f : Fin 3 → ℕ => f 2 * 1024 + 1 * j.val) (index_result t)).trans (by show t.val / 2 % 2 * 1024 + 1 * j.val = _; omega)

/-- At the end the result is the whole. -/
theorem ends_whole : (dats m 0 (0 : Dev nD)).arrAt 4 cfg0.N = whole (rows m) (weights m) (residual m) (mods m) := by
  funext (i : S288x64x2048.Idx)
  have i0 : (i 0).val < 288 := (i 0).isLt
  have i1 : (i 1).val < 64 := (i 1).isLt
  have i2 : (i 2).val < 2048 := (i 2).isLt
  have eN : cfg0.N = 72 := N_0
  have hlt : (i 0).val / 16 * 4 + (i 2).val / 1024 * 2 + 1 < cfg0.N := by rw [eN]; omega
  let t : Fin cfg0.N := ⟨(i 0).val / 16 * 4 + (i 2).val / 1024 * 2 + 1, hlt⟩
  have t0 : t.val / 4 = (i 0).val / 16 := by show ((i 0).val / 16 * 4 + (i 2).val / 1024 * 2 + 1) / 4 = _; omega
  have t1 : t.val / 2 % 2 = (i 2).val / 1024 := by show ((i 0).val / 16 * 4 + (i 2).val / 1024 * 2 + 1) / 2 % 2 = _; omega
  have t2 : t.val % 2 = 1 := by show ((i 0).val / 16 * 4 + (i 2).val / 1024 * 2 + 1) % 2 = _; omega
  refine Dat.arrAt_apply_of_mem (dats m 0 (0 : Dev nD)) 4 (whole (rows m) (weights m) (residual m) (mods m)) (fun t hf => writes_whole m t hf) cfg0.N t i t.isLt
    ((flush0_4 t).mpr t2) ?_
  have e : ((cfg0.win 4).blk t).view.emb (ix3 (⟨(i 0).val % 16, Nat.mod_lt _ (by decide)⟩ : Fin 16) (⟨(i 1).val, i1⟩ : Fin 64)
      (⟨(i 2).val % 1024, Nat.mod_lt _ (by decide)⟩ : Fin 1024)) = i := by
    funext (d : Fin 3)
    refine Fin.ext ?_
    match d with
    | ⟨0, _⟩ =>
      exact (congrArg (fun f : Fin 3 → ℕ => f 0 * 16 + 1 * ((i 0).val % 16)) (index_result t)).trans
        (by show t.val / 4 * 16 + 1 * ((i 0).val % 16) = (i 0).val; omega)
    | ⟨1, _⟩ =>
      exact (congrArg (fun f : Fin 3 → ℕ => f 1 * 64 + 1 * (i 1).val) (index_result t)).trans
        (by show 0 * 64 + 1 * (i 1).val = (i 1).val; omega)
    | ⟨2, _⟩ =>
      exact (congrArg (fun f : Fin 3 → ℕ => f 2 * 1024 + 1 * ((i 2).val % 1024)) (index_result t)).trans
        (by show t.val / 2 % 2 * 1024 + 1 * ((i 2).val % 1024) = (i 2).val; omega)
  exact e ▸ ((cfg0.win 4).blk t).view.emb_mem_set _

end Cert.MmOutIdeal.Dense

namespace Cert.RefMmOutIdeal.Dense

open Idealize.ShloMosaic Idealize.SL.Sem
open Cert.RefMmOutIdeal Cert.RefMmOutIdeal.Gen

/-- The product entry by entry. -/
theorem dot_apply (A : FVec Ideal S18432x2048 .f32) (B : FVec Ideal S2048x2048 .f32) (r : Fin 18432) (f : Fin 2048) :
    Host.dotGeneral (F := Ideal) (φ₁ := .f32) (φ₂ := .f32) dot_S18432x2048_S2048x2048_S18432x2048_1_0_0_1_n_n none A B (ix2 r f)
      = ∑ l : Fin 2048, A (ix2 r l) * B (ix2 l f) := by
  pointwise

/-- The product's rows by group. -/
theorem grouped (D : FVec Ideal S18432x2048 .f32) (a : Fin 288) (q : Fin 64) (f : Fin 2048) :
    (shapeCast S288x64x2048 D shapeCasts_S18432x2048_S288x64x2048 : FVec Ideal S288x64x2048 .f32) (ix3 a q f)
      = D (ix2 (⟨a.val * 64 + q.val, by omega⟩ : Fin 18432) f) := by
  pointwise

/-- The gate of every row of a group. -/
theorem spread (G : FVec Ideal S288x1x2048 .f32) (a : Fin 288) (q : Fin 64) (f : Fin 2048) :
    (broadcastInDim S288x64x2048 ![0, 1, 2] bcast_S288x1x2048_S288x64x2048_0_1_2 G : FVec Ideal S288x64x2048 .f32) (ix3 a q f) = G (ix3 a (0 : Fin 1) f) := by
  pointwise

/-- The gate within the modulation. -/
theorem gate (G : FVec Ideal S288x1x12288 .f32) (a : Fin 288) (f : Fin 2048) :
    (extractStridedSlice S288x1x2048 ![0, 0, 4096] G slices_S288x1x12288_S288x1x2048_0_0_4096 : FVec Ideal S288x1x2048 .f32) (ix3 a (0 : Fin 1) f)
      = G (ix3 a (0 : Fin 1) (⟨4096 + f.val, by omega⟩ : Fin 12288)) := by
  pointwise

/-- The reference's array. -/
def joined (X : FVec Ideal S18432x2048 .bf16) (W : FVec Ideal S2048x2048 .f32) (R : FVec Ideal S288x64x2048 .f32) (G : FVec Ideal S288x1x12288 .f32) :
    FVec Ideal S288x64x2048 .f32 :=
  addf R (mulf (broadcastInDim S288x64x2048 ![0, 1, 2] bcast_S288x1x2048_S288x64x2048_0_1_2
      (extractStridedSlice S288x1x2048 ![0, 0, 4096] G slices_S288x1x12288_S288x1x2048_0_0_4096))
    (shapeCast S288x64x2048 (Host.dotGeneral (F := Ideal) (φ₁ := .f32) (φ₂ := .f32) dot_S18432x2048_S2048x2048_S18432x2048_1_0_0_1_n_n none
      (extf .f32 X bitsLt_bf16_f32 : FVec Ideal S18432x2048 .f32) W) shapeCasts_S18432x2048_S288x64x2048))

/-- That array is the whole. -/
theorem joined_whole (X : FVec Ideal S18432x2048 .bf16) (W : FVec Ideal S2048x2048 .f32) (R : FVec Ideal S288x64x2048 .f32) (G : FVec Ideal S288x1x12288 .f32) :
    joined X W R G = Cert.MmOutIdeal.Dense.whole X W R G := by
  funext (i : S288x64x2048.Idx)
  obtain ⟨a, q, f, rfl⟩ : ∃ (a : Fin 288) (q : Fin 64) (f : Fin 2048), i = ix3 a q f := ⟨i 0, i 1, i 2, by
    funext (d : Fin 3)
    match d with
    | ⟨0, _⟩ => rfl
    | ⟨1, _⟩ => rfl
    | ⟨2, _⟩ => rfl⟩
  have key : ∀ A B : FVec Ideal S288x64x2048 .f32, (addf R (mulf A B) : FVec Ideal S288x64x2048 .f32) (ix3 a q f)
      = (R (ix3 a q f) : EReal) + (A (ix3 a q f) : EReal) * B (ix3 a q f) := fun _ _ => rfl
  have same : Cert.MmOutIdeal.Dense.whole X W R G (ix3 a q f) = Cert.MmOutIdeal.Dense.entry X W R G a q f := rfl
  refine Eq.trans ?_ same.symm
  unfold joined Cert.MmOutIdeal.Dense.entry Cert.MmOutIdeal.Dense.dot
  refine (key _ _).trans ?_
  refine congrArg₂ (fun x y : EReal => (R (ix3 a q f) : EReal) + x * y) ((spread _ a q f).trans (gate G a f)) ?_
  exact (grouped _ a q f).trans ((dot_apply _ _ _ f).trans rfl)

end Cert.RefMmOutIdeal.Dense

namespace Cert.Proof

open Idealize.ShloMosaic Idealize.SL.Sem

/-- The output projection runs and leaves its arguments as they were. -/
theorem frame_mm_out : Cert.quiescent_MmOut := fun m ρ _ => Cert.MmOut.Gen.frame m ρ

/-- The same of the idealized one. -/
theorem frame_mm_out_ideal : Cert.quiescent_MmOutIdeal := fun m ρ _ => Cert.MmOutIdeal.Gen.frame m ρ

/-- Its reference runs and keeps its arguments. -/
theorem frame_mm_out_reference : Cert.quiescent_RefMmOutIdeal := fun m ρ _ =>
  (θ_run (Cert.RefMmOutIdeal.defs (F := Ideal)) _ _).mono (fun r h => ⟨fun c => (h c).2, sem_eq_zero_of_no_sems (by decide) r.2⟩)
    (Cert.RefMmOutIdeal.Value.run (F := Ideal) m ρ)

/-- The output projection: its array and its reference's are equal, element by element. -/
theorem mm_out_equal : Cert.algebraic_MmOutIdeal_RefMmOutIdeal := fun m g m' g' _ hag => by
  refine ⟨fun _ => Cert.MmOutIdeal.Dense.whole (Cert.MmOutIdeal.Dense.rows m) (Cert.MmOutIdeal.Dense.weights m) (Cert.MmOutIdeal.Dense.residual m) (Cert.MmOutIdeal.Dense.mods m), ?_, ?_⟩
  · refine (θ_run (Cert.MmOutIdeal.defs (F := Ideal)) _ _).mono (fun r hr c => ?_) (Cert.MmOutIdeal.Value.run_blocks (F := Ideal) m g)
    obtain ⟨h2, ha⟩ := hr c
    obtain rfl : c = 0 := Subsingleton.elim _ _
    exact ⟨h2.trans (Cert.MmOutIdeal.Dense.ends_whole m), ha⟩
  · refine (θ_run (Cert.RefMmOutIdeal.defs (F := Ideal)) _ _).mono (fun r hr c => ?_) (Cert.RefMmOutIdeal.Value.run (F := Ideal) m' g')
    obtain ⟨h2, ha⟩ := hr c
    obtain rfl : c = 0 := Subsingleton.elim _ _
    have key : ∀ (X : FVec Ideal Cert.MmOutIdeal.S18432x2048 .bf16) (W : FVec Ideal Cert.MmOutIdeal.S2048x2048 .f32) (R : FVec Ideal Cert.MmOutIdeal.S288x64x2048 .f32)
        (G : FVec Ideal Cert.MmOutIdeal.S288x1x12288 .f32),
        X = Cert.MmOutIdeal.Dense.rows m → W = Cert.MmOutIdeal.Dense.weights m → R = Cert.MmOutIdeal.Dense.residual m → G = Cert.MmOutIdeal.Dense.mods m →
        Cert.RefMmOutIdeal.Dense.joined X W R G
          = Cert.MmOutIdeal.Dense.whole (Cert.MmOutIdeal.Dense.rows m) (Cert.MmOutIdeal.Dense.weights m) (Cert.MmOutIdeal.Dense.residual m) (Cert.MmOutIdeal.Dense.mods m) := by
      rintro _ _ _ _ rfl rfl rfl rfl
      exact Cert.RefMmOutIdeal.Dense.joined_whole _ _ _ _
    exact ⟨h2.trans (key _ _ _ _ (hag 0).1 (hag 0).2.1 (hag 0).2.2.1 (hag 0).2.2.2), ha⟩

end Cert.Proof

end
-- ==== Proof.Dense.NormEqual.lean ====
/- The last norm: the normed residual, split in the prompts' rows and the samples', is the reference's. -/
module

public import proofs.«01_k».proof.Defs
public import proofs.«01_k».proof.Proof.Gen.NormFinal.Frame
public import proofs.«01_k».proof.Proof.Gen.NormFinalIdeal.Frame
public import proofs.«01_k».proof.Proof.Gen.RefNormFinalIdeal.Run
public import Idealize.ShloMosaic.Lib.Pointwise
public import Idealize.ShloMosaic.Lib.Pipeline.Value
public import Idealize.ShloMosaic.Lib.Pipeline.ValueKit.Basic
public import Idealize.ShloMosaic.Lib.StableHlo.Run

@[expose] public section

set_option maxHeartbeats 4000000
set_option maxRecDepth 16384

noncomputable section

namespace Cert.NormFinalIdeal.Dense

open Idealize.ShloMosaic Idealize.ShloMosaic.TcCoe Idealize.SL.Sem Idealize.ShloMosaic.StableHlo
open Idealize.ShloMosaic.Pipeline (Dat Cfg Window)
open Cert.NormFinalIdeal Cert.NormFinalIdeal.Gen

/-- An entry of a row divided by the row's root mean square, times its gain. -/
def normed (x : Fin 2048 → EReal) (g : EReal) (f : Fin 2048) : EReal :=
  x f * Ideal.rsqrt (Ideal.div (∑ k : Fin 2048, x k * x k) (Ideal.ofBits .f32 0x45000000#32) + Ideal.ofBits .f32 0x358637BD#32) * g

/-- A small number survives its word. -/
theorem small (n : ℕ) (h : n < 4294967296) : (BitVec.ofNat 32 n).toNat = n := by
  rw [BitVec.toNat_ofNat]
  exact Nat.mod_eq_of_lt h

/-- The number of points. -/
theorem points_lt (t : Fin cfg0.N) : t.val < 36 := by
  have e : cfg0.N = 36 := N_0
  have := t.isLt
  omega

/-- The point's place in the grid. -/
theorem place (t : Fin cfg0.N) : (grid0.coords t 0).val = t.val := by
  rw [Pipeline.Grid.coords_val t 0 (S := 1) (B := 36) (by decide) rfl, Nat.div_one]
  exact Nat.mod_eq_of_lt (points_lt t)

/-- The rows' block at a point. -/
theorem index_rows (t : Fin cfg0.N) : (cfg0.win 0).index t = ![t.val, 0, 0] := by
  have h : cc0_transform_0 (grid0.coords t) = ![(BitVec.ofNat 32 (grid0.coords t 0).val).toNat, 0, 0] := rfl
  refine Eq.trans (b := cc0_transform_0 (grid0.coords t)) rfl (h.trans ?_)
  have := points_lt t
  rw [place, small _ (by omega)]

/-- The gain's block at a point. -/
theorem index_gain (t : Fin cfg0.N) : (cfg0.win 1).index t = ![0, 0, 0] := rfl

/-- The result's block at a point. -/
theorem index_result (t : Fin cfg0.N) : (cfg0.win 2).index t = ![t.val, 0, 0] := by
  have h : cc0_transform_2 (grid0.coords t) = ![(BitVec.ofNat 32 (grid0.coords t 0).val).toNat, 0, 0] := rfl
  refine Eq.trans (b := cc0_transform_2 (grid0.coords t)) rfl (h.trans ?_)
  have := points_lt t
  rw [place, small _ (by omega)]

/-- A block loaded whole starts at zero on each axis. -/
theorem zero3 : ∀ a : Fin 3, (![0, 0, 0] : Fin 3 → ℕ) a = 0 := by decide

/-- The body entry by entry. -/
theorem pay_apply (x : FVec Ideal S8x64x2048 .f32) (g : FVec Ideal S1x1x2048 .f32) (a : Fin 8) (q : Fin 64) (f : Fin 2048) :
    k0_pay1 (F := Ideal) x g (ix3 a q f) = normed (fun k => x (ix3 a q k)) (g (ix3 (0 : Fin 1) (0 : Fin 1) f)) f := by
  unfold k0_pay1 normed
  pointwise

/-- What a point stores, entry by entry. -/
theorem out_apply (x : FVec Ideal S8x64x2048 .f32) (g : FVec Ideal S1x1x2048 .f32) (a : Fin 8) (q : Fin 64) (f : Fin 2048) :
    out0_2 (F := Ideal) x g (ix3 a q f) = normed (fun k => x (ix3 a q k)) (g (ix3 (0 : Fin 1) (0 : Fin 1) f)) f := by
  unfold out0_2
  refine (congrFun (View.canon_cons_unit_lit inb_S8x64x2048_S8x64x2048_0_0_0 _ _ (by decide)) (ix3 a q f)).trans ?_
  exact (congrArg₂ (fun u v => k0_pay1 (F := Ideal) u v (ix3 a q f)) (View.ld_unit_lit (Val := Elt Ideal) (e := .f32) (S := S8x64x2048) inb_S8x64x2048_S8x64x2048_0_0_0 x zero3)
    (View.ld_unit_lit (Val := Elt Ideal) (e := .f32) (S := S1x1x2048) inb_S1x1x2048_S1x1x2048_0_0_0 g zero3)).trans (pay_apply x g a q f)

/-- The whole result. -/
def whole (X : FVec Ideal S288x64x2048 .f32) (G : FVec Ideal S2048 .f32) : FVec Ideal S288x64x2048 .f32 := fun i =>
  normed (fun k => X (ix3 (⟨(i 0).val, (i 0).isLt⟩ : Fin 288) (⟨(i 1).val, (i 1).isLt⟩ : Fin 64) k)) (G (ix1 (⟨(i 2).val, (i 2).isLt⟩ : Fin 2048)))
    (⟨(i 2).val, (i 2).isLt⟩ : Fin 2048)

variable (m : (ℓ : Loc nD τ sig) → Buf (Elt Ideal) ℓ)

/-- The residual as the call is given it. -/
abbrev rows : FVec Ideal S288x64x2048 .f32 := m (((0 : Dev nD) : Thread nD τ).loc main_arg0)
/-- The gain as the call is given it. -/
abbrev gain : FVec Ideal S2048 .f32 := m (((0 : Dev nD) : Thread nD τ).loc main_arg1)

/-- The rows of a point. -/
abbrev rowsAt (t : Fin cfg0.N) : FVec Ideal S8x64x2048 .f32 := iblk m (0 : Dev nD) 0 t
/-- The gain of a point. -/
abbrev gainAt (t : Fin cfg0.N) : FVec Ideal S1x1x2048 .f32 := iblk m (0 : Dev nD) 1 t

/-- The gain as the kernel reads it is the argument with two more axes. -/
theorem gain_spread : V m (0 : Dev nD) main_v0 = (shapeCast S1x1x2048 (gain m) shapeCasts_S2048_S1x1x2048 : FVec Ideal S1x1x2048 .f32) := by
  show StableHlo.after hostOps0 _ _ = _
  after_results_simp <;> rfl

/-- The gain's entry among them. -/
theorem spread_apply (G : FVec Ideal S2048 .f32) (f : Fin 2048) :
    (shapeCast S1x1x2048 G shapeCasts_S2048_S1x1x2048 : FVec Ideal S1x1x2048 .f32) (ix3 (0 : Fin 1) (0 : Fin 1) f) = G (ix1 f) := by
  pointwise

/-- The block of rows at a point. -/
theorem block_rows (t : Fin cfg0.N) (a : Fin 8) (q : Fin 64) (k : Fin 2048) (b : Fin 288) (hb : b.val = t.val * 8 + a.val) :
    rowsAt m t (ix3 a q k) = rows m (ix3 b q k) := by
  have key : rowsAt m t (ix3 a q k) = V m (0 : Dev nD) main_arg0 (((cfg0.win 0).rect t).idx (ix3 a q k)) := rfl
  refine key.trans ((congrFun (V_main_arg0 m (0 : Dev nD)) _).trans (congrArg (rows m) ?_))
  funext (d : Fin 3)
  refine Fin.ext ?_
  match d with
  | ⟨0, _⟩ =>
    exact (congrArg (fun f : Fin 3 → ℕ => f 0 * 8 + 1 * a.val) (index_rows t)).trans (by show t.val * 8 + 1 * a.val = b.val; omega)
  | ⟨1, _⟩ =>
    exact (congrArg (fun f : Fin 3 → ℕ => f 1 * 64 + 1 * q.val) (index_rows t)).trans (by show 0 * 64 + 1 * q.val = q.val; omega)
  | ⟨2, _⟩ =>
    exact (congrArg (fun f : Fin 3 → ℕ => f 2 * 2048 + 1 * k.val) (index_rows t)).trans (by show 0 * 2048 + 1 * k.val = k.val; omega)

/-- The block of the gain at a point. -/
theorem block_gain (t : Fin cfg0.N) (f : Fin 2048) : gainAt m t (ix3 (0 : Fin 1) (0 : Fin 1) f) = gain m (ix1 f) := by
  have key : gainAt m t (ix3 (0 : Fin 1) (0 : Fin 1) f) = V m (0 : Dev nD) main_v0 (((cfg0.win 1).rect t).idx (ix3 (0 : Fin 1) (0 : Fin 1) f)) := rfl
  have e : ((cfg0.win 1).rect t).idx (ix3 (0 : Fin 1) (0 : Fin 1) f) = ix3 (0 : Fin 1) (0 : Fin 1) f := by
    funext (d : Fin 3)
    refine Fin.ext ?_
    match d with
    | ⟨0, _⟩ => exact (congrArg (fun h : Fin 3 → ℕ => h 0 * 1 + 1 * 0) (index_gain t)).trans rfl
    | ⟨1, _⟩ => exact (congrArg (fun h : Fin 3 → ℕ => h 1 * 1 + 1 * 0) (index_gain t)).trans rfl
    | ⟨2, _⟩ =>
      exact (congrArg (fun h : Fin 3 → ℕ => h 2 * 2048 + 1 * f.val) (index_gain t)).trans (by show 0 * 2048 + 1 * f.val = f.val; omega)
  rw [key, e, gain_spread]
  exact spread_apply _ f

/-- What a point stores is the whole's entry. -/
theorem point_whole (t : Fin cfg0.N) (a : Fin 8) (q : Fin 64) (f : Fin 2048) (i : S288x64x2048.Idx)
    (h0 : (i 0).val = t.val * 8 + a.val) (h1 : (i 1).val = q.val) (h2 : (i 2).val = f.val) :
    out0_2 (F := Ideal) (rowsAt m t) (gainAt m t) (ix3 a q f) = whole (rows m) (gain m) i := by
  refine (out_apply _ _ a q f).trans ?_
  have hq : (⟨(i 1).val, (i 1).isLt⟩ : Fin 64) = q := Fin.ext h1
  have hf : (⟨(i 2).val, (i 2).isLt⟩ : Fin 2048) = f := Fin.ext h2
  unfold whole
  rw [hq, hf]
  exact congrArg₂ (fun u v => normed u v f) (funext fun k => block_rows m t a q k _ h0) (block_gain m t f)

/-- What a point writes back is the whole's block there. -/
theorem writes_whole (t : Fin cfg0.N) :
    (dats m 0 (0 : Dev nD)).flushed 2 t = ((cfg0.win 2).blk t).view.read (Elt Ideal) (whole (rows m) (gain m)) := by
  refine Eq.trans (b := (dats m 0 (0 : Dev nD)).after 2 t) rfl ?_
  rw [after0_2]
  funext (y : S8x64x2048.Idx)
  obtain ⟨a, q, f, rfl⟩ : ∃ (a : Fin 8) (q : Fin 64) (f : Fin 2048), y = ix3 a q f := ⟨y 0, y 1, y 2, by
    funext (d : Fin 3)
    match d with
    | ⟨0, _⟩ => rfl
    | ⟨1, _⟩ => rfl
    | ⟨2, _⟩ => rfl⟩
  have key : ∀ V : FVec Ideal S288x64x2048 .f32, ((cfg0.win 2).blk t).view.read (Elt Ideal) V (ix3 a q f) = V (((cfg0.win 2).rect t).idx (ix3 a q f)) := fun _ => rfl
  refine Eq.trans ?_ (key _).symm
  refine point_whole m t a q f _ ?_ ?_ ?_
  · exact (congrArg (fun h : Fin 3 → ℕ => h 0 * 8 + 1 * a.val) (index_result t)).trans (by show t.val * 8 + 1 * a.val = _; omega)
  · exact (congrArg (fun h : Fin 3 → ℕ => h 1 * 64 + 1 * q.val) (index_result t)).trans (by show 0 * 64 + 1 * q.val = _; omega)
  · exact (congrArg (fun h : Fin 3 → ℕ => h 2 * 2048 + 1 * f.val) (index_result t)).trans (by show 0 * 2048 + 1 * f.val = _; omega)

/-- At the end the normed array is the whole. -/
theorem ends_whole : (dats m 0 (0 : Dev nD)).arrAt 2 cfg0.N = whole (rows m) (gain m) := by
  funext (i : S288x64x2048.Idx)
  have i0 : (i 0).val < 288 := (i 0).isLt
  have i1 : (i 1).val < 64 := (i 1).isLt
  have i2 : (i 2).val < 2048 := (i 2).isLt
  have eN : cfg0.N = 36 := N_0
  have hlt : (i 0).val / 8 < cfg0.N := by rw [eN]; omega
  let t : Fin cfg0.N := ⟨(i 0).val / 8, hlt⟩
  refine Dat.arrAt_apply_of_mem (dats m 0 (0 : Dev nD)) 2 (whole (rows m) (gain m)) (fun t _ => writes_whole m t) cfg0.N t i t.isLt (flush0_2 t) ?_
  have e : ((cfg0.win 2).blk t).view.emb (ix3 (⟨(i 0).val % 8, Nat.mod_lt _ (by decide)⟩ : Fin 8) (⟨(i 1).val, i1⟩ : Fin 64) (⟨(i 2).val, i2⟩ : Fin 2048)) = i := by
    funext (d : Fin 3)
    refine Fin.ext ?_
    match d with
    | ⟨0, _⟩ =>
      exact (congrArg (fun h : Fin 3 → ℕ => h 0 * 8 + 1 * ((i 0).val % 8)) (index_result t)).trans
        (by show (i 0).val / 8 * 8 + 1 * ((i 0).val % 8) = (i 0).val; omega)
    | ⟨1, _⟩ =>
      exact (congrArg (fun h : Fin 3 → ℕ => h 1 * 64 + 1 * (i 1).val) (index_result t)).trans
        (by show 0 * 64 + 1 * (i 1).val = (i 1).val; omega)
    | ⟨2, _⟩ =>
      exact (congrArg (fun h : Fin 3 → ℕ => h 2 * 2048 + 1 * (i 2).val) (index_result t)).trans
        (by show 0 * 2048 + 1 * (i 2).val = (i 2).val; omega)
  exact e ▸ ((cfg0.win 2).blk t).view.emb_mem_set _

/-- The prompts' rows of the normed array. -/
def prompts (Y : FVec Ideal S288x64x2048 .f32) : FVec Ideal S4x4096x2048 .f32 :=
  shapeCast S4x4096x2048 (extractStridedSlice S16384x2048 ![0, 0] (shapeCast S18432x2048 Y shapeCasts_S288x64x2048_S18432x2048 : FVec Ideal S18432x2048 .f32)
    slices_S18432x2048_S16384x2048_0_0 : FVec Ideal S16384x2048 .f32) shapeCasts_S16384x2048_S4x4096x2048

/-- The samples' rows of the normed array. -/
def samples (Y : FVec Ideal S288x64x2048 .f32) : FVec Ideal S32x64x2048 .f32 :=
  shapeCast S32x64x2048 (extractStridedSlice S2048x2048 ![16384, 0] (shapeCast S18432x2048 Y shapeCasts_S288x64x2048_S18432x2048 : FVec Ideal S18432x2048 .f32)
    slices_S18432x2048_S2048x2048_16384_0 : FVec Ideal S2048x2048 .f32) shapeCasts_S2048x2048_S32x64x2048

/-- The operations after the kernel leave the prompts' rows in the first result. -/
theorem read_prompts (W : Valuation τ sig (Elt Ideal)) : StableHlo.after (List.flatten [hostOps1]) W (Proc.devRef .tc main_v4) = prompts (W (Proc.devRef .tc main_v1)) := by
  unfold prompts
  show StableHlo.after hostOps1 W _ = _
  after_results_simp
  try rfl

/-- They leave the samples' rows in the second. -/
theorem read_samples (W : Valuation τ sig (Elt Ideal)) : StableHlo.after (List.flatten [hostOps1]) W (Proc.devRef .tc main_v6) = samples (W (Proc.devRef .tc main_v1)) := by
  unfold samples
  show StableHlo.after hostOps1 W _ = _
  after_results_simp
  try rfl

/-- The first result is the prompts' rows. -/
theorem tail_prompts : Pipeline.afterTail₀ cfgs (dats m) 0 (V0 m) [hostOps1] (0 : Dev nD) main_v4 = prompts ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v1)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_prompts _).trans (congrArg prompts h)

/-- The second result is the samples' rows. -/
theorem tail_samples : Pipeline.afterTail₀ cfgs (dats m) 0 (V0 m) [hostOps1] (0 : Dev nD) main_v6 = samples ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v1)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_samples _).trans (congrArg samples h)

/-- The groups laid out as rows. -/
theorem flat_apply (Y : FVec Ideal S288x64x2048 .f32) (r : Fin 18432) (f : Fin 2048) :
    (shapeCast S18432x2048 Y shapeCasts_S288x64x2048_S18432x2048 : FVec Ideal S18432x2048 .f32) (ix2 r f)
      = Y (ix3 (⟨r.val / 64, by omega⟩ : Fin 288) (⟨r.val % 64, by omega⟩ : Fin 64) f) := by
  pointwise

/-- A prompt's row. -/
theorem prompts_apply (Y : FVec Ideal S288x64x2048 .f32) (b : Fin 4) (t : Fin 4096) (f : Fin 2048) :
    prompts Y (ix3 b t f) = Y (ix3 (⟨(b.val * 4096 + t.val) / 64, by omega⟩ : Fin 288) (⟨(b.val * 4096 + t.val) % 64, by omega⟩ : Fin 64) f) := by
  unfold prompts
  have h1 : ∀ Z : FVec Ideal S16384x2048 .f32, (shapeCast S4x4096x2048 Z shapeCasts_S16384x2048_S4x4096x2048 : FVec Ideal S4x4096x2048 .f32) (ix3 b t f)
      = Z (ix2 (⟨b.val * 4096 + t.val, by omega⟩ : Fin 16384) f) := fun Z => by
    pointwise
  have h2 : ∀ Z : FVec Ideal S18432x2048 .f32, (extractStridedSlice S16384x2048 ![0, 0] Z slices_S18432x2048_S16384x2048_0_0 : FVec Ideal S16384x2048 .f32)
      (ix2 (⟨b.val * 4096 + t.val, by omega⟩ : Fin 16384) f) = Z (ix2 (⟨b.val * 4096 + t.val, by omega⟩ : Fin 18432) f) := fun Z => by
    pointwise
  exact (h1 _).trans ((h2 _).trans (flat_apply Y _ f))

/-- A sample's row. -/
theorem samples_apply (Y : FVec Ideal S288x64x2048 .f32) (b : Fin 32) (t : Fin 64) (f : Fin 2048) :
    samples Y (ix3 b t f) = Y (ix3 (⟨256 + b.val, by omega⟩ : Fin 288) t f) := by
  unfold samples
  have h1 : ∀ Z : FVec Ideal S2048x2048 .f32, (shapeCast S32x64x2048 Z shapeCasts_S2048x2048_S32x64x2048 : FVec Ideal S32x64x2048 .f32) (ix3 b t f)
      = Z (ix2 (⟨b.val * 64 + t.val, by omega⟩ : Fin 2048) f) := fun Z => by
    pointwise
  have h2 : ∀ Z : FVec Ideal S18432x2048 .f32, (extractStridedSlice S2048x2048 ![16384, 0] Z slices_S18432x2048_S2048x2048_16384_0 : FVec Ideal S2048x2048 .f32)
      (ix2 (⟨b.val * 64 + t.val, by omega⟩ : Fin 2048) f) = Z (ix2 (⟨16384 + (b.val * 64 + t.val), by omega⟩ : Fin 18432) f) := fun Z => by
    pointwise
  refine (h1 _).trans ((h2 _).trans ((flat_apply Y _ f).trans ?_))
  have e1 : (⟨(16384 + (b.val * 64 + t.val)) / 64, by omega⟩ : Fin 288) = ⟨256 + b.val, by omega⟩ := Fin.ext (by show (16384 + (b.val * 64 + t.val)) / 64 = 256 + b.val; omega)
  have e2 : (⟨(16384 + (b.val * 64 + t.val)) % 64, by omega⟩ : Fin 64) = t := Fin.ext (by show (16384 + (b.val * 64 + t.val)) % 64 = t.val; omega)
  exact congrArg₂ (fun u v => Y (ix3 u v f)) e1 e2

end Cert.NormFinalIdeal.Dense

namespace Cert.RefNormFinalIdeal.Dense

open Idealize.ShloMosaic Idealize.SL.Sem
open Cert.RefNormFinalIdeal Cert.RefNormFinalIdeal.Gen
open Cert.NormFinalIdeal.Dense (normed whole)

/-- The prompts' rows within the residual. -/
def promptRows (X : FVec Ideal S288x64x2048 .f32) : FVec Ideal S4x4096x2048 .f32 :=
  shapeCast S4x4096x2048 (extractStridedSlice S256x64x2048 ![0, 0, 0] X slices_S288x64x2048_S256x64x2048_0_0_0 : FVec Ideal S256x64x2048 .f32) shapeCasts_S256x64x2048_S4x4096x2048

/-- The samples' rows within it. -/
def sampleRows (X : FVec Ideal S288x64x2048 .f32) : FVec Ideal S32x64x2048 .f32 :=
  extractStridedSlice S32x64x2048 ![256, 0, 0] X slices_S288x64x2048_S32x64x2048_256_0_0

/-- The reference's norm of the prompts' rows. -/
def normP (A : FVec Ideal S4x4096x2048 .f32) (G : FVec Ideal S2048 .f32) : FVec Ideal S4x4096x2048 .f32 :=
  mulf (mulf A (broadcastInDim S4x4096x2048 ![0, 1, 2] bcast_S4x4096x1_S4x4096x2048_0_1_2 (Host.rsqrt (addf (Host.divf (broadcastInDim S4x4096x1 ![0, 1] bcast_S4x4096_S4x4096x1_0_1
      (Host.reduceAdd (mulf A A) (constant S_ .f32 0x00000000#32) reducesTo_S4x4096x2048_S4x4096_d2 h_S_)) (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 G))

/-- That norm entry by entry. -/
theorem normP_apply (A : FVec Ideal S4x4096x2048 .f32) (G : FVec Ideal S2048 .f32) (b : Fin 4) (t : Fin 4096) (f : Fin 2048) :
    normP A G (ix3 b t f) = normed (fun k => A (ix3 b t k)) (G (ix1 f)) f := by
  unfold normP normed
  pointwise

/-- The reference's norm of the samples' rows. -/
def normS (A : FVec Ideal S32x64x2048 .f32) (G : FVec Ideal S2048 .f32) : FVec Ideal S32x64x2048 .f32 :=
  mulf (mulf A (broadcastInDim S32x64x2048 ![0, 1, 2] bcast_S32x64x1_S32x64x2048_0_1_2 (Host.rsqrt (addf (Host.divf (broadcastInDim S32x64x1 ![0, 1] bcast_S32x64_S32x64x1_0_1
      (Host.reduceAdd (mulf A A) (constant S_ .f32 0x00000000#32) reducesTo_S32x64x2048_S32x64_d2 h_S_)) (broadcastInDim S32x64x1 ![] bcast_S_S32x64x1 (constant S_ .f32 0x45000000#32)))
      (broadcastInDim S32x64x1 ![] bcast_S_S32x64x1 (constant S_ .f32 0x358637BD#32))))))
    (broadcastInDim S32x64x2048 ![0, 1, 2] bcast_S1x1x2048_S32x64x2048_0_1_2 (broadcastInDim S1x1x2048 ![2] bcast_S2048_S1x1x2048_2 G))

/-- That norm entry by entry. -/
theorem normS_apply (A : FVec Ideal S32x64x2048 .f32) (G : FVec Ideal S2048 .f32) (b : Fin 32) (t : Fin 64) (f : Fin 2048) :
    normS A G (ix3 b t f) = normed (fun k => A (ix3 b t k)) (G (ix1 f)) f := by
  unfold normS normed
  pointwise

/-- A prompt's row in the residual. -/
theorem promptRows_apply (X : FVec Ideal S288x64x2048 .f32) (b : Fin 4) (t : Fin 4096) (f : Fin 2048) :
    promptRows X (ix3 b t f) = X (ix3 (⟨(b.val * 4096 + t.val) / 64, by omega⟩ : Fin 288) (⟨(b.val * 4096 + t.val) % 64, by omega⟩ : Fin 64) f) := by
  unfold promptRows
  have h1 : ∀ Z : FVec Ideal S256x64x2048 .f32, (shapeCast S4x4096x2048 Z shapeCasts_S256x64x2048_S4x4096x2048 : FVec Ideal S4x4096x2048 .f32) (ix3 b t f)
      = Z (ix3 (⟨b.val * 64 + t.val / 64, by omega⟩ : Fin 256) (⟨t.val % 64, by omega⟩ : Fin 64) f) := fun Z => by
    pointwise
  have h2 : ∀ (a : Fin 256) (q : Fin 64), (extractStridedSlice S256x64x2048 ![0, 0, 0] X slices_S288x64x2048_S256x64x2048_0_0_0 : FVec Ideal S256x64x2048 .f32) (ix3 a q f)
      = X (ix3 (⟨a.val, by omega⟩ : Fin 288) q f) := fun a q => by
    pointwise
  refine (h1 _).trans ((h2 _ _).trans ?_)
  have e1 : (⟨b.val * 64 + t.val / 64, by omega⟩ : Fin 288) = ⟨(b.val * 4096 + t.val) / 64, by omega⟩ := Fin.ext (by show b.val * 64 + t.val / 64 = (b.val * 4096 + t.val) / 64; omega)
  have e2 : (⟨t.val % 64, by omega⟩ : Fin 64) = ⟨(b.val * 4096 + t.val) % 64, by omega⟩ := Fin.ext (by show t.val % 64 = (b.val * 4096 + t.val) % 64; omega)
  exact congrArg₂ (fun u v => X (ix3 u v f)) e1 e2

/-- A sample's row in the residual. -/
theorem sampleRows_apply (X : FVec Ideal S288x64x2048 .f32) (b : Fin 32) (t : Fin 64) (f : Fin 2048) :
    sampleRows X (ix3 b t f) = X (ix3 (⟨256 + b.val, by omega⟩ : Fin 288) t f) := by
  unfold sampleRows
  pointwise

/-- The reference's first result is the prompts' rows of the whole. -/
theorem prompts_whole (X : FVec Ideal S288x64x2048 .f32) (G : FVec Ideal S2048 .f32) :
    normP (promptRows X) G = Cert.NormFinalIdeal.Dense.prompts (whole X G) := by
  funext (i : S4x4096x2048.Idx)
  obtain ⟨b, t, f, rfl⟩ : ∃ (b : Fin 4) (t : Fin 4096) (f : Fin 2048), i = ix3 b t f := ⟨i 0, i 1, i 2, by
    funext (d : Fin 3)
    match d with
    | ⟨0, _⟩ => rfl
    | ⟨1, _⟩ => rfl
    | ⟨2, _⟩ => rfl⟩
  refine (normP_apply _ G b t f).trans (Eq.trans ?_ (Cert.NormFinalIdeal.Dense.prompts_apply _ b t f).symm)
  have same : ∀ (a : Fin 288) (q : Fin 64), whole X G (ix3 a q f) = normed (fun k => X (ix3 a q k)) (G (ix1 f)) f := fun _ _ => rfl
  refine Eq.trans ?_ (same _ _).symm
  exact congrArg (fun u => normed u (G (ix1 f)) f) (funext fun k => promptRows_apply X b t k)

/-- The reference's second result is the samples' rows of the whole. -/
theorem samples_whole (X : FVec Ideal S288x64x2048 .f32) (G : FVec Ideal S2048 .f32) :
    normS (sampleRows X) G = Cert.NormFinalIdeal.Dense.samples (whole X G) := by
  funext (i : S32x64x2048.Idx)
  obtain ⟨b, t, f, rfl⟩ : ∃ (b : Fin 32) (t : Fin 64) (f : Fin 2048), i = ix3 b t f := ⟨i 0, i 1, i 2, by
    funext (d : Fin 3)
    match d with
    | ⟨0, _⟩ => rfl
    | ⟨1, _⟩ => rfl
    | ⟨2, _⟩ => rfl⟩
  refine (normS_apply _ G b t f).trans (Eq.trans ?_ (Cert.NormFinalIdeal.Dense.samples_apply _ b t f).symm)
  have same : ∀ (a : Fin 288) (q : Fin 64), whole X G (ix3 a q f) = normed (fun k => X (ix3 a q k)) (G (ix1 f)) f := fun _ _ => rfl
  refine Eq.trans ?_ (same _ _).symm
  exact congrArg (fun u => normed u (G (ix1 f)) f) (funext fun k => sampleRows_apply X b t k)

end Cert.RefNormFinalIdeal.Dense

namespace Cert.Proof

open Idealize.ShloMosaic Idealize.SL.Sem

/-- The last norm runs and leaves its arguments as they were. -/
theorem frame_norm_final : Cert.quiescent_NormFinal := fun m ρ _ => Cert.NormFinal.Gen.frame m ρ

/-- The same of the idealized one. -/
theorem frame_norm_final_ideal : Cert.quiescent_NormFinalIdeal := fun m ρ _ => Cert.NormFinalIdeal.Gen.frame m ρ

/-- Its reference runs and keeps its arguments. -/
theorem frame_norm_final_reference : Cert.quiescent_RefNormFinalIdeal := fun m ρ _ =>
  (θ_run (Cert.RefNormFinalIdeal.defs (F := Ideal)) _ _).mono (fun r h => ⟨fun c => (h c).2.2, sem_eq_zero_of_no_sems (by decide) r.2⟩)
    (Cert.RefNormFinalIdeal.Value.run (F := Ideal) m ρ)

open Cert.NormFinalIdeal Cert.NormFinalIdeal.Gen Cert.NormFinalIdeal.Dense in
/-- The last norm: its two arrays and its reference's are equal, element by element. -/
theorem norm_final_equal : Cert.algebraic_NormFinalIdeal_RefNormFinalIdeal := fun m g m' g' _ hag => by
  refine ⟨fun _ => prompts (whole (rows m) (gain m)), fun _ => samples (whole (rows m) (gain m)), ?_, ?_⟩
  · refine (θ_run (Cert.NormFinalIdeal.defs (F := Ideal)) _ _).mono (fun r hr c => ?_) (θ_run_and (run_main (F := Ideal) m g) (unchanged (F := Ideal) m g))
    obtain ⟨hp, hk⟩ := hr
    obtain rfl : c = 0 := Subsingleton.elim _ _
    have e4 := ((hp 0).2 main_v4 (Pipeline.mem_restRefs_of main_v4 (by decide) (by decide))).trans (tail_prompts m)
    have e6 := ((hp 0).2 main_v6 (Pipeline.mem_restRefs_of main_v6 (by decide) (by decide))).trans (tail_samples m)
    rw [ends_whole] at e4 e6
    exact ⟨e4, e6, hk 0⟩
  · refine (θ_run (Cert.RefNormFinalIdeal.defs (F := Ideal)) _ _).mono (fun r hr c => ?_) (Cert.RefNormFinalIdeal.Value.run (F := Ideal) m' g')
    obtain ⟨h2, h3, ha⟩ := hr c
    obtain rfl : c = 0 := Subsingleton.elim _ _
    have key : ∀ (X : FVec Ideal Cert.NormFinalIdeal.S288x64x2048 .f32) (G : FVec Ideal Cert.NormFinalIdeal.S2048 .f32), X = rows m → G = gain m →
        Cert.RefNormFinalIdeal.Dense.normP (Cert.RefNormFinalIdeal.Dense.promptRows X) G = prompts (whole (rows m) (gain m))
        ∧ Cert.RefNormFinalIdeal.Dense.normS (Cert.RefNormFinalIdeal.Dense.sampleRows X) G = samples (whole (rows m) (gain m)) := by
      rintro _ _ rfl rfl
      exact ⟨Cert.RefNormFinalIdeal.Dense.prompts_whole _ _, Cert.RefNormFinalIdeal.Dense.samples_whole _ _⟩
    have k := key _ _ (hag 0).1 (hag 0).2
    exact ⟨h2.trans k.1, h3.trans k.2, ha⟩

end Cert.Proof

end
-- ==== Proof.Dense.StatesEqual.lean ====
/- The states that a layer keeps of its attentions: the kernel's, cut from its combined projection with the columns padded
   and reordered, are the reference's, cut from the plain product. -/
module

public import proofs.«01_k».proof.Defs
public import proofs.«01_k».proof.Proof.Gen.States.Frame
public import proofs.«01_k».proof.Proof.Gen.StatesIdeal.Frame
public import proofs.«01_k».proof.Proof.Gen.RefStatesIdeal.Run
public import Idealize.ShloMosaic.Lib.Pointwise
public import Idealize.ShloMosaic.Lib.Pipeline.Value
public import Idealize.ShloMosaic.Lib.Pipeline.ValueKit.Basic
public import Idealize.ShloMosaic.Lib.StableHlo.Run

@[expose] public section

set_option maxHeartbeats 4000000
set_option maxRecDepth 16384

noncomputable section

namespace Cert.StatesIdeal.Dense

open Idealize.ShloMosaic Idealize.ShloMosaic.TcCoe Idealize.SL.Sem Idealize.ShloMosaic.StableHlo
open Idealize.ShloMosaic.Pipeline (Dat Cfg Window)
open Cert.StatesIdeal Cert.StatesIdeal.Gen

/-- A small number survives its word. -/
theorem small (n : ℕ) (h : n < 4294967296) : (BitVec.ofNat 32 n).toNat = n := by
  rw [BitVec.toNat_ofNat]
  exact Nat.mod_eq_of_lt h

/-- The rows' place in the grid. -/
theorem place_rows (t : Fin grid0.N) : (grid0.coords t 0).val = t.val / 12 := by
  rw [Pipeline.Grid.coords_val t 0 (S := 12) (B := 18) (by decide) rfl]
  have := t.isLt
  have e : grid0.N = 216 := by decide
  exact Nat.mod_eq_of_lt (by omega)

/-- The columns' place in the grid. -/
theorem place_cols (t : Fin grid0.N) : (grid0.coords t 1).val = t.val % 12 := by
  rw [Pipeline.Grid.coords_val t 1 (S := 1) (B := 12) (by decide) rfl, Nat.div_one]

/-- The number of points. -/
theorem points_lt (t : Fin cfg0.N) : t.val < 216 := by
  have e : cfg0.N = 216 := N_0
  have := t.isLt
  omega

/-- The rows' block at a point. -/
theorem index_rows (t : Fin cfg0.N) : (cfg0.win 0).index t = ![t.val / 12, 0] := by
  have h : cc0_transform_0 (grid0.coords t) = ![(BitVec.ofNat 32 (grid0.coords t 0).val).toNat, 0] := rfl
  refine Eq.trans (b := cc0_transform_0 (grid0.coords t)) rfl (h.trans ?_)
  have := points_lt t
  rw [place_rows, small _ (by omega)]

/-- The weights' block at a point. -/
theorem index_weights (t : Fin cfg0.N) : (cfg0.win 1).index t = ![0, t.val % 12] := by
  have h : cc0_transform_1 (grid0.coords t) = ![0, (BitVec.ofNat 32 (grid0.coords t 1).val).toNat] := rfl
  refine Eq.trans (b := cc0_transform_1 (grid0.coords t)) rfl (h.trans ?_)
  rw [place_cols, small _ (by omega)]

/-- The first result's block at a point. -/
theorem index_out (t : Fin cfg0.N) : (cfg0.win 2).index t = ![t.val / 12, t.val % 12] := by
  have h : cc0_transform_2 (grid0.coords t) = ![(BitVec.ofNat 32 (grid0.coords t 0).val).toNat, (BitVec.ofNat 32 (grid0.coords t 1).val).toNat] := rfl
  refine Eq.trans (b := cc0_transform_2 (grid0.coords t)) rfl (h.trans ?_)
  have := points_lt t
  rw [place_rows, place_cols, small _ (by omega), small _ (by omega)]

/-- A block loaded whole starts at zero on both axes. -/
theorem zero2 : ∀ a : Fin 2, (![0, 0] : Fin 2 → ℕ) a = 0 := by decide

/-- The body's product entry by entry. -/
theorem pay_apply (x : FVec Ideal S1024x2048 .bf16) (w : FVec Ideal S2048x512 .bf16) (r : Fin 1024) (j : Fin 512) :
    k0_pay1 (F := Ideal) x w (ix2 r j) = ∑ k : Fin 2048, x (ix2 r k) * w (ix2 k j) := by
  unfold k0_pay1
  have h1 : ∀ (A : FVec Ideal S1024x2048 .bf16) (B : FVec Ideal S2048x512 .bf16),
      (matmul dot_S1024x2048_S2048x512_S1024x512_1_0_0_1_n_n none A B (constant S1024x512 .f32 0x00000000#32) : FVec Ideal S1024x512 .f32) (ix2 r j)
        = ∑ k : Fin 2048, A (ix2 r k) * B (ix2 k j) := fun A B => by
    pointwise
  have h2 : ∀ k : Fin 2048, (shapeCast S2048x512 w shapeCasts_S2048x512_S2048x512 : FVec Ideal S2048x512 .bf16) (ix2 k j) = w (ix2 k j) := fun k => by
    pointwise
  exact (h1 x _).trans (Finset.sum_congr rfl fun k _ => congrArg (fun z : EReal => (x (ix2 r k) : EReal) * z) (h2 k))

/-- What a point stores in the first result, entry by entry. -/
theorem out_apply (x : FVec Ideal S1024x2048 .bf16) (w : FVec Ideal S2048x512 .bf16) (r : Fin 1024) (j : Fin 512) :
    out0_2 (F := Ideal) x w (ix2 r j) = ∑ k : Fin 2048, x (ix2 r k) * w (ix2 k j) := by
  unfold out0_2
  refine (congrFun (View.canon_cons_unit_lit inb_S1024x512_S1024x512_0_0 _ _ (by decide)) (ix2 r j)).trans ?_
  exact (congrArg₂ (fun a b => k0_pay1 (F := Ideal) a b (ix2 r j)) (View.ld_unit_lit (Val := Elt Ideal) (e := .bf16) (S := S1024x2048) inb_S1024x2048_S1024x2048_0_0 x zero2)
    (View.ld_unit_lit (Val := Elt Ideal) (e := .bf16) (S := S2048x512) inb_S2048x512_S2048x512_0_0 w zero2)).trans (pay_apply x w r j)

/-- The whole product. -/
def whole (X : FVec Ideal S18432x2048 .bf16) (W : FVec Ideal S2048x6144 .bf16) : FVec Ideal S18432x6144 .f32 := fun i =>
  ∑ k : Fin 2048, (X (ix2 (⟨(i 0).val, (i 0).isLt⟩ : Fin 18432) k) : EReal) * W (ix2 k (⟨(i 1).val, (i 1).isLt⟩ : Fin 6144))

/-- The rotary columns turned. -/
def turned (w : FVec Ideal S2048x5864 .f32) : FVec Ideal S2048x32 .f32 :=
  concatenate S2048x32 1 [⟨S2048x16, (Host.negf (extractStridedSlice S2048x16 ![0, 16] (extractStridedSlice S2048x32 ![0, 3712] w slices_S2048x5864_S2048x32_0_3712 : FVec Ideal S2048x32 .f32) slices_S2048x32_S2048x16_0_16 : FVec Ideal S2048x16 .f32) : FVec Ideal S2048x16 .f32)⟩,
    ⟨S2048x16, (extractStridedSlice S2048x16 ![0, 0] (extractStridedSlice S2048x32 ![0, 3712] w slices_S2048x5864_S2048x32_0_3712 : FVec Ideal S2048x32 .f32) slices_S2048x32_S2048x16_0_0 : FVec Ideal S2048x16 .f32)⟩] concatenates_S2048x16_S2048x16_S2048x32_d1

/-- The first of the reordered columns. -/
def front (w : FVec Ideal S2048x5864 .f32) : FVec Ideal S2048x5952 .f32 :=
  concatenate S2048x5952 1 [⟨S2048x512, (extractStridedSlice S2048x512 ![0, 0] w slices_S2048x5864_S2048x512_0_0 : FVec Ideal S2048x512 .f32)⟩, ⟨S2048x512, (extractStridedSlice S2048x512 ![0, 512] w slices_S2048x5864_S2048x512_0_512 : FVec Ideal S2048x512 .f32)⟩, ⟨S2048x512, (extractStridedSlice S2048x512 ![0, 1024] w slices_S2048x5864_S2048x512_0_1024 : FVec Ideal S2048x512 .f32)⟩, ⟨S2048x512, (extractStridedSlice S2048x512 ![0, 1536] w slices_S2048x5864_S2048x512_0_1536 : FVec Ideal S2048x512 .f32)⟩, ⟨S2048x512, (extractStridedSlice S2048x512 ![0, 2048] w slices_S2048x5864_S2048x512_0_2048 : FVec Ideal S2048x512 .f32)⟩, ⟨S2048x512, (extractStridedSlice S2048x512 ![0, 2560] w slices_S2048x5864_S2048x512_0_2560 : FVec Ideal S2048x512 .f32)⟩, ⟨S2048x512, (extractStridedSlice S2048x512 ![0, 3744] w slices_S2048x5864_S2048x512_0_3744 : FVec Ideal S2048x512 .f32)⟩, ⟨S2048x512, (extractStridedSlice S2048x512 ![0, 4256] w slices_S2048x5864_S2048x512_0_4256 : FVec Ideal S2048x512 .f32)⟩, ⟨S2048x512, (extractStridedSlice S2048x512 ![0, 4768] w slices_S2048x5864_S2048x512_0_4768 : FVec Ideal S2048x512 .f32)⟩, ⟨S2048x512, (extractStridedSlice S2048x512 ![0, 5280] w slices_S2048x5864_S2048x512_0_5280 : FVec Ideal S2048x512 .f32)⟩, ⟨S2048x384, (extractStridedSlice S2048x384 ![0, 3072] w slices_S2048x5864_S2048x384_0_3072 : FVec Ideal S2048x384 .f32)⟩, ⟨S2048x8, (extractStridedSlice S2048x8 ![0, 5856] w slices_S2048x5864_S2048x8_0_5856 : FVec Ideal S2048x8 .f32)⟩, ⟨S2048x120, (broadcastInDim S2048x120 ![] bcast_S_S2048x120 (constant S_ .f32 0x00000000#32 : FVec Ideal S_ .f32) : FVec Ideal S2048x120 .f32)⟩, ⟨S2048x256, (extractStridedSlice S2048x256 ![0, 3456] w slices_S2048x5864_S2048x256_0_3456 : FVec Ideal S2048x256 .f32)⟩, ⟨S2048x32, (extractStridedSlice S2048x32 ![0, 3712] w slices_S2048x5864_S2048x32_0_3712 : FVec Ideal S2048x32 .f32)⟩, ⟨S2048x32, (extractStridedSlice S2048x32 ![0, 3712] w slices_S2048x5864_S2048x32_0_3712 : FVec Ideal S2048x32 .f32)⟩]
    concatenates_S2048x512_S2048x512_S2048x512_S2048x512_S2048x512_S2048x512_S2048x512_S2048x512_S2048x512_S2048x512_S2048x384_S2048x8_S2048x120_S2048x256_S2048x32_S2048x32_S2048x5952_d1

/-- The last of the reordered columns. -/
def back (w : FVec Ideal S2048x5864 .f32) : FVec Ideal S2048x192 .f32 :=
  concatenate S2048x192 1 [⟨S2048x32, turned w⟩, ⟨S2048x32, turned w⟩, ⟨S2048x64, (extractStridedSlice S2048x64 ![0, 5792] w slices_S2048x5864_S2048x64_0_5792 : FVec Ideal S2048x64 .f32)⟩, ⟨S2048x64, (extractStridedSlice S2048x64 ![0, 5792] w slices_S2048x5864_S2048x64_0_5792 : FVec Ideal S2048x64 .f32)⟩] concatenates_S2048x32_S2048x32_S2048x64_S2048x64_S2048x192_d1

/-- The weights as the call is given them: reordered, padded and rounded. -/
def padded (w : FVec Ideal S2048x5864 .f32) : FVec Ideal S2048x6144 .bf16 :=
  truncf .bf16 (concatenate S2048x6144 1 [⟨S2048x5952, front w⟩, ⟨S2048x192, back w⟩] concatenates_S2048x5952_S2048x192_S2048x6144_d1 : FVec Ideal S2048x6144 .f32) bitsLt_bf16_f32

/-- A reordered column is of the front or of the back. -/
theorem padded_apply (w : FVec Ideal S2048x5864 .f32) (k : Fin 2048) (c : Fin 6144) :
    padded w (ix2 k c) = if h : c.val < 5952 then front w (ix2 k ⟨c.val, h⟩) else back w (ix2 k ⟨c.val - 5952, by omega⟩) := by
  unfold padded
  generalize front w = P
  generalize back w = Q
  have key : ∀ Z : FVec Ideal S2048x6144 .f32, (truncf .bf16 Z bitsLt_bf16_f32 : FVec Ideal S2048x6144 .bf16) (ix2 k c) = Z (ix2 k c) := fun _ => rfl
  refine (key _).trans ?_
  pointwise

/-- The columns of the first branch's keys. -/
theorem padded_ak (w : FVec Ideal S2048x5864 .f32) (k : Fin 2048) (j : Fin 512) :
    padded w (ix2 k (⟨512 + j.val, by omega⟩ : Fin 6144)) = w (ix2 k (⟨512 + j.val, by omega⟩ : Fin 5864)) := by
  have hj := j.isLt
  have h1 : front w (ix2 k (⟨512 + j.val, by omega⟩ : Fin 5952)) = w (ix2 k (⟨512 + j.val, by omega⟩ : Fin 5864)) := by
    unfold front
    have hs : (extractStridedSlice S2048x512 ![0, 512] w slices_S2048x5864_S2048x512_0_512 : FVec Ideal S2048x512 .f32) (ix2 k j) = w (ix2 k (⟨512 + j.val, by omega⟩ : Fin 5864)) := by
      pointwise
    refine (concatenate_apply_piece (t := S2048x5952) 1 _ _ (ix2 k (⟨512 + j.val, by omega⟩ : Fin 5952)) 1 (by show 1 < 16; omega) S2048x512
      (extractStridedSlice S2048x512 ![0, 512] w slices_S2048x5864_S2048x512_0_512 : FVec Ideal S2048x512 .f32) rfl rfl 512 rfl (ix2 k j) ?_ ?_).trans hs
    · intro (b : Fin 2) hb
      match b with
      | ⟨0, _⟩ => rfl
      | ⟨1, _⟩ => exact absurd rfl hb
    · rfl
  refine (padded_apply w k _).trans ?_
  rw [dif_pos (by show 512 + j.val < 5952; omega)]
  exact h1

/-- The columns of the first branch's values. -/
theorem padded_av (w : FVec Ideal S2048x5864 .f32) (k : Fin 2048) (j : Fin 512) :
    padded w (ix2 k (⟨1024 + j.val, by omega⟩ : Fin 6144)) = w (ix2 k (⟨1024 + j.val, by omega⟩ : Fin 5864)) := by
  have hj := j.isLt
  have h1 : front w (ix2 k (⟨1024 + j.val, by omega⟩ : Fin 5952)) = w (ix2 k (⟨1024 + j.val, by omega⟩ : Fin 5864)) := by
    unfold front
    have hs : (extractStridedSlice S2048x512 ![0, 1024] w slices_S2048x5864_S2048x512_0_1024 : FVec Ideal S2048x512 .f32) (ix2 k j) = w (ix2 k (⟨1024 + j.val, by omega⟩ : Fin 5864)) := by
      pointwise
    refine (concatenate_apply_piece (t := S2048x5952) 1 _ _ (ix2 k (⟨1024 + j.val, by omega⟩ : Fin 5952)) 2 (by show 2 < 16; omega) S2048x512
      (extractStridedSlice S2048x512 ![0, 1024] w slices_S2048x5864_S2048x512_0_1024 : FVec Ideal S2048x512 .f32) rfl rfl 1024 rfl (ix2 k j) ?_ ?_).trans hs
    · intro (b : Fin 2) hb
      match b with
      | ⟨0, _⟩ => rfl
      | ⟨1, _⟩ => exact absurd rfl hb
    · rfl
  refine (padded_apply w k _).trans ?_
  rw [dif_pos (by show 1024 + j.val < 5952; omega)]
  exact h1

/-- The columns of the second branch's keys. -/
theorem padded_bk (w : FVec Ideal S2048x5864 .f32) (k : Fin 2048) (j : Fin 512) :
    padded w (ix2 k (⟨2048 + j.val, by omega⟩ : Fin 6144)) = w (ix2 k (⟨2048 + j.val, by omega⟩ : Fin 5864)) := by
  have hj := j.isLt
  have h1 : front w (ix2 k (⟨2048 + j.val, by omega⟩ : Fin 5952)) = w (ix2 k (⟨2048 + j.val, by omega⟩ : Fin 5864)) := by
    unfold front
    have hs : (extractStridedSlice S2048x512 ![0, 2048] w slices_S2048x5864_S2048x512_0_2048 : FVec Ideal S2048x512 .f32) (ix2 k j) = w (ix2 k (⟨2048 + j.val, by omega⟩ : Fin 5864)) := by
      pointwise
    refine (concatenate_apply_piece (t := S2048x5952) 1 _ _ (ix2 k (⟨2048 + j.val, by omega⟩ : Fin 5952)) 4 (by show 4 < 16; omega) S2048x512
      (extractStridedSlice S2048x512 ![0, 2048] w slices_S2048x5864_S2048x512_0_2048 : FVec Ideal S2048x512 .f32) rfl rfl 2048 rfl (ix2 k j) ?_ ?_).trans hs
    · intro (b : Fin 2) hb
      match b with
      | ⟨0, _⟩ => rfl
      | ⟨1, _⟩ => exact absurd rfl hb
    · rfl
  refine (padded_apply w k _).trans ?_
  rw [dif_pos (by show 2048 + j.val < 5952; omega)]
  exact h1

/-- The columns of the second branch's values. -/
theorem padded_bv (w : FVec Ideal S2048x5864 .f32) (k : Fin 2048) (j : Fin 512) :
    padded w (ix2 k (⟨2560 + j.val, by omega⟩ : Fin 6144)) = w (ix2 k (⟨2560 + j.val, by omega⟩ : Fin 5864)) := by
  have hj := j.isLt
  have h1 : front w (ix2 k (⟨2560 + j.val, by omega⟩ : Fin 5952)) = w (ix2 k (⟨2560 + j.val, by omega⟩ : Fin 5864)) := by
    unfold front
    have hs : (extractStridedSlice S2048x512 ![0, 2560] w slices_S2048x5864_S2048x512_0_2560 : FVec Ideal S2048x512 .f32) (ix2 k j) = w (ix2 k (⟨2560 + j.val, by omega⟩ : Fin 5864)) := by
      pointwise
    refine (concatenate_apply_piece (t := S2048x5952) 1 _ _ (ix2 k (⟨2560 + j.val, by omega⟩ : Fin 5952)) 5 (by show 5 < 16; omega) S2048x512
      (extractStridedSlice S2048x512 ![0, 2560] w slices_S2048x5864_S2048x512_0_2560 : FVec Ideal S2048x512 .f32) rfl rfl 2560 rfl (ix2 k j) ?_ ?_).trans hs
    · intro (b : Fin 2) hb
      match b with
      | ⟨0, _⟩ => rfl
      | ⟨1, _⟩ => exact absurd rfl hb
    · rfl
  refine (padded_apply w k _).trans ?_
  rw [dif_pos (by show 2560 + j.val < 5952; omega)]
  exact h1

/-- The columns of the last branch's keys. -/
theorem padded_dk (w : FVec Ideal S2048x5864 .f32) (k : Fin 2048) (j : Fin 512) :
    padded w (ix2 k (⟨3584 + j.val, by omega⟩ : Fin 6144)) = w (ix2 k (⟨4256 + j.val, by omega⟩ : Fin 5864)) := by
  have hj := j.isLt
  have h1 : front w (ix2 k (⟨3584 + j.val, by omega⟩ : Fin 5952)) = w (ix2 k (⟨4256 + j.val, by omega⟩ : Fin 5864)) := by
    unfold front
    have hs : (extractStridedSlice S2048x512 ![0, 4256] w slices_S2048x5864_S2048x512_0_4256 : FVec Ideal S2048x512 .f32) (ix2 k j) = w (ix2 k (⟨4256 + j.val, by omega⟩ : Fin 5864)) := by
      pointwise
    refine (concatenate_apply_piece (t := S2048x5952) 1 _ _ (ix2 k (⟨3584 + j.val, by omega⟩ : Fin 5952)) 7 (by show 7 < 16; omega) S2048x512
      (extractStridedSlice S2048x512 ![0, 4256] w slices_S2048x5864_S2048x512_0_4256 : FVec Ideal S2048x512 .f32) rfl rfl 3584 rfl (ix2 k j) ?_ ?_).trans hs
    · intro (b : Fin 2) hb
      match b with
      | ⟨0, _⟩ => rfl
      | ⟨1, _⟩ => exact absurd rfl hb
    · rfl
  refine (padded_apply w k _).trans ?_
  rw [dif_pos (by show 3584 + j.val < 5952; omega)]
  exact h1

/-- The columns of the last branch's values. -/
theorem padded_dv (w : FVec Ideal S2048x5864 .f32) (k : Fin 2048) (j : Fin 512) :
    padded w (ix2 k (⟨4096 + j.val, by omega⟩ : Fin 6144)) = w (ix2 k (⟨4768 + j.val, by omega⟩ : Fin 5864)) := by
  have hj := j.isLt
  have h1 : front w (ix2 k (⟨4096 + j.val, by omega⟩ : Fin 5952)) = w (ix2 k (⟨4768 + j.val, by omega⟩ : Fin 5864)) := by
    unfold front
    have hs : (extractStridedSlice S2048x512 ![0, 4768] w slices_S2048x5864_S2048x512_0_4768 : FVec Ideal S2048x512 .f32) (ix2 k j) = w (ix2 k (⟨4768 + j.val, by omega⟩ : Fin 5864)) := by
      pointwise
    refine (concatenate_apply_piece (t := S2048x5952) 1 _ _ (ix2 k (⟨4096 + j.val, by omega⟩ : Fin 5952)) 8 (by show 8 < 16; omega) S2048x512
      (extractStridedSlice S2048x512 ![0, 4768] w slices_S2048x5864_S2048x512_0_4768 : FVec Ideal S2048x512 .f32) rfl rfl 4096 rfl (ix2 k j) ?_ ?_).trans hs
    · intro (b : Fin 2) hb
      match b with
      | ⟨0, _⟩ => rfl
      | ⟨1, _⟩ => exact absurd rfl hb
    · rfl
  refine (padded_apply w k _).trans ?_
  rw [dif_pos (by show 4096 + j.val < 5952; omega)]
  exact h1

/-- The columns of the index keys. -/
theorem padded_ki (w : FVec Ideal S2048x5864 .f32) (k : Fin 2048) (j : Fin 64) :
    padded w (ix2 k (⟨6016 + j.val, by omega⟩ : Fin 6144)) = w (ix2 k (⟨5792 + j.val, by omega⟩ : Fin 5864)) := by
  have hj := j.isLt
  have h1 : back w (ix2 k (⟨64 + j.val, by omega⟩ : Fin 192)) = w (ix2 k (⟨5792 + j.val, by omega⟩ : Fin 5864)) := by
    unfold back
    pointwise
    rw [dif_neg (by omega), dif_neg (by omega), dif_pos (by omega)]
    exact congrArg (fun c => w (ix2 k c)) (Fin.ext (by show 5792 + (64 + j.val - 32 - 32) = 5792 + j.val; omega))
  refine (padded_apply w k _).trans ?_
  rw [dif_neg (by show ¬ 6016 + j.val < 5952; omega)]
  exact (congrArg (fun c => back w (ix2 k c)) (Fin.ext (by show 6016 + j.val - 5952 = 64 + j.val; omega))).trans h1

variable (m : (ℓ : Loc nD τ sig) → Buf (Elt Ideal) ℓ)

/-- The rows as the call is given them. -/
abbrev rows : FVec Ideal S18432x2048 .bf16 := m (((0 : Dev nD) : Thread nD τ).loc main_arg0)
/-- The weights as the step is given them. -/
abbrev weights : FVec Ideal S2048x5864 .f32 := m (((0 : Dev nD) : Thread nD τ).loc main_arg1)

/-- The rows of a point. -/
abbrev rowsAt (t : Fin cfg0.N) : FVec Ideal S1024x2048 .bf16 := iblk m (0 : Dev nD) 0 t
/-- The weights of a point. -/
abbrev weightsAt (t : Fin cfg0.N) : FVec Ideal S2048x512 .bf16 := iblk m (0 : Dev nD) 1 t

/-- The weights that the kernel reads are the reordered ones. -/
theorem weights_padded : V m (0 : Dev nD) main_v23 = padded (weights m) := by
  unfold padded front back turned
  show StableHlo.after hostOps0 _ _ = _
  after_results_simp <;> rfl

/-- The block of rows at a point. -/
theorem block_rows (t : Fin cfg0.N) (r : Fin 1024) (k : Fin 2048) (i : Fin 18432) (hi : i.val = t.val / 12 * 1024 + r.val) :
    rowsAt m t (ix2 r k) = rows m (ix2 i k) := by
  have key : rowsAt m t (ix2 r k) = V m (0 : Dev nD) main_arg0 (((cfg0.win 0).rect t).idx (ix2 r k)) := rfl
  refine key.trans ((congrFun (V_main_arg0 m (0 : Dev nD)) _).trans (congrArg (rows m) ?_))
  funext (a : Fin 2)
  refine Fin.ext ?_
  match a with
  | ⟨0, _⟩ =>
    exact (congrArg (fun f : Fin 2 → ℕ => f 0 * 1024 + 1 * r.val) (index_rows t)).trans (by show t.val / 12 * 1024 + 1 * r.val = i.val; omega)
  | ⟨1, _⟩ =>
    exact (congrArg (fun f : Fin 2 → ℕ => f 1 * 2048 + 1 * k.val) (index_rows t)).trans (by show 0 * 2048 + 1 * k.val = k.val; omega)

/-- The block of weights at a point. -/
theorem block_weights (t : Fin cfg0.N) (k : Fin 2048) (j : Fin 512) (i : Fin 6144) (hi : i.val = t.val % 12 * 512 + j.val) :
    weightsAt m t (ix2 k j) = padded (weights m) (ix2 k i) := by
  have key : weightsAt m t (ix2 k j) = V m (0 : Dev nD) main_v23 (((cfg0.win 1).rect t).idx (ix2 k j)) := rfl
  refine key.trans ((congrFun (weights_padded m) _).trans (congrArg (padded (weights m)) ?_))
  funext (a : Fin 2)
  refine Fin.ext ?_
  match a with
  | ⟨0, _⟩ =>
    exact (congrArg (fun f : Fin 2 → ℕ => f 0 * 2048 + 1 * k.val) (index_weights t)).trans (by show 0 * 2048 + 1 * k.val = k.val; omega)
  | ⟨1, _⟩ =>
    exact (congrArg (fun f : Fin 2 → ℕ => f 1 * 512 + 1 * j.val) (index_weights t)).trans (by show t.val % 12 * 512 + 1 * j.val = i.val; omega)

/-- A point's product is the whole's block. -/
theorem point_whole (t : Fin cfg0.N) (r : Fin 1024) (j : Fin 512) (i : S18432x6144.Idx) (h0 : (i 0).val = t.val / 12 * 1024 + r.val) (h1 : (i 1).val = t.val % 12 * 512 + j.val) :
    (∑ k : Fin 2048, (rowsAt m t (ix2 r k) : EReal) * weightsAt m t (ix2 k j))
      = whole (rows m) (padded (weights m)) i := by
  unfold whole
  exact Finset.sum_congr rfl fun k _ => congrArg₂ (fun a b : EReal => a * b) (block_rows m t r k ⟨(i 0).val, (i 0).isLt⟩ h0) (block_weights m t k j ⟨(i 1).val, (i 1).isLt⟩ h1)

/-- What a point writes back to the first result is the whole's block there. -/
theorem writes_out (t : Fin cfg0.N) :
    (dats m 0 (0 : Dev nD)).flushed 2 t = ((cfg0.win 2).blk t).view.read (Elt Ideal) (whole (rows m) (padded (weights m))) := by
  refine Eq.trans (b := (dats m 0 (0 : Dev nD)).after 2 t) rfl ?_
  rw [after0_2]
  funext (y : S1024x512.Idx)
  obtain ⟨r, j, rfl⟩ : ∃ (r : Fin 1024) (j : Fin 512), y = ix2 r j := ⟨y 0, y 1, by
    funext (a : Fin 2)
    match a with
    | ⟨0, _⟩ => rfl
    | ⟨1, _⟩ => rfl⟩
  have key : ∀ V : FVec Ideal S18432x6144 .f32, ((cfg0.win 2).blk t).view.read (Elt Ideal) V (ix2 r j) = V (((cfg0.win 2).rect t).idx (ix2 r j)) := fun _ => rfl
  refine Eq.trans ?_ (key _).symm
  refine (out_apply _ _ r j).trans (point_whole m t r j _ ?_ ?_)
  · exact (congrArg (fun f : Fin 2 → ℕ => f 0 * 1024 + 1 * r.val) (index_out t)).trans (by show t.val / 12 * 1024 + 1 * r.val = _; omega)
  · exact (congrArg (fun f : Fin 2 → ℕ => f 1 * 512 + 1 * j.val) (index_out t)).trans (by show t.val % 12 * 512 + 1 * j.val = _; omega)

/-- At the end the first result is the whole. -/
theorem ends_out : (dats m 0 (0 : Dev nD)).arrAt 2 cfg0.N = whole (rows m) (padded (weights m)) := by
  funext (i : S18432x6144.Idx)
  have i0 : (i 0).val < 18432 := (i 0).isLt
  have i1 : (i 1).val < 6144 := (i 1).isLt
  have eN : cfg0.N = 216 := N_0
  have hlt : (i 0).val / 1024 * 12 + (i 1).val / 512 < cfg0.N := by rw [eN]; omega
  let t : Fin cfg0.N := ⟨(i 0).val / 1024 * 12 + (i 1).val / 512, hlt⟩
  have t0 : t.val / 12 = (i 0).val / 1024 := by show ((i 0).val / 1024 * 12 + (i 1).val / 512) / 12 = _; omega
  have t1 : t.val % 12 = (i 1).val / 512 := by show ((i 0).val / 1024 * 12 + (i 1).val / 512) % 12 = _; omega
  refine Dat.arrAt_apply_of_mem (dats m 0 (0 : Dev nD)) 2 (whole (rows m) (padded (weights m))) (fun t _ => writes_out m t) cfg0.N t i t.isLt (flush0_2 t) ?_
  have e : ((cfg0.win 2).blk t).view.emb (ix2 (⟨(i 0).val % 1024, Nat.mod_lt _ (by decide)⟩ : Fin 1024) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 1024 + 1 * ((i 0).val % 1024)) (index_out t)).trans
        (by show t.val / 12 * 1024 + 1 * ((i 0).val % 1024) = (i 0).val; omega)
    | ⟨1, _⟩ =>
      exact (congrArg (fun f : Fin 2 → ℕ => f 1 * 512 + 1 * ((i 1).val % 512)) (index_out t)).trans
        (by show t.val % 12 * 512 + 1 * ((i 1).val % 512) = (i 1).val; omega)
  exact e ▸ ((cfg0.win 2).blk t).view.emb_mem_set _

/-- The prompts' states of the chunk-band attention's keys, cut from the projection. -/
def bandPrompts (Y : FVec Ideal S18432x6144 .f32) : FVec Ideal S4x512x2x8x64 .f32 :=
  (shapeCast S4x512x2x8x64 (extractStridedSlice S4x512x1024 ![0, 3584, 0] (shapeCast S4x4096x1024 (extractStridedSlice S16384x1024 ![0, 0] (extractStridedSlice S18432x1024 ![0, 512] Y slices_S18432x6144_S18432x1024_0_512 : FVec Ideal S18432x1024 .f32) slices_S18432x1024_S16384x1024_0_0 : FVec Ideal S16384x1024 .f32) shapeCasts_S16384x1024_S4x4096x1024 : FVec Ideal S4x4096x1024 .f32) slices_S4x4096x1024_S4x512x1024_0_3584_0 : FVec Ideal S4x512x1024 .f32) shapeCasts_S4x512x1024_S4x512x2x8x64 : FVec Ideal S4x512x2x8x64 .f32)

/-- Those states entry by entry. -/
theorem bandPrompts_apply (Y : FVec Ideal S18432x6144 .f32) (b : Fin 4) (t : Fin 512) (u : Fin 2) (h : Fin 8) (d : Fin 64) :
    bandPrompts Y (ix5 b t u h d) = Y (ix2 (⟨b.val * 4096 + (3584 + t.val), by omega⟩ : Fin 18432) (⟨512 + (u.val * 512 + h.val * 64 + d.val), by omega⟩ : Fin 6144)) := by
  unfold bandPrompts
  pointwise

/-- The prompts' states of the differential attention's keys, cut from the projection. -/
def diffPrompts (Y : FVec Ideal S18432x6144 .f32) : FVec Ideal S4x4096x2x4x128 .f32 :=
  (shapeCast S4x4096x2x4x128 (shapeCast S4x4096x1024 (extractStridedSlice S16384x1024 ![0, 0] (extractStridedSlice S18432x1024 ![0, 2048] Y slices_S18432x6144_S18432x1024_0_2048 : FVec Ideal S18432x1024 .f32) slices_S18432x1024_S16384x1024_0_0 : FVec Ideal S16384x1024 .f32) shapeCasts_S16384x1024_S4x4096x1024 : FVec Ideal S4x4096x1024 .f32) shapeCasts_S4x4096x1024_S4x4096x2x4x128 : FVec Ideal S4x4096x2x4x128 .f32)

/-- Those states entry by entry. -/
theorem diffPrompts_apply (Y : FVec Ideal S18432x6144 .f32) (b : Fin 4) (t : Fin 4096) (u : Fin 2) (h : Fin 4) (d : Fin 128) :
    diffPrompts Y (ix5 b t u h d) = Y (ix2 (⟨b.val * 4096 + t.val, by omega⟩ : Fin 18432) (⟨2048 + (u.val * 512 + h.val * 128 + d.val), by omega⟩ : Fin 6144)) := by
  unfold diffPrompts
  pointwise

/-- The prompts' states of the sparse attention's keys, cut from the projection. -/
def sparsePrompts (Y : FVec Ideal S18432x6144 .f32) : FVec Ideal S4x4096x2x8x64 .f32 :=
  (shapeCast S4x4096x2x8x64 (shapeCast S4x4096x1024 (extractStridedSlice S16384x1024 ![0, 0] (extractStridedSlice S18432x1024 ![0, 3584] Y slices_S18432x6144_S18432x1024_0_3584 : FVec Ideal S18432x1024 .f32) slices_S18432x1024_S16384x1024_0_0 : FVec Ideal S16384x1024 .f32) shapeCasts_S16384x1024_S4x4096x1024 : FVec Ideal S4x4096x1024 .f32) shapeCasts_S4x4096x1024_S4x4096x2x8x64 : FVec Ideal S4x4096x2x8x64 .f32)

/-- Those states entry by entry. -/
theorem sparsePrompts_apply (Y : FVec Ideal S18432x6144 .f32) (b : Fin 4) (t : Fin 4096) (u : Fin 2) (h : Fin 8) (d : Fin 64) :
    sparsePrompts Y (ix5 b t u h d) = Y (ix2 (⟨b.val * 4096 + t.val, by omega⟩ : Fin 18432) (⟨3584 + (u.val * 512 + h.val * 64 + d.val), by omega⟩ : Fin 6144)) := by
  unfold sparsePrompts
  pointwise

/-- The prompts' states of the index keys, cut from the projection. -/
def keysPrompts (Y : FVec Ideal S18432x6144 .f32) : FVec Ideal S4x4096x64 .f32 :=
  (shapeCast S4x4096x64 (extractStridedSlice S16384x64 ![0, 0] (extractStridedSlice S18432x64 ![0, 6016] Y slices_S18432x6144_S18432x64_0_6016 : FVec Ideal S18432x64 .f32) slices_S18432x64_S16384x64_0_0 : FVec Ideal S16384x64 .f32) shapeCasts_S16384x64_S4x4096x64 : FVec Ideal S4x4096x64 .f32)

/-- Those states entry by entry. -/
theorem keysPrompts_apply (Y : FVec Ideal S18432x6144 .f32) (b : Fin 4) (t : Fin 4096) (j : Fin 64) :
    keysPrompts Y (ix3 b t j) = Y (ix2 (⟨b.val * 4096 + t.val, by omega⟩ : Fin 18432) (⟨6016 + j.val, by omega⟩ : Fin 6144)) := by
  unfold keysPrompts
  pointwise

/-- The samples' states of the chunk-band attention's keys, cut from the projection. -/
def bandSamples (Y : FVec Ideal S18432x6144 .f32) : FVec Ideal S32x64x2x8x64 .f32 :=
  (shapeCast S32x64x2x8x64 (shapeCast S32x64x1024 (extractStridedSlice S2048x1024 ![16384, 0] (extractStridedSlice S18432x1024 ![0, 512] Y slices_S18432x6144_S18432x1024_0_512 : FVec Ideal S18432x1024 .f32) slices_S18432x1024_S2048x1024_16384_0 : FVec Ideal S2048x1024 .f32) shapeCasts_S2048x1024_S32x64x1024 : FVec Ideal S32x64x1024 .f32) shapeCasts_S32x64x1024_S32x64x2x8x64 : FVec Ideal S32x64x2x8x64 .f32)

/-- Those states entry by entry. -/
theorem bandSamples_apply (Y : FVec Ideal S18432x6144 .f32) (b : Fin 32) (t : Fin 64) (u : Fin 2) (h : Fin 8) (d : Fin 64) :
    bandSamples Y (ix5 b t u h d) = Y (ix2 (⟨16384 + (b.val * 64 + t.val), by omega⟩ : Fin 18432) (⟨512 + (u.val * 512 + h.val * 64 + d.val), by omega⟩ : Fin 6144)) := by
  unfold bandSamples
  pointwise

/-- The samples' states of the differential attention's keys, cut from the projection. -/
def diffSamples (Y : FVec Ideal S18432x6144 .f32) : FVec Ideal S32x64x2x4x128 .f32 :=
  (shapeCast S32x64x2x4x128 (shapeCast S32x64x1024 (extractStridedSlice S2048x1024 ![16384, 0] (extractStridedSlice S18432x1024 ![0, 2048] Y slices_S18432x6144_S18432x1024_0_2048 : FVec Ideal S18432x1024 .f32) slices_S18432x1024_S2048x1024_16384_0 : FVec Ideal S2048x1024 .f32) shapeCasts_S2048x1024_S32x64x1024 : FVec Ideal S32x64x1024 .f32) shapeCasts_S32x64x1024_S32x64x2x4x128 : FVec Ideal S32x64x2x4x128 .f32)

/-- Those states entry by entry. -/
theorem diffSamples_apply (Y : FVec Ideal S18432x6144 .f32) (b : Fin 32) (t : Fin 64) (u : Fin 2) (h : Fin 4) (d : Fin 128) :
    diffSamples Y (ix5 b t u h d) = Y (ix2 (⟨16384 + (b.val * 64 + t.val), by omega⟩ : Fin 18432) (⟨2048 + (u.val * 512 + h.val * 128 + d.val), by omega⟩ : Fin 6144)) := by
  unfold diffSamples
  pointwise

/-- The samples' states of the sparse attention's keys, cut from the projection. -/
def sparseSamples (Y : FVec Ideal S18432x6144 .f32) : FVec Ideal S32x64x2x8x64 .f32 :=
  (shapeCast S32x64x2x8x64 (shapeCast S32x64x1024 (extractStridedSlice S2048x1024 ![16384, 0] (extractStridedSlice S18432x1024 ![0, 3584] Y slices_S18432x6144_S18432x1024_0_3584 : FVec Ideal S18432x1024 .f32) slices_S18432x1024_S2048x1024_16384_0 : FVec Ideal S2048x1024 .f32) shapeCasts_S2048x1024_S32x64x1024 : FVec Ideal S32x64x1024 .f32) shapeCasts_S32x64x1024_S32x64x2x8x64 : FVec Ideal S32x64x2x8x64 .f32)

/-- Those states entry by entry. -/
theorem sparseSamples_apply (Y : FVec Ideal S18432x6144 .f32) (b : Fin 32) (t : Fin 64) (u : Fin 2) (h : Fin 8) (d : Fin 64) :
    sparseSamples Y (ix5 b t u h d) = Y (ix2 (⟨16384 + (b.val * 64 + t.val), by omega⟩ : Fin 18432) (⟨3584 + (u.val * 512 + h.val * 64 + d.val), by omega⟩ : Fin 6144)) := by
  unfold sparseSamples
  pointwise

/-- The samples' states of the index keys, cut from the projection. -/
def keysSamples (Y : FVec Ideal S18432x6144 .f32) : FVec Ideal S32x64x64 .f32 :=
  (shapeCast S32x64x64 (extractStridedSlice S2048x64 ![16384, 0] (extractStridedSlice S18432x64 ![0, 6016] Y slices_S18432x6144_S18432x64_0_6016 : FVec Ideal S18432x64 .f32) slices_S18432x64_S2048x64_16384_0 : FVec Ideal S2048x64 .f32) shapeCasts_S2048x64_S32x64x64 : FVec Ideal S32x64x64 .f32)

/-- Those states entry by entry. -/
theorem keysSamples_apply (Y : FVec Ideal S18432x6144 .f32) (b : Fin 32) (t : Fin 64) (j : Fin 64) :
    keysSamples Y (ix3 b t j) = Y (ix2 (⟨16384 + (b.val * 64 + t.val), by omega⟩ : Fin 18432) (⟨6016 + j.val, by omega⟩ : Fin 6144)) := by
  unfold keysSamples
  pointwise

/-- What the operations after the kernel leave in this result. -/
theorem read_bandPrompts (W : Valuation τ sig (Elt Ideal)) : StableHlo.after (List.flatten [hostOps1]) W (Proc.devRef .tc main_v46) = bandPrompts (W (Proc.devRef .tc main_v24_0)) := by
  unfold bandPrompts
  show StableHlo.after hostOps1 W _ = _
  after_results_simp
  try rfl

/-- This result is the cut of the projection. -/
theorem tail_bandPrompts : Pipeline.afterTail₀ cfgs (dats m) 0 (V0 m) [hostOps1] (0 : Dev nD) main_v46 = bandPrompts ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_bandPrompts _).trans (congrArg bandPrompts h)

/-- What the operations after the kernel leave in this result. -/
theorem read_diffPrompts (W : Valuation τ sig (Elt Ideal)) : StableHlo.after (List.flatten [hostOps1]) W (Proc.devRef .tc main_v47) = diffPrompts (W (Proc.devRef .tc main_v24_0)) := by
  unfold diffPrompts
  show StableHlo.after hostOps1 W _ = _
  after_results_simp
  try rfl

/-- This result is the cut of the projection. -/
theorem tail_diffPrompts : Pipeline.afterTail₀ cfgs (dats m) 0 (V0 m) [hostOps1] (0 : Dev nD) main_v47 = diffPrompts ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_diffPrompts _).trans (congrArg diffPrompts h)

/-- What the operations after the kernel leave in this result. -/
theorem read_sparsePrompts (W : Valuation τ sig (Elt Ideal)) : StableHlo.after (List.flatten [hostOps1]) W (Proc.devRef .tc main_v48) = sparsePrompts (W (Proc.devRef .tc main_v24_0)) := by
  unfold sparsePrompts
  show StableHlo.after hostOps1 W _ = _
  after_results_simp
  try rfl

/-- This result is the cut of the projection. -/
theorem tail_sparsePrompts : Pipeline.afterTail₀ cfgs (dats m) 0 (V0 m) [hostOps1] (0 : Dev nD) main_v48 = sparsePrompts ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_sparsePrompts _).trans (congrArg sparsePrompts h)

/-- What the operations after the kernel leave in this result. -/
theorem read_keysPrompts (W : Valuation τ sig (Elt Ideal)) : StableHlo.after (List.flatten [hostOps1]) W (Proc.devRef .tc main_v42) = keysPrompts (W (Proc.devRef .tc main_v24_0)) := by
  unfold keysPrompts
  show StableHlo.after hostOps1 W _ = _
  after_results_simp
  try rfl

/-- This result is the cut of the projection. -/
theorem tail_keysPrompts : Pipeline.afterTail₀ cfgs (dats m) 0 (V0 m) [hostOps1] (0 : Dev nD) main_v42 = keysPrompts ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_keysPrompts _).trans (congrArg keysPrompts h)

/-- What the operations after the kernel leave in this result. -/
theorem read_bandSamples (W : Valuation τ sig (Elt Ideal)) : StableHlo.after (List.flatten [hostOps1]) W (Proc.devRef .tc main_v49) = bandSamples (W (Proc.devRef .tc main_v24_0)) := by
  unfold bandSamples
  show StableHlo.after hostOps1 W _ = _
  after_results_simp
  try rfl

/-- This result is the cut of the projection. -/
theorem tail_bandSamples : Pipeline.afterTail₀ cfgs (dats m) 0 (V0 m) [hostOps1] (0 : Dev nD) main_v49 = bandSamples ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_bandSamples _).trans (congrArg bandSamples h)

/-- What the operations after the kernel leave in this result. -/
theorem read_diffSamples (W : Valuation τ sig (Elt Ideal)) : StableHlo.after (List.flatten [hostOps1]) W (Proc.devRef .tc main_v50) = diffSamples (W (Proc.devRef .tc main_v24_0)) := by
  unfold diffSamples
  show StableHlo.after hostOps1 W _ = _
  after_results_simp
  try rfl

/-- This result is the cut of the projection. -/
theorem tail_diffSamples : Pipeline.afterTail₀ cfgs (dats m) 0 (V0 m) [hostOps1] (0 : Dev nD) main_v50 = diffSamples ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_diffSamples _).trans (congrArg diffSamples h)

/-- What the operations after the kernel leave in this result. -/
theorem read_sparseSamples (W : Valuation τ sig (Elt Ideal)) : StableHlo.after (List.flatten [hostOps1]) W (Proc.devRef .tc main_v51) = sparseSamples (W (Proc.devRef .tc main_v24_0)) := by
  unfold sparseSamples
  show StableHlo.after hostOps1 W _ = _
  after_results_simp
  try rfl

/-- This result is the cut of the projection. -/
theorem tail_sparseSamples : Pipeline.afterTail₀ cfgs (dats m) 0 (V0 m) [hostOps1] (0 : Dev nD) main_v51 = sparseSamples ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_sparseSamples _).trans (congrArg sparseSamples h)

/-- What the operations after the kernel leave in this result. -/
theorem read_keysSamples (W : Valuation τ sig (Elt Ideal)) : StableHlo.after (List.flatten [hostOps1]) W (Proc.devRef .tc main_v44) = keysSamples (W (Proc.devRef .tc main_v24_0)) := by
  unfold keysSamples
  show StableHlo.after hostOps1 W _ = _
  after_results_simp
  try rfl

/-- This result is the cut of the projection. -/
theorem tail_keysSamples : Pipeline.afterTail₀ cfgs (dats m) 0 (V0 m) [hostOps1] (0 : Dev nD) main_v44 = keysSamples ((dats m 0 (0 : Dev nD)).arrAt 2 cfg0.N) := by
  unfold Pipeline.afterTail₀
  have h : (Pipeline.withArrays spec0 (0 : Dev nD) (V0 m (0 : Dev nD)) fun w => (dats m 0 (0 : Dev nD)).arrAt w cfg0.N) (Proc.devRef .tc main_v24_0)
      = (dats m 0 (0 : Dev nD)).arrAt 2 cfg0.N :=
    Pipeline.withArrays_arr spec0 (by decide) (0 : Dev nD) (V0 m (0 : Dev nD)) (fun w => (dats m 0 (0 : Dev nD)).arrAt w cfg0.N) 2
  exact (read_keysSamples _).trans (congrArg keysSamples h)

/-- A row times a column. -/
def entry (X : FVec Ideal S18432x2048 .bf16) (w : FVec Ideal S2048x5864 .f32) (r : Fin 18432) (c : Fin 5864) : EReal :=
  ∑ k : Fin 2048, (X (ix2 r k) : EReal) * w (ix2 k c)

/-- The projection's columns of the first branch's keys. -/
theorem entry_ak (X : FVec Ideal S18432x2048 .bf16) (w : FVec Ideal S2048x5864 .f32) (r : Fin 18432) (j : Fin 512) :
    whole X (padded w) (ix2 r (⟨512 + j.val, by omega⟩ : Fin 6144)) = entry X w r (⟨512 + j.val, by omega⟩ : Fin 5864) :=
  Finset.sum_congr rfl fun k _ => congrArg (fun z : EReal => (X (ix2 r k) : EReal) * z) (padded_ak w k j)

/-- The projection's columns of the first branch's values. -/
theorem entry_av (X : FVec Ideal S18432x2048 .bf16) (w : FVec Ideal S2048x5864 .f32) (r : Fin 18432) (j : Fin 512) :
    whole X (padded w) (ix2 r (⟨1024 + j.val, by omega⟩ : Fin 6144)) = entry X w r (⟨1024 + j.val, by omega⟩ : Fin 5864) :=
  Finset.sum_congr rfl fun k _ => congrArg (fun z : EReal => (X (ix2 r k) : EReal) * z) (padded_av w k j)

/-- The projection's columns of the second branch's keys. -/
theorem entry_bk (X : FVec Ideal S18432x2048 .bf16) (w : FVec Ideal S2048x5864 .f32) (r : Fin 18432) (j : Fin 512) :
    whole X (padded w) (ix2 r (⟨2048 + j.val, by omega⟩ : Fin 6144)) = entry X w r (⟨2048 + j.val, by omega⟩ : Fin 5864) :=
  Finset.sum_congr rfl fun k _ => congrArg (fun z : EReal => (X (ix2 r k) : EReal) * z) (padded_bk w k j)

/-- The projection's columns of the second branch's values. -/
theorem entry_bv (X : FVec Ideal S18432x2048 .bf16) (w : FVec Ideal S2048x5864 .f32) (r : Fin 18432) (j : Fin 512) :
    whole X (padded w) (ix2 r (⟨2560 + j.val, by omega⟩ : Fin 6144)) = entry X w r (⟨2560 + j.val, by omega⟩ : Fin 5864) :=
  Finset.sum_congr rfl fun k _ => congrArg (fun z : EReal => (X (ix2 r k) : EReal) * z) (padded_bv w k j)

/-- The projection's columns of the last branch's keys. -/
theorem entry_dk (X : FVec Ideal S18432x2048 .bf16) (w : FVec Ideal S2048x5864 .f32) (r : Fin 18432) (j : Fin 512) :
    whole X (padded w) (ix2 r (⟨3584 + j.val, by omega⟩ : Fin 6144)) = entry X w r (⟨4256 + j.val, by omega⟩ : Fin 5864) :=
  Finset.sum_congr rfl fun k _ => congrArg (fun z : EReal => (X (ix2 r k) : EReal) * z) (padded_dk w k j)

/-- The projection's columns of the last branch's values. -/
theorem entry_dv (X : FVec Ideal S18432x2048 .bf16) (w : FVec Ideal S2048x5864 .f32) (r : Fin 18432) (j : Fin 512) :
    whole X (padded w) (ix2 r (⟨4096 + j.val, by omega⟩ : Fin 6144)) = entry X w r (⟨4768 + j.val, by omega⟩ : Fin 5864) :=
  Finset.sum_congr rfl fun k _ => congrArg (fun z : EReal => (X (ix2 r k) : EReal) * z) (padded_dv w k j)

/-- The projection's columns of the index keys. -/
theorem entry_ki (X : FVec Ideal S18432x2048 .bf16) (w : FVec Ideal S2048x5864 .f32) (r : Fin 18432) (j : Fin 64) :
    whole X (padded w) (ix2 r (⟨6016 + j.val, by omega⟩ : Fin 6144)) = entry X w r (⟨5792 + j.val, by omega⟩ : Fin 5864) :=
  Finset.sum_congr rfl fun k _ => congrArg (fun z : EReal => (X (ix2 r k) : EReal) * z) (padded_ki w k j)

end Cert.StatesIdeal.Dense

namespace Cert.RefStatesIdeal.Dense

open Idealize.ShloMosaic Idealize.SL.Sem
open Cert.RefStatesIdeal Cert.RefStatesIdeal.Gen
open Cert.StatesIdeal.Dense (whole padded entry entry_ak entry_av entry_bk entry_bv entry_dk entry_dv entry_ki)

/-- The product of the prompts' rows with the weights. -/
def prodP (X : FVec Ideal S18432x2048 .bf16) (w : FVec Ideal S2048x5864 .f32) : FVec Ideal S4x4096x5864 .f32 :=
  Host.dotGeneral (F := Ideal) (φ₁ := .f32) (φ₂ := .f32) dot_S4x4096x2048_S2048x5864_S4x4096x5864_2_0_01_1_n_n none
    (shapeCast S4x4096x2048 (extractStridedSlice S16384x2048 ![0, 0] (extf .f32 X bitsLt_bf16_f32 : FVec Ideal S18432x2048 .f32) slices_S18432x2048_S16384x2048_0_0 : FVec Ideal S16384x2048 .f32)
      shapeCasts_S16384x2048_S4x4096x2048 : FVec Ideal S4x4096x2048 .f32) w

/-- That product entry by entry. -/
theorem prodP_apply (X : FVec Ideal S18432x2048 .bf16) (w : FVec Ideal S2048x5864 .f32) (b : Fin 4) (t : Fin 4096) (c : Fin 5864) :
    prodP X w (ix3 b t c) = entry X w (⟨b.val * 4096 + t.val, by omega⟩ : Fin 18432) c := by
  unfold prodP entry
  have h1 : ∀ (A : FVec Ideal S4x4096x2048 .f32), (Host.dotGeneral (F := Ideal) (φ₁ := .f32) (φ₂ := .f32) dot_S4x4096x2048_S2048x5864_S4x4096x5864_2_0_01_1_n_n none A w : FVec Ideal S4x4096x5864 .f32) (ix3 b t c)
      = ∑ k : Fin 2048, A (ix3 b t k) * w (ix2 k c) := fun A => by
    pointwise
  have h2 : ∀ (Z : FVec Ideal S18432x2048 .f32) (k : Fin 2048), (shapeCast S4x4096x2048 (extractStridedSlice S16384x2048 ![0, 0] Z slices_S18432x2048_S16384x2048_0_0 : FVec Ideal S16384x2048 .f32)
      shapeCasts_S16384x2048_S4x4096x2048 : FVec Ideal S4x4096x2048 .f32) (ix3 b t k) = Z (ix2 (⟨b.val * 4096 + t.val, by omega⟩ : Fin 18432) k) := fun Z k => by
    pointwise
  exact (h1 _).trans (Finset.sum_congr rfl fun k _ => congrArg (fun z : EReal => z * w (ix2 k c)) (h2 _ k))

/-- The product of the samples' rows with the weights. -/
def prodS (X : FVec Ideal S18432x2048 .bf16) (w : FVec Ideal S2048x5864 .f32) : FVec Ideal S32x64x5864 .f32 :=
  Host.dotGeneral (F := Ideal) (φ₁ := .f32) (φ₂ := .f32) dot_S32x64x2048_S2048x5864_S32x64x5864_2_0_01_1_n_n none
    (shapeCast S32x64x2048 (extractStridedSlice S2048x2048 ![16384, 0] (extf .f32 X bitsLt_bf16_f32 : FVec Ideal S18432x2048 .f32) slices_S18432x2048_S2048x2048_16384_0 : FVec Ideal S2048x2048 .f32)
      shapeCasts_S2048x2048_S32x64x2048 : FVec Ideal S32x64x2048 .f32) w

/-- That product entry by entry. -/
theorem prodS_apply (X : FVec Ideal S18432x2048 .bf16) (w : FVec Ideal S2048x5864 .f32) (b : Fin 32) (t : Fin 64) (c : Fin 5864) :
    prodS X w (ix3 b t c) = entry X w (⟨16384 + (b.val * 64 + t.val), by omega⟩ : Fin 18432) c := by
  unfold prodS entry
  have h1 : ∀ (A : FVec Ideal S32x64x2048 .f32), (Host.dotGeneral (F := Ideal) (φ₁ := .f32) (φ₂ := .f32) dot_S32x64x2048_S2048x5864_S32x64x5864_2_0_01_1_n_n none A w : FVec Ideal S32x64x5864 .f32) (ix3 b t c)
      = ∑ k : Fin 2048, A (ix3 b t k) * w (ix2 k c) := fun A => by
    pointwise
  have h2 : ∀ (Z : FVec Ideal S18432x2048 .f32) (k : Fin 2048), (shapeCast S32x64x2048 (extractStridedSlice S2048x2048 ![16384, 0] Z slices_S18432x2048_S2048x2048_16384_0 : FVec Ideal S2048x2048 .f32)
      shapeCasts_S2048x2048_S32x64x2048 : FVec Ideal S32x64x2048 .f32) (ix3 b t k) = Z (ix2 (⟨16384 + (b.val * 64 + t.val), by omega⟩ : Fin 18432) k) := fun Z k => by
    pointwise
  exact (h1 _).trans (Finset.sum_congr rfl fun k _ => congrArg (fun z : EReal => z * w (ix2 k c)) (h2 _ k))

/-- The prompts' keys and values of the chunk-band attention's, side by side. -/
def pair_bandPrompts (A : FVec Ideal S4x4096x5864 .f32) : FVec Ideal S4x4096x2x8x64 .f32 :=
  concatenate S4x4096x2x8x64 2 [⟨S4x4096x1x8x64, (broadcastInDim S4x4096x1x8x64 ![0, 1, 3, 4] bcast_S4x4096x8x64_S4x4096x1x8x64_0_1_3_4 (shapeCast S4x4096x8x64 (extractStridedSlice S4x4096x512 ![0, 0, 512] A slices_S4x4096x5864_S4x4096x512_0_0_512 : FVec Ideal S4x4096x512 .f32) shapeCasts_S4x4096x512_S4x4096x8x64 : FVec Ideal S4x4096x8x64 .f32) : FVec Ideal S4x4096x1x8x64 .f32)⟩, ⟨S4x4096x1x8x64, (broadcastInDim S4x4096x1x8x64 ![0, 1, 3, 4] bcast_S4x4096x8x64_S4x4096x1x8x64_0_1_3_4 (shapeCast S4x4096x8x64 (extractStridedSlice S4x4096x512 ![0, 0, 1024] A slices_S4x4096x5864_S4x4096x512_0_0_1024 : FVec Ideal S4x4096x512 .f32) shapeCasts_S4x4096x512_S4x4096x8x64 : FVec Ideal S4x4096x8x64 .f32) : FVec Ideal S4x4096x1x8x64 .f32)⟩] concatenates_S4x4096x1x8x64_S4x4096x1x8x64_S4x4096x2x8x64_d2

/-- They entry by entry. -/
theorem pair_bandPrompts_apply (A : FVec Ideal S4x4096x5864 .f32) (b : Fin 4) (t : Fin 4096) (u : Fin 2) (h : Fin 8) (d : Fin 64) :
    pair_bandPrompts A (ix5 b t u h d) = if u.val < 1 then A (ix3 b t (⟨512 + (h.val * 64 + d.val), by omega⟩ : Fin 5864)) else A (ix3 b t (⟨1024 + (h.val * 64 + d.val), by omega⟩ : Fin 5864)) := by
  unfold pair_bandPrompts
  have h1 : ∀ P Q : FVec Ideal S4x4096x1x8x64 .f32, (concatenate S4x4096x2x8x64 2 [⟨S4x4096x1x8x64, P⟩, ⟨S4x4096x1x8x64, Q⟩] concatenates_S4x4096x1x8x64_S4x4096x1x8x64_S4x4096x2x8x64_d2 : FVec Ideal S4x4096x2x8x64 .f32) (ix5 b t u h d)
      = if u.val < 1 then P (ix5 b t (0 : Fin 1) h d) else Q (ix5 b t (0 : Fin 1) h d) := fun P Q => by
    pointwise
    by_cases hu : u.val < 1
    · rw [dif_pos hu, if_pos hu]
      exact congrArg (fun z => P (ix5 b t z h d)) (Subsingleton.elim _ _)
    · rw [dif_neg hu, if_neg hu]
      exact congrArg (fun z => Q (ix5 b t z h d)) (Subsingleton.elim _ _)
  have h2 : (broadcastInDim S4x4096x1x8x64 ![0, 1, 3, 4] bcast_S4x4096x8x64_S4x4096x1x8x64_0_1_3_4 (shapeCast S4x4096x8x64 (extractStridedSlice S4x4096x512 ![0, 0, 512] A slices_S4x4096x5864_S4x4096x512_0_0_512 : FVec Ideal S4x4096x512 .f32) shapeCasts_S4x4096x512_S4x4096x8x64 : FVec Ideal S4x4096x8x64 .f32) : FVec Ideal S4x4096x1x8x64 .f32) (ix5 b t (0 : Fin 1) h d) = A (ix3 b t (⟨512 + (h.val * 64 + d.val), by omega⟩ : Fin 5864)) := by
    pointwise
  have h3 : (broadcastInDim S4x4096x1x8x64 ![0, 1, 3, 4] bcast_S4x4096x8x64_S4x4096x1x8x64_0_1_3_4 (shapeCast S4x4096x8x64 (extractStridedSlice S4x4096x512 ![0, 0, 1024] A slices_S4x4096x5864_S4x4096x512_0_0_1024 : FVec Ideal S4x4096x512 .f32) shapeCasts_S4x4096x512_S4x4096x8x64 : FVec Ideal S4x4096x8x64 .f32) : FVec Ideal S4x4096x1x8x64 .f32) (ix5 b t (0 : Fin 1) h d) = A (ix3 b t (⟨1024 + (h.val * 64 + d.val), by omega⟩ : Fin 5864)) := by
    pointwise
  refine (h1 _ _).trans ?_
  rw [h2, h3]

/-- The reference's states of the chunk-band attention's keys, cut from the prompts' product. -/
def ref_bandPrompts (A : FVec Ideal S4x4096x5864 .f32) : FVec Ideal S4x512x2x8x64 .f32 :=
  (extractStridedSlice S4x512x2x8x64 ![0, 3584, 0, 0, 0] (pair_bandPrompts A) slices_S4x4096x2x8x64_S4x512x2x8x64_0_3584_0_0_0 : FVec Ideal S4x512x2x8x64 .f32)

/-- The prompts' keys and values of the differential attention's, side by side. -/
def pair_diffPrompts (A : FVec Ideal S4x4096x5864 .f32) : FVec Ideal S4x4096x2x4x128 .f32 :=
  concatenate S4x4096x2x4x128 2 [⟨S4x4096x1x4x128, (broadcastInDim S4x4096x1x4x128 ![0, 1, 3, 4] bcast_S4x4096x4x128_S4x4096x1x4x128_0_1_3_4 (shapeCast S4x4096x4x128 (extractStridedSlice S4x4096x512 ![0, 0, 2048] A slices_S4x4096x5864_S4x4096x512_0_0_2048 : FVec Ideal S4x4096x512 .f32) shapeCasts_S4x4096x512_S4x4096x4x128 : FVec Ideal S4x4096x4x128 .f32) : FVec Ideal S4x4096x1x4x128 .f32)⟩, ⟨S4x4096x1x4x128, (broadcastInDim S4x4096x1x4x128 ![0, 1, 3, 4] bcast_S4x4096x4x128_S4x4096x1x4x128_0_1_3_4 (shapeCast S4x4096x4x128 (extractStridedSlice S4x4096x512 ![0, 0, 2560] A slices_S4x4096x5864_S4x4096x512_0_0_2560 : FVec Ideal S4x4096x512 .f32) shapeCasts_S4x4096x512_S4x4096x4x128 : FVec Ideal S4x4096x4x128 .f32) : FVec Ideal S4x4096x1x4x128 .f32)⟩] concatenates_S4x4096x1x4x128_S4x4096x1x4x128_S4x4096x2x4x128_d2

/-- They entry by entry. -/
theorem pair_diffPrompts_apply (A : FVec Ideal S4x4096x5864 .f32) (b : Fin 4) (t : Fin 4096) (u : Fin 2) (h : Fin 4) (d : Fin 128) :
    pair_diffPrompts A (ix5 b t u h d) = if u.val < 1 then A (ix3 b t (⟨2048 + (h.val * 128 + d.val), by omega⟩ : Fin 5864)) else A (ix3 b t (⟨2560 + (h.val * 128 + d.val), by omega⟩ : Fin 5864)) := by
  unfold pair_diffPrompts
  have h1 : ∀ P Q : FVec Ideal S4x4096x1x4x128 .f32, (concatenate S4x4096x2x4x128 2 [⟨S4x4096x1x4x128, P⟩, ⟨S4x4096x1x4x128, Q⟩] concatenates_S4x4096x1x4x128_S4x4096x1x4x128_S4x4096x2x4x128_d2 : FVec Ideal S4x4096x2x4x128 .f32) (ix5 b t u h d)
      = if u.val < 1 then P (ix5 b t (0 : Fin 1) h d) else Q (ix5 b t (0 : Fin 1) h d) := fun P Q => by
    pointwise
    by_cases hu : u.val < 1
    · rw [dif_pos hu, if_pos hu]
      exact congrArg (fun z => P (ix5 b t z h d)) (Subsingleton.elim _ _)
    · rw [dif_neg hu, if_neg hu]
      exact congrArg (fun z => Q (ix5 b t z h d)) (Subsingleton.elim _ _)
  have h2 : (broadcastInDim S4x4096x1x4x128 ![0, 1, 3, 4] bcast_S4x4096x4x128_S4x4096x1x4x128_0_1_3_4 (shapeCast S4x4096x4x128 (extractStridedSlice S4x4096x512 ![0, 0, 2048] A slices_S4x4096x5864_S4x4096x512_0_0_2048 : FVec Ideal S4x4096x512 .f32) shapeCasts_S4x4096x512_S4x4096x4x128 : FVec Ideal S4x4096x4x128 .f32) : FVec Ideal S4x4096x1x4x128 .f32) (ix5 b t (0 : Fin 1) h d) = A (ix3 b t (⟨2048 + (h.val * 128 + d.val), by omega⟩ : Fin 5864)) := by
    pointwise
  have h3 : (broadcastInDim S4x4096x1x4x128 ![0, 1, 3, 4] bcast_S4x4096x4x128_S4x4096x1x4x128_0_1_3_4 (shapeCast S4x4096x4x128 (extractStridedSlice S4x4096x512 ![0, 0, 2560] A slices_S4x4096x5864_S4x4096x512_0_0_2560 : FVec Ideal S4x4096x512 .f32) shapeCasts_S4x4096x512_S4x4096x4x128 : FVec Ideal S4x4096x4x128 .f32) : FVec Ideal S4x4096x1x4x128 .f32) (ix5 b t (0 : Fin 1) h d) = A (ix3 b t (⟨2560 + (h.val * 128 + d.val), by omega⟩ : Fin 5864)) := by
    pointwise
  refine (h1 _ _).trans ?_
  rw [h2, h3]

/-- The reference's states of the differential attention's keys, cut from the prompts' product. -/
def ref_diffPrompts (A : FVec Ideal S4x4096x5864 .f32) : FVec Ideal S4x4096x2x4x128 .f32 :=
  pair_diffPrompts A

/-- The prompts' keys and values of the sparse attention's, side by side. -/
def pair_sparsePrompts (A : FVec Ideal S4x4096x5864 .f32) : FVec Ideal S4x4096x2x8x64 .f32 :=
  concatenate S4x4096x2x8x64 2 [⟨S4x4096x1x8x64, (broadcastInDim S4x4096x1x8x64 ![0, 1, 3, 4] bcast_S4x4096x8x64_S4x4096x1x8x64_0_1_3_4 (shapeCast S4x4096x8x64 (extractStridedSlice S4x4096x512 ![0, 0, 4256] A slices_S4x4096x5864_S4x4096x512_0_0_4256 : FVec Ideal S4x4096x512 .f32) shapeCasts_S4x4096x512_S4x4096x8x64 : FVec Ideal S4x4096x8x64 .f32) : FVec Ideal S4x4096x1x8x64 .f32)⟩, ⟨S4x4096x1x8x64, (broadcastInDim S4x4096x1x8x64 ![0, 1, 3, 4] bcast_S4x4096x8x64_S4x4096x1x8x64_0_1_3_4 (shapeCast S4x4096x8x64 (extractStridedSlice S4x4096x512 ![0, 0, 4768] A slices_S4x4096x5864_S4x4096x512_0_0_4768 : FVec Ideal S4x4096x512 .f32) shapeCasts_S4x4096x512_S4x4096x8x64 : FVec Ideal S4x4096x8x64 .f32) : FVec Ideal S4x4096x1x8x64 .f32)⟩] concatenates_S4x4096x1x8x64_S4x4096x1x8x64_S4x4096x2x8x64_d2

/-- They entry by entry. -/
theorem pair_sparsePrompts_apply (A : FVec Ideal S4x4096x5864 .f32) (b : Fin 4) (t : Fin 4096) (u : Fin 2) (h : Fin 8) (d : Fin 64) :
    pair_sparsePrompts A (ix5 b t u h d) = if u.val < 1 then A (ix3 b t (⟨4256 + (h.val * 64 + d.val), by omega⟩ : Fin 5864)) else A (ix3 b t (⟨4768 + (h.val * 64 + d.val), by omega⟩ : Fin 5864)) := by
  unfold pair_sparsePrompts
  have h1 : ∀ P Q : FVec Ideal S4x4096x1x8x64 .f32, (concatenate S4x4096x2x8x64 2 [⟨S4x4096x1x8x64, P⟩, ⟨S4x4096x1x8x64, Q⟩] concatenates_S4x4096x1x8x64_S4x4096x1x8x64_S4x4096x2x8x64_d2 : FVec Ideal S4x4096x2x8x64 .f32) (ix5 b t u h d)
      = if u.val < 1 then P (ix5 b t (0 : Fin 1) h d) else Q (ix5 b t (0 : Fin 1) h d) := fun P Q => by
    pointwise
    by_cases hu : u.val < 1
    · rw [dif_pos hu, if_pos hu]
      exact congrArg (fun z => P (ix5 b t z h d)) (Subsingleton.elim _ _)
    · rw [dif_neg hu, if_neg hu]
      exact congrArg (fun z => Q (ix5 b t z h d)) (Subsingleton.elim _ _)
  have h2 : (broadcastInDim S4x4096x1x8x64 ![0, 1, 3, 4] bcast_S4x4096x8x64_S4x4096x1x8x64_0_1_3_4 (shapeCast S4x4096x8x64 (extractStridedSlice S4x4096x512 ![0, 0, 4256] A slices_S4x4096x5864_S4x4096x512_0_0_4256 : FVec Ideal S4x4096x512 .f32) shapeCasts_S4x4096x512_S4x4096x8x64 : FVec Ideal S4x4096x8x64 .f32) : FVec Ideal S4x4096x1x8x64 .f32) (ix5 b t (0 : Fin 1) h d) = A (ix3 b t (⟨4256 + (h.val * 64 + d.val), by omega⟩ : Fin 5864)) := by
    pointwise
  have h3 : (broadcastInDim S4x4096x1x8x64 ![0, 1, 3, 4] bcast_S4x4096x8x64_S4x4096x1x8x64_0_1_3_4 (shapeCast S4x4096x8x64 (extractStridedSlice S4x4096x512 ![0, 0, 4768] A slices_S4x4096x5864_S4x4096x512_0_0_4768 : FVec Ideal S4x4096x512 .f32) shapeCasts_S4x4096x512_S4x4096x8x64 : FVec Ideal S4x4096x8x64 .f32) : FVec Ideal S4x4096x1x8x64 .f32) (ix5 b t (0 : Fin 1) h d) = A (ix3 b t (⟨4768 + (h.val * 64 + d.val), by omega⟩ : Fin 5864)) := by
    pointwise
  refine (h1 _ _).trans ?_
  rw [h2, h3]

/-- The reference's states of the sparse attention's keys, cut from the prompts' product. -/
def ref_sparsePrompts (A : FVec Ideal S4x4096x5864 .f32) : FVec Ideal S4x4096x2x8x64 .f32 :=
  pair_sparsePrompts A

/-- The reference's states of the index keys, cut from the prompts' product. -/
def ref_keysPrompts (A : FVec Ideal S4x4096x5864 .f32) : FVec Ideal S4x4096x64 .f32 :=
  (extractStridedSlice S4x4096x64 ![0, 0, 5792] A slices_S4x4096x5864_S4x4096x64_0_0_5792 : FVec Ideal S4x4096x64 .f32)

/-- The samples' keys and values of the chunk-band attention's, side by side. -/
def pair_bandSamples (A : FVec Ideal S32x64x5864 .f32) : FVec Ideal S32x64x2x8x64 .f32 :=
  concatenate S32x64x2x8x64 2 [⟨S32x64x1x8x64, (broadcastInDim S32x64x1x8x64 ![0, 1, 3, 4] bcast_S32x64x8x64_S32x64x1x8x64_0_1_3_4 (shapeCast S32x64x8x64 (extractStridedSlice S32x64x512 ![0, 0, 512] A slices_S32x64x5864_S32x64x512_0_0_512 : FVec Ideal S32x64x512 .f32) shapeCasts_S32x64x512_S32x64x8x64 : FVec Ideal S32x64x8x64 .f32) : FVec Ideal S32x64x1x8x64 .f32)⟩, ⟨S32x64x1x8x64, (broadcastInDim S32x64x1x8x64 ![0, 1, 3, 4] bcast_S32x64x8x64_S32x64x1x8x64_0_1_3_4 (shapeCast S32x64x8x64 (extractStridedSlice S32x64x512 ![0, 0, 1024] A slices_S32x64x5864_S32x64x512_0_0_1024 : FVec Ideal S32x64x512 .f32) shapeCasts_S32x64x512_S32x64x8x64 : FVec Ideal S32x64x8x64 .f32) : FVec Ideal S32x64x1x8x64 .f32)⟩] concatenates_S32x64x1x8x64_S32x64x1x8x64_S32x64x2x8x64_d2

/-- They entry by entry. -/
theorem pair_bandSamples_apply (A : FVec Ideal S32x64x5864 .f32) (b : Fin 32) (t : Fin 64) (u : Fin 2) (h : Fin 8) (d : Fin 64) :
    pair_bandSamples A (ix5 b t u h d) = if u.val < 1 then A (ix3 b t (⟨512 + (h.val * 64 + d.val), by omega⟩ : Fin 5864)) else A (ix3 b t (⟨1024 + (h.val * 64 + d.val), by omega⟩ : Fin 5864)) := by
  unfold pair_bandSamples
  have h1 : ∀ P Q : FVec Ideal S32x64x1x8x64 .f32, (concatenate S32x64x2x8x64 2 [⟨S32x64x1x8x64, P⟩, ⟨S32x64x1x8x64, Q⟩] concatenates_S32x64x1x8x64_S32x64x1x8x64_S32x64x2x8x64_d2 : FVec Ideal S32x64x2x8x64 .f32) (ix5 b t u h d)
      = if u.val < 1 then P (ix5 b t (0 : Fin 1) h d) else Q (ix5 b t (0 : Fin 1) h d) := fun P Q => by
    pointwise
    by_cases hu : u.val < 1
    · rw [dif_pos hu, if_pos hu]
      exact congrArg (fun z => P (ix5 b t z h d)) (Subsingleton.elim _ _)
    · rw [dif_neg hu, if_neg hu]
      exact congrArg (fun z => Q (ix5 b t z h d)) (Subsingleton.elim _ _)
  have h2 : (broadcastInDim S32x64x1x8x64 ![0, 1, 3, 4] bcast_S32x64x8x64_S32x64x1x8x64_0_1_3_4 (shapeCast S32x64x8x64 (extractStridedSlice S32x64x512 ![0, 0, 512] A slices_S32x64x5864_S32x64x512_0_0_512 : FVec Ideal S32x64x512 .f32) shapeCasts_S32x64x512_S32x64x8x64 : FVec Ideal S32x64x8x64 .f32) : FVec Ideal S32x64x1x8x64 .f32) (ix5 b t (0 : Fin 1) h d) = A (ix3 b t (⟨512 + (h.val * 64 + d.val), by omega⟩ : Fin 5864)) := by
    pointwise
  have h3 : (broadcastInDim S32x64x1x8x64 ![0, 1, 3, 4] bcast_S32x64x8x64_S32x64x1x8x64_0_1_3_4 (shapeCast S32x64x8x64 (extractStridedSlice S32x64x512 ![0, 0, 1024] A slices_S32x64x5864_S32x64x512_0_0_1024 : FVec Ideal S32x64x512 .f32) shapeCasts_S32x64x512_S32x64x8x64 : FVec Ideal S32x64x8x64 .f32) : FVec Ideal S32x64x1x8x64 .f32) (ix5 b t (0 : Fin 1) h d) = A (ix3 b t (⟨1024 + (h.val * 64 + d.val), by omega⟩ : Fin 5864)) := by
    pointwise
  refine (h1 _ _).trans ?_
  rw [h2, h3]

/-- The reference's states of the chunk-band attention's keys, cut from the samples' product. -/
def ref_bandSamples (A : FVec Ideal S32x64x5864 .f32) : FVec Ideal S32x64x2x8x64 .f32 :=
  pair_bandSamples A

/-- The samples' keys and values of the differential attention's, side by side. -/
def pair_diffSamples (A : FVec Ideal S32x64x5864 .f32) : FVec Ideal S32x64x2x4x128 .f32 :=
  concatenate S32x64x2x4x128 2 [⟨S32x64x1x4x128, (broadcastInDim S32x64x1x4x128 ![0, 1, 3, 4] bcast_S32x64x4x128_S32x64x1x4x128_0_1_3_4 (shapeCast S32x64x4x128 (extractStridedSlice S32x64x512 ![0, 0, 2048] A slices_S32x64x5864_S32x64x512_0_0_2048 : FVec Ideal S32x64x512 .f32) shapeCasts_S32x64x512_S32x64x4x128 : FVec Ideal S32x64x4x128 .f32) : FVec Ideal S32x64x1x4x128 .f32)⟩, ⟨S32x64x1x4x128, (broadcastInDim S32x64x1x4x128 ![0, 1, 3, 4] bcast_S32x64x4x128_S32x64x1x4x128_0_1_3_4 (shapeCast S32x64x4x128 (extractStridedSlice S32x64x512 ![0, 0, 2560] A slices_S32x64x5864_S32x64x512_0_0_2560 : FVec Ideal S32x64x512 .f32) shapeCasts_S32x64x512_S32x64x4x128 : FVec Ideal S32x64x4x128 .f32) : FVec Ideal S32x64x1x4x128 .f32)⟩] concatenates_S32x64x1x4x128_S32x64x1x4x128_S32x64x2x4x128_d2

/-- They entry by entry. -/
theorem pair_diffSamples_apply (A : FVec Ideal S32x64x5864 .f32) (b : Fin 32) (t : Fin 64) (u : Fin 2) (h : Fin 4) (d : Fin 128) :
    pair_diffSamples A (ix5 b t u h d) = if u.val < 1 then A (ix3 b t (⟨2048 + (h.val * 128 + d.val), by omega⟩ : Fin 5864)) else A (ix3 b t (⟨2560 + (h.val * 128 + d.val), by omega⟩ : Fin 5864)) := by
  unfold pair_diffSamples
  have h1 : ∀ P Q : FVec Ideal S32x64x1x4x128 .f32, (concatenate S32x64x2x4x128 2 [⟨S32x64x1x4x128, P⟩, ⟨S32x64x1x4x128, Q⟩] concatenates_S32x64x1x4x128_S32x64x1x4x128_S32x64x2x4x128_d2 : FVec Ideal S32x64x2x4x128 .f32) (ix5 b t u h d)
      = if u.val < 1 then P (ix5 b t (0 : Fin 1) h d) else Q (ix5 b t (0 : Fin 1) h d) := fun P Q => by
    pointwise
    by_cases hu : u.val < 1
    · rw [dif_pos hu, if_pos hu]
      exact congrArg (fun z => P (ix5 b t z h d)) (Subsingleton.elim _ _)
    · rw [dif_neg hu, if_neg hu]
      exact congrArg (fun z => Q (ix5 b t z h d)) (Subsingleton.elim _ _)
  have h2 : (broadcastInDim S32x64x1x4x128 ![0, 1, 3, 4] bcast_S32x64x4x128_S32x64x1x4x128_0_1_3_4 (shapeCast S32x64x4x128 (extractStridedSlice S32x64x512 ![0, 0, 2048] A slices_S32x64x5864_S32x64x512_0_0_2048 : FVec Ideal S32x64x512 .f32) shapeCasts_S32x64x512_S32x64x4x128 : FVec Ideal S32x64x4x128 .f32) : FVec Ideal S32x64x1x4x128 .f32) (ix5 b t (0 : Fin 1) h d) = A (ix3 b t (⟨2048 + (h.val * 128 + d.val), by omega⟩ : Fin 5864)) := by
    pointwise
  have h3 : (broadcastInDim S32x64x1x4x128 ![0, 1, 3, 4] bcast_S32x64x4x128_S32x64x1x4x128_0_1_3_4 (shapeCast S32x64x4x128 (extractStridedSlice S32x64x512 ![0, 0, 2560] A slices_S32x64x5864_S32x64x512_0_0_2560 : FVec Ideal S32x64x512 .f32) shapeCasts_S32x64x512_S32x64x4x128 : FVec Ideal S32x64x4x128 .f32) : FVec Ideal S32x64x1x4x128 .f32) (ix5 b t (0 : Fin 1) h d) = A (ix3 b t (⟨2560 + (h.val * 128 + d.val), by omega⟩ : Fin 5864)) := by
    pointwise
  refine (h1 _ _).trans ?_
  rw [h2, h3]

/-- The reference's states of the differential attention's keys, cut from the samples' product. -/
def ref_diffSamples (A : FVec Ideal S32x64x5864 .f32) : FVec Ideal S32x64x2x4x128 .f32 :=
  pair_diffSamples A

/-- The samples' keys and values of the sparse attention's, side by side. -/
def pair_sparseSamples (A : FVec Ideal S32x64x5864 .f32) : FVec Ideal S32x64x2x8x64 .f32 :=
  concatenate S32x64x2x8x64 2 [⟨S32x64x1x8x64, (broadcastInDim S32x64x1x8x64 ![0, 1, 3, 4] bcast_S32x64x8x64_S32x64x1x8x64_0_1_3_4 (shapeCast S32x64x8x64 (extractStridedSlice S32x64x512 ![0, 0, 4256] A slices_S32x64x5864_S32x64x512_0_0_4256 : FVec Ideal S32x64x512 .f32) shapeCasts_S32x64x512_S32x64x8x64 : FVec Ideal S32x64x8x64 .f32) : FVec Ideal S32x64x1x8x64 .f32)⟩, ⟨S32x64x1x8x64, (broadcastInDim S32x64x1x8x64 ![0, 1, 3, 4] bcast_S32x64x8x64_S32x64x1x8x64_0_1_3_4 (shapeCast S32x64x8x64 (extractStridedSlice S32x64x512 ![0, 0, 4768] A slices_S32x64x5864_S32x64x512_0_0_4768 : FVec Ideal S32x64x512 .f32) shapeCasts_S32x64x512_S32x64x8x64 : FVec Ideal S32x64x8x64 .f32) : FVec Ideal S32x64x1x8x64 .f32)⟩] concatenates_S32x64x1x8x64_S32x64x1x8x64_S32x64x2x8x64_d2

/-- They entry by entry. -/
theorem pair_sparseSamples_apply (A : FVec Ideal S32x64x5864 .f32) (b : Fin 32) (t : Fin 64) (u : Fin 2) (h : Fin 8) (d : Fin 64) :
    pair_sparseSamples A (ix5 b t u h d) = if u.val < 1 then A (ix3 b t (⟨4256 + (h.val * 64 + d.val), by omega⟩ : Fin 5864)) else A (ix3 b t (⟨4768 + (h.val * 64 + d.val), by omega⟩ : Fin 5864)) := by
  unfold pair_sparseSamples
  have h1 : ∀ P Q : FVec Ideal S32x64x1x8x64 .f32, (concatenate S32x64x2x8x64 2 [⟨S32x64x1x8x64, P⟩, ⟨S32x64x1x8x64, Q⟩] concatenates_S32x64x1x8x64_S32x64x1x8x64_S32x64x2x8x64_d2 : FVec Ideal S32x64x2x8x64 .f32) (ix5 b t u h d)
      = if u.val < 1 then P (ix5 b t (0 : Fin 1) h d) else Q (ix5 b t (0 : Fin 1) h d) := fun P Q => by
    pointwise
    by_cases hu : u.val < 1
    · rw [dif_pos hu, if_pos hu]
      exact congrArg (fun z => P (ix5 b t z h d)) (Subsingleton.elim _ _)
    · rw [dif_neg hu, if_neg hu]
      exact congrArg (fun z => Q (ix5 b t z h d)) (Subsingleton.elim _ _)
  have h2 : (broadcastInDim S32x64x1x8x64 ![0, 1, 3, 4] bcast_S32x64x8x64_S32x64x1x8x64_0_1_3_4 (shapeCast S32x64x8x64 (extractStridedSlice S32x64x512 ![0, 0, 4256] A slices_S32x64x5864_S32x64x512_0_0_4256 : FVec Ideal S32x64x512 .f32) shapeCasts_S32x64x512_S32x64x8x64 : FVec Ideal S32x64x8x64 .f32) : FVec Ideal S32x64x1x8x64 .f32) (ix5 b t (0 : Fin 1) h d) = A (ix3 b t (⟨4256 + (h.val * 64 + d.val), by omega⟩ : Fin 5864)) := by
    pointwise
  have h3 : (broadcastInDim S32x64x1x8x64 ![0, 1, 3, 4] bcast_S32x64x8x64_S32x64x1x8x64_0_1_3_4 (shapeCast S32x64x8x64 (extractStridedSlice S32x64x512 ![0, 0, 4768] A slices_S32x64x5864_S32x64x512_0_0_4768 : FVec Ideal S32x64x512 .f32) shapeCasts_S32x64x512_S32x64x8x64 : FVec Ideal S32x64x8x64 .f32) : FVec Ideal S32x64x1x8x64 .f32) (ix5 b t (0 : Fin 1) h d) = A (ix3 b t (⟨4768 + (h.val * 64 + d.val), by omega⟩ : Fin 5864)) := by
    pointwise
  refine (h1 _ _).trans ?_
  rw [h2, h3]

/-- The reference's states of the sparse attention's keys, cut from the samples' product. -/
def ref_sparseSamples (A : FVec Ideal S32x64x5864 .f32) : FVec Ideal S32x64x2x8x64 .f32 :=
  pair_sparseSamples A

/-- The reference's states of the index keys, cut from the samples' product. -/
def ref_keysSamples (A : FVec Ideal S32x64x5864 .f32) : FVec Ideal S32x64x64 .f32 :=
  (extractStridedSlice S32x64x64 ![0, 0, 5792] A slices_S32x64x5864_S32x64x64_0_0_5792 : FVec Ideal S32x64x64 .f32)

/-- The reference's states are the kernel's. -/
theorem same_bandPrompts (X : FVec Ideal S18432x2048 .bf16) (w : FVec Ideal S2048x5864 .f32) :
    ref_bandPrompts (prodP X w) = Cert.StatesIdeal.Dense.bandPrompts (whole X (padded w)) := by
  funext (i : S4x512x2x8x64.Idx)
  obtain ⟨b, t, u, h, d, rfl⟩ : ∃ (b : Fin 4) (t : Fin 512) (u : Fin 2) (h : Fin 8) (d : Fin 64), i = ix5 b t u h d := ⟨i 0, i 1, i 2, i 3, i 4, by
    funext (a : Fin 5)
    match a with
    | ⟨0, _⟩ => rfl
    | ⟨1, _⟩ => rfl
    | ⟨2, _⟩ => rfl
    | ⟨3, _⟩ => rfl
    | ⟨4, _⟩ => rfl⟩
  have h0 : ∀ A : FVec Ideal S4x4096x5864 .f32, ref_bandPrompts A (ix5 b t u h d) = pair_bandPrompts A (ix5 b (⟨3584 + t.val, by omega⟩ : Fin 4096) u h d) := fun A => by
    unfold ref_bandPrompts
    generalize pair_bandPrompts A = Z
    pointwise
  refine (h0 _).trans ((pair_bandPrompts_apply _ b (⟨3584 + t.val, by omega⟩ : Fin 4096) u h d).trans (Eq.trans ?_ (Cert.StatesIdeal.Dense.bandPrompts_apply _ b t u h d).symm))
  have hh := h.isLt
  have hd := d.isLt
  by_cases hu : u.val < 1
  · rw [if_pos hu]
    refine (prodP_apply X w b (⟨3584 + t.val, by omega⟩ : Fin 4096) _).trans ((entry_ak X w _ (⟨h.val * 64 + d.val, by omega⟩ : Fin 512)).symm.trans ?_)
    exact congrArg (fun z => whole X (padded w) (ix2 _ z)) (Fin.ext (by show 512 + (h.val * 64 + d.val) = 512 + (u.val * 512 + h.val * 64 + d.val); omega))
  · rw [if_neg hu]
    have hu2 := u.isLt
    refine (prodP_apply X w b (⟨3584 + t.val, by omega⟩ : Fin 4096) _).trans ((entry_av X w _ (⟨h.val * 64 + d.val, by omega⟩ : Fin 512)).symm.trans ?_)
    exact congrArg (fun z => whole X (padded w) (ix2 _ z)) (Fin.ext (by show 1024 + (h.val * 64 + d.val) = 512 + (u.val * 512 + h.val * 64 + d.val); omega))

/-- The reference's states are the kernel's. -/
theorem same_diffPrompts (X : FVec Ideal S18432x2048 .bf16) (w : FVec Ideal S2048x5864 .f32) :
    ref_diffPrompts (prodP X w) = Cert.StatesIdeal.Dense.diffPrompts (whole X (padded w)) := by
  funext (i : S4x4096x2x4x128.Idx)
  obtain ⟨b, t, u, h, d, rfl⟩ : ∃ (b : Fin 4) (t : Fin 4096) (u : Fin 2) (h : Fin 4) (d : Fin 128), i = ix5 b t u h d := ⟨i 0, i 1, i 2, i 3, i 4, by
    funext (a : Fin 5)
    match a with
    | ⟨0, _⟩ => rfl
    | ⟨1, _⟩ => rfl
    | ⟨2, _⟩ => rfl
    | ⟨3, _⟩ => rfl
    | ⟨4, _⟩ => rfl⟩
  have h0 : ∀ A : FVec Ideal S4x4096x5864 .f32, ref_diffPrompts A (ix5 b t u h d) = pair_diffPrompts A (ix5 b t u h d) := fun A => rfl
  refine (h0 _).trans ((pair_diffPrompts_apply _ b t u h d).trans (Eq.trans ?_ (Cert.StatesIdeal.Dense.diffPrompts_apply _ b t u h d).symm))
  have hh := h.isLt
  have hd := d.isLt
  by_cases hu : u.val < 1
  · rw [if_pos hu]
    refine (prodP_apply X w b t _).trans ((entry_bk X w _ (⟨h.val * 128 + d.val, by omega⟩ : Fin 512)).symm.trans ?_)
    exact congrArg (fun z => whole X (padded w) (ix2 _ z)) (Fin.ext (by show 2048 + (h.val * 128 + d.val) = 2048 + (u.val * 512 + h.val * 128 + d.val); omega))
  · rw [if_neg hu]
    have hu2 := u.isLt
    refine (prodP_apply X w b t _).trans ((entry_bv X w _ (⟨h.val * 128 + d.val, by omega⟩ : Fin 512)).symm.trans ?_)
    exact congrArg (fun z => whole X (padded w) (ix2 _ z)) (Fin.ext (by show 2560 + (h.val * 128 + d.val) = 2048 + (u.val * 512 + h.val * 128 + d.val); omega))

/-- The reference's states are the kernel's. -/
theorem same_sparsePrompts (X : FVec Ideal S18432x2048 .bf16) (w : FVec Ideal S2048x5864 .f32) :
    ref_sparsePrompts (prodP X w) = Cert.StatesIdeal.Dense.sparsePrompts (whole X (padded w)) := by
  funext (i : S4x4096x2x8x64.Idx)
  obtain ⟨b, t, u, h, d, rfl⟩ : ∃ (b : Fin 4) (t : Fin 4096) (u : Fin 2) (h : Fin 8) (d : Fin 64), i = ix5 b t u h d := ⟨i 0, i 1, i 2, i 3, i 4, by
    funext (a : Fin 5)
    match a with
    | ⟨0, _⟩ => rfl
    | ⟨1, _⟩ => rfl
    | ⟨2, _⟩ => rfl
    | ⟨3, _⟩ => rfl
    | ⟨4, _⟩ => rfl⟩
  have h0 : ∀ A : FVec Ideal S4x4096x5864 .f32, ref_sparsePrompts A (ix5 b t u h d) = pair_sparsePrompts A (ix5 b t u h d) := fun A => rfl
  refine (h0 _).trans ((pair_sparsePrompts_apply _ b t u h d).trans (Eq.trans ?_ (Cert.StatesIdeal.Dense.sparsePrompts_apply _ b t u h d).symm))
  have hh := h.isLt
  have hd := d.isLt
  by_cases hu : u.val < 1
  · rw [if_pos hu]
    refine (prodP_apply X w b t _).trans ((entry_dk X w _ (⟨h.val * 64 + d.val, by omega⟩ : Fin 512)).symm.trans ?_)
    exact congrArg (fun z => whole X (padded w) (ix2 _ z)) (Fin.ext (by show 3584 + (h.val * 64 + d.val) = 3584 + (u.val * 512 + h.val * 64 + d.val); omega))
  · rw [if_neg hu]
    have hu2 := u.isLt
    refine (prodP_apply X w b t _).trans ((entry_dv X w _ (⟨h.val * 64 + d.val, by omega⟩ : Fin 512)).symm.trans ?_)
    exact congrArg (fun z => whole X (padded w) (ix2 _ z)) (Fin.ext (by show 4096 + (h.val * 64 + d.val) = 3584 + (u.val * 512 + h.val * 64 + d.val); omega))

/-- The reference's states are the kernel's. -/
theorem same_keysPrompts (X : FVec Ideal S18432x2048 .bf16) (w : FVec Ideal S2048x5864 .f32) :
    ref_keysPrompts (prodP X w) = Cert.StatesIdeal.Dense.keysPrompts (whole X (padded w)) := by
  funext (i : S4x4096x64.Idx)
  obtain ⟨b, t, j, rfl⟩ : ∃ (b : Fin 4) (t : Fin 4096) (j : Fin 64), i = ix3 b t j := ⟨i 0, i 1, i 2, by
    funext (a : Fin 3)
    match a with
    | ⟨0, _⟩ => rfl
    | ⟨1, _⟩ => rfl
    | ⟨2, _⟩ => rfl⟩
  have h1 : ∀ A : FVec Ideal S4x4096x5864 .f32, ref_keysPrompts A (ix3 b t j) = A (ix3 b t (⟨5792 + j.val, by omega⟩ : Fin 5864)) := fun A => by
    unfold ref_keysPrompts
    pointwise
  refine (h1 _).trans ((prodP_apply X w b t _).trans (Eq.trans ?_ (Cert.StatesIdeal.Dense.keysPrompts_apply _ b t j).symm))
  exact (entry_ki X w _ j).symm

/-- The reference's states are the kernel's. -/
theorem same_bandSamples (X : FVec Ideal S18432x2048 .bf16) (w : FVec Ideal S2048x5864 .f32) :
    ref_bandSamples (prodS X w) = Cert.StatesIdeal.Dense.bandSamples (whole X (padded w)) := by
  funext (i : S32x64x2x8x64.Idx)
  obtain ⟨b, t, u, h, d, rfl⟩ : ∃ (b : Fin 32) (t : Fin 64) (u : Fin 2) (h : Fin 8) (d : Fin 64), i = ix5 b t u h d := ⟨i 0, i 1, i 2, i 3, i 4, by
    funext (a : Fin 5)
    match a with
    | ⟨0, _⟩ => rfl
    | ⟨1, _⟩ => rfl
    | ⟨2, _⟩ => rfl
    | ⟨3, _⟩ => rfl
    | ⟨4, _⟩ => rfl⟩
  have h0 : ∀ A : FVec Ideal S32x64x5864 .f32, ref_bandSamples A (ix5 b t u h d) = pair_bandSamples A (ix5 b t u h d) := fun A => rfl
  refine (h0 _).trans ((pair_bandSamples_apply _ b t u h d).trans (Eq.trans ?_ (Cert.StatesIdeal.Dense.bandSamples_apply _ b t u h d).symm))
  have hh := h.isLt
  have hd := d.isLt
  by_cases hu : u.val < 1
  · rw [if_pos hu]
    refine (prodS_apply X w b t _).trans ((entry_ak X w _ (⟨h.val * 64 + d.val, by omega⟩ : Fin 512)).symm.trans ?_)
    exact congrArg (fun z => whole X (padded w) (ix2 _ z)) (Fin.ext (by show 512 + (h.val * 64 + d.val) = 512 + (u.val * 512 + h.val * 64 + d.val); omega))
  · rw [if_neg hu]
    have hu2 := u.isLt
    refine (prodS_apply X w b t _).trans ((entry_av X w _ (⟨h.val * 64 + d.val, by omega⟩ : Fin 512)).symm.trans ?_)
    exact congrArg (fun z => whole X (padded w) (ix2 _ z)) (Fin.ext (by show 1024 + (h.val * 64 + d.val) = 512 + (u.val * 512 + h.val * 64 + d.val); omega))

/-- The reference's states are the kernel's. -/
theorem same_diffSamples (X : FVec Ideal S18432x2048 .bf16) (w : FVec Ideal S2048x5864 .f32) :
    ref_diffSamples (prodS X w) = Cert.StatesIdeal.Dense.diffSamples (whole X (padded w)) := by
  funext (i : S32x64x2x4x128.Idx)
  obtain ⟨b, t, u, h, d, rfl⟩ : ∃ (b : Fin 32) (t : Fin 64) (u : Fin 2) (h : Fin 4) (d : Fin 128), i = ix5 b t u h d := ⟨i 0, i 1, i 2, i 3, i 4, by
    funext (a : Fin 5)
    match a with
    | ⟨0, _⟩ => rfl
    | ⟨1, _⟩ => rfl
    | ⟨2, _⟩ => rfl
    | ⟨3, _⟩ => rfl
    | ⟨4, _⟩ => rfl⟩
  have h0 : ∀ A : FVec Ideal S32x64x5864 .f32, ref_diffSamples A (ix5 b t u h d) = pair_diffSamples A (ix5 b t u h d) := fun A => rfl
  refine (h0 _).trans ((pair_diffSamples_apply _ b t u h d).trans (Eq.trans ?_ (Cert.StatesIdeal.Dense.diffSamples_apply _ b t u h d).symm))
  have hh := h.isLt
  have hd := d.isLt
  by_cases hu : u.val < 1
  · rw [if_pos hu]
    refine (prodS_apply X w b t _).trans ((entry_bk X w _ (⟨h.val * 128 + d.val, by omega⟩ : Fin 512)).symm.trans ?_)
    exact congrArg (fun z => whole X (padded w) (ix2 _ z)) (Fin.ext (by show 2048 + (h.val * 128 + d.val) = 2048 + (u.val * 512 + h.val * 128 + d.val); omega))
  · rw [if_neg hu]
    have hu2 := u.isLt
    refine (prodS_apply X w b t _).trans ((entry_bv X w _ (⟨h.val * 128 + d.val, by omega⟩ : Fin 512)).symm.trans ?_)
    exact congrArg (fun z => whole X (padded w) (ix2 _ z)) (Fin.ext (by show 2560 + (h.val * 128 + d.val) = 2048 + (u.val * 512 + h.val * 128 + d.val); omega))

/-- The reference's states are the kernel's. -/
theorem same_sparseSamples (X : FVec Ideal S18432x2048 .bf16) (w : FVec Ideal S2048x5864 .f32) :
    ref_sparseSamples (prodS X w) = Cert.StatesIdeal.Dense.sparseSamples (whole X (padded w)) := by
  funext (i : S32x64x2x8x64.Idx)
  obtain ⟨b, t, u, h, d, rfl⟩ : ∃ (b : Fin 32) (t : Fin 64) (u : Fin 2) (h : Fin 8) (d : Fin 64), i = ix5 b t u h d := ⟨i 0, i 1, i 2, i 3, i 4, by
    funext (a : Fin 5)
    match a with
    | ⟨0, _⟩ => rfl
    | ⟨1, _⟩ => rfl
    | ⟨2, _⟩ => rfl
    | ⟨3, _⟩ => rfl
    | ⟨4, _⟩ => rfl⟩
  have h0 : ∀ A : FVec Ideal S32x64x5864 .f32, ref_sparseSamples A (ix5 b t u h d) = pair_sparseSamples A (ix5 b t u h d) := fun A => rfl
  refine (h0 _).trans ((pair_sparseSamples_apply _ b t u h d).trans (Eq.trans ?_ (Cert.StatesIdeal.Dense.sparseSamples_apply _ b t u h d).symm))
  have hh := h.isLt
  have hd := d.isLt
  by_cases hu : u.val < 1
  · rw [if_pos hu]
    refine (prodS_apply X w b t _).trans ((entry_dk X w _ (⟨h.val * 64 + d.val, by omega⟩ : Fin 512)).symm.trans ?_)
    exact congrArg (fun z => whole X (padded w) (ix2 _ z)) (Fin.ext (by show 3584 + (h.val * 64 + d.val) = 3584 + (u.val * 512 + h.val * 64 + d.val); omega))
  · rw [if_neg hu]
    have hu2 := u.isLt
    refine (prodS_apply X w b t _).trans ((entry_dv X w _ (⟨h.val * 64 + d.val, by omega⟩ : Fin 512)).symm.trans ?_)
    exact congrArg (fun z => whole X (padded w) (ix2 _ z)) (Fin.ext (by show 4096 + (h.val * 64 + d.val) = 3584 + (u.val * 512 + h.val * 64 + d.val); omega))

/-- The reference's states are the kernel's. -/
theorem same_keysSamples (X : FVec Ideal S18432x2048 .bf16) (w : FVec Ideal S2048x5864 .f32) :
    ref_keysSamples (prodS X w) = Cert.StatesIdeal.Dense.keysSamples (whole X (padded w)) := by
  funext (i : S32x64x64.Idx)
  obtain ⟨b, t, j, rfl⟩ : ∃ (b : Fin 32) (t : Fin 64) (j : Fin 64), i = ix3 b t j := ⟨i 0, i 1, i 2, by
    funext (a : Fin 3)
    match a with
    | ⟨0, _⟩ => rfl
    | ⟨1, _⟩ => rfl
    | ⟨2, _⟩ => rfl⟩
  have h1 : ∀ A : FVec Ideal S32x64x5864 .f32, ref_keysSamples A (ix3 b t j) = A (ix3 b t (⟨5792 + j.val, by omega⟩ : Fin 5864)) := fun A => by
    unfold ref_keysSamples
    pointwise
  refine (h1 _).trans ((prodS_apply X w b t _).trans (Eq.trans ?_ (Cert.StatesIdeal.Dense.keysSamples_apply _ b t j).symm))
  exact (entry_ki X w _ j).symm

end Cert.RefStatesIdeal.Dense

namespace Cert.Proof

open Idealize.ShloMosaic Idealize.SL.Sem

/-- The states' projection runs and leaves its arguments as they were. -/
theorem frame_states : Cert.quiescent_States := fun m ρ _ => Cert.States.Gen.frame m ρ

/-- The same of the idealized one. -/
theorem frame_states_ideal : Cert.quiescent_StatesIdeal := fun m ρ _ => Cert.StatesIdeal.Gen.frame m ρ

/-- Its reference runs and keeps its arguments. -/
theorem frame_states_reference : Cert.quiescent_RefStatesIdeal := fun m ρ _ =>
  (θ_run (Cert.RefStatesIdeal.defs (F := Ideal)) _ _).mono (fun r h => ⟨fun c => (h c).2.2.2.2.2.2.2.2, sem_eq_zero_of_no_sems (by decide) r.2⟩)
    (Cert.RefStatesIdeal.Value.run (F := Ideal) m ρ)

open Cert.StatesIdeal Cert.StatesIdeal.Gen Cert.StatesIdeal.Dense in
/-- The states: the eight arrays and the reference's are equal, element by element. -/
theorem states_equal : Cert.algebraic_StatesIdeal_RefStatesIdeal := fun m g m' g' _ hag => by
  refine ⟨fun _ => bandPrompts (whole (rows m) (padded (weights m))), fun _ => diffPrompts (whole (rows m) (padded (weights m))), fun _ => sparsePrompts (whole (rows m) (padded (weights m))), fun _ => keysPrompts (whole (rows m) (padded (weights m))), fun _ => bandSamples (whole (rows m) (padded (weights m))), fun _ => diffSamples (whole (rows m) (padded (weights m))), fun _ => sparseSamples (whole (rows m) (padded (weights m))), fun _ => keysSamples (whole (rows m) (padded (weights m))), ?_, ?_⟩
  · refine (θ_run (Cert.StatesIdeal.defs (F := Ideal)) _ _).mono (fun r hr c => ?_) (θ_run_and (run_main (F := Ideal) m g) (unchanged (F := Ideal) m g))
    obtain ⟨hp, hk⟩ := hr
    obtain rfl : c = 0 := Subsingleton.elim _ _
    have e_bandPrompts := ((hp 0).2 main_v46 (Pipeline.mem_restRefs_of main_v46 (by decide) (by decide))).trans (tail_bandPrompts m)
    have e_diffPrompts := ((hp 0).2 main_v47 (Pipeline.mem_restRefs_of main_v47 (by decide) (by decide))).trans (tail_diffPrompts m)
    have e_sparsePrompts := ((hp 0).2 main_v48 (Pipeline.mem_restRefs_of main_v48 (by decide) (by decide))).trans (tail_sparsePrompts m)
    have e_keysPrompts := ((hp 0).2 main_v42 (Pipeline.mem_restRefs_of main_v42 (by decide) (by decide))).trans (tail_keysPrompts m)
    have e_bandSamples := ((hp 0).2 main_v49 (Pipeline.mem_restRefs_of main_v49 (by decide) (by decide))).trans (tail_bandSamples m)
    have e_diffSamples := ((hp 0).2 main_v50 (Pipeline.mem_restRefs_of main_v50 (by decide) (by decide))).trans (tail_diffSamples m)
    have e_sparseSamples := ((hp 0).2 main_v51 (Pipeline.mem_restRefs_of main_v51 (by decide) (by decide))).trans (tail_sparseSamples m)
    have e_keysSamples := ((hp 0).2 main_v44 (Pipeline.mem_restRefs_of main_v44 (by decide) (by decide))).trans (tail_keysSamples m)
    rw [ends_out] at e_bandPrompts e_diffPrompts e_sparsePrompts e_keysPrompts e_bandSamples e_diffSamples e_sparseSamples e_keysSamples
    exact ⟨e_bandPrompts, e_diffPrompts, e_sparsePrompts, e_keysPrompts, e_bandSamples, e_diffSamples, e_sparseSamples, e_keysSamples, hk 0⟩
  · refine (θ_run (Cert.RefStatesIdeal.defs (F := Ideal)) _ _).mono (fun r hr c => ?_) (Cert.RefStatesIdeal.Value.run (F := Ideal) m' g')
    obtain ⟨h0, h1, h2, h3, h4, h5, h6, h7, ha⟩ := hr c
    obtain rfl : c = 0 := Subsingleton.elim _ _
    have key : ∀ (X : FVec Ideal Cert.StatesIdeal.S18432x2048 .bf16) (w : FVec Ideal Cert.StatesIdeal.S2048x5864 .f32), X = rows m → w = weights m →
        Cert.RefStatesIdeal.Dense.ref_bandPrompts (Cert.RefStatesIdeal.Dense.prodP X w) = bandPrompts (whole (rows m) (padded (weights m)))
        ∧ Cert.RefStatesIdeal.Dense.ref_diffPrompts (Cert.RefStatesIdeal.Dense.prodP X w) = diffPrompts (whole (rows m) (padded (weights m)))
        ∧ Cert.RefStatesIdeal.Dense.ref_sparsePrompts (Cert.RefStatesIdeal.Dense.prodP X w) = sparsePrompts (whole (rows m) (padded (weights m)))
        ∧ Cert.RefStatesIdeal.Dense.ref_keysPrompts (Cert.RefStatesIdeal.Dense.prodP X w) = keysPrompts (whole (rows m) (padded (weights m)))
        ∧ Cert.RefStatesIdeal.Dense.ref_bandSamples (Cert.RefStatesIdeal.Dense.prodS X w) = bandSamples (whole (rows m) (padded (weights m)))
        ∧ Cert.RefStatesIdeal.Dense.ref_diffSamples (Cert.RefStatesIdeal.Dense.prodS X w) = diffSamples (whole (rows m) (padded (weights m)))
        ∧ Cert.RefStatesIdeal.Dense.ref_sparseSamples (Cert.RefStatesIdeal.Dense.prodS X w) = sparseSamples (whole (rows m) (padded (weights m)))
        ∧ Cert.RefStatesIdeal.Dense.ref_keysSamples (Cert.RefStatesIdeal.Dense.prodS X w) = keysSamples (whole (rows m) (padded (weights m))) := by
      rintro _ _ rfl rfl
      exact ⟨Cert.RefStatesIdeal.Dense.same_bandPrompts _ _, Cert.RefStatesIdeal.Dense.same_diffPrompts _ _, Cert.RefStatesIdeal.Dense.same_sparsePrompts _ _, Cert.RefStatesIdeal.Dense.same_keysPrompts _ _, Cert.RefStatesIdeal.Dense.same_bandSamples _ _, Cert.RefStatesIdeal.Dense.same_diffSamples _ _, Cert.RefStatesIdeal.Dense.same_sparseSamples _ _, Cert.RefStatesIdeal.Dense.same_keysSamples _ _⟩
    obtain ⟨k0, k1, k2, k3, k4, k5, k6, k7⟩ := key _ _ (hag 0).1 (hag 0).2
    exact ⟨h0.trans k0, h1.trans k1, h2.trans k2, h3.trans k3, h4.trans k4, h5.trans k5, h6.trans k6, h7.trans k7, ha⟩

end Cert.Proof

end
-- ==== Proof.Dense.ProjEqual.lean ====
/- The combined input projection: both of its arrays are the reference's, every entry the row times the column. -/
module

public import proofs.«01_k».proof.Defs
public import proofs.«01_k».proof.Proof.Gen.Proj.Frame
public import proofs.«01_k».proof.Proof.Gen.ProjIdeal.Value
public import proofs.«01_k».proof.Proof.Gen.RefProjIdeal.Run
public import Idealize.ShloMosaic.Lib.Pointwise
public import Idealize.ShloMosaic.Lib.Pipeline.Value
public import Idealize.ShloMosaic.Lib.Pipeline.ValueKit.Basic

@[expose] public section

set_option maxHeartbeats 4000000
set_option maxRecDepth 16384

noncomputable section

namespace Cert.ProjIdeal.Dense

open Idealize.ShloMosaic Idealize.ShloMosaic.TcCoe Idealize.SL.Sem
open Idealize.ShloMosaic.Pipeline (Dat Cfg Window)
open Cert.ProjIdeal Cert.ProjIdeal.Gen

/-- A small number survives its word. -/
theorem small (n : ℕ) (h : n < 4294967296) : (BitVec.ofNat 32 n).toNat = n := by
  rw [BitVec.toNat_ofNat]
  exact Nat.mod_eq_of_lt h

/-- The rows' place in the grid. -/
theorem place_rows (t : Fin grid0.N) : (grid0.coords t 0).val = t.val / 12 := by
  rw [Pipeline.Grid.coords_val t 0 (S := 12) (B := 18) (by decide) rfl]
  have := t.isLt
  have e : grid0.N = 216 := by decide
  exact Nat.mod_eq_of_lt (by omega)

/-- The columns' place in the grid. -/
theorem place_cols (t : Fin grid0.N) : (grid0.coords t 1).val = t.val % 12 := by
  rw [Pipeline.Grid.coords_val t 1 (S := 1) (B := 12) (by decide) rfl, Nat.div_one]

/-- The number of points. -/
theorem points_lt (t : Fin cfg0.N) : t.val < 216 := by
  have e : cfg0.N = 216 := N_0
  have := t.isLt
  omega

/-- The rows' block at a point. -/
theorem index_rows (t : Fin cfg0.N) : (cfg0.win 0).index t = ![t.val / 12, 0] := by
  have h : cc0_transform_0 (grid0.coords t) = ![(BitVec.ofNat 32 (grid0.coords t 0).val).toNat, 0] := rfl
  refine Eq.trans (b := cc0_transform_0 (grid0.coords t)) rfl (h.trans ?_)
  have := points_lt t
  rw [place_rows, small _ (by omega)]

/-- The weights' block at a point. -/
theorem index_weights (t : Fin cfg0.N) : (cfg0.win 1).index t = ![0, t.val % 12] := by
  have h : cc0_transform_1 (grid0.coords t) = ![0, (BitVec.ofNat 32 (grid0.coords t 1).val).toNat] := rfl
  refine Eq.trans (b := cc0_transform_1 (grid0.coords t)) rfl (h.trans ?_)
  rw [place_cols, small _ (by omega)]

/-- The first result's block at a point. -/
theorem index_out (t : Fin cfg0.N) : (cfg0.win 2).index t = ![t.val / 12, t.val % 12] := by
  have h : cc0_transform_2 (grid0.coords t) = ![(BitVec.ofNat 32 (grid0.coords t 0).val).toNat, (BitVec.ofNat 32 (grid0.coords t 1).val).toNat] := rfl
  refine Eq.trans (b := cc0_transform_2 (grid0.coords t)) rfl (h.trans ?_)
  have := points_lt t
  rw [place_rows, place_cols, small _ (by omega), small _ (by omega)]

/-- The second result's block at a point. -/
theorem index_rounded (t : Fin cfg0.N) : (cfg0.win 3).index t = ![t.val / 12, t.val % 12] := by
  have h : cc0_transform_3 (grid0.coords t) = ![(BitVec.ofNat 32 (grid0.coords t 0).val).toNat, (BitVec.ofNat 32 (grid0.coords t 1).val).toNat] := rfl
  refine Eq.trans (b := cc0_transform_3 (grid0.coords t)) rfl (h.trans ?_)
  have := points_lt t
  rw [place_rows, place_cols, small _ (by omega), small _ (by omega)]

/-- A block loaded whole starts at zero on both axes. -/
theorem zero2 : ∀ a : Fin 2, (![0, 0] : Fin 2 → ℕ) a = 0 := by decide

/-- The body's product entry by entry. -/
theorem pay_apply (x : FVec Ideal S1024x2048 .bf16) (w : FVec Ideal S2048x512 .bf16) (r : Fin 1024) (j : Fin 512) :
    k0_pay1 (F := Ideal) x w (ix2 r j) = ∑ k : Fin 2048, x (ix2 r k) * w (ix2 k j) := by
  unfold k0_pay1
  have h1 : ∀ (A : FVec Ideal S1024x2048 .bf16) (B : FVec Ideal S2048x512 .bf16),
      (matmul dot_S1024x2048_S2048x512_S1024x512_1_0_0_1_n_n none A B (constant S1024x512 .f32 0x00000000#32) : FVec Ideal S1024x512 .f32) (ix2 r j)
        = ∑ k : Fin 2048, A (ix2 r k) * B (ix2 k j) := fun A B => by
    pointwise
  exact h1 x w

/-- What a point stores in the first result, entry by entry. -/
theorem out_apply (x : FVec Ideal S1024x2048 .bf16) (w : FVec Ideal S2048x512 .bf16) (r : Fin 1024) (j : Fin 512) :
    out0_2 (F := Ideal) x w (ix2 r j) = ∑ k : Fin 2048, x (ix2 r k) * w (ix2 k j) := by
  unfold out0_2
  refine (congrFun (View.canon_cons_unit_lit inb_S1024x512_S1024x512_0_0 _ _ (by decide)) (ix2 r j)).trans ?_
  exact (congrArg₂ (fun a b => k0_pay1 (F := Ideal) a b (ix2 r j)) (View.ld_unit_lit (Val := Elt Ideal) (e := .bf16) (S := S1024x2048) inb_S1024x2048_S1024x2048_0_0 x zero2)
    (View.ld_unit_lit (Val := Elt Ideal) (e := .bf16) (S := S2048x512) inb_S2048x512_S2048x512_0_0 w zero2)).trans (pay_apply x w r j)

/-- What a point stores in the second result, entry by entry. -/
theorem rounded_apply (x : FVec Ideal S1024x2048 .bf16) (w : FVec Ideal S2048x512 .bf16) (r : Fin 1024) (j : Fin 512) :
    out0_3 (F := Ideal) x w (ix2 r j) = ∑ k : Fin 2048, x (ix2 r k) * w (ix2 k j) := by
  unfold out0_3
  refine (congrFun (View.canon_cons_unit_lit inb_S1024x512_S1024x512_0_0 _ _ (by decide)) (ix2 r j)).trans ?_
  have key : ∀ (a : FVec Ideal S1024x2048 .bf16) (b : FVec Ideal S2048x512 .bf16), k0_pay2 (F := Ideal) a b (ix2 r j) = k0_pay1 (F := Ideal) a b (ix2 r j) := fun _ _ => rfl
  refine (key _ _).trans ?_
  exact (congrArg₂ (fun a b => k0_pay1 (F := Ideal) a b (ix2 r j)) (View.ld_unit_lit (Val := Elt Ideal) (e := .bf16) (S := S1024x2048) inb_S1024x2048_S1024x2048_0_0 x zero2)
    (View.ld_unit_lit (Val := Elt Ideal) (e := .bf16) (S := S2048x512) inb_S2048x512_S2048x512_0_0 w zero2)).trans (pay_apply x w r j)

/-- The whole product. -/
def whole (X : FVec Ideal S18432x2048 .bf16) (W : FVec Ideal S2048x6144 .bf16) : FVec Ideal S18432x6144 .f32 := fun i =>
  ∑ k : Fin 2048, (X (ix2 (⟨(i 0).val, (i 0).isLt⟩ : Fin 18432) k) : EReal) * W (ix2 k (⟨(i 1).val, (i 1).isLt⟩ : Fin 6144))

variable (m : (ℓ : Loc nD τ sig) → Buf (Elt Ideal) ℓ)

/-- The rows as the call is given them. -/
abbrev rows : FVec Ideal S18432x2048 .bf16 := m (((0 : Dev nD) : Thread nD τ).loc main_arg0)
/-- The weights as the call is given them. -/
abbrev weights : FVec Ideal S2048x6144 .bf16 := m (((0 : Dev nD) : Thread nD τ).loc main_arg1)

/-- The rows of a point. -/
abbrev rowsAt (t : Fin cfg0.N) : FVec Ideal S1024x2048 .bf16 := iblk m (0 : Dev nD) 0 t
/-- The weights of a point. -/
abbrev weightsAt (t : Fin cfg0.N) : FVec Ideal S2048x512 .bf16 := iblk m (0 : Dev nD) 1 t

/-- The block of rows at a point. -/
theorem block_rows (t : Fin cfg0.N) (r : Fin 1024) (k : Fin 2048) (i : Fin 18432) (hi : i.val = t.val / 12 * 1024 + r.val) :
    rowsAt m t (ix2 r k) = rows m (ix2 i k) := by
  have key : rowsAt m t (ix2 r k) = rows m (((cfg0.win 0).rect t).idx (ix2 r k)) := rfl
  refine key.trans (congrArg (rows m) ?_)
  funext (a : Fin 2)
  refine Fin.ext ?_
  match a with
  | ⟨0, _⟩ =>
    exact (congrArg (fun f : Fin 2 → ℕ => f 0 * 1024 + 1 * r.val) (index_rows t)).trans (by show t.val / 12 * 1024 + 1 * r.val = i.val; omega)
  | ⟨1, _⟩ =>
    exact (congrArg (fun f : Fin 2 → ℕ => f 1 * 2048 + 1 * k.val) (index_rows t)).trans (by show 0 * 2048 + 1 * k.val = k.val; omega)

/-- The block of weights at a point. -/
theorem block_weights (t : Fin cfg0.N) (k : Fin 2048) (j : Fin 512) (i : Fin 6144) (hi : i.val = t.val % 12 * 512 + j.val) :
    weightsAt m t (ix2 k j) = weights m (ix2 k i) := by
  have key : weightsAt m t (ix2 k j) = weights m (((cfg0.win 1).rect t).idx (ix2 k j)) := rfl
  refine key.trans (congrArg (weights m) ?_)
  funext (a : Fin 2)
  refine Fin.ext ?_
  match a with
  | ⟨0, _⟩ =>
    exact (congrArg (fun f : Fin 2 → ℕ => f 0 * 2048 + 1 * k.val) (index_weights t)).trans (by show 0 * 2048 + 1 * k.val = k.val; omega)
  | ⟨1, _⟩ =>
    exact (congrArg (fun f : Fin 2 → ℕ => f 1 * 512 + 1 * j.val) (index_weights t)).trans (by show t.val % 12 * 512 + 1 * j.val = i.val; omega)

/-- A point's product is the whole's block. -/
theorem point_whole (t : Fin cfg0.N) (r : Fin 1024) (j : Fin 512) (i : S18432x6144.Idx) (h0 : (i 0).val = t.val / 12 * 1024 + r.val) (h1 : (i 1).val = t.val % 12 * 512 + j.val) :
    (∑ k : Fin 2048, (rowsAt m t (ix2 r k) : EReal) * weightsAt m t (ix2 k j))
      = whole (rows m) (weights m) i := by
  unfold whole
  exact Finset.sum_congr rfl fun k _ => congrArg₂ (fun a b : EReal => a * b) (block_rows m t r k ⟨(i 0).val, (i 0).isLt⟩ h0) (block_weights m t k j ⟨(i 1).val, (i 1).isLt⟩ h1)

/-- What a point writes back to the first result is the whole's block there. -/
theorem writes_out (t : Fin cfg0.N) :
    (dats m 0 (0 : Dev nD)).flushed 2 t = ((cfg0.win 2).blk t).view.read (Elt Ideal) (whole (rows m) (weights m)) := by
  refine Eq.trans (b := (dats m 0 (0 : Dev nD)).after 2 t) rfl ?_
  rw [after0_2]
  funext (y : S1024x512.Idx)
  obtain ⟨r, j, rfl⟩ : ∃ (r : Fin 1024) (j : Fin 512), y = ix2 r j := ⟨y 0, y 1, by
    funext (a : Fin 2)
    match a with
    | ⟨0, _⟩ => rfl
    | ⟨1, _⟩ => rfl⟩
  have key : ∀ V : FVec Ideal S18432x6144 .f32, ((cfg0.win 2).blk t).view.read (Elt Ideal) V (ix2 r j) = V (((cfg0.win 2).rect t).idx (ix2 r j)) := fun _ => rfl
  refine Eq.trans ?_ (key _).symm
  refine (out_apply _ _ r j).trans (point_whole m t r j _ ?_ ?_)
  · exact (congrArg (fun f : Fin 2 → ℕ => f 0 * 1024 + 1 * r.val) (index_out t)).trans (by show t.val / 12 * 1024 + 1 * r.val = _; omega)
  · exact (congrArg (fun f : Fin 2 → ℕ => f 1 * 512 + 1 * j.val) (index_out t)).trans (by show t.val % 12 * 512 + 1 * j.val = _; omega)

/-- What a point writes back to the second result is the whole's block there. -/
theorem writes_rounded (t : Fin cfg0.N) :
    (dats m 0 (0 : Dev nD)).flushed 3 t = ((cfg0.win 3).blk t).view.read (Elt Ideal) (whole (rows m) (weights m)) := by
  refine Eq.trans (b := (dats m 0 (0 : Dev nD)).after 3 t) rfl ?_
  rw [after0_3]
  funext (y : S1024x512.Idx)
  obtain ⟨r, j, rfl⟩ : ∃ (r : Fin 1024) (j : Fin 512), y = ix2 r j := ⟨y 0, y 1, by
    funext (a : Fin 2)
    match a with
    | ⟨0, _⟩ => rfl
    | ⟨1, _⟩ => rfl⟩
  have key : ∀ V : FVec Ideal S18432x6144 .bf16, ((cfg0.win 3).blk t).view.read (Elt Ideal) V (ix2 r j) = V (((cfg0.win 3).rect t).idx (ix2 r j)) := fun _ => rfl
  refine Eq.trans ?_ (key _).symm
  refine (rounded_apply _ _ r j).trans (point_whole m t r j _ ?_ ?_)
  · exact (congrArg (fun f : Fin 2 → ℕ => f 0 * 1024 + 1 * r.val) (index_rounded t)).trans (by show t.val / 12 * 1024 + 1 * r.val = _; omega)
  · exact (congrArg (fun f : Fin 2 → ℕ => f 1 * 512 + 1 * j.val) (index_rounded t)).trans (by show t.val % 12 * 512 + 1 * j.val = _; omega)

/-- At the end the first result is the whole. -/
theorem ends_out : (dats m 0 (0 : Dev nD)).arrAt 2 cfg0.N = whole (rows m) (weights m) := by
  funext (i : S18432x6144.Idx)
  have i0 : (i 0).val < 18432 := (i 0).isLt
  have i1 : (i 1).val < 6144 := (i 1).isLt
  have eN : cfg0.N = 216 := N_0
  have hlt : (i 0).val / 1024 * 12 + (i 1).val / 512 < cfg0.N := by rw [eN]; omega
  let t : Fin cfg0.N := ⟨(i 0).val / 1024 * 12 + (i 1).val / 512, hlt⟩
  have t0 : t.val / 12 = (i 0).val / 1024 := by show ((i 0).val / 1024 * 12 + (i 1).val / 512) / 12 = _; omega
  have t1 : t.val % 12 = (i 1).val / 512 := by show ((i 0).val / 1024 * 12 + (i 1).val / 512) % 12 = _; omega
  refine Dat.arrAt_apply_of_mem (dats m 0 (0 : Dev nD)) 2 (whole (rows m) (weights m)) (fun t _ => writes_out m t) cfg0.N t i t.isLt (flush0_2 t) ?_
  have e : ((cfg0.win 2).blk t).view.emb (ix2 (⟨(i 0).val % 1024, Nat.mod_lt _ (by decide)⟩ : Fin 1024) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 1024 + 1 * ((i 0).val % 1024)) (index_out t)).trans
        (by show t.val / 12 * 1024 + 1 * ((i 0).val % 1024) = (i 0).val; omega)
    | ⟨1, _⟩ =>
      exact (congrArg (fun f : Fin 2 → ℕ => f 1 * 512 + 1 * ((i 1).val % 512)) (index_out t)).trans
        (by show t.val % 12 * 512 + 1 * ((i 1).val % 512) = (i 1).val; omega)
  exact e ▸ ((cfg0.win 2).blk t).view.emb_mem_set _

/-- At the end the second result is the whole. -/
theorem ends_rounded : (dats m 0 (0 : Dev nD)).arrAt 3 cfg0.N = whole (rows m) (weights m) := by
  funext (i : S18432x6144.Idx)
  have i0 : (i 0).val < 18432 := (i 0).isLt
  have i1 : (i 1).val < 6144 := (i 1).isLt
  have eN : cfg0.N = 216 := N_0
  have hlt : (i 0).val / 1024 * 12 + (i 1).val / 512 < cfg0.N := by rw [eN]; omega
  let t : Fin cfg0.N := ⟨(i 0).val / 1024 * 12 + (i 1).val / 512, hlt⟩
  have t0 : t.val / 12 = (i 0).val / 1024 := by show ((i 0).val / 1024 * 12 + (i 1).val / 512) / 12 = _; omega
  have t1 : t.val % 12 = (i 1).val / 512 := by show ((i 0).val / 1024 * 12 + (i 1).val / 512) % 12 = _; omega
  refine Dat.arrAt_apply_of_mem (dats m 0 (0 : Dev nD)) 3 (whole (rows m) (weights m)) (fun t _ => writes_rounded m t) cfg0.N t i t.isLt (flush0_3 t) ?_
  have e : ((cfg0.win 3).blk t).view.emb (ix2 (⟨(i 0).val % 1024, Nat.mod_lt _ (by decide)⟩ : Fin 1024) (⟨(i 1).val % 512, Nat.mod_lt _ (by decide)⟩ : Fin 512)) = i := by
    funext (a : Fin 2)
    refine Fin.ext ?_
    match a with
    | ⟨0, _⟩ =>
      exact (congrArg (fun f : Fin 2 → ℕ => f 0 * 1024 + 1 * ((i 0).val % 1024)) (index_rounded t)).trans
        (by show t.val / 12 * 1024 + 1 * ((i 0).val % 1024) = (i 0).val; omega)
    | ⟨1, _⟩ =>
      exact (congrArg (fun f : Fin 2 → ℕ => f 1 * 512 + 1 * ((i 1).val % 512)) (index_rounded t)).trans
        (by show t.val % 12 * 512 + 1 * ((i 1).val % 512) = (i 1).val; omega)
  exact e ▸ ((cfg0.win 3).blk t).view.emb_mem_set _

/-- The reference's product is the whole. -/
theorem reference_whole (X : FVec Ideal S18432x2048 .bf16) (W : FVec Ideal S2048x6144 .bf16) :
    (Host.dotGeneral (F := Ideal) (φ₁ := .f32) (φ₂ := .f32) Cert.RefProjIdeal.dot_S18432x2048_S2048x6144_S18432x6144_1_0_0_1_n_n none
      (extf .f32 X Cert.RefProjIdeal.Gen.bitsLt_bf16_f32 : FVec Ideal S18432x2048 .f32) (extf .f32 W Cert.RefProjIdeal.Gen.bitsLt_bf16_f32 : FVec Ideal S2048x6144 .f32) : FVec Ideal S18432x6144 .f32) = whole X W := by
  have h1 : ∀ (r : Fin 18432) (f : Fin 6144), (Host.dotGeneral (F := Ideal) (φ₁ := .f32) (φ₂ := .f32) Cert.RefProjIdeal.dot_S18432x2048_S2048x6144_S18432x6144_1_0_0_1_n_n none
      (extf .f32 X Cert.RefProjIdeal.Gen.bitsLt_bf16_f32 : FVec Ideal S18432x2048 .f32) (extf .f32 W Cert.RefProjIdeal.Gen.bitsLt_bf16_f32 : FVec Ideal S2048x6144 .f32) : FVec Ideal S18432x6144 .f32) (ix2 r f)
      = ∑ k : Fin 2048, (X (ix2 r k) : EReal) * W (ix2 k f) := fun r f => by
    pointwise
  funext (i : S18432x6144.Idx)
  obtain ⟨r, f, rfl⟩ : ∃ (r : Fin 18432) (f : Fin 6144), i = ix2 r f := ⟨i 0, i 1, by
    funext (a : Fin 2)
    match a with
    | ⟨0, _⟩ => rfl
    | ⟨1, _⟩ => rfl⟩
  exact (h1 r f).trans rfl

end Cert.ProjIdeal.Dense

namespace Cert.Proof

open Idealize.ShloMosaic Idealize.SL.Sem

/-- The combined projection runs and leaves its arguments as they were. -/
theorem frame_proj : Cert.quiescent_Proj := fun m ρ _ => Cert.Proj.Gen.frame m ρ

/-- The same of the idealized one. -/
theorem frame_proj_ideal : Cert.quiescent_ProjIdeal := fun m ρ _ => Cert.ProjIdeal.Gen.frame m ρ

/-- The reference of the combined projection runs and keeps its arguments. -/
theorem frame_proj_reference : Cert.quiescent_RefProjIdeal := fun m ρ _ =>
  (θ_run (Cert.RefProjIdeal.defs (F := Ideal)) _ _).mono (fun r h => ⟨fun c => (h c).2.2, sem_eq_zero_of_no_sems (by decide) r.2⟩)
    (Cert.RefProjIdeal.Value.run (F := Ideal) m ρ)

/-- Both arrays of the combined projection and its reference's are equal, element by element. -/
theorem proj_equal : Cert.algebraic_ProjIdeal_RefProjIdeal := fun m g m' g' _ hag => by
  refine ⟨fun _ => Cert.ProjIdeal.Dense.whole (Cert.ProjIdeal.Dense.rows m) (Cert.ProjIdeal.Dense.weights m),
    fun _ => Cert.ProjIdeal.Dense.whole (Cert.ProjIdeal.Dense.rows m) (Cert.ProjIdeal.Dense.weights m), ?_, ?_⟩
  · refine (θ_run (Cert.ProjIdeal.defs (F := Ideal)) _ _).mono (fun r hr c => ?_) (Cert.ProjIdeal.Value.run_blocks (F := Ideal) m g)
    obtain ⟨h2, h3, ha⟩ := hr c
    obtain rfl : c = 0 := Subsingleton.elim _ _
    exact ⟨h2.trans (Cert.ProjIdeal.Dense.ends_out m), h3.trans (Cert.ProjIdeal.Dense.ends_rounded m), ha⟩
  · refine (θ_run (Cert.RefProjIdeal.defs (F := Ideal)) _ _).mono (fun r hr c => ?_) (Cert.RefProjIdeal.Value.run (F := Ideal) m' g')
    obtain ⟨h2, h3, ha⟩ := hr c
    obtain rfl : c = 0 := Subsingleton.elim _ _
    have key : ∀ (X : FVec Ideal Cert.ProjIdeal.S18432x2048 .bf16) (W : FVec Ideal Cert.ProjIdeal.S2048x6144 .bf16),
        X = Cert.ProjIdeal.Dense.rows m → W = Cert.ProjIdeal.Dense.weights m →
        Cert.ProjIdeal.Dense.whole X W = Cert.ProjIdeal.Dense.whole (Cert.ProjIdeal.Dense.rows m) (Cert.ProjIdeal.Dense.weights m) := by
      rintro _ _ rfl rfl
      rfl
    have hk := key _ _ (hag 0).1 (hag 0).2
    exact ⟨h2.trans ((Cert.ProjIdeal.Dense.reference_whole _ _).trans hk),
      h3.trans (Eq.trans (Cert.ProjIdeal.Dense.reference_whole _ _) hk), ha⟩

end Cert.Proof

end
-- ==== Proof.lean ====
/- The certificate of the chunk-band attention and of the layer's other calls that are claimed: the frames of each kernel,
   its idealization and its reference, the mask's named value, and the equality of the arrays over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_logits
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Band.Equal
public import proofs.«01_k».proof.Proof.Experts.UpEqual
public import proofs.«01_k».proof.Proof.Experts.DownEqual
public import proofs.«01_k».proof.Proof.Dense.SwigluEqual
public import proofs.«01_k».proof.Proof.Dense.MergeEqual
public import proofs.«01_k».proof.Proof.Dense.MmEqual
public import proofs.«01_k».proof.Proof.Dense.OutEqual
public import proofs.«01_k».proof.Proof.Dense.NormEqual
public import proofs.«01_k».proof.Proof.Dense.StatesEqual
public import proofs.«01_k».proof.Proof.Dense.ProjEqual

@[expose] public section

noncomputable section

namespace Cert.Proof

open Idealize.ShloMosaic Idealize.SL.Sem

/-- The kernel runs from every memory, leaves its arguments as they were and every counter at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The same of the idealized kernel under the precondition. -/
theorem frame_ideal_pre : Cert.quiescent_KernelIdeal_pre_finite_logits := fun m ρ _ => Cert.KernelIdeal.Gen.frame m ρ

/-- The reference's run keeps its arguments; it declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same of the reference under the precondition. -/
theorem frame_reference_pre : Cert.quiescent_ReferenceIdeal_pre_finite_logits := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The mask's printed value is replaced by the name that stands for minus infinity, and nothing else changes. -/
theorem mask_named : Cert.preserves_Kernel_KernelIdeal :=
  IdealRules.named_const.statement Cert.KernelIdeal.κ "mask" .f32 0xF149F2CA#32 ⊥ rfl

/-- Under the precondition the kernel's array and the reference's are equal, element by element. -/
theorem arrays_equal : Cert.algebraic_KernelIdeal_ReferenceIdeal_pre_finite_logits := fun m g m' g' hpre hag => by
  refine ⟨fun c => (Cert.KernelIdeal.Gen.dats m 0 c).arrAt 6 Cert.KernelIdeal.cfg0.N, Cert.KernelIdeal.Value.run_blocks m g, ?_⟩
  refine (θ_run (Cert.ReferenceIdeal.defs (F := Ideal)) _ _).mono (fun r h c => ⟨(h c).1.trans ?_, (h c).2⟩) (Cert.ReferenceIdeal.Value.run (F := Ideal) m' g')
  have ht := Cert.Band.pre_tame _ _ (hpre c).1 (hpre c).2
  exact (Cert.Band.mix_eq (StableHlo.launchContents m' c) _ _ (hag c).1 (hag c).2 ht.1 ht.2).trans
    (Cert.Band.array_eq m _ _ c rfl rfl).symm

/-- Everything the certificate claims. -/
theorem claim : Cert.Claim :=
  ⟨Cert.Kernel.Gen.facts, Cert.KernelIdeal.Gen.facts, Cert.ReferenceIdeal.Gen.facts, Cert.ExpertUp.Gen.facts, Cert.ExpertUpIdeal.Gen.facts, Cert.RefExpertUpIdeal.Gen.facts, Cert.ExpertDown.Gen.facts, Cert.ExpertDownIdeal.Gen.facts, Cert.RefExpertDownIdeal.Gen.facts, Cert.SwigluUp.Gen.facts, Cert.SwigluUpIdeal.Gen.facts, Cert.RefSwigluUpIdeal.Gen.facts, Cert.Merge.Gen.facts, Cert.MergeIdeal.Gen.facts, Cert.RefMergeIdeal.Gen.facts, Cert.MmDown.Gen.facts, Cert.MmDownIdeal.Gen.facts, Cert.RefMmDownIdeal.Gen.facts, Cert.MmOut.Gen.facts, Cert.MmOutIdeal.Gen.facts, Cert.RefMmOutIdeal.Gen.facts, Cert.NormFinal.Gen.facts, Cert.NormFinalIdeal.Gen.facts, Cert.RefNormFinalIdeal.Gen.facts, Cert.States.Gen.facts, Cert.StatesIdeal.Gen.facts, Cert.RefStatesIdeal.Gen.facts, Cert.Proj.Gen.facts, Cert.ProjIdeal.Gen.facts, Cert.RefProjIdeal.Gen.facts, Cert.Pre_finite_logits.Gen.facts, Cert.Pre_tables_ok_up.Gen.facts, Cert.Pre_tables_ok_down.Gen.facts, Cert.On_rows_used_up.Gen.facts, Cert.On_rows_used_down.Gen.facts,
    frame_kernel, frame_ideal, frame_ideal_pre, frame_reference, frame_reference_pre, frame_expert_up, frame_expert_up_ideal, frame_expert_up_reference, frame_expert_down, frame_expert_down_ideal, frame_expert_down_reference, frame_swiglu_up, frame_swiglu_up_ideal, frame_swiglu_up_reference, frame_merge, frame_merge_ideal, frame_merge_reference, frame_mm_down, frame_mm_down_ideal, frame_mm_down_reference, frame_mm_out, frame_mm_out_ideal, frame_mm_out_reference, frame_norm_final, frame_norm_final_ideal, frame_norm_final_reference, frame_states, frame_states_ideal, frame_states_reference, frame_proj, frame_proj_ideal, frame_proj_reference, mask_named, arrays_equal, trivial, expert_up_equal, trivial, expert_down_equal, trivial, swiglu_up_equal, trivial, merge_equal, trivial, mm_down_equal, trivial, mm_out_equal, trivial, norm_final_equal, trivial, states_equal, trivial, proj_equal⟩

end Cert.Proof

end
